-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v89_0)) (v1 : (c : Dev Cert.KernelIdeal.nD) → Buf (Elt Ideal) ((c.tc : Thread Cert.KernelIdeal.nD Cert.KernelIdeal.τ).loc Cert.KernelIdeal.main_v89_1)) (v2 : (c : Dev Cert.KernelIdeal.nD) → Buf (Elt Ideal) ((c.tc : Thread Cert.KernelIdeal.nD Cert.KernelIdeal.τ).loc Cert.KernelIdeal.main_v89_2)) (v3 : (c : Dev Cert.KernelIdeal.nD) → Buf (Elt Ideal) ((c.tc : Thread Cert.KernelIdeal.nD Cert.KernelIdeal.τ).loc Cert.KernelIdeal.main_v89_3)) (v4 : (c : Dev Cert.KernelIdeal.nD) → Buf (Elt Ideal) ((c.tc : Thread Cert.KernelIdeal.nD Cert.KernelIdeal.τ).loc Cert.KernelIdeal.main_v89_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89_0) = v0 c
          ∧ r.2.mem ((c.tc : Thread Cert.KernelIdeal.nD Cert.KernelIdeal.τ).loc Cert.KernelIdeal.main_v89_1) = v1 c
          ∧ r.2.mem ((c.tc : Thread Cert.KernelIdeal.nD Cert.KernelIdeal.τ).loc Cert.KernelIdeal.main_v89_2) = v2 c
          ∧ r.2.mem ((c.tc : Thread Cert.KernelIdeal.nD Cert.KernelIdeal.τ).loc Cert.KernelIdeal.main_v89_3) = v3 c
          ∧ r.2.mem ((c.tc : Thread Cert.KernelIdeal.nD Cert.KernelIdeal.τ).loc Cert.KernelIdeal.main_v89_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_v107) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_v27) = v2 c
          ∧ r.2.mem ((c.tc : Thread Cert.Reference2Ideal.nD Cert.Reference2Ideal.τ).loc Cert.Reference2Ideal.main_v22) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v11) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_v10) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)) (v3 : (c : Dev Cert.Kernel6Ideal.nD) → Buf (Elt Ideal) ((c.tc : Thread Cert.Kernel6Ideal.nD Cert.Kernel6Ideal.τ).loc Cert.Kernel6Ideal.main_v6_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_v6_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_v37) = v2 c
          ∧ r.2.mem ((c.tc : Thread Cert.Reference6Ideal.nD Cert.Reference6Ideal.τ).loc Cert.Reference6Ideal.main_v42) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)) →
    ∃ (v0 : (c : Dev Cert.Kernel10Ideal.nD) → Buf (Elt Ideal) ((c.tc : Thread Cert.Kernel10Ideal.nD Cert.Kernel10Ideal.τ).loc Cert.Kernel10Ideal.main_v5_0)) (v1 : (c : Dev Cert.Kernel10Ideal.nD) → Buf (Elt Ideal) ((c.tc : Thread Cert.Kernel10Ideal.nD Cert.Kernel10Ideal.τ).loc Cert.Kernel10Ideal.main_v5_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5_0) = v0 c
          ∧ r.2.mem ((c.tc : Thread Cert.Kernel10Ideal.nD Cert.Kernel10Ideal.τ).loc Cert.Kernel10Ideal.main_v5_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_v71) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v16_0)) (v1 : (c : Dev Cert.Kernel11Ideal.nD) → Buf (Elt Ideal) ((c.tc : Thread Cert.Kernel11Ideal.nD Cert.Kernel11Ideal.τ).loc Cert.Kernel11Ideal.main_v16_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v16_0) = v0 c
          ∧ r.2.mem ((c.tc : Thread Cert.Kernel11Ideal.nD Cert.Kernel11Ideal.τ).loc Cert.Kernel11Ideal.main_v16_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v63) = v0 c
          ∧ r.2.mem ((c.tc : Thread Cert.Reference11Ideal.nD Cert.Reference11Ideal.τ).loc Cert.Reference11Ideal.main_v65) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
-- ==== Pre_finite.lean ====
abbrev S4096x3072 : Shape := ⟨2, ![4096, 3072]⟩
abbrev S4096x128 : Shape := ⟨2, ![4096, 128]⟩
abbrev S4096x512 : Shape := ⟨2, ![4096, 512]⟩
abbrev S_ : Shape := ⟨0, ![]⟩

class Facts : Prop where
  bcast_S_S4096x3072 : S_.BroadcastsInDim S4096x3072 (![] : Fin 0 → Fin S4096x3072.rank)
  bcast_S_S4096x128 : S_.BroadcastsInDim S4096x128 (![] : Fin 0 → Fin S4096x128.rank)
  bcast_S_S4096x512 : S_.BroadcastsInDim S4096x512 (![] : Fin 0 → Fin S4096x512.rank)

variable [Facts]

def fn {F : FTy → Type} [FloatOps F] (main_arg0 : FVec F S4096x3072 .f32) (main_arg1 : FVec F S4096x128 .f32) (main_arg2 : FVec F S4096x512 .f32) : IVec S4096x3072 1 × IVec S4096x128 1 × IVec S4096x512 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_v3 : FVec F S4096x128 .f32 := Host.absf main_arg1
  let main_cst_0 : FVec F S_ .f32 := constant S_ .f32 0x7F800000#32
  let main_v4 : FVec F S4096x128 .f32 := broadcastInDim S4096x128 ![] bcast_S_S4096x128 main_cst_0
  let main_v5 : IVec S4096x128 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  (main_v2, main_v5, main_v8)
-- ==== Pre_finite11.lean ====
abbrev S4096x1024 : Shape := ⟨2, ![4096, 1024]⟩
abbrev S1x1024 : Shape := ⟨2, ![1, 1024]⟩
abbrev S1024x5128 : Shape := ⟨2, ![1024, 5128]⟩
abbrev S4096x5128 : Shape := ⟨2, ![4096, 5128]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x5128 : S_.BroadcastsInDim S1024x5128 (![] : Fin 0 → Fin S1024x5128.rank)
  bcast_S_S4096x5128 : S_.BroadcastsInDim S4096x5128 (![] : Fin 0 → Fin S4096x5128.rank)

variable [Facts]

def fn {F : FTy → Type} [FloatOps F] (main_arg0 : FVec F S4096x1024 .f32) (main_arg1 : FVec F S4096x1024 .f32) (main_arg2 : FVec F S1x1024 .f32) (main_arg3 : FVec F S1024x5128 .f32) (main_arg4 : FVec F S4096x5128 .f32) : IVec S4096x1024 1 × IVec S1x1024 1 × IVec S1024x5128 1 × IVec S4096x5128 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x5128 .f32 := Host.absf main_arg3
  let main_cst_1 : FVec F S_ .f32 := constant S_ .f32 0x7F800000#32
  let main_v7 : FVec F S1024x5128 .f32 := broadcastInDim S1024x5128 ![] bcast_S_S1024x5128 main_cst_1
  let main_v8 : IVec S1024x5128 1 := cmpf .olt main_v6 main_v7
  let main_v9 : FVec F S4096x5128 .f32 := Host.absf main_arg4
  let main_cst_2 : FVec F S_ .f32 := constant S_ .f32 0x7F800000#32
  let main_v10 : FVec F S4096x5128 .f32 := broadcastInDim S4096x5128 ![] bcast_S_S4096x5128 main_cst_2
  let main_v11 : IVec S4096x5128 1 := cmpf .olt main_v9 main_v10
  (main_v2, main_v5, main_v8, main_v11)
-- ==== Pre_finite2.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S4096x1024 .f32) : IVec S4096x1024 1 × IVec S1024x2816 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x2816 .f32 := Host.absf main_arg2
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg3
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4096x1024 .f32 := Host.absf main_arg4
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Kernel.lean ====
abbrev S4096x3072 : Shape := ⟨2, ![4096, 3072]⟩
abbrev S4096x128 : Shape := ⟨2, ![4096, 128]⟩
abbrev S4096x512 : Shape := ⟨2, ![4096, 512]⟩
abbrev S_ : Shape := ⟨0, ![]⟩
abbrev S4096x8 : Shape := ⟨2, ![4096, 8]⟩
abbrev S32x128x8 : Shape := ⟨3, ![32, 128, 8]⟩
abbrev S32x8x128 : Shape := ⟨3, ![32, 8, 128]⟩
abbrev S8x4096 : Shape := ⟨2, ![8, 4096]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096x128 : Shape := ⟨3, ![8, 4096, 128]⟩
abbrev S4x4096x128 : Shape := ⟨3, ![4, 4096, 128]⟩
abbrev S512x128 : Shape := ⟨2, ![512, 128]⟩
abbrev S2x512x128 : Shape := ⟨3, ![2, 512, 128]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩
abbrev S1x1x128 : Shape := ⟨3, ![1, 1, 128]⟩
abbrev S1x128 : Shape := ⟨2, ![1, 128]⟩
abbrev S1x512 : Shape := ⟨2, ![1, 512]⟩

abbrev nBuf : Space → Nat
  | .hbm => 135
  | .vmem => 26
  | .smem => 0
  | _ => 0

abbrev hbmTy0_0 (i : Nat) : BufTy := match i % 128 with
  | 0 => ⟨S4096x3072, .f32⟩
  | 1 => ⟨S4096x128, .f32⟩
  | 2 => ⟨S4096x512, .f32⟩
  | 3 => ⟨S4096x3072, .i32⟩
  | 4 => ⟨S_, .i32⟩
  | 5 => ⟨S_, .i32⟩
  | 6 => ⟨S4096x3072, .i32⟩
  | 7 => ⟨S4096x3072, .i32⟩
  | 8 => ⟨S4096x3072, .i32⟩
  | 9 => ⟨S_, .i32⟩
  | 10 => ⟨S4096x3072, .i32⟩
  | 11 => ⟨S4096x3072, .i1⟩
  | 12 => ⟨S4096x3072, .i32⟩
  | 13 => ⟨S4096x3072, .i32⟩
  | 14 => ⟨S_, .i32⟩
  | 15 => ⟨S4096x3072, .i32⟩
  | 16 => ⟨S4096x3072, .i1⟩
  | 17 => ⟨S4096x3072, .i1⟩
  | 18 => ⟨S_, .i32⟩
  | 19 => ⟨S4096x3072, .i32⟩
  | 20 => ⟨S4096x3072, .i32⟩
  | 21 => ⟨S4096x3072, .i32⟩
  | 22 => ⟨S_, .i32⟩
  | 23 => ⟨S4096x3072, .i32⟩
  | 24 => ⟨S4096x3072, .i1⟩
  | 25 => ⟨S_, .i32⟩
  | 26 => ⟨S4096x3072, .i32⟩
  | 27 => ⟨S4096x3072, .i1⟩
  | 28 => ⟨S4096x3072, .i1⟩
  | 29 => ⟨S_, .f32⟩
  | 30 => ⟨S_, .f32⟩
  | 31 => ⟨S4096x3072, .f32⟩
  | 32 => ⟨S4096x3072, .f32⟩
  | 33 => ⟨S4096x3072, .f32⟩
  | 34 => ⟨S4096x3072, .f32⟩
  | 35 => ⟨S4096x3072, .f32⟩
  | 36 => ⟨S4096x3072, .bf16⟩
  | 37 => ⟨S4096x8, .f32⟩
  | 38 => ⟨S32x128x8, .f32⟩
  | 39 => ⟨S32x8x128, .f32⟩
  | 40 => ⟨S4096x512, .f32⟩
  | 41 => ⟨S4096x512, .f32⟩
  | 42 => ⟨S4096x512, .f32⟩
  | 43 => ⟨S4096x8, .f32⟩
  | 44 => ⟨S8x4096, .f32⟩
  | 45 => ⟨S4096x8x64, .f32⟩
  | 46 => ⟨S8x4096x64, .f32⟩
  | 47 => ⟨S4096x8x64, .f32⟩
  | 48 => ⟨S8x4096x64, .f32⟩
  | 49 => ⟨S8x4096x4096, .f32⟩
  | 50 => ⟨S_, .f32⟩
  | 51 => ⟨S8x4096x4096, .f32⟩
  | 52 => ⟨S8x4096x4096, .f32⟩
  | 53 => ⟨S8x4096x1, .f32⟩
  | 54 => ⟨S8x4096x4096, .f32⟩
  | 55 => ⟨S8x4096x4096, .f32⟩
  | 56 => ⟨S8x1x4096, .f32⟩
  | 57 => ⟨S8x4096x4096, .f32⟩
  | 58 => ⟨S8x4096x4096, .f32⟩
  | 59 => ⟨S4096, .i32⟩
  | 60 => ⟨S4096x1, .i32⟩
  | 61 => ⟨S4096, .i32⟩
  | 62 => ⟨S1x4096, .i32⟩
  | 63 => ⟨S4096x4096, .i32⟩
  | 64 => ⟨S4096x4096, .i32⟩
  | 65 => ⟨S4096x4096, .i1⟩
  | 66 => ⟨S_, .f32⟩
  | 67 => ⟨S_, .f32⟩
  | 68 => ⟨S8x4096x4096, .i1⟩
  | 69 => ⟨S8x4096x4096, .f32⟩
  | 70 => ⟨S8x4096x4096, .f32⟩
  | 71 => ⟨S_, .f32⟩
  | 72 => ⟨S8x4096, .f32⟩
  | 73 => ⟨S8x4096x1, .f32⟩
  | 74 => ⟨S8x4096x4096, .f32⟩
  | 75 => ⟨S8x4096x4096, .f32⟩
  | 76 => ⟨S8x4096x4096, .f32⟩
  | 77 => ⟨S_, .f32⟩
  | 78 => ⟨S8x4096, .f32⟩
  | 79 => ⟨S8x4096, .f32⟩
  | 80 => ⟨S8x4096, .f32⟩
  | 81 => ⟨S4096x8x64, .f32⟩
  | 82 => ⟨S8x4096x64, .f32⟩
  | 83 => ⟨S4096x8x64, .f32⟩
  | 84 => ⟨S8x4096x64, .f32⟩
  | 85 => ⟨S8x4096x4096, .f32⟩
  | 86 => ⟨S_, .f32⟩
  | 87 => ⟨S8x4096x4096, .f32⟩
  | 88 => ⟨S8x4096x4096, .f32⟩
  | 89 => ⟨S8x4096x1, .f32⟩
  | 90 => ⟨S8x4096x4096, .f32⟩
  | 91 => ⟨S8x4096x4096, .f32⟩
  | 92 => ⟨S8x1x4096, .f32⟩
  | 93 => ⟨S8x4096x4096, .f32⟩
  | 94 => ⟨S8x4096x4096, .f32⟩
  | 95 => ⟨S4096, .i32⟩
  | 96 => ⟨S4096x1, .i32⟩
  | 97 => ⟨S4096, .i32⟩
  | 98 => ⟨S1x4096, .i32⟩
  | 99 => ⟨S4096x4096, .i32⟩
  | 100 => ⟨S4096x4096, .i32⟩
  | 101 => ⟨S4096x4096, .i1⟩
  | 102 => ⟨S_, .f32⟩
  | 103 => ⟨S_, .f32⟩
  | 104 => ⟨S8x4096x4096, .i1⟩
  | 105 => ⟨S8x4096x4096, .f32⟩
  | 106 => ⟨S8x4096x4096, .f32⟩
  | 107 => ⟨S_, .f32⟩
  | 108 => ⟨S8x4096, .f32⟩
  | 109 => ⟨S_, .f32⟩
  | 110 => ⟨S8x4096, .f32⟩
  | 111 => ⟨S8x4096, .f32⟩
  | 112 => ⟨S8x4096x1, .f32⟩
  | 113 => ⟨S8x4096x4096, .f32⟩
  | 114 => ⟨S8x4096x4096, .f32⟩
  | 115 => ⟨S8x4096x4096, .f32⟩
  | 116 => ⟨S_, .f32⟩
  | 117 => ⟨S8x4096, .f32⟩
  | 118 => ⟨S8x4096x1, .f32⟩
  | 119 => ⟨S8x4096x4096, .f32⟩
  | 120 => ⟨S8x4096x4096, .f32⟩
  | 121 => ⟨S4096x8x64, .f32⟩
  | 122 => ⟨S8x4096x64, .f32⟩
  | 123 => ⟨S8x4096x64, .f32⟩
  | 124 => ⟨S4096x8x64, .f32⟩
  | 125 => ⟨S4096x512, .f32⟩
  | 126 => ⟨S4096x512, .bf16⟩
  | 127 => ⟨S4096x512, .bf16⟩
  | _ => ⟨S4096x3072, .f32⟩

abbrev hbmTy0_1 (i : Nat) : BufTy := match i % 128 with
  | 0 => ⟨S8x4096x1, .f32⟩
  | 1 => ⟨S8x4096x128, .f32⟩
  | 2 => ⟨S4096x512, .bf16⟩
  | 3 => ⟨S4096x512, .bf16⟩
  | 4 => ⟨S4096x512, .bf16⟩
  | 5 => ⟨S32x8x128, .f32⟩
  | 6 => ⟨S4x4096x128, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S32x8x128, .f32⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S2x512x128, .f32⟩
  | .local _ .vmem, ⟨14, _⟩ => ⟨S2x512x128, .f32⟩
  | .local _ .vmem, ⟨15, _⟩ => ⟨S512x128, .bf16⟩
  | .local _ .vmem, ⟨16, _⟩ => ⟨S512x128, .bf16⟩
  | .local _ .vmem, ⟨17, _⟩ => ⟨S4096x128, .bf16⟩
  | .local _ .vmem, ⟨18, _⟩ => ⟨S4096x128, .bf16⟩
  | .local _ .vmem, ⟨19, _⟩ => ⟨S4096x128, .bf16⟩
  | .local _ .vmem, ⟨20, _⟩ => ⟨S4096x128, .bf16⟩
  | .local _ .vmem, ⟨21, _⟩ => ⟨S32x8x128, .f32⟩
  | .local _ .vmem, ⟨22, _⟩ => ⟨S1x512x128, .f32⟩
  | .local _ .vmem, ⟨23, _⟩ => ⟨S1x512x128, .f32⟩
  | .local _ .vmem, ⟨24, _⟩ => ⟨S4096x128, .f32⟩
  | .local _ .vmem, ⟨25, _⟩ => ⟨S4096x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_c_1 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_3 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_4 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v39 : Ref sig .tc := ⟨.hbm, 70, rfl⟩
abbrev main_cst_5 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_6 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_7 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_8 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v68 : Ref sig .tc := ⟨.hbm, 106, rfl⟩
abbrev main_cst_9 : Ref sig .tc := ⟨.hbm, 107, rfl⟩
abbrev main_v69 : Ref sig .tc := ⟨.hbm, 108, rfl⟩
abbrev main_cst_10 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_11 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89_0 : Ref sig .tc := ⟨.hbm, 130, rfl⟩
abbrev main_v89_1 : Ref sig .tc := ⟨.hbm, 131, rfl⟩
abbrev main_v89_2 : Ref sig .tc := ⟨.hbm, 132, rfl⟩
abbrev main_v89_3 : Ref sig .tc := ⟨.hbm, 133, rfl⟩
abbrev main_v89_4 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_32 : BitVec 32 := 0#32
  let arg1 : BitVec 32 := BitVec.ofNat 32 (i 1).val
  let v66 : BitVec 32 := Scalar.subi arg1 c0_i32_32
  let c1_i32_33 : BitVec 32 := 1#32
  let v68 : BitVec 32 := Scalar.divsi v66 c1_i32_33
  let v69 : BitVec 32 := Scalar.muli v68 c1_i32_33
  let v70 : BitVec 32 := Scalar.addi c0_i32_32 v69
  let c1_i32_34 : BitVec 32 := 1#32
  ⟨c0_i32_32, v70, c1_i32_34⟩
def k0_mult1 (i : grid0.Coords) (k0_t1 : Fin (k0_t1_loop i).trips) : BitVec 32 :=
  let c0_i32_32 : BitVec 32 := 0#32
  let c1_i32_34 : BitVec 32 := 1#32
  let arg17 : BitVec 32 := Scf.iv c0_i32_32 c1_i32_34 k0_t1
  let c512_i32_131 : BitVec 32 := 512#32
  let v345 : BitVec 32 := Scalar.muli arg17 c512_i32_131
  v345
def k0_off1 (i : grid0.Coords) (k0_t1 : Fin (k0_t1_loop i).trips) : Fin 2 → Nat :=
  let c0_i32_32 : BitVec 32 := 0#32
  let c1_i32_34 : BitVec 32 := 1#32
  let arg17 : BitVec 32 := Scf.iv c0_i32_32 c1_i32_34 k0_t1
  let c512_i32_131 : BitVec 32 := 512#32
  let v345 : BitVec 32 := Scalar.muli arg17 c512_i32_131
  let v346 : BitVec 32 := v345
  let v347 : Index := Scalar.indexCast v346
  let c0_132 : Index := 0#32
  ![v347.toNat, 0]
def k0_off2 (i : grid0.Coords) (k0_t1 : Fin (k0_t1_loop i).trips) (c0_i32_136 : BitVec 32) (c0_i32_11 : BitVec 32) : Fin 3 → Nat :=
  let c0_i32_32 : BitVec 32 := 0#32
  let c1_i32_34 : BitVec 32 := 1#32
  let arg17 : BitVec 32 := Scf.iv c0_i32_32 c1_i32_34 k0_t1
  let c4_i32_135 : BitVec 32 := 4#32
  let v356 : BitVec 32 := Scalar.muli arg17 c4_i32_135
  let v357 : BitVec 32 := Scalar.addi v356 c0_i32_136
  let v358 : Index := Scalar.indexCast v357
  let c2_i32 : BitVec 32 := 2#32
  let arg0 : BitVec 32 := BitVec.ofNat 32 (i 0).val
  let v22 : BitVec 32 := Scalar.muli c2_i32 arg0
  let v23 : BitVec 32 := Scalar.addi v22 c0_i32_11
  let v359 : Index := Scalar.indexCast v23
  let c0_137 : Index := 0#32
  ![v358.toNat, v359.toNat, 0]
@[reducible] def k0_t2_loop (i : grid0.Coords) : Scf.Loop 32 :=
  let c0_i32_32 : BitVec 32 := 0#32
  let arg1 : BitVec 32 := BitVec.ofNat 32 (i 1).val
  let v66 : BitVec 32 := Scalar.subi arg1 c0_i32_32
  let c1_i32_33 : BitVec 32 := 1#32
  let v68 : BitVec 32 := Scalar.divsi v66 c1_i32_33
  let v69 : BitVec 32 := Scalar.muli v68 c1_i32_33
  let v70 : BitVec 32 := Scalar.addi c0_i32_32 v69
  let v67 : BitVec 32 := Scalar.addi c0_i32_32 v66
  let c1_i32_35 : BitVec 32 := 1#32
  ⟨v70, v67, c1_i32_35⟩
def k0_mult2 (i : grid0.Coords) (k0_t2 : Fin (k0_t2_loop i).trips) : BitVec 32 :=
  let c0_i32_32 : BitVec 32 := 0#32
  let arg1 : BitVec 32 := BitVec.ofNat 32 (i 1).val
  let v66 : BitVec 32 := Scalar.subi arg1 c0_i32_32
  let c1_i32_33 : BitVec 32 := 1#32
  let v68 : BitVec 32 := Scalar.divsi v66 c1_i32_33
  let v69 : BitVec 32 := Scalar.muli v68 c1_i32_33
  let v70 : BitVec 32 := Scalar.addi c0_i32_32 v69
  let c1_i32_35 : BitVec 32 := 1#32
  let arg17 : BitVec 32 := Scf.iv v70 c1_i32_35 k0_t2
  let c512_i32_131 : BitVec 32 := 512#32
  let v345 : BitVec 32 := Scalar.muli arg17 c512_i32_131
  v345
def k0_off3 (i : grid0.Coords) (k0_t2 : Fin (k0_t2_loop i).trips) : Fin 2 → Nat :=
  let c0_i32_32 : BitVec 32 := 0#32
  let arg1 : BitVec 32 := BitVec.ofNat 32 (i 1).val
  let v66 : BitVec 32 := Scalar.subi arg1 c0_i32_32
  let c1_i32_33 : BitVec 32 := 1#32
  let v68 : BitVec 32 := Scalar.divsi v66 c1_i32_33
  let v69 : BitVec 32 := Scalar.muli v68 c1_i32_33
  let v70 : BitVec 32 := Scalar.addi c0_i32_32 v69
  let c1_i32_35 : BitVec 32 := 1#32
  let arg17 : BitVec 32 := Scf.iv v70 c1_i32_35 k0_t2
  let c512_i32_131 : BitVec 32 := 512#32
  let v345 : BitVec 32 := Scalar.muli arg17 c512_i32_131
  let v346 : BitVec 32 := v345
  let v347 : Index := Scalar.indexCast v346
  let c0_132 : Index := 0#32
  ![v347.toNat, 0]
def k0_off4 (i : grid0.Coords) (k0_t2 : Fin (k0_t2_loop i).trips) (c0_i32_136 : BitVec 32) (c0_i32_11 : BitVec 32) : Fin 3 → Nat :=
  let c0_i32_32 : BitVec 32 := 0#32
  let arg1 : BitVec 32 := BitVec.ofNat 32 (i 1).val
  let v66 : BitVec 32 := Scalar.subi arg1 c0_i32_32
  let c1_i32_33 : BitVec 32 := 1#32
  let v68 : BitVec 32 := Scalar.divsi v66 c1_i32_33
  let v69 : BitVec 32 := Scalar.muli v68 c1_i32_33
  let v70 : BitVec 32 := Scalar.addi c0_i32_32 v69
  let c1_i32_35 : BitVec 32 := 1#32
  let arg17 : BitVec 32 := Scf.iv v70 c1_i32_35 k0_t2
  let c4_i32_135 : BitVec 32 := 4#32
  let v356 : BitVec 32 := Scalar.muli arg17 c4_i32_135
  let v357 : BitVec 32 := Scalar.addi v356 c0_i32_136
  let v358 : Index := Scalar.indexCast v357
  let c2_i32 : BitVec 32 := 2#32
  let arg0 : BitVec 32 := BitVec.ofNat 32 (i 0).val
  let v22 : BitVec 32 := Scalar.muli c2_i32 arg0
  let v23 : BitVec 32 := Scalar.addi v22 c0_i32_11
  let v359 : Index := Scalar.indexCast v23
  let c0_137 : Index := 0#32
  ![v358.toNat, v359.toNat, 0]
def k0_mult3 (i : grid0.Coords) : BitVec 32 :=
  let arg1 : BitVec 32 := BitVec.ofNat 32 (i 1).val
  let c512_i32 : BitVec 32 := 512#32
  let v73 : BitVec 32 := Scalar.muli arg1 c512_i32
  v73
def k0_off5 (i : grid0.Coords) : Fin 2 → Nat :=
  let arg1 : BitVec 32 := BitVec.ofNat 32 (i 1).val
  let c512_i32 : BitVec 32 := 512#32
  let v73 : BitVec 32 := Scalar.muli arg1 c512_i32
  let v74 : BitVec 32 := v73
  let v75 : Index := Scalar.indexCast v74
  let c0_36 : Index := 0#32
  ![v75.toNat, 0]
def k0_off6 (i : grid0.Coords) (c0_i32_39 : BitVec 32) (c0_i32_11 : BitVec 32) : Fin 3 → Nat :=
  let arg1 : BitVec 32 := BitVec.ofNat 32 (i 1).val
  let c4_i32 : BitVec 32 := 4#32
  let v84 : BitVec 32 := Scalar.muli arg1 c4_i32
  let v85 : BitVec 32 := Scalar.addi v84 c0_i32_39
  let v86 : Index := Scalar.indexCast v85
  let c2_i32 : BitVec 32 := 2#32
  let arg0 : BitVec 32 := BitVec.ofNat 32 (i 0).val
  let v22 : BitVec 32 := Scalar.muli c2_i32 arg0
  let v23 : BitVec 32 := Scalar.addi v22 c0_i32_11
  let v87 : Index := Scalar.indexCast v23
  let c0_40 : Index := 0#32
  ![v86.toNat, v87.toNat, 0]
def k0_cond3 (i : grid0.Coords) : BitVec 1 :=
  let arg1 : BitVec 32 := BitVec.ofNat 32 (i 1).val
  let c7_i32 : BitVec 32 := 7#32
  let v342 : BitVec 1 := Scalar.cmpi .eq arg1 c7_i32
  let v343 : BitVec 32 := Scalar.extui v342
  let c0_i32_130 : BitVec 32 := 0#32
  let v344 : BitVec 1 := Scalar.cmpi .ne v343 c0_i32_130
  v344

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S32x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S32x8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x3072 : Shape := ⟨2, ![4096, 3072]⟩
abbrev S4096x128 : Shape := ⟨2, ![4096, 128]⟩
abbrev S4096x512 : Shape := ⟨2, ![4096, 512]⟩
abbrev S4096x8 : Shape := ⟨2, ![4096, 8]⟩
abbrev S8x4096 : Shape := ⟨2, ![8, 4096]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x64x4096 : Shape := ⟨3, ![8, 64, 4096]⟩
abbrev S4x4096x128 : Shape := ⟨3, ![4, 4096, 128]⟩
abbrev S4096x120 : Shape := ⟨2, ![4096, 120]⟩
abbrev S8x32x128 : Shape := ⟨3, ![8, 32, 128]⟩
abbrev S32x8x128 : Shape := ⟨3, ![32, 8, 128]⟩
abbrev S1x4096x128 : Shape := ⟨3, ![1, 4096, 128]⟩

abbrev nBuf : Space → Nat
  | .hbm => 159
  | .vmem => 0
  | .smem => 0
  | _ => 0

abbrev hbmTy0_0 (i : Nat) : BufTy := match i % 128 with
  | 0 => ⟨S4096x3072, .f32⟩
  | 1 => ⟨S4096x128, .f32⟩
  | 2 => ⟨S4096x512, .f32⟩
  | 3 => ⟨S4096x512, .f32⟩
  | 4 => ⟨S4096x512, .f32⟩
  | 5 => ⟨S4096x512, .f32⟩
  | 6 => ⟨S4096x8, .f32⟩
  | 7 => ⟨S8x4096, .f32⟩
  | 8 => ⟨S4096x8x64, .f32⟩
  | 9 => ⟨S8x4096x64, .f32⟩
  | 10 => ⟨S4096x8x64, .f32⟩
  | 11 => ⟨S8x4096x64, .f32⟩
  | 12 => ⟨S8x4096x4096, .f32⟩
  | 13 => ⟨S_, .f32⟩
  | 14 => ⟨S8x4096x4096, .f32⟩
  | 15 => ⟨S8x4096x4096, .f32⟩
  | 16 => ⟨S8x4096x1, .f32⟩
  | 17 => ⟨S8x4096x4096, .f32⟩
  | 18 => ⟨S8x4096x4096, .f32⟩
  | 19 => ⟨S8x1x4096, .f32⟩
  | 20 => ⟨S8x4096x4096, .f32⟩
  | 21 => ⟨S8x4096x4096, .f32⟩
  | 22 => ⟨S4096, .i32⟩
  | 23 => ⟨S4096x1, .i32⟩
  | 24 => ⟨S4096, .i32⟩
  | 25 => ⟨S1x4096, .i32⟩
  | 26 => ⟨S4096x4096, .i32⟩
  | 27 => ⟨S4096x4096, .i32⟩
  | 28 => ⟨S4096x4096, .i1⟩
  | 29 => ⟨S_, .f32⟩
  | 30 => ⟨S_, .f32⟩
  | 31 => ⟨S8x4096x4096, .i1⟩
  | 32 => ⟨S8x4096x4096, .f32⟩
  | 33 => ⟨S8x4096x4096, .f32⟩
  | 34 => ⟨S_, .f32⟩
  | 35 => ⟨S8x4096x4096, .f32⟩
  | 36 => ⟨S_, .f32⟩
  | 37 => ⟨S8x4096, .f32⟩
  | 38 => ⟨S8x4096x1, .f32⟩
  | 39 => ⟨S8x4096x4096, .f32⟩
  | 40 => ⟨S8x4096x4096, .i1⟩
  | 41 => ⟨S8x4096x4096, .f32⟩
  | 42 => ⟨S_, .f32⟩
  | 43 => ⟨S8x4096, .f32⟩
  | 44 => ⟨S_, .f32⟩
  | 45 => ⟨S8x4096, .f32⟩
  | 46 => ⟨S8x4096, .f32⟩
  | 47 => ⟨S_, .f32⟩
  | 48 => ⟨S8x4096, .f32⟩
  | 49 => ⟨S8x4096, .i1⟩
  | 50 => ⟨S_, .f32⟩
  | 51 => ⟨S8x4096, .f32⟩
  | 52 => ⟨S8x4096, .i1⟩
  | 53 => ⟨S_, .f32⟩
  | 54 => ⟨S8x4096, .f32⟩
  | 55 => ⟨S_, .f32⟩
  | 56 => ⟨S8x4096, .f32⟩
  | 57 => ⟨S_, .f32⟩
  | 58 => ⟨S8x4096, .f32⟩
  | 59 => ⟨S8x4096, .f32⟩
  | 60 => ⟨S8x4096, .f32⟩
  | 61 => ⟨S8x4096x1, .f32⟩
  | 62 => ⟨S8x4096x4096, .f32⟩
  | 63 => ⟨S8x4096x4096, .f32⟩
  | 64 => ⟨S8x4096x4096, .f32⟩
  | 65 => ⟨S_, .f32⟩
  | 66 => ⟨S8x4096, .f32⟩
  | 67 => ⟨S8x4096x1, .f32⟩
  | 68 => ⟨S8x4096x4096, .f32⟩
  | 69 => ⟨S8x4096x4096, .f32⟩
  | 70 => ⟨S8x4096x1, .f32⟩
  | 71 => ⟨S_, .f32⟩
  | 72 => ⟨S8x4096x1, .f32⟩
  | 73 => ⟨S8x4096x1, .f32⟩
  | 74 => ⟨S4096x8x64, .f32⟩
  | 75 => ⟨S8x4096x64, .f32⟩
  | 76 => ⟨S8x4096x64, .f32⟩
  | 77 => ⟨S4096x8x64, .f32⟩
  | 78 => ⟨S4096x512, .f32⟩
  | 79 => ⟨S4096x8x64, .f32⟩
  | 80 => ⟨S8x4096x64, .f32⟩
  | 81 => ⟨S8x64x4096, .f32⟩
  | 82 => ⟨S8x4096x64, .f32⟩
  | 83 => ⟨S8x4096x4096, .f32⟩
  | 84 => ⟨S4096x8x64, .f32⟩
  | 85 => ⟨S4096x512, .f32⟩
  | 86 => ⟨S8x4096x4096, .f32⟩
  | 87 => ⟨S8x4096x4096, .f32⟩
  | 88 => ⟨S8x4096x4096, .f32⟩
  | 89 => ⟨S_, .f32⟩
  | 90 => ⟨S8x4096, .f32⟩
  | 91 => ⟨S8x4096x1, .f32⟩
  | 92 => ⟨S8x4096x1, .f32⟩
  | 93 => ⟨S8x4096x4096, .f32⟩
  | 94 => ⟨S8x4096x4096, .f32⟩
  | 95 => ⟨S_, .f32⟩
  | 96 => ⟨S8x4096, .f32⟩
  | 97 => ⟨S8x4096x4096, .f32⟩
  | 98 => ⟨S8x4096x4096, .f32⟩
  | 99 => ⟨S8x4096x4096, .f32⟩
  | 100 => ⟨S_, .f32⟩
  | 101 => ⟨S8x4096x4096, .f32⟩
  | 102 => ⟨S8x4096x4096, .f32⟩
  | 103 => ⟨S8x4096x4096, .f32⟩
  | 104 => ⟨S_, .f32⟩
  | 105 => ⟨S8x4096, .f32⟩
  | 106 => ⟨S8x1x4096, .f32⟩
  | 107 => ⟨S_, .f32⟩
  | 108 => ⟨S8x4096, .f32⟩
  | 109 => ⟨S_, .f32⟩
  | 110 => ⟨S8x4096, .f32⟩
  | 111 => ⟨S8x4096x1, .f32⟩
  | 112 => ⟨S_, .f32⟩
  | 113 => ⟨S8x4096, .f32⟩
  | 114 => ⟨S_, .f32⟩
  | 115 => ⟨S8x4096x4096, .f32⟩
  | 116 => ⟨S8x4096x4096, .f32⟩
  | 117 => ⟨S8x4096x64, .f32⟩
  | 118 => ⟨S8x4096x64, .f32⟩
  | 119 => ⟨S4096x8x64, .f32⟩
  | 120 => ⟨S4096x512, .f32⟩
  | 121 => ⟨S4096x8x64, .f32⟩
  | 122 => ⟨S4096x512, .f32⟩
  | 123 => ⟨S4x4096x128, .i32⟩
  | 124 => ⟨S4x4096x128, .i32⟩
  | 125 => ⟨S4096x8, .f32⟩
  | 126 => ⟨S_, .f32⟩
  | 127 => ⟨S4096x120, .f32⟩
  | _ => ⟨S4096x3072, .f32⟩

abbrev hbmTy0_1 (i : Nat) : BufTy := match i % 128 with
  | 0 => ⟨S4096x128, .f32⟩
  | 1 => ⟨S4096x512, .bf16⟩
  | 2 => ⟨S4096x512, .bf16⟩
  | 3 => ⟨S4096x512, .bf16⟩
  | 4 => ⟨S8x32x128, .f32⟩
  | 5 => ⟨S32x8x128, .f32⟩
  | 6 => ⟨S_, .i32⟩
  | 7 => ⟨S_, .i32⟩
  | 8 => ⟨S4x4096x128, .i32⟩
  | 9 => ⟨S4x4096x128, .i32⟩
  | 10 => ⟨S4x4096x128, .i32⟩
  | 11 => ⟨S_, .i32⟩
  | 12 => ⟨S4x4096x128, .i32⟩
  | 13 => ⟨S4x4096x128, .i1⟩
  | 14 => ⟨S4x4096x128, .i32⟩
  | 15 => ⟨S4x4096x128, .i32⟩
  | 16 => ⟨S_, .i32⟩
  | 17 => ⟨S4x4096x128, .i32⟩
  | 18 => ⟨S4x4096x128, .i1⟩
  | 19 => ⟨S4x4096x128, .i1⟩
  | 20 => ⟨S_, .i32⟩
  | 21 => ⟨S4x4096x128, .i32⟩
  | 22 => ⟨S4x4096x128, .i32⟩
  | 23 => ⟨S4x4096x128, .i32⟩
  | 24 => ⟨S4x4096x128, .i1⟩
  | 25 => ⟨S1x4096x128, .f32⟩
  | 26 => ⟨S_, .f32⟩
  | 27 => ⟨S_, .f32⟩
  | 28 => ⟨S4x4096x128, .f32⟩
  | 29 => ⟨S4x4096x128, .f32⟩
  | 30 => ⟨S4x4096x128, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_v25_1 : Ref sig .tc := ⟨.hbm, 31, rfl⟩
abbrev main_call0_v2 : Ref sig .tc := ⟨.hbm, 32, rfl⟩
abbrev main_v25_0 : Ref sig .tc := ⟨.hbm, 33, rfl⟩
abbrev main_call0_cst : Ref sig .tc := ⟨.hbm, 34, rfl⟩
abbrev main_v25_2 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_call1_cst : Ref sig .tc := ⟨.hbm, 100, rfl⟩
abbrev main_call1_v0 : Ref sig .tc := ⟨.hbm, 101, rfl⟩
abbrev main_v78 : Ref sig .tc := ⟨.hbm, 102, rfl⟩
abbrev main_v79 : Ref sig .tc := ⟨.hbm, 103, rfl⟩
abbrev main_cst_13 : Ref sig .tc := ⟨.hbm, 104, rfl⟩
abbrev main_v80 : Ref sig .tc := ⟨.hbm, 105, rfl⟩
abbrev main_v81 : Ref sig .tc := ⟨.hbm, 106, rfl⟩
abbrev main_cst_14 : Ref sig .tc := ⟨.hbm, 107, rfl⟩
abbrev main_v82 : Ref sig .tc := ⟨.hbm, 108, rfl⟩
abbrev main_cst_15 : Ref sig .tc := ⟨.hbm, 109, rfl⟩
abbrev main_v83 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_18 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_c : Ref sig .tc := ⟨.hbm, 134, rfl⟩
abbrev main_call2_v0 : Ref sig .tc := ⟨.hbm, 135, rfl⟩
abbrev main_call2_v1 : Ref sig .tc := ⟨.hbm, 136, rfl⟩
abbrev main_call2_v2 : Ref sig .tc := ⟨.hbm, 137, rfl⟩
abbrev main_call2_v3 : Ref sig .tc := ⟨.hbm, 138, rfl⟩
abbrev main_call2_v4 : Ref sig .tc := ⟨.hbm, 139, rfl⟩
abbrev main_call2_v5 : Ref sig .tc := ⟨.hbm, 140, rfl⟩
abbrev main_call2_v6 : Ref sig .tc := ⟨.hbm, 141, rfl⟩
abbrev main_call2_v7 : Ref sig .tc := ⟨.hbm, 142, rfl⟩
abbrev main_call2_v8 : Ref sig .tc := ⟨.hbm, 143, rfl⟩
abbrev main_call2_c : Ref sig .tc := ⟨.hbm, 144, rfl⟩
abbrev main_call2_v9 : Ref sig .tc := ⟨.hbm, 145, rfl⟩
abbrev main_call2_v10 : Ref sig .tc := ⟨.hbm, 146, rfl⟩
abbrev main_call2_v11 : Ref sig .tc := ⟨.hbm, 147, rfl⟩
abbrev main_call2_c_0 : Ref sig .tc := ⟨.hbm, 148, rfl⟩
abbrev main_call2_v12 : Ref sig .tc := ⟨.hbm, 149, rfl⟩
abbrev main_call2_v13 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_19 : Ref sig .tc := ⟨.hbm, 154, rfl⟩
abbrev main_call3_v0 : Ref sig .tc := ⟨.hbm, 155, rfl⟩
abbrev main_call3_v1 : Ref sig .tc := ⟨.hbm, 156, rfl⟩
abbrev main_call3_v2 : Ref sig .tc := ⟨.hbm, 157, rfl⟩
abbrev main_v107 : Ref sig .tc := ⟨.hbm, 158, rfl⟩

abbrev nD : Nat := 1
abbrev τ : Topo := Topo.v7x

variable {F : FTy → Type} [FloatOps F]
-- ==== Kernel2.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S256x1024 : Shape := ⟨2, ![256, 1024]⟩
abbrev S256x2816 : Shape := ⟨2, ![256, 2816]⟩
abbrev S1408x1024 : Shape := ⟨2, ![1408, 1024]⟩
abbrev S256x1408 : Shape := ⟨2, ![256, 1408]⟩

abbrev nBuf : Space → Nat
  | .hbm => 17
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x1024, .bf16⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S2816x1024, .bf16⟩
  | .hbm, ⟨10, _⟩ => ⟨S2816x1024, .f32⟩
  | .hbm, ⟨11, _⟩ => ⟨S2816x1024, .bf16⟩
  | .hbm, ⟨12, _⟩ => ⟨S2816x1024, .bf16⟩
  | .hbm, ⟨13, _⟩ => ⟨S4096x2816, .bf16⟩
  | .hbm, ⟨14, _⟩ => ⟨S4096x2816, .bf16⟩
  | .hbm, ⟨15, _⟩ => ⟨S4096x2816, .bf16⟩
  | .hbm, ⟨16, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x2816, .f32⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S2816x1024, .bf16⟩
  | .local _ .vmem, ⟨7, _⟩ => ⟨S2816x1024, .bf16⟩
  | .local _ .vmem, ⟨8, _⟩ => ⟨S2816x1024, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x1024, .f32⟩
  | .local _ .vmem, ⟨16, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x1024, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x2816, .f32⟩
  | .hbm, ⟨59, _⟩ => ⟨S4096x2816, .f32⟩
  | .hbm, ⟨60, _⟩ => ⟨S_, .f32⟩
  | .hbm, ⟨61, _⟩ => ⟨S4096x2816, .f32⟩
  | .hbm, ⟨62, _⟩ => ⟨S4096x2816, .f32⟩
  | .hbm, ⟨63, _⟩ => ⟨S_, .f32⟩
  | .hbm, ⟨64, _⟩ => ⟨S4096x2816, .f32⟩
  | .hbm, ⟨65, _⟩ => ⟨S4096x2816, .f32⟩
  | .hbm, ⟨66, _⟩ => ⟨S4096x2816, .f32⟩
  | .hbm, ⟨67, _⟩ => ⟨S4096x2816, .f32⟩
  | .hbm, ⟨68, _⟩ => ⟨S4096x2816, .bf16⟩
  | .hbm, ⟨69, _⟩ => ⟨S4096x2816, .bf16⟩
  | .hbm, ⟨70, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_call2_v0 : Ref sig .tc := ⟨.hbm, 33, rfl⟩
abbrev main_call2_v1 : Ref sig .tc := ⟨.hbm, 34, rfl⟩
abbrev main_call2_cst : Ref sig .tc := ⟨.hbm, 35, rfl⟩
abbrev main_call2_v2 : Ref sig .tc := ⟨.hbm, 36, rfl⟩
abbrev main_call2_v3 : Ref sig .tc := ⟨.hbm, 37, rfl⟩
abbrev main_call2_cst_0 : Ref sig .tc := ⟨.hbm, 38, rfl⟩
abbrev main_call2_v4 : Ref sig .tc := ⟨.hbm, 39, rfl⟩
abbrev main_v13_2 : Ref sig .tc := ⟨.hbm, 40, rfl⟩
abbrev main_call2_cst_1 : Ref sig .tc := ⟨.hbm, 41, rfl⟩
abbrev main_call2_v6 : Ref sig .tc := ⟨.hbm, 42, rfl⟩
abbrev main_call2_v7 : Ref sig .tc := ⟨.hbm, 43, rfl⟩
abbrev main_v13_1 : Ref sig .tc := ⟨.hbm, 44, rfl⟩
abbrev main_v13_0 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_call4_v0 : Ref sig .tc := ⟨.hbm, 58, rfl⟩
abbrev main_call4_v1 : Ref sig .tc := ⟨.hbm, 59, rfl⟩
abbrev main_call4_cst : Ref sig .tc := ⟨.hbm, 60, rfl⟩
abbrev main_call4_v2 : Ref sig .tc := ⟨.hbm, 61, rfl⟩
abbrev main_call4_v3 : Ref sig .tc := ⟨.hbm, 62, rfl⟩
abbrev main_call4_cst_0 : Ref sig .tc := ⟨.hbm, 63, rfl⟩
abbrev main_call4_v4 : Ref sig .tc := ⟨.hbm, 64, rfl⟩
abbrev main_call4_v5 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩

abbrev nD : Nat := 1
abbrev τ : Topo := Topo.v7x

variable {F : FTy → Type} [FloatOps F]
-- ==== Kernel3.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 33
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .bf16⟩
  | .hbm, ⟨30, _⟩ => ⟨S4096x1024, .bf16⟩
  | .hbm, ⟨31, _⟩ => ⟨S2816x1024, .f32⟩
  | .hbm, ⟨32, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11_0 : Ref sig .tc := ⟨.hbm, 31, rfl⟩
abbrev main_v11_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S2816x1024, .f32⟩
  | .hbm, ⟨29, _⟩ => ⟨S1024x2816, .f32⟩
  | .hbm, ⟨30, _⟩ => ⟨S2816x1024, .f32⟩
  | .hbm, ⟨31, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== Kernel4.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 33
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .bf16⟩
  | .hbm, ⟨30, _⟩ => ⟨S4096x1024, .bf16⟩
  | .hbm, ⟨31, _⟩ => ⟨S2816x1024, .f32⟩
  | .hbm, ⟨32, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11_0 : Ref sig .tc := ⟨.hbm, 31, rfl⟩
abbrev main_v11_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x1024, .f32⟩
  | .hbm, ⟨18, _⟩ => ⟨S4096x2816, .f32⟩
  | .hbm, ⟨19, _⟩ => ⟨S4096x2816, .f32⟩
  | .hbm, ⟨20, _⟩ => ⟨S2816x1024, .f32⟩
  | .hbm, ⟨21, _⟩ => ⟨S1024x2816, .f32⟩
  | .hbm, ⟨22, _⟩ => ⟨S2816x1024, .f32⟩
  | .hbm, ⟨23, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]
-- ==== Kernel5.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 20
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .bf16⟩
  | .hbm, ⟨17, _⟩ => ⟨S4096x1024, .bf16⟩
  | .hbm, ⟨18, _⟩ => ⟨S2816x1024, .f32⟩
  | .hbm, ⟨19, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x1024 : Shape := ⟨2, ![4096, 1024]⟩
abbrev S1024x2816 : Shape := ⟨2, ![1024, 2816]⟩
abbrev S_ : Shape := ⟨0, ![]⟩
abbrev S2816x1024 : Shape := ⟨2, ![2816, 1024]⟩
abbrev S4096x2816 : Shape := ⟨2, ![4096, 2816]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S1024x2816, .f32⟩
  | .hbm, ⟨20, _⟩ => ⟨S2816x1024, .f32⟩
  | .hbm, ⟨21, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x5128 : Shape := ⟨2, ![1024, 5128]⟩
abbrev S1x2048 : Shape := ⟨2, ![1, 2048]⟩
abbrev S5128x1024 : Shape := ⟨2, ![5128, 1024]⟩
abbrev S3080x1024 : Shape := ⟨2, ![3080, 1024]⟩
abbrev S_ : Shape := ⟨0, ![]⟩
abbrev S120x1024 : Shape := ⟨2, ![120, 1024]⟩
abbrev S2048x1024 : Shape := ⟨2, ![2048, 1024]⟩
abbrev S5248x1024 : Shape := ⟨2, ![5248, 1024]⟩
abbrev S4096x3072 : Shape := ⟨2, ![4096, 3072]⟩
abbrev S4096x128 : Shape := ⟨2, ![4096, 128]⟩
abbrev S4096x2048 : Shape := ⟨2, ![4096, 2048]⟩
abbrev S256x1024 : Shape := ⟨2, ![256, 1024]⟩
abbrev S256x3072 : Shape := ⟨2, ![256, 3072]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S512x1024 : Shape := ⟨2, ![512, 1024]⟩
abbrev S256x512 : Shape := ⟨2, ![256, 512]⟩
abbrev S128x1024 : Shape := ⟨2, ![128, 1024]⟩
abbrev S1024x1024 : Shape := ⟨2, ![1024, 1024]⟩

abbrev nBuf : Space → Nat
  | .hbm => 16
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x5128, .f32⟩
  | .hbm, ⟨4, _⟩ => ⟨S1x2048, .f32⟩
  | .hbm, ⟨5, _⟩ => ⟨S5128x1024, .f32⟩
  | .hbm, ⟨6, _⟩ => ⟨S5128x1024, .bf16⟩
  | .hbm, ⟨7, _⟩ => ⟨S3080x1024, .bf16⟩
  | .hbm, ⟨8, _⟩ => ⟨S_, .bf16⟩
  | .hbm, ⟨9, _⟩ => ⟨S120x1024, .bf16⟩
  | .hbm, ⟨10, _⟩ => ⟨S2048x1024, .bf16⟩
  | .hbm, ⟨11, _⟩ => ⟨S5248x1024, .bf16⟩
  | .hbm, ⟨12, _⟩ => ⟨S4096x1024, .bf16⟩
  | .hbm, ⟨13, _⟩ => ⟨S4096x3072, .bf16⟩
  | .hbm, ⟨14, _⟩ => ⟨S4096x128, .f32⟩
  | .hbm, ⟨15, _⟩ => ⟨S4096x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S5248x1024, .bf16⟩
  | .local _ .vmem, ⟨5, _⟩ => ⟨S1x2048, .f32⟩
  | .local _ .vmem, ⟨6, _⟩ => ⟨S256x1024, .bf16⟩
  | .local _ .vmem, ⟨7, _⟩ => ⟨S256x1024, .bf16⟩
  | .local _ .vmem, ⟨8, _⟩ => ⟨S256x3072, .bf16⟩
  | .local _ .vmem, ⟨9, _⟩ => ⟨S256x3072, .bf16⟩
  | .local _ .vmem, ⟨10, _⟩ => ⟨S256x128, .f32⟩
  | .local _ .vmem, ⟨11, _⟩ => ⟨S256x128, .f32⟩
  | .local _ .vmem, ⟨12, _⟩ => ⟨S256x2048, .f32⟩
  | .local _ .vmem, ⟨13, _⟩ => ⟨S256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5248x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S4096x1024 : Shape := ⟨2, ![4096, 1024]⟩
abbrev S1x1024 : Shape := ⟨2, ![1, 1024]⟩
abbrev S1024x5128 : Shape := ⟨2, ![1024, 5128]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S4096x5128 : Shape := ⟨2, ![4096, 5128]⟩
abbrev S4096x512 : Shape := ⟨2, ![4096, 512]⟩
abbrev S4096x3072 : Shape := ⟨2, ![4096, 3072]⟩
abbrev S4096x8 : Shape := ⟨2, ![4096, 8]⟩
abbrev S4096x128 : Shape := ⟨2, ![4096, 128]⟩
abbrev S4096x2048 : Shape := ⟨2, ![4096, 2048]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x5128, .f32⟩
  | .hbm, ⟨4, _⟩ => ⟨S1x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x5128, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S4096x3072, .f32⟩
  | .hbm, ⟨49, _⟩ => ⟨S4096x8, .f32⟩
  | .hbm, ⟨50, _⟩ => ⟨S_, .i32⟩
  | .hbm, ⟨51, _⟩ => ⟨S_, .f32⟩
  | .hbm, ⟨52, _⟩ => ⟨S4096x128, .f32⟩
  | .hbm, ⟨53, _⟩ => ⟨S4096x1024, .bf16⟩
  | .hbm, ⟨54, _⟩ => ⟨S4096x3072, .bf16⟩
  | .hbm, ⟨55, _⟩ => ⟨S4096x2048, .f32⟩
  | .hbm, ⟨56, _⟩ => ⟨S4096x2048, .f32⟩
  | .hbm, ⟨57, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c : Ref sig .tc := ⟨.hbm, 50, rfl⟩
abbrev main_call0_v0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel7.lean ====
abbrev S4096x1024 : Shape := ⟨2, ![4096, 1024]⟩
abbrev S4096x512 : Shape := ⟨2, ![4096, 512]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .bf16⟩
  | .hbm, ⟨3, _⟩ => ⟨S4096x1024, .bf16⟩
  | .hbm, ⟨4, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel7Ideal.lean ====
abbrev S4096x1024 : Shape := ⟨2, ![4096, 1024]⟩
abbrev S4096x512 : Shape := ⟨2, ![4096, 512]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .bf16⟩
  | .hbm, ⟨3, _⟩ => ⟨S4096x1024, .bf16⟩
  | .hbm, ⟨4, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S_, .f32⟩
  | .hbm, ⟨3, _⟩ => ⟨S1024x512, .f32⟩
  | .hbm, ⟨4, _⟩ => ⟨S4096x512, .f32⟩
  | .hbm, ⟨5, _⟩ => ⟨S512x1024, .f32⟩
  | .hbm, ⟨6, _⟩ => ⟨S1024x512, .f32⟩
  | .hbm, ⟨7, _⟩ => ⟨S512x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x1024 : Shape := ⟨2, ![4096, 1024]⟩
abbrev S4096x128 : Shape := ⟨2, ![4096, 128]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S4096x128, .bf16⟩
  | .hbm, ⟨3, _⟩ => ⟨S4096x1024, .bf16⟩
  | .hbm, ⟨4, _⟩ => ⟨S128x1024, .f32⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel8Ideal.lean ====
abbrev S4096x1024 : Shape := ⟨2, ![4096, 1024]⟩
abbrev S4096x128 : Shape := ⟨2, ![4096, 128]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S4096x128, .bf16⟩
  | .hbm, ⟨3, _⟩ => ⟨S4096x1024, .bf16⟩
  | .hbm, ⟨4, _⟩ => ⟨S128x1024, .f32⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S_, .f32⟩
  | .hbm, ⟨3, _⟩ => ⟨S1024x128, .f32⟩
  | .hbm, ⟨4, _⟩ => ⟨S4096x128, .f32⟩
  | .hbm, ⟨5, _⟩ => ⟨S128x1024, .f32⟩
  | .hbm, ⟨6, _⟩ => ⟨S1024x128, .f32⟩
  | .hbm, ⟨7, _⟩ => ⟨S128x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S4096x2048 : Shape := ⟨2, ![4096, 2048]⟩
abbrev S2048x1024 : Shape := ⟨2, ![2048, 1024]⟩
abbrev S2048x512 : Shape := ⟨2, ![2048, 512]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .bf16⟩
  | .hbm, ⟨3, _⟩ => ⟨S4096x1024, .bf16⟩
  | .hbm, ⟨4, _⟩ => ⟨S2048x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S2048x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S1x1024 : Shape := ⟨2, ![1, 1024]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 19
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4096x512, .bf16⟩
  | .hbm, ⟨13, _⟩ => ⟨S4096x512, .bf16⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S4096x1024, .f32⟩
  | .hbm, ⟨18, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x2048, .f32⟩
  | .local _ .vmem, ⟨7, _⟩ => ⟨S256x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference10Ideal.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 100
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S4096x1, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S1x1024, .f32⟩
  | .hbm, ⟨94, _⟩ => ⟨S1x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩

abbrev nD : Nat := 1
abbrev τ : Topo := Topo.v7x

variable {F : FTy → Type} [FloatOps F]
-- ==== Kernel11.lean ====
abbrev S4096x1024 : Shape := ⟨2, ![4096, 1024]⟩
abbrev S1x1024 : Shape := ⟨2, ![1, 1024]⟩
abbrev S1024x5128 : Shape := ⟨2, ![1024, 5128]⟩
abbrev S4096x5128 : Shape := ⟨2, ![4096, 5128]⟩
abbrev S4096x8 : Shape := ⟨2, ![4096, 8]⟩
abbrev S_ : Shape := ⟨0, ![]⟩
abbrev S4096x128 : Shape := ⟨2, ![4096, 128]⟩
abbrev S4096x512 : Shape := ⟨2, ![4096, 512]⟩
abbrev S4096x2048 : Shape := ⟨2, ![4096, 2048]⟩
abbrev S5128x1024 : Shape := ⟨2, ![5128, 1024]⟩
abbrev S3080x1024 : Shape := ⟨2, ![3080, 1024]⟩
abbrev S120x1024 : Shape := ⟨2, ![120, 1024]⟩
abbrev S2048x1024 : Shape := ⟨2, ![2048, 1024]⟩
abbrev S5248x1024 : Shape := ⟨2, ![5248, 1024]⟩
abbrev S8x1024 : Shape := ⟨2, ![8, 1024]⟩
abbrev S256x512 : Shape := ⟨2, ![256, 512]⟩
abbrev S256x128 : Shape := ⟨2, ![256, 128]⟩
abbrev S256x2048 : Shape := ⟨2, ![256, 2048]⟩
abbrev S256x1024 : Shape := ⟨2, ![256, 1024]⟩
abbrev S512x1024 : Shape := ⟨2, ![512, 1024]⟩
abbrev S128x1024 : Shape := ⟨2, ![128, 1024]⟩
abbrev S256 : Shape := ⟨1, ![256]⟩
abbrev S256x1 : Shape := ⟨2, ![256, 1]⟩
abbrev S1024 : Shape := ⟨1, ![1024]⟩

abbrev nBuf : Space → Nat
  | .hbm => 26
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x5128, .f32⟩
  | .hbm, ⟨4, _⟩ => ⟨S4096x5128, .f32⟩
  | .hbm, ⟨5, _⟩ => ⟨S4096x5128, .bf16⟩
  | .hbm, ⟨6, _⟩ => ⟨S4096x8, .bf16⟩
  | .hbm, ⟨7, _⟩ => ⟨S_, .i32⟩
  | .hbm, ⟨8, _⟩ => ⟨S_, .bf16⟩
  | .hbm, ⟨9, _⟩ => ⟨S4096x128, .bf16⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S4096x512, .bf16⟩
  | .hbm, ⟨15, _⟩ => ⟨S4096x512, .bf16⟩
  | .hbm, ⟨16, _⟩ => ⟨S4096x2048, .bf16⟩
  | .hbm, ⟨17, _⟩ => ⟨S5128x1024, .f32⟩
  | .hbm, ⟨18, _⟩ => ⟨S5128x1024, .bf16⟩
  | .hbm, ⟨19, _⟩ => ⟨S3080x1024, .bf16⟩
  | .hbm, ⟨20, _⟩ => ⟨S_, .bf16⟩
  | .hbm, ⟨21, _⟩ => ⟨S120x1024, .bf16⟩
  | .hbm, ⟨22, _⟩ => ⟨S2048x1024, .bf16⟩
  | .hbm, ⟨23, _⟩ => ⟨S5248x1024, .bf16⟩
  | .hbm, ⟨24, _⟩ => ⟨S4096x1024, .f32⟩
  | .hbm, ⟨25, _⟩ => ⟨S8x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x128, .bf16⟩
  | .local _ .vmem, ⟨13, _⟩ => ⟨S256x128, .bf16⟩
  | .local _ .vmem, ⟨14, _⟩ => ⟨S256x2048, .bf16⟩
  | .local _ .vmem, ⟨15, _⟩ => ⟨S256x2048, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S5248x1024, .bf16⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | .local _ .vmem, ⟨24, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S5248x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference11Ideal.lean ====
abbrev S4096x1024 : Shape := ⟨2, ![4096, 1024]⟩
abbrev S1x1024 : Shape := ⟨2, ![1, 1024]⟩
abbrev S1024x5128 : Shape := ⟨2, ![1024, 5128]⟩
abbrev S4096x5128 : Shape := ⟨2, ![4096, 5128]⟩
abbrev S_ : Shape := ⟨0, ![]⟩
abbrev S4096 : Shape := ⟨1, ![4096]⟩
abbrev S4096x1 : Shape := ⟨2, ![4096, 1]⟩
abbrev S1024 : Shape := ⟨1, ![1024]⟩
abbrev S6x1024 : Shape := ⟨2, ![6, 1024]⟩
abbrev S8x1024 : Shape := ⟨2, ![8, 1024]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x5128, .f32⟩
  | .hbm, ⟨4, _⟩ => ⟨S4096x5128, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x5128, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S6x1024, .f32⟩
  | .hbm, ⟨89, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_14 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== Proof.Spec.lean ====
module

public import Idealize.ShloMosaic.Lib.Pointwise
public import Idealize.ShloMosaic.PureOps.Ideal.Laws

@[expose] public section

set_option maxRecDepth 16384

noncomputable section

namespace Fox

open Idealize.ShloMosaic

/-- An array of real entries, two axes. -/
noncomputable def up2 {n k : Nat} (x : Fin n → Fin k → ℝ) : (⟨2, ![n, k]⟩ : Shape).Idx → EReal := fun j => ((x (j 0) (j 1) : ℝ) : EReal)

theorem up2_at {n k : Nat} (x : Fin n → Fin k → ℝ) (r : Fin n) (l : Fin k) : up2 x (ix2 r l) = ((x r l : ℝ) : EReal) := rfl

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

theorem eighth : Ideal.ofBits .f32 0x3E000000#32 = ((1 / 8 : ℝ) : EReal) := by
  simp [Ideal.ofBits, Ideal.ieee, -EReal.coe_mul]; norm_num

theorem one_bits : Ideal.ofBits .f32 0x3F800000#32 = ((1 : ℝ) : EReal) := by
  simp [Ideal.ofBits, Ideal.ieee, -EReal.coe_mul]; norm_num

theorem bot_bits : Ideal.ofBits .f32 0xFF800000#32 = (⊥ : EReal) := by
  simp [Ideal.ofBits, Ideal.ieee]

/-- The column of a head's lane in a block of 512 columns. -/
def hcol (h : Fin 8) (d : Fin 64) : Fin 512 := ⟨h.val * 64 + d.val, by omega⟩

variable (x : Fin 4096 → Fin 3072 → ℝ) (f : Fin 4096 → Fin 128 → ℝ) (g : Fin 4096 → Fin 512 → ℝ)

/-- Queries, keys and values of a head. -/
def qry (h : Fin 8) (t : Fin 4096) (d : Fin 64) : ℝ := x t ⟨1536 + (hcol h d).val, by omega⟩
def key (h : Fin 8) (t : Fin 4096) (d : Fin 64) : ℝ := x t ⟨2048 + (hcol h d).val, by omega⟩
def vlu (h : Fin 8) (t : Fin 4096) (d : Fin 64) : ℝ := x t ⟨2560 + (hcol h d).val, by omega⟩
/-- A head's gate. -/
def gate (h : Fin 8) (t : Fin 4096) : ℝ := f t ⟨h.val, by omega⟩
/-- A head's part of the incoming gradient. -/
def grd (h : Fin 8) (t : Fin 4096) (d : Fin 64) : ℝ := g t (hcol h d)

/-- The logit of a query and a key. -/
def zz (h : Fin 8) (t s : Fin 4096) : ℝ := (∑ d, qry x h t d * key x h s d) * (1 / 8) + gate f h t - gate f h s

/-- The exponential of a logit where the key is not after the query, and zero elsewhere. -/
def ez (h : Fin 8) (t s : Fin 4096) : ℝ := if s ≤ t then Real.exp (zz x f h t s) else 0

/-- A row's sum of exponentials. -/
def rowSum (h : Fin 8) (t : Fin 4096) : ℝ := ∑ s, ez x f h t s

/-- The attention's probabilities. -/
def pr (h : Fin 8) (t s : Fin 4096) : ℝ := ez x f h t s / rowSum x f h t

/-- The gradient of a probability. -/
def dP (h : Fin 8) (t s : Fin 4096) : ℝ := ∑ d, grd g h t d * vlu x h s d

/-- The probabilities' weighted mean of their gradients. -/
def dl (h : Fin 8) (t : Fin 4096) : ℝ := ∑ s, pr x f h t s * dP x g h t s

/-- The gradient of a logit. -/
def dz (h : Fin 8) (t s : Fin 4096) : ℝ := pr x f h t s * (dP x g h t s - dl x f g h t)

/-- The attention's result. -/
def att (h : Fin 8) (t : Fin 4096) (d : Fin 64) : ℝ := ∑ s, pr x f h t s * vlu x h s d

def dq (h : Fin 8) (t : Fin 4096) (d : Fin 64) : ℝ := (∑ s, dz x f g h t s * key x h s d) * (1 / 8)
def dk (h : Fin 8) (s : Fin 4096) (d : Fin 64) : ℝ := ∑ t, dz x f g h t s * (qry x h t d * (1 / 8))
def dv (h : Fin 8) (s : Fin 4096) (d : Fin 64) : ℝ := ∑ t, pr x f h t s * grd g h t d
def dfk (h : Fin 8) (s : Fin 4096) : ℝ := - ∑ t, dz x f g h t s
def dfq (h : Fin 8) (t : Fin 4096) : ℝ := ∑ s, dz x f g h t s

theorem ez_nonneg (h : Fin 8) (t s : Fin 4096) : 0 ≤ ez x f h t s := by
  unfold ez; split
  · exact (Real.exp_pos _).le
  · exact le_refl _

theorem rowSum_pos (h : Fin 8) (t : Fin 4096) : 0 < rowSum x f h t := by
  unfold rowSum
  refine Finset.sum_pos' (fun s _ => ez_nonneg x f h t s) ⟨t, Finset.mem_univ _, ?_⟩
  unfold ez; rw [if_pos (le_refl t)]; exact Real.exp_pos _

theorem dl_eq (h : Fin 8) (t : Fin 4096) : ∑ d, grd g h t d * att x f h t d = dl x f g h t := by
  unfold dl att dP
  simp only [Finset.mul_sum]
  rw [Finset.sum_comm]
  exact Finset.sum_congr rfl fun s _ => Finset.sum_congr rfl fun d _ => by ring

/-- Shifting the logits of a row by a number. -/
theorem shifted (h : Fin 8) (t s : Fin 4096) (M : ℝ) :
    (if s ≤ t then Real.exp (zz x f h t s - M) else 0) = ez x f h t s * Real.exp (-M) := by
  unfold ez; split
  · rw [sub_eq_add_neg, Real.exp_add]
  · rw [zero_mul]

theorem shifted_sum (h : Fin 8) (t : Fin 4096) (M : ℝ) :
    (∑ s, if s ≤ t then Real.exp (zz x f h t s - M) else 0) = rowSum x f h t * Real.exp (-M) := by
  simp only [shifted, rowSum, Finset.sum_mul]

theorem shifted_log (h : Fin 8) (t : Fin 4096) (M : ℝ) :
    M + Real.log (rowSum x f h t * Real.exp (-M)) = Real.log (rowSum x f h t) := by
  rw [Real.log_mul (rowSum_pos x f h t).ne' (Real.exp_pos _).ne', Real.log_exp]; ring

theorem shifted_div (h : Fin 8) (t s : Fin 4096) (M : ℝ) :
    ez x f h t s * Real.exp (-M) / (rowSum x f h t * Real.exp (-M)) = pr x f h t s :=
  mul_div_mul_right _ _ (Real.exp_pos _).ne'

/-- The probability from a logit and the logarithm of the row's sum. -/
theorem pr_eq (h : Fin 8) (t s : Fin 4096) :
    pr x f h t s = if s ≤ t then Real.exp (zz x f h t s - Real.log (rowSum x f h t)) else 0 := by
  rw [shifted, Real.exp_neg, Real.exp_log (rowSum_pos x f h t)]; rfl

end Fox

end
-- ==== Proof.Finite.lean ====
module

public import proofs.«01_k».proof.Proof.Spec
public import proofs.«01_k».proof.Pre_finite

@[expose] public section

set_option maxRecDepth 16384

noncomputable section

namespace Fox

open Idealize.ShloMosaic

theorem top_bits : Ideal.ofBits .f32 0x7F800000#32 = (⊤ : EReal) := by
  simp [Ideal.ofBits, Ideal.ieee]

/-- An extended real whose absolute value is below infinity is a real. -/
theorem real_of (y : EReal) (h : Ideal.cmp .olt (max y (-y)) (⊤ : EReal) = 1#1) : y = ((y.toReal : ℝ) : EReal) := by
  have hlt : max y (-y) < ⊤ := by
    by_contra hn
    have h0 : Ideal.cmp .olt (max y (-y)) (⊤ : EReal) = 0#1 := by
      show BitVec.ofBool (decide (max y (-y) < ⊤)) = 0#1
      rw [decide_eq_false hn]; rfl
    rw [h0] at h
    exact absurd h (by decide)
  refine (EReal.coe_toReal ?_ ?_).symm
  · rintro rfl
    exact absurd hlt (by simp)
  · rintro rfl
    exact absurd hlt (by simp)

/-- An array whose entries' absolute values are all below infinity is an array of reals. -/
theorem reals_of {n k : ℕ} (a : FVec Ideal ⟨2, ![n, k]⟩ .f32) (hb : (⟨0, ![]⟩ : Shape).BroadcastsInDim ⟨2, ![n, k]⟩ (![] : Fin 0 → Fin 2))
    (h : cmpf .olt (Host.absf a) (broadcastInDim ⟨2, ![n, k]⟩ ![] hb (constant (F := Ideal) ⟨0, ![]⟩ .f32 0x7F800000#32)) = fun _ => 1#1) :
    a = up2 (fun r l => (a (ix2 r l) : EReal).toReal) := by
  funext j
  have hj : Ideal.cmp .olt (max (a j : EReal) (-(a j : EReal))) (Ideal.ofBits .f32 0x7F800000#32) = 1#1 := congrFun h j
  rw [top_bits] at hj
  refine (real_of (a j) hj).trans ?_
  have e : j = ix2 (j 0) (j 1) := funext fun d => by match d with | ⟨0, _⟩ => rfl | ⟨1, _⟩ => rfl
  exact congrArg (fun i => (((a i : EReal).toReal : ℝ) : EReal)) e

end Fox

end
-- ==== Proof.HostK.lean ====
module

public import proofs.«01_k».proof.Proof.Gen.KernelIdeal.Value
public import proofs.«01_k».proof.Proof.Gen.ReferenceIdeal.Read

@[expose] public section

set_option maxRecDepth 16384

noncomputable section

namespace Cert.KernelIdeal.Gen

open Cert.KernelIdeal Idealize.ShloMosaic Idealize.ShloMosaic.TcCoe Idealize.SL.Sem Idealize.ShloMosaic.StableHlo

variable (m : (ℓ : Loc nD τ sig) → Buf (Elt Ideal) ℓ) (c : Dev nD)

/-- The projection's columns at launch. -/
noncomputable def hX : FVec Ideal S4096x3072 .f32 := m ((c : Thread nD τ).loc main_arg0)
/-- The forget gates' prefix sums at launch. -/
noncomputable def hF : FVec Ideal S4096x128 .f32 := m ((c : Thread nD τ).loc main_arg1)
/-- The gradient of the attention's result at launch. -/
noncomputable def hC : FVec Ideal S4096x512 .f32 := m ((c : Thread nD τ).loc main_arg2)

/-- The number of the block of 512 columns a column lies in, as the host computes it. -/
noncomputable def blockNo : IVec S4096x3072 32 :=
  let n := iotaInDim S4096x3072 32 1
  let w := broadcastInDim S4096x3072 ![] bcast_S_S4096x3072 (constantI S_ 32 512#32)
  let q := Host.divsi n w
  select (andi (cmpi .ne (signi n) (broadcastInDim S4096x3072 ![] bcast_S_S4096x3072 (signi (constantI S_ 32 512#32))))
      (cmpi .ne (Host.remsi n w) (broadcastInDim S4096x3072 ![] bcast_S_S4096x3072 (constantI S_ 32 0#32))))
    (subi q (broadcastInDim S4096x3072 ![] bcast_S_S4096x3072 (constantI S_ 32 1#32))) q

/-- The scaled columns. -/
noncomputable def qkvArr (X : FVec Ideal S4096x3072 .f32) : FVec Ideal S4096x3072 .bf16 :=
  truncf .bf16 (mulf X (select (ori (cmpi .eq blockNo (broadcastInDim S4096x3072 ![] bcast_S_S4096x3072 (constantI S_ 32 0#32)))
      (cmpi .eq blockNo (broadcastInDim S4096x3072 ![] bcast_S_S4096x3072 (constantI S_ 32 3#32))))
    (broadcastInDim S4096x3072 ![] bcast_S_S4096x3072 (constant S_ .f32 0x3E000000#32))
    (broadcastInDim S4096x3072 ![] bcast_S_S4096x3072 (constant S_ .f32 0x3F800000#32)))) bitsLt_bf16_f32

/-- The gates' prefix sums by blocks of 128 keys. -/
noncomputable def fktArr (Y : FVec Ideal S4096x128 .f32) : FVec Ideal S32x8x128 .f32 :=
  transpose S32x8x128 [0, 2, 1] (shapeCast S32x128x8 (extractStridedSlice S4096x8 ![0, 0] Y slices_S4096x128_S4096x8_0_0)
    shapeCasts_S4096x8_S32x128x8) transposes_S32x128x8_S32x8x128_0_2_1

/-- The logarithm of a row's sum of exponentials from the logits and the row's maximum, over a lane axis. -/
noncomputable def lseOf (z : FVec Ideal S8x4096x4096 .f32) (mx : FVec Ideal S8x4096 .f32) : FVec Ideal S8x4096x128 .f32 :=
  let e := Host.exp (subf z (broadcastInDim S8x4096x4096 ![0, 1, 2] bcast_S8x4096x1_S8x4096x4096_0_1_2
    (broadcastInDim S8x4096x1 ![0, 1] bcast_S8x4096_S8x4096x1_0_1 mx)))
  broadcastInDim S8x4096x128 ![0, 1, 2] bcast_S8x4096x1_S8x4096x128_0_1_2
    (broadcastInDim S8x4096x1 ![0, 1] bcast_S8x4096_S8x4096x1_0_1
      (addf mx (Host.log (Host.reduceAdd e (constant S_ .f32 0x00000000#32) reducesTo_S8x4096x4096_S8x4096_d2 h_S_))))

/-- The host's logarithms of the rows' sums. -/
noncomputable def lseArr (X : FVec Ideal S4096x3072 .f32) (Y : FVec Ideal S4096x128 .f32) : FVec Ideal S8x4096x128 .f32 :=
  lseOf (Cert.ReferenceIdeal.Read.val_main_v25_0 (F := Ideal) X Y) (Cert.ReferenceIdeal.Read.val_main_v26 (F := Ideal) X Y)

theorem V_v85 : V m c main_v85 = (truncf .bf16 (hC m c) bitsLt_bf16_f32 : FVec Ideal S4096x512 .bf16) := by
  unfold V
  simp only [hostOps0, hostOps0_1, hostOps0_2, hostOps0_3, hostOps0_4, hostOps0_5, hostOps0_6, hostOps0_7, hostOps0_8, List.flatten_cons, List.flatten_nil, TRef.binary, TRef.nullary, TRef.ternary, TRef.unary, TRef.toBuf, TRef.ofBuf, cast_eq, List.cons_append, List.nil_append, List.append_nil]
  after_results_simp <;> rfl

theorem V_v10 : V m c main_v10 = qkvArr (hX m c) := by
  unfold V
  simp only [hostOps0, hostOps0_1, hostOps0_2, hostOps0_3, hostOps0_4, hostOps0_5, hostOps0_6, hostOps0_7, hostOps0_8, List.flatten_cons, List.flatten_nil, TRef.binary, TRef.nullary, TRef.ternary, TRef.unary, TRef.toBuf, TRef.ofBuf, cast_eq, List.cons_append, List.nil_append, List.append_nil]
  after_results_simp <;> rfl

theorem V_v13 : V m c main_v13 = fktArr (hF m c) := by
  unfold V
  simp only [hostOps0, hostOps0_1, hostOps0_2, hostOps0_3, hostOps0_4, hostOps0_5, hostOps0_6, hostOps0_7, hostOps0_8, List.flatten_cons, List.flatten_nil, TRef.binary, TRef.nullary, TRef.ternary, TRef.unary, TRef.toBuf, TRef.ofBuf, cast_eq, List.cons_append, List.nil_append, List.append_nil]
  after_results_simp <;> rfl

theorem V_v86 : V m c main_v86 = (truncf .bf16 (Cert.ReferenceIdeal.Read.val_main_v58 (F := Ideal) (hX m c) (hF m c) : FVec Ideal S4096x512 .f32) bitsLt_bf16_f32 : FVec Ideal S4096x512 .bf16) := by
  unfold V
  simp only [hostOps0, hostOps0_1, hostOps0_2, hostOps0_3, hostOps0_4, hostOps0_5, hostOps0_6, hostOps0_7, hostOps0_8, List.flatten_cons, List.flatten_nil, TRef.binary, TRef.nullary, TRef.ternary, TRef.unary, TRef.toBuf, TRef.ofBuf, cast_eq, List.cons_append, List.nil_append, List.append_nil]
  after_results_simp <;> rfl

theorem V_v88 : V m c main_v88 = lseArr (hX m c) (hF m c) := by
  unfold V
  simp only [hostOps0, hostOps0_1, hostOps0_2, hostOps0_3, hostOps0_4, hostOps0_5, hostOps0_6, hostOps0_7, hostOps0_8, List.flatten_cons, List.flatten_nil, TRef.binary, TRef.nullary, TRef.ternary, TRef.unary, TRef.toBuf, TRef.ofBuf, cast_eq, List.cons_append, List.nil_append, List.append_nil]
  after_results_simp <;> rfl

end Cert.KernelIdeal.Gen

end
-- ==== Proof.RefA.lean ====
module

public import proofs.«01_k».proof.Proof.Spec
public import proofs.«01_k».proof.Proof.Gen.ReferenceIdeal.Read

@[expose] public section

set_option maxRecDepth 16384

noncomputable section

namespace Cert.ReferenceIdeal.Read

open Cert.ReferenceIdeal Cert.ReferenceIdeal.Gen Idealize.ShloMosaic Fox

variable (x : Fin 4096 → Fin 3072 → ℝ) (f : Fin 4096 → Fin 128 → ℝ) (g : Fin 4096 → Fin 512 → ℝ)

theorem v6_at (h : Fin 8) (t : Fin 4096) (d : Fin 64) : val_main_v6 (F := Ideal) (up2 x) (ix3 h t d) = ((qry x h t d : ℝ) : EReal) := by
  pointwise [val_main_v6, val_main_v5, val_main_v0]
  rfl

theorem v8_at (h : Fin 8) (t : Fin 4096) (d : Fin 64) : val_main_v8 (F := Ideal) (up2 x) (ix3 h t d) = ((key x h t d : ℝ) : EReal) := by
  pointwise [val_main_v8, val_main_v7, val_main_v1]
  rfl

theorem v55_at (h : Fin 8) (t : Fin 4096) (d : Fin 64) : val_main_v55 (F := Ideal) (up2 x) (ix3 h t d) = ((vlu x h t d : ℝ) : EReal) := by
  pointwise [val_main_v55, val_main_v54, val_main_v2]
  rfl

theorem v60_at (h : Fin 8) (t : Fin 4096) (d : Fin 64) : val_main_v60 (F := Ideal) (up2 g) (ix3 h t d) = ((grd g h t d : ℝ) : EReal) := by
  pointwise [val_main_v60, val_main_v59]
  rfl

theorem v4_at (h : Fin 8) (t : Fin 4096) : val_main_v4 (F := Ideal) (up2 f) (ix2 h t) = ((gate f h t : ℝ) : EReal) := by
  pointwise [val_main_v4, val_main_v3]
  rfl

theorem v9_at (h : Fin 8) (t s : Fin 4096) :
    val_main_v9 (F := Ideal) (up2 x) (ix3 h t s) = ((∑ d, qry x h t d * key x h s d : ℝ) : EReal) := by
  rw [val_main_v9_apply, coe_sum]
  refine Finset.sum_congr rfl fun d _ => ?_
  rw [EReal.coe_mul, ← v6_at, ← v8_at]
  rfl

theorem v63_at (h : Fin 8) (t s : Fin 4096) :
    val_main_v63 (F := Ideal) (up2 x) (up2 g) (ix3 h t s) = ((dP x g h t s : ℝ) : EReal) := by
  unfold dP
  rw [val_main_v63_apply, coe_sum]
  refine Finset.sum_congr rfl fun d _ => ?_
  rw [EReal.coe_mul, ← v60_at, ← v55_at]
  rfl

theorem v17_at (h : Fin 8) (t s : Fin 4096) :
    val_main_v17 (F := Ideal) (up2 x) (up2 f) (ix3 h t s) = ((zz x f h t s : ℝ) : EReal) := by
  pointwise [val_main_v17, val_main_v16, val_main_v15, val_main_v14, val_main_v13, val_main_v12, val_main_v11, val_main_v10, val_main_cst, v9_at, v4_at, eighth]
  unfold zz
  rw [EReal.coe_sub, EReal.coe_add, EReal.coe_mul]

theorem v25_1_at (h : Fin 8) (t s : Fin 4096) :
    val_main_v25_1 (F := Ideal) (ix3 h t s) = if s ≤ t then 1#1 else 0#1 := by
  pointwise [val_main_v25_1, val_main_v24, val_main_v23, val_main_v22, val_main_v21, val_main_v20, val_main_v19, val_main_v18]
  have hs : (BitVec.ofNat 32 s.val).toInt = s.val := by
    rw [BitVec.toInt_eq_toNat_of_lt] <;> rw [BitVec.toNat_ofNat, Nat.mod_eq_of_lt] <;> omega
  have ht : (BitVec.ofNat 32 t.val).toInt = t.val := by
    rw [BitVec.toInt_eq_toNat_of_lt] <;> rw [BitVec.toNat_ofNat, Nat.mod_eq_of_lt] <;> omega
  simp only [IntOp.cmpi, BitVec.sle, hs, ht, Fin.le_def]
  by_cases h : s.val ≤ t.val
  · simp [h]
  · simp [h]

theorem z_at (h : Fin 8) (t s : Fin 4096) :
    val_main_v25_0 (F := Ideal) (up2 x) (up2 f) (ix3 h t s) = if s ≤ t then ((zz x f h t s : ℝ) : EReal) else ⊥ := by
  pointwise [val_main_v25_0, v25_1_at, v17_at, val_main_call0_v2, val_main_call0_v0, val_main_cst_0, bot_bits]
  show Scalar.select _ _ (Ideal.ofBits .f32 0xFF800000#32) = _
  rw [bot_bits]
  split <;> rfl

theorem v26_at (h : Fin 8) (t : Fin 4096) :
    val_main_v26 (F := Ideal) (up2 x) (up2 f) (ix2 h t) = Finset.univ.fold max (⊥ : EReal) fun s : Fin 4096 => if s ≤ t then ((zz x f h t s : ℝ) : EReal) else ⊥ := by
  pointwise [val_main_v26, z_at, val_main_cst_1, bot_bits]

/-- A row's maximum, a real number: the diagonal is not masked. -/
noncomputable def rowMax (h : Fin 8) (t : Fin 4096) : ℝ :=
  EReal.toReal (Finset.univ.fold max (⊥ : EReal) fun s : Fin 4096 => if s ≤ t then ((zz x f h t s : ℝ) : EReal) else ⊥)

theorem rowMax_eq (h : Fin 8) (t : Fin 4096) : val_main_v26 (F := Ideal) (up2 x) (up2 f) (ix2 h t) = ((rowMax x f h t : ℝ) : EReal) := by
  rw [v26_at, rowMax, EReal.coe_toReal]
  · refine ne_of_lt ((Finset.fold_max_lt _).2 ⟨bot_lt_top, fun s _ => ?_⟩)
    split
    · exact EReal.coe_lt_top _
    · exact bot_lt_top
  · refine ne_of_gt ((Finset.lt_fold_max _).2 (Or.inr ⟨t, Finset.mem_univ _, ?_⟩))
    rw [if_pos (le_refl t)]
    exact EReal.bot_lt_coe _

/-- The shifted exponentials of the reference. -/
noncomputable def es (h : Fin 8) (t s : Fin 4096) : ℝ := ez x f h t s * Real.exp (-rowMax x f h t)

theorem exp_masked (h : Fin 8) (t s : Fin 4096) (M : ℝ) :
    Ideal.exp ((if s ≤ t then ((zz x f h t s : ℝ) : EReal) else ⊥) - ((M : ℝ) : EReal)) = ((ez x f h t s * Real.exp (-M) : ℝ) : EReal) := by
  rw [← shifted]
  split
  · rw [← EReal.coe_sub, Ideal.exp_coe]
  · rw [EReal.bot_sub, EReal.coe_zero]; rfl

theorem row_at (y : FVec Ideal S8x4096 .f32) (h : Fin 8) (t s : Fin 4096) :
    broadcastInDim S8x4096x4096 ![0, 1, 2] bcast_S8x4096x1_S8x4096x4096_0_1_2
      (broadcastInDim S8x4096x1 ![0, 1] bcast_S8x4096_S8x4096x1_0_1 y) (ix3 h t s) = y (ix2 h t) := by
  pointwise []

theorem v32_at (h : Fin 8) (t : Fin 4096) : val_main_v32 (F := Ideal) (ix2 h t) = (⊥ : EReal) := by
  rw [val_main_v32_apply, val_main_cst_3_apply]
  exact bot_bits

theorem v33_at (h : Fin 8) (t : Fin 4096) : val_main_v33 (F := Ideal) (up2 x) (up2 f) (ix2 h t) = ((rowMax x f h t : ℝ) : EReal) := by
  rw [val_main_v33_apply, v32_at, rowMax_eq]
  exact max_eq_right bot_le

theorem v46_at (h : Fin 8) (t s : Fin 4096) : val_main_v46 (F := Ideal) (up2 x) (up2 f) (ix3 h t s) = ((es x f h t s : ℝ) : EReal) := by
  rw [val_main_v46_apply, val_main_v45_apply, z_at]
  unfold val_main_v44 val_main_v43
  rw [row_at, v33_at]
  exact exp_masked x f h t s _

/-- Their sum along a row. -/
noncomputable def el (h : Fin 8) (t : Fin 4096) : ℝ := rowSum x f h t * Real.exp (-rowMax x f h t)

theorem el_pos (h : Fin 8) (t : Fin 4096) : 0 < el x f h t := mul_pos (rowSum_pos x f h t) (Real.exp_pos _)

theorem es_sum (h : Fin 8) (t : Fin 4096) : ∑ s, es x f h t s = el x f h t := by
  simp only [es, el, rowSum, Finset.sum_mul]

theorem v47_at (h : Fin 8) (t : Fin 4096) : val_main_v47 (F := Ideal) (up2 x) (up2 f) (ix2 h t) = ((el x f h t : ℝ) : EReal) := by
  rw [← es_sum, coe_sum]
  pointwise [val_main_v47, v46_at, val_main_cst_9]

theorem v50_at (h : Fin 8) (t s : Fin 4096) : val_main_v50 (F := Ideal) (up2 x) (up2 f) (ix3 h t s) = ((pr x f h t s : ℝ) : EReal) := by
  pointwise [val_main_v50, val_main_v49, val_main_v48, v46_at, v47_at]
  rw [Ideal.div_coe (el_pos x f h t).ne', ← EReal.coe_mul, mul_one_div]
  exact congrArg _ (shifted_div x f h t s _)

theorem v53_at (h : Fin 8) (t : Fin 4096) (o : Fin 1) : val_main_v53 (F := Ideal) (up2 x) (up2 f) (ix3 h t o) = ((1 / (el x f h t * el x f h t) : ℝ) : EReal) := by
  pointwise [val_main_v53, val_main_v52, val_main_v51, val_main_v48, v47_at, val_main_cst_10, one_bits]
  rw [← EReal.coe_mul, Ideal.div_coe (mul_pos (el_pos x f h t) (el_pos x f h t)).ne', ← EReal.coe_mul, one_mul]

theorem v56_at (h : Fin 8) (t : Fin 4096) (d : Fin 64) :
    val_main_v56 (F := Ideal) (up2 x) (up2 f) (ix3 h t d) = ((att x f h t d : ℝ) : EReal) := by
  unfold att
  rw [val_main_v56_apply, coe_sum]
  refine Finset.sum_congr rfl fun k _ => ?_
  rw [show lidx_main_v56 (ix3 h t d) k = ix3 h t k from funext fun a => by fin_cases a <;> rfl,
    show ridx_main_v56 (ix3 h t d) k = ix3 h k d from funext fun a => by fin_cases a <;> rfl, v50_at, v55_at, EReal.coe_mul]

theorem merge_at (y : FVec Ideal S8x4096x64 .f32) (h : Fin 8) (t : Fin 4096) (d : Fin 64) :
    shapeCast S4096x512 (transpose S4096x8x64 [1, 0, 2] y transposes_S8x4096x64_S4096x8x64_1_0_2) shapeCasts_S4096x8x64_S4096x512
      (ix2 t (hcol h d)) = y (ix3 h t d) := by
  pointwise [hcol]

theorem v58_at (h : Fin 8) (t : Fin 4096) (d : Fin 64) :
    val_main_v58 (F := Ideal) (up2 x) (up2 f) (ix2 t (hcol h d)) = ((att x f h t d : ℝ) : EReal) := by
  unfold val_main_v58 val_main_v57
  rw [merge_at, v56_at]

end Cert.ReferenceIdeal.Read

end
-- ==== Proof.HostAt.lean ====
module

public import proofs.«01_k».proof.Proof.HostK
public import proofs.«01_k».proof.Proof.RefA

@[expose] public section

set_option maxRecDepth 16384

noncomputable section

namespace Cert.KernelIdeal.Gen

open Cert.KernelIdeal Idealize.ShloMosaic Fox

variable (x : Fin 4096 → Fin 3072 → ℝ) (f : Fin 4096 → Fin 128 → ℝ) (g : Fin 4096 → Fin 512 → ℝ)

theorem block_word : ∀ j : Fin 3072,
    Scalar.select
        (IntOp.andi
          (IntOp.cmpi CmpIPredicate.ne
            (if BitVec.ofNat 32 j.val = 0 then (0 : BitVec 32) else if (BitVec.ofNat 32 j.val).msb = true then -1 else 1)
            (if 512#32 = 0 then (0 : BitVec 32) else if (512#32).msb = true then -1 else 1))
          (IntOp.cmpi CmpIPredicate.ne (IntOp.remsi ArithUnit.host (BitVec.ofNat 32 j.val) 512#32) 0#32))
        (IntOp.subi (IntOp.divsi ArithUnit.host (BitVec.ofNat 32 j.val) 512#32) 1#32)
        (IntOp.divsi ArithUnit.host (BitVec.ofNat 32 j.val) 512#32) = BitVec.ofNat 32 (j.val / 512) := by
  decide +kernel

theorem blockNo_at (t : Fin 4096) (j : Fin 3072) : blockNo (ix2 t j) = BitVec.ofNat 32 (j.val / 512) := by
  unfold blockNo
  pointwise []
  exact block_word j

theorem qkv_at (t : Fin 4096) (j : Fin 3072) :
    qkvArr (up2 x) (ix2 t j) = (up2 x (ix2 t j) : EReal) * Scalar.select (IntOp.ori (IntOp.cmpi .eq (BitVec.ofNat 32 (j.val / 512)) 0#32)
      (IntOp.cmpi .eq (BitVec.ofNat 32 (j.val / 512)) 3#32)) (((1 / 8 : ℝ)) : EReal) ((1 : ℝ) : EReal) := by
  pointwise [qkvArr, blockNo_at, eighth, one_bits]

theorem fkt_at (n : Fin 32) (h : Fin 8) (l : Fin 128) :
    fktArr (up2 f) (ix3 n h l) = ((gate f h ⟨n.val * 128 + l.val, by omega⟩ : ℝ) : EReal) := by
  pointwise [fktArr]
  rfl

theorem qkv_one (t : Fin 4096) (j : Fin 3072) (hj : 4 ≤ j.val / 512) :
    qkvArr (up2 x) (ix2 t j) = ((x t j : ℝ) : EReal) := by
  rw [qkv_at]
  obtain h | h : j.val / 512 = 4 ∨ j.val / 512 = 5 := by omega
  · rw [h, show IntOp.ori (IntOp.cmpi .eq (BitVec.ofNat 32 4) 0#32) (IntOp.cmpi .eq (BitVec.ofNat 32 4) 3#32) = 0#1 by decide]
    exact (EReal.coe_mul _ _).symm.trans (congrArg _ (mul_one _))
  · rw [h, show IntOp.ori (IntOp.cmpi .eq (BitVec.ofNat 32 5) 0#32) (IntOp.cmpi .eq (BitVec.ofNat 32 5) 3#32) = 0#1 by decide]
    exact (EReal.coe_mul _ _).symm.trans (congrArg _ (mul_one _))

/-- A query column, scaled. -/
theorem q_at (t : Fin 4096) (n : Fin 512) :
    qkvArr (up2 x) (ix2 t ⟨1536 + n.val, by omega⟩) = ((x t ⟨1536 + n.val, by omega⟩ * (1 / 8) : ℝ) : EReal) := by
  rw [qkv_at, show (1536 + n.val) / 512 = 3 by omega,
    show IntOp.ori (IntOp.cmpi .eq (BitVec.ofNat 32 3) 0#32) (IntOp.cmpi .eq (BitVec.ofNat 32 3) 3#32) = 1#1 by decide]
  exact (EReal.coe_mul _ _).symm

/-- A key column. -/
theorem k_at (t : Fin 4096) (n : Fin 512) :
    qkvArr (up2 x) (ix2 t ⟨2048 + n.val, by omega⟩) = ((x t ⟨2048 + n.val, by omega⟩ : ℝ) : EReal) :=
  qkv_one x t _ (by show 4 ≤ (2048 + n.val) / 512; omega)

/-- A value column. -/
theorem w_at (t : Fin 4096) (n : Fin 512) :
    qkvArr (up2 x) (ix2 t ⟨2560 + n.val, by omega⟩) = ((x t ⟨2560 + n.val, by omega⟩ : ℝ) : EReal) :=
  qkv_one x t _ (by show 4 ≤ (2560 + n.val) / 512; omega)

theorem lseOf_at (z : FVec Ideal S8x4096x4096 .f32) (mx : FVec Ideal S8x4096 .f32) (h : Fin 8) (t : Fin 4096) (l : Fin 128) :
    lseOf z mx (ix3 h t l) = (mx (ix2 h t) : EReal) + Ideal.log (∑ s : Fin 4096, Ideal.exp ((z (ix3 h t s) : EReal) - mx (ix2 h t))) := by
  pointwise [lseOf]

theorem lse_at (h : Fin 8) (t : Fin 4096) (l : Fin 128) :
    lseArr (up2 x) (up2 f) (ix3 h t l) = ((Real.log (rowSum x f h t) : ℝ) : EReal) := by
  unfold lseArr
  rw [lseOf_at, Cert.ReferenceIdeal.Read.rowMax_eq]
  simp only [Cert.ReferenceIdeal.Read.z_at, Cert.ReferenceIdeal.Read.exp_masked]
  rw [← coe_sum, ← Finset.sum_mul, ← rowSum, Ideal.log_coe, if_neg (not_le.2 (mul_pos (rowSum_pos x f h t) (Real.exp_pos _))), ← EReal.coe_add, shifted_log]

end Cert.KernelIdeal.Gen

end
-- ==== Proof.Tile.lean ====
module

public import proofs.«01_k».proof.Proof.Gen.KernelIdeal.Skeleton
public import Idealize.ShloMosaic.Lib.Pointwise

@[expose] public section

set_option maxRecDepth 16384

noncomputable section

namespace Cert.KernelIdeal.Gen

open Idealize.ShloMosaic Idealize.ShloMosaic.TcCoe Idealize.SL.Sem

/-- A score of a tile: query row `r` against key row `c`, dropped above the diagonal when `w`. -/
def tz (w : Bool) (q : Fin 512 → Fin 128 → EReal) (f : Fin 512 → EReal) (k : Fin 512 → Fin 128 → EReal)
    (b : Fin 512 → EReal) (r c : Fin 512) : EReal :=
  if w = true ∧ r < c then ⊥ else (∑ l, q r l * k c l) + f r - b c

/-- A probability of a tile: the exponential of the score less the row's log-sum. -/
def tp (w : Bool) (q : Fin 512 → Fin 128 → EReal) (f ls : Fin 512 → EReal) (k : Fin 512 → Fin 128 → EReal)
    (b : Fin 512 → EReal) (r c : Fin 512) : EReal :=
  Ideal.exp (tz w q f k b r c - ls r)

/-- The gradient of a tile's scores. -/
def td (p : Fin 512 → Fin 512 → EReal) (g : Fin 512 → Fin 128 → EReal) (dl : Fin 512 → EReal)
    (v : Fin 512 → Fin 128 → EReal) (r c : Fin 512) : EReal :=
  p r c * ((∑ l, g r l * v c l) - dl r)

/-- A matrix as a function of its two coordinates. -/
abbrev mat {n m : ℕ} {φ : FTy} (x : FVec Ideal ⟨2, ![n, m]⟩ φ) : Fin n → Fin m → EReal := fun r c => x (ix2 r c)

/-- A column as a function of its row. -/
abbrev col {n : ℕ} {φ : FTy} (x : FVec Ideal ⟨2, ![n, 1]⟩ φ) : Fin n → EReal := fun r => x (ix2 r 0)

/-- The four rows of 128 key biases of a tile, side by side. -/
def cat4 (b0 b1 b2 b3 : FVec Ideal S1x1x128 .f32) (c : Fin 512) : EReal :=
  if h0 : c.val < 128 then b0 (ix3 0 0 ⟨c.val, h0⟩)
  else if h1 : c.val - 128 < 128 then b1 (ix3 0 0 ⟨c.val - 128, h1⟩)
  else if h2 : c.val - 128 - 128 < 128 then b2 (ix3 0 0 ⟨c.val - 128 - 128, h2⟩)
  else b3 (ix3 0 0 ⟨c.val - 128 - 128 - 128, by omega⟩)

theorem mask_eq : (Named.named κ "mask" 0xF149F2CA#32 : Ideal .f32) = (⊥ : EReal) :=
  (IdealRules.named_const.statement Cert.KernelIdeal.κ "mask" .f32 0xF149F2CA#32 ⊥ rfl).2.2

theorem sle_small {a b : ℕ} (ha : a < 512) (hb : b < 512) :
    IntOp.cmpi CmpIPredicate.sle (BitVec.ofNat 32 a) (BitVec.ofNat 32 b) = if b < a then 0#1 else 1#1 := by
  have h1 : (BitVec.ofNat 32 a).toInt = a := by
    rw [BitVec.toInt_ofNat']; exact Int.bmod_eq_of_le (by omega) (by omega)
  have h2 : (BitVec.ofNat 32 b).toInt = b := by
    rw [BitVec.toInt_ofNat']; exact Int.bmod_eq_of_le (by omega) (by omega)
  by_cases h : b < a <;> simp only [IntOp.cmpi, BitVec.sle, h1, h2, h, Nat.cast_le, if_true, if_false]
  · rw [decide_eq_false (by omega)]; rfl
  · rw [decide_eq_true (by omega)]; rfl

theorem pay59_at (r c : Fin 512) : k0_pay59 (ix2 r c) = if r < c then 0#1 else 1#1 := by
  pointwise [k0_pay59]
  exact sle_small c.isLt r.isLt

theorem select_ite {p : Prop} [Decidable p] (x y : EReal) :
    Scalar.select (if p then 0#1 else 1#1) x y = if p then y else x := by
  by_cases h : p <;> simp [h, Scalar.select]

theorem tp_true (q : Fin 512 → Fin 128 → EReal) (f ls : Fin 512 → EReal) (k : Fin 512 → Fin 128 → EReal)
    (b : Fin 512 → EReal) (r c : Fin 512) :
    tp true q f ls k b r c = Ideal.exp ((if r < c then ⊥ else (∑ l, q r l * k c l) + f r - b c) - ls r) := by
  simp [tp, tz]

theorem tp_false (q : Fin 512 → Fin 128 → EReal) (f ls : Fin 512 → EReal) (k : Fin 512 → Fin 128 → EReal)
    (b : Fin 512 → EReal) (r c : Fin 512) :
    tp false q f ls k b r c = Ideal.exp (((∑ l, q r l * k c l) + f r - b c) - ls r) := by
  simp [tp, tz]

theorem pay90_at (v27 v76 : FVec Ideal S512x128 .bf16) (v39 v42 : FVec Ideal S512x1 .f32) (b0 b1 b2 b3 : FVec Ideal S1x1x128 .f32)
    (r c : Fin 512) :
    k0_pay90 (F := Ideal) k0_pay59 v27 v39 v42 v76 b0 b1 b2 b3 (ix2 r c)
      = tp true (mat v27) (col v39) (col v42) (mat v76) (cat4 b0 b1 b2 b3) r c := by
  pointwise [k0_pay90, k0_pay88, pay59_at]
  rw [select_ite, mask_eq, tp_true]
  rfl

theorem pay104_at (v48 v77 : FVec Ideal S512x128 .bf16) (v60 v63 : FVec Ideal S512x1 .f32) (b0 b1 b2 b3 : FVec Ideal S1x1x128 .f32)
    (r c : Fin 512) :
    k0_pay104 (F := Ideal) k0_pay59 v63 (k0_pay103 v48 v60 v77) b0 b1 b2 b3 (ix2 r c)
      = tp true (mat v48) (col v60) (col v63) (mat v77) (cat4 b0 b1 b2 b3) r c := by
  pointwise [k0_pay104, k0_pay103, pay59_at]
  rw [select_ite, mask_eq, tp_true]
  rfl

theorem pay91_at (v29 v80 : FVec Ideal S512x128 .bf16) (v33 : FVec Ideal S512x1 .f32) (v115 : FVec Ideal S512x512 .f32)
    (r c : Fin 512) :
    k0_pay91 (F := Ideal) v29 v33 v80 v115 (ix2 r c) = td (mat v115) (mat v29) (col v33) (mat v80) r c := by
  pointwise [k0_pay91]
  rfl

theorem pay93_at (v27 v29 v80 : FVec Ideal S512x128 .bf16) (v33 : FVec Ideal S512x1 .f32) (v115 : FVec Ideal S512x512 .f32)
    (c : Fin 512) (l : Fin 128) :
    k0_pay93 (F := Ideal) v27 v29 v33 v80 v115 (ix2 c l)
      = ∑ r, td (mat v115) (mat v29) (col v33) (mat v80) r c * mat v27 r l := by
  pointwise [k0_pay93, k0_pay92, pay91_at]

theorem pay94_at (v29 : FVec Ideal S512x128 .bf16) (v115 : FVec Ideal S512x512 .f32) (c : Fin 512) (l : Fin 128) :
    k0_pay94 (F := Ideal) v29 v115 (ix2 c l) = ∑ r, mat v115 r c * mat v29 r l := by
  pointwise [k0_pay94]

theorem pay95_at (v29 v80 : FVec Ideal S512x128 .bf16) (v33 : FVec Ideal S512x1 .f32) (v115 : FVec Ideal S512x512 .f32)
    (c : Fin 512) :
    k0_pay95 (F := Ideal) v29 v33 v80 v115 (ix2 0 c) = ∑ r, td (mat v115) (mat v29) (col v33) (mat v80) r c := by
  pointwise [k0_pay95, pay91_at]

theorem pay105_at (v50 v80 : FVec Ideal S512x128 .bf16) (v54 v63 : FVec Ideal S512x1 .f32) (v197 : FVec Ideal S512x512 .f32)
    (b0 b1 b2 b3 : FVec Ideal S1x1x128 .f32) (r c : Fin 512) :
    k0_pay105 (F := Ideal) k0_pay59 v50 v54 v63 v80 v197 b0 b1 b2 b3 (ix2 r c)
      = td (mat (k0_pay104 (F := Ideal) k0_pay59 v63 v197 b0 b1 b2 b3)) (mat v50) (col v54) (mat v80) r c := by
  pointwise [k0_pay105]
  rfl

theorem pay107_at (v48 v50 v80 : FVec Ideal S512x128 .bf16) (v54 v63 : FVec Ideal S512x1 .f32) (v123 : FVec Ideal S512x128 .f32)
    (v197 : FVec Ideal S512x512 .f32) (b0 b1 b2 b3 : FVec Ideal S1x1x128 .f32) (c : Fin 512) (l : Fin 128) :
    k0_pay107 (F := Ideal) k0_pay59 v48 v50 v54 v63 v80 v123 v197 b0 b1 b2 b3 (ix2 c l)
      = mat v123 c l + ∑ r, td (mat (k0_pay104 (F := Ideal) k0_pay59 v63 v197 b0 b1 b2 b3)) (mat v50) (col v54) (mat v80) r c
          * mat v48 r l := by
  pointwise [k0_pay107, k0_pay106, pay105_at]

theorem pay108_at (v50 : FVec Ideal S512x128 .bf16) (v63 : FVec Ideal S512x1 .f32) (v127 : FVec Ideal S512x128 .f32)
    (v197 : FVec Ideal S512x512 .f32) (b0 b1 b2 b3 : FVec Ideal S1x1x128 .f32) (c : Fin 512) (l : Fin 128) :
    k0_pay108 (F := Ideal) k0_pay59 v50 v63 v127 v197 b0 b1 b2 b3 (ix2 c l)
      = mat v127 c l + ∑ r, mat (k0_pay104 (F := Ideal) k0_pay59 v63 v197 b0 b1 b2 b3) r c * mat v50 r l := by
  pointwise [k0_pay108]

theorem pay109_at (v50 v80 : FVec Ideal S512x128 .bf16) (v54 v63 : FVec Ideal S512x1 .f32) (v197 : FVec Ideal S512x512 .f32)
    (b0 b1 b2 b3 : FVec Ideal S1x1x128 .f32) (c : Fin 512) :
    k0_pay109 (F := Ideal) k0_pay59 v50 v54 v63 v80 v197 b0 b1 b2 b3 (ix2 0 c)
      = ∑ r, td (mat (k0_pay104 (F := Ideal) k0_pay59 v63 v197 b0 b1 b2 b3)) (mat v50) (col v54) (mat v80) r c := by
  pointwise [k0_pay109, pay105_at]

/-- A row of 128 of a row of 512 taken from a row. -/
theorem pay113_at (x : FVec Ideal S1x512 .f32) (y : FVec Ideal S1x1x128 .f32) (l : Fin 128) :
    k0_pay113 (F := Ideal) x y (ix3 0 0 l) = y (ix3 0 0 l) + (0 - x (ix2 0 ⟨384 + l.val, by omega⟩)) := by
  pointwise [k0_pay113]

theorem pay110_at (x : FVec Ideal S1x512 .f32) (y : FVec Ideal S1x1x128 .f32) (l : Fin 128) :
    k0_pay110 (F := Ideal) x y (ix3 0 0 l) = y (ix3 0 0 l) + (0 - x (ix2 0 ⟨0 + l.val, by omega⟩)) := by
  pointwise [k0_pay110]

theorem pay111_at (x : FVec Ideal S1x512 .f32) (y : FVec Ideal S1x1x128 .f32) (l : Fin 128) :
    k0_pay111 (F := Ideal) x y (ix3 0 0 l) = y (ix3 0 0 l) + (0 - x (ix2 0 ⟨128 + l.val, by omega⟩)) := by
  pointwise [k0_pay111]

theorem pay112_at (x : FVec Ideal S1x512 .f32) (y : FVec Ideal S1x1x128 .f32) (l : Fin 128) :
    k0_pay112 (F := Ideal) x y (ix3 0 0 l) = y (ix3 0 0 l) + (0 - x (ix2 0 ⟨256 + l.val, by omega⟩)) := by
  pointwise [k0_pay112]

theorem pay99_at (x : FVec Ideal S1x512 .f32) (y : FVec Ideal S1x1x128 .f32) (l : Fin 128) :
    k0_pay99 (F := Ideal) x y (ix3 0 0 l) = y (ix3 0 0 l) + (0 - x (ix2 0 ⟨256 + l.val, by omega⟩)) := by
  pointwise [k0_pay99]

theorem pay100_at (x : FVec Ideal S1x512 .f32) (y : FVec Ideal S1x1x128 .f32) (l : Fin 128) :
    k0_pay100 (F := Ideal) x y (ix3 0 0 l) = y (ix3 0 0 l) + (0 - x (ix2 0 ⟨384 + l.val, by omega⟩)) := by
  pointwise [k0_pay100]

theorem pay78_at (x : FVec Ideal S1x512 .f32) (y : FVec Ideal S1x1x128 .f32) (l : Fin 128) :
    k0_pay78 (F := Ideal) x y (ix3 0 0 l) = y (ix3 0 0 l) + (0 - x (ix2 0 ⟨384 + l.val, by omega⟩)) := by
  pointwise [k0_pay78]

theorem pay96_at (v29 v80 : FVec Ideal S512x128 .bf16) (v33 : FVec Ideal S512x1 .f32) (v115 : FVec Ideal S512x512 .f32)
    (y : FVec Ideal S1x1x128 .f32) (l : Fin 128) :
    k0_pay96 (F := Ideal) v29 v33 v80 v115 y (ix3 0 0 l)
      = y (ix3 0 0 l) + (0 - k0_pay95 (F := Ideal) v29 v33 v80 v115 (ix2 0 ⟨0 + l.val, by omega⟩)) := by
  pointwise [k0_pay96]

theorem pay98_at (v29 v80 : FVec Ideal S512x128 .bf16) (v33 : FVec Ideal S512x1 .f32) (v115 : FVec Ideal S512x512 .f32)
    (y : FVec Ideal S1x1x128 .f32) (l : Fin 128) :
    k0_pay98 (F := Ideal) (k0_pay97 (F := Ideal) v29 v33 v80 v115 y) (ix3 0 0 l)
      = y (ix3 0 0 l) + (0 - k0_pay95 (F := Ideal) v29 v33 v80 v115 (ix2 0 ⟨128 + l.val, by omega⟩)) := by
  pointwise [k0_pay98, k0_pay97]

theorem pay101_at (a : FVec Ideal S512x128 .f32) (k : FVec Ideal S512x128 .bf16) (s : FVec Ideal S512x512 .bf16) (r : Fin 512) (l : Fin 128) :
    k0_pay101 (F := Ideal) a k s (ix2 r l) = a (ix2 r l) + ∑ c, s (ix2 r c) * k (ix2 c l) := by
  pointwise [k0_pay101]

theorem pay102_at (a : FVec Ideal S512x1 .f32) (s : FVec Ideal S512x512 .f32) (r : Fin 512) :
    k0_pay102 (F := Ideal) a s (ix2 r 0) = a (ix2 r 0) + ∑ c, s (ix2 r c) := by
  pointwise [k0_pay102]

theorem pay114_at (a : FVec Ideal S512x1 .f32) (s : FVec Ideal S512x512 .f32) (r : Fin 512) :
    k0_pay114 (F := Ideal) a s (ix2 r 0) = a (ix2 r 0) + ∑ c, s (ix2 r c) := by
  pointwise [k0_pay114]

theorem pay115_at (a b : FVec Ideal S512x128 .f32) (r : Fin 512) (l : Fin 128) :
    k0_pay115 (F := Ideal) a b (ix2 r l) = b (ix2 r l) + a (ix2 r l) := by
  pointwise [k0_pay115]

theorem pay116_at (a b : FVec Ideal S512x128 .f32) (r : Fin 512) (l : Fin 128) :
    k0_pay116 (F := Ideal) a b (ix2 r l) = b (ix2 r l) + a (ix2 r l) := by
  pointwise [k0_pay116]

theorem slt_small {a b : ℕ} (ha : a < 512) (hb : b < 512) :
    IntOp.cmpi CmpIPredicate.slt (BitVec.ofNat 32 a) (BitVec.ofNat 32 b) = if b ≤ a then 0#1 else 1#1 := by
  have h1 : (BitVec.ofNat 32 a).toInt = a := by
    rw [BitVec.toInt_ofNat']; exact Int.bmod_eq_of_le (by omega) (by omega)
  have h2 : (BitVec.ofNat 32 b).toInt = b := by
    rw [BitVec.toInt_ofNat']; exact Int.bmod_eq_of_le (by omega) (by omega)
  by_cases h : b ≤ a <;> simp only [IntOp.cmpi, BitVec.slt, h1, h2, h, Nat.cast_lt, if_true, if_false]
  · rw [decide_eq_false (by omega)]; rfl
  · rw [decide_eq_true (by omega)]; rfl

theorem sge_small {a b : ℕ} (ha : a < 512) (hb : b < 512) :
    IntOp.cmpi CmpIPredicate.sge (BitVec.ofNat 32 a) (BitVec.ofNat 32 b) = if a < b then 0#1 else 1#1 := by
  have h1 : (BitVec.ofNat 32 a).toInt = a := by
    rw [BitVec.toInt_ofNat']; exact Int.bmod_eq_of_le (by omega) (by omega)
  have h2 : (BitVec.ofNat 32 b).toInt = b := by
    rw [BitVec.toInt_ofNat']; exact Int.bmod_eq_of_le (by omega) (by omega)
  by_cases h : a < b <;> simp only [IntOp.cmpi, BitVec.sle, h1, h2, h, Nat.cast_le, if_true, if_false]
  · rw [decide_eq_false (by omega)]; rfl
  · rw [decide_eq_true (by omega)]; rfl

theorem eq_word (a b : BitVec 32) : IntOp.cmpi CmpIPredicate.eq a b = if a = b then 1#1 else 0#1 := by
  by_cases h : a = b
  · simp [IntOp.cmpi, h]
  · simp only [IntOp.cmpi, h, if_false, beq_eq_false_iff_ne.mpr h]; rfl

theorem select_ite' {p : Prop} [Decidable p] (x y : EReal) :
    Scalar.select (if p then 1#1 else 0#1) x y = if p then x else y := by
  by_cases h : p <;> simp [h, Scalar.select]

/-- The lane numbers of a block. -/
def lanes : IVec S512x128 32 := iota .tc S512x128 32 [1] iota_S512x128_d1_w32

/-- The number of a point's pair of heads, as a word. -/
def pairWord (i : grid0.Coords) : BitVec 32 := BitVec.ofNat 32 (i 0).val

/-- The lanes of the first head. -/
def lo (l : Fin 128) (x : EReal) : EReal := if 64 ≤ l.val then 0 else x

/-- The lanes of the second head. -/
def hi (l : Fin 128) (x : EReal) : EReal := if l.val < 64 then 0 else x

/-- The lane of a head among the 128 lanes. -/
def lane (h : Fin 8) : Fin 128 := ⟨h.val, by omega⟩

/-- The first head of a point's pair. -/
def head0 (i : grid0.Coords) : Fin 8 := ⟨2 * (i 0).val, by have h : (i 0).val < 4 := (i 0).isLt; omega⟩

/-- The second head of a point's pair. -/
def head1 (i : grid0.Coords) : Fin 8 := ⟨2 * (i 0).val + 1, by have h : (i 0).val < 4 := (i 0).isLt; omega⟩

theorem word0 (i : grid0.Coords) :
    Scalar.addi (Scalar.muli 2#32 (BitVec.ofNat 32 (i 0).val)) 0#32 = BitVec.ofNat 32 (head0 i).val := by
  have h : ∀ a : Fin 4, Scalar.addi (Scalar.muli 2#32 (BitVec.ofNat 32 a.val)) 0#32 = BitVec.ofNat 32 (2 * a.val) := by
    decide +kernel
  exact h ⟨(i 0).val, (i 0).isLt⟩

theorem word1 (i : grid0.Coords) :
    Scalar.addi (Scalar.muli 2#32 (BitVec.ofNat 32 (i 0).val)) 1#32 = BitVec.ofNat 32 (head1 i).val := by
  have h : ∀ a : Fin 4, Scalar.addi (Scalar.muli 2#32 (BitVec.ofNat 32 a.val)) 1#32 = BitVec.ofNat 32 (2 * a.val + 1) := by
    decide +kernel
  exact h ⟨(i 0).val, (i 0).isLt⟩

theorem lane_eq (l : Fin 128) (h : Fin 8) : BitVec.ofNat 32 l.val = BitVec.ofNat 32 h.val ↔ l = lane h := by
  constructor
  · intro e
    have := congrArg BitVec.toNat e
    simp only [BitVec.toNat_ofNat] at this
    apply Fin.ext
    show l.val = h.val
    omega
  · rintro rfl; rfl

theorem sum_lane (x : Fin 128 → EReal) (h : Fin 8) :
    (∑ l : Fin 128, Scalar.select (IntOp.cmpi CmpIPredicate.eq (BitVec.ofNat 32 l.val) (BitVec.ofNat 32 h.val)) (x l) 0)
      = x (lane h) := by
  simp only [eq_word, select_ite', lane_eq]
  simp

theorem pay117_at (v72 : FVec Ideal S512x128 .f32) (k : FVec Ideal S512x128 .bf16) (v191 : FVec Ideal S512x128 .f32)
    (s : FVec Ideal S512x512 .bf16) (r : Fin 512) (l : Fin 128) :
    k0_pay117 (F := Ideal) lanes v72 k v191 s (ix2 r l)
      = (if 64 ≤ l.val then v72 (ix2 r l) + ∑ c, s (ix2 r c) * k (ix2 c l) else v191 (ix2 r l))
          * Ideal.ofBits .f32 0x3E000000#32 := by
  pointwise [lanes, k0_pay117]
  rw [slt_small (by omega) (by omega), select_ite]

theorem pay1_at (i : grid0.Coords) (x y : FVec Ideal S512x1 .f32) (r : Fin 512) (l : Fin 128) :
    k0_pay1 (F := Ideal) lanes
        (Scalar.addi (Scalar.muli 2#32 (BitVec.ofNat 32 (i 0).val)) 1#32) x y
        (k0_pay118 (Scalar.addi (Scalar.muli 2#32 (BitVec.ofNat 32 (i 0).val)) 0#32)) (ix3 0 r l)
      = if l = lane (head0 i) then x (ix2 r 0) else if l = lane (head1 i) then y (ix2 r 0) else 0 := by
  rw [word0, word1]
  pointwise [lanes, k0_pay1, k0_pay118]
  simp only [eq_word, select_ite', lane_eq]

theorem pay64_at (x : FVec Ideal S512x128 .bf16) (r : Fin 512) (l : Fin 128) :
    k0_pay64 (F := Ideal) x (ix2 r l) = lo l (x (ix2 r l)) := by
  pointwise [k0_pay64, k0_pay63, k0_pay60]
  rw [slt_small (by omega) (by omega), select_ite]
  rfl

theorem pay65_at (x : FVec Ideal S512x128 .bf16) (r : Fin 512) (l : Fin 128) :
    k0_pay65 (F := Ideal) x (ix2 r l) = lo l (x (ix2 r l)) := by
  pointwise [k0_pay65, k0_pay63, k0_pay61]
  rw [slt_small (by omega) (by omega), select_ite]
  rfl

theorem pay71_at (x : FVec Ideal S512x128 .bf16) (r : Fin 512) (l : Fin 128) :
    k0_pay71 (F := Ideal) lanes (k0_pay60 (F := Ideal) x) (ix2 r l)
      = hi l (x (ix2 r l)) := by
  pointwise [lanes, k0_pay71, k0_pay70, k0_pay60]
  rw [sge_small (by omega) (by omega), select_ite]
  rfl

theorem pay72_at (x : FVec Ideal S512x128 .bf16) (r : Fin 512) (l : Fin 128) :
    k0_pay72 (F := Ideal) lanes (k0_pay61 (F := Ideal) x) (ix2 r l)
      = hi l (x (ix2 r l)) := by
  pointwise [lanes, k0_pay72, k0_pay70, k0_pay61]
  rw [sge_small (by omega) (by omega), select_ite]
  rfl

theorem pay66_at (x y : FVec Ideal S512x128 .bf16) (r : Fin 512) :
    k0_pay66 (F := Ideal) x y (ix2 r 0) = ∑ l : Fin 128, lo l (x (ix2 r l) * y (ix2 r l)) := by
  pointwise [k0_pay66, k0_pay63, k0_pay62, k0_pay61]
  refine Finset.sum_congr rfl fun l _ => ?_
  rw [slt_small (by omega) (by omega), select_ite]
  rfl

theorem pay73_at (x y : FVec Ideal S512x128 .bf16) (r : Fin 512) :
    k0_pay73 (F := Ideal) lanes (k0_pay62 (F := Ideal) x y) (ix2 r 0)
      = ∑ l : Fin 128, hi l (x (ix2 r l) * y (ix2 r l)) := by
  pointwise [lanes, k0_pay73, k0_pay70, k0_pay62, k0_pay61]
  refine Finset.sum_congr rfl fun l _ => ?_
  rw [sge_small (by omega) (by omega), select_ite]
  rfl

theorem pay68_at (i : grid0.Coords) (x : FVec Ideal S512x128 .f32) (r : Fin 512) :
    k0_pay68 (F := Ideal) x (k0_pay67 i) (ix2 r 0) = x (ix2 r (lane (head0 i))) := by
  pointwise [k0_pay68, k0_pay67]
  rw [word0]
  exact sum_lane (fun l => x (ix2 r l)) (head0 i)

theorem pay74_at (i : grid0.Coords) (x : FVec Ideal S512x128 .f32) (r : Fin 512) :
    k0_pay74 (F := Ideal) (pairWord i) lanes x (ix2 r 0)
      = x (ix2 r (lane (head1 i))) := by
  unfold pairWord
  pointwise [lanes, k0_pay74]
  rw [word1]
  exact sum_lane (fun l => x (ix2 r l)) (head1 i)

theorem pay69_at (x : FVec Ideal S1x512x128 .f32) (r : Fin 512) : k0_pay69 (F := Ideal) x (ix2 r 0) = x (ix3 0 r 0) := by
  pointwise [k0_pay69]

theorem pay75_at (x : FVec Ideal S1x512x128 .f32) (r : Fin 512) : k0_pay75 (F := Ideal) x (ix2 r 0) = x (ix3 0 r 0) := by
  pointwise [k0_pay75]

end Cert.KernelIdeal.Gen
-- ==== Proof.Trip.lean ====
module

public import proofs.«01_k».proof.Proof.Tile
public import proofs.«01_k».proof.Proof.Gen.KernelIdeal.Loops
public import Idealize.ShloMosaic.Lib.Pointwise
public import Idealize.ShloMosaic.Lib.VecWindow
public import Idealize.ShloMosaic.Lib.WritesUnit

@[expose] public section

set_option maxRecDepth 16384

noncomputable section

namespace Cert.KernelIdeal.Gen

open Idealize.ShloMosaic Idealize.ShloMosaic.TcCoe Idealize.SL.Sem

/-- The memory references the body is given. -/
structure Mem where
  a2 : Memref sig .tc .vmem S512x128 .bf16
  h2 : a2.IsWhole
  a3 : Memref sig .tc .vmem S4096x128 .bf16
  h3 : a3.IsWhole
  a4 : Memref sig .tc .vmem S4096x128 .bf16
  h4 : a4.IsWhole
  a5 : Memref sig .tc .vmem S512x128 .f32
  h5 : a5.IsWhole
  a6 : Memref sig .tc .vmem S32x8x128 .f32
  h6 : a6.IsWhole
  a7 : Memref sig .tc .vmem S512x128 .bf16
  h7 : a7.IsWhole
  a8 : Memref sig .tc .vmem S512x128 .bf16
  h8 : a8.IsWhole
  a9 : Memref sig .tc .vmem S2x512x128 .f32
  h9 : a9.IsWhole
  a10 : Memref sig .tc .vmem S512x128 .bf16
  h10 : a10.IsWhole
  a11 : Memref sig .tc .vmem S4096x128 .bf16
  h11 : a11.IsWhole
  a12 : Memref sig .tc .vmem S4096x128 .bf16
  h12 : a12.IsWhole
  a13 : Memref sig .tc .vmem S32x8x128 .f32
  h13 : a13.IsWhole
  a14 : Memref sig .tc .vmem S1x512x128 .f32
  h14 : a14.IsWhole
  a15 : Memref sig .tc .vmem S4096x128 .f32
  h15 : a15.IsWhole
  a16 : Memref sig .tc .vmem S4096x128 .f32
  h16 : a16.IsWhole

/-- What a point loads: its rows of queries, output gradients and outputs, the query biases and log-sums, and the whole key,
value and key-bias arrays. -/
structure Ld (M : Mem) where
  q : FVec Ideal S512x128 .bf16
  g : FVec Ideal S512x128 .bf16
  o : FVec Ideal S512x128 .bf16
  fq : FVec Ideal S512x128 .f32
  la : FVec Ideal S1x512x128 .f32
  lb : FVec Ideal S1x512x128 .f32
  X3 : BufTy.Contents (Elt Ideal) M.a3.view.ty
  X4 : BufTy.Contents (Elt Ideal) M.a4.view.ty
  X6 : BufTy.Contents (Elt Ideal) M.a6.view.ty

variable {M : Mem}

/-- The lanes of one head of the pair. -/
def part (b : Bool) (l : Fin 128) (x : EReal) : EReal := if b then hi l x else lo l x

/-- One head of a point's pair. -/
def headOf (i : grid0.Coords) (b : Bool) : Fin 8 := if b then head1 i else head0 i

namespace Ld

/-- The queries of one head. -/
def qh (e : Ld M) (b : Bool) (r : Fin 512) (l : Fin 128) : EReal := part b l (e.q (ix2 r l))

/-- The output gradients of one head. -/
def gh (e : Ld M) (b : Bool) (r : Fin 512) (l : Fin 128) : EReal := part b l (e.g (ix2 r l))

/-- The query biases of one head. -/
def fh (e : Ld M) (i : grid0.Coords) (b : Bool) (r : Fin 512) : EReal := e.fq (ix2 r (lane (headOf i b)))

/-- The log-sums of one head. -/
def lh (e : Ld M) (b : Bool) (r : Fin 512) : EReal := if b then e.lb (ix3 0 r 0) else e.la (ix3 0 r 0)

/-- The inner products of output gradient and output of one head. -/
def dh (e : Ld M) (b : Bool) (r : Fin 512) : EReal := ∑ l : Fin 128, part b l (e.g (ix2 r l) * e.o (ix2 r l))

/-- A tile of keys. -/
def kt (e : Ld M) (kb : Fin 8) (c : Fin 512) (l : Fin 128) : EReal :=
  M.a3.view.read (Elt Ideal) e.X3 (ix2 ⟨512 * kb.val + c.val, by omega⟩ l)

/-- A tile of values. -/
def vt (e : Ld M) (kb : Fin 8) (c : Fin 512) (l : Fin 128) : EReal :=
  M.a4.view.read (Elt Ideal) e.X4 (ix2 ⟨512 * kb.val + c.val, by omega⟩ l)

/-- A tile's key biases of one head. -/
def bt (e : Ld M) (i : grid0.Coords) (b : Bool) (kb : Fin 8) (c : Fin 512) : EReal :=
  M.a6.view.read (Elt Ideal) e.X6 (ix3 ⟨4 * kb.val + c.val / 128, by omega⟩ (headOf i b) ⟨c.val % 128, by omega⟩)

/-- A tile's probabilities. -/
def P (e : Ld M) (i : grid0.Coords) (w b : Bool) (kb : Fin 8) : Fin 512 → Fin 512 → EReal :=
  tp w (e.qh b) (e.fh i b) (e.lh b) (e.kt kb) (e.bt i b kb)

/-- The gradients of a tile's scores. -/
def D (e : Ld M) (i : grid0.Coords) (w b : Bool) (kb : Fin 8) : Fin 512 → Fin 512 → EReal :=
  td (e.P i w b kb) (e.gh b) (e.dh b) (e.vt kb)

end Ld

/-- The tile a trip takes. -/
def kbOf (i : grid0.Coords) (k : Fin (k0_t1_loop i).trips) : Fin 8 :=
  ⟨k.val, lt_of_lt_of_le k.isLt (le_trans (k0_t1_abs i).2.1 (by decide))⟩

theorem read_tile {t : EltTy} (a : Memref sig .tc .vmem S4096x128 t) (X : BufTy.Contents (Elt Ideal) a.view.ty) (off : Fin 2 → ℕ)
    (n : ℕ) (hoff : off = ![n, 0]) (inb : ∀ d, off d + S512x128.size d ≤ S4096x128.size d) (c : Fin 512) (l : Fin 128)
    (hn : n + c.val < 4096) :
    View.readAt (Elt Ideal) a.view (Rect.unit (s := S4096x128) off S512x128.size inb).toLoadRect X (ix2 c l)
      = a.view.read (Elt Ideal) X (ix2 ⟨n + c.val, hn⟩ l) := by
  subst hoff
  rw [View.readAt_unit a.view X inb rfl inb]
  refine congrArg (a.view.read (Elt Ideal) X) (funext fun d => Fin.ext ?_)
  match d with
  | ⟨0, _⟩ => show n + 1 * c.val = n + c.val; omega
  | ⟨1, _⟩ => show 0 + 1 * l.val = l.val; omega

theorem read_row {t : EltTy} (a : Memref sig .tc .vmem S32x8x128 t) (X : BufTy.Contents (Elt Ideal) a.view.ty) (off : Fin 3 → ℕ)
    (n h : ℕ) (hoff : off = ![n, h, 0]) (inb : ∀ d, off d + S1x1x128.size d ≤ S32x8x128.size d) (l : Fin 128)
    (hn : n < 32) (hh : h < 8) :
    View.readAt (Elt Ideal) a.view (Rect.unit (s := S32x8x128) off S1x1x128.size inb).toLoadRect X (ix3 0 0 l)
      = a.view.read (Elt Ideal) X (ix3 ⟨n, hn⟩ ⟨h, hh⟩ l) := by
  subst hoff
  rw [View.readAt_unit a.view X inb rfl inb]
  refine congrArg (a.view.read (Elt Ideal) X) (funext fun d => Fin.ext ?_)
  match d with
  | ⟨0, _⟩ => show n + 1 * 0 = n; omega
  | ⟨1, _⟩ => show h + 1 * 0 = h; omega
  | ⟨2, _⟩ => show 0 + 1 * l.val = l.val; omega

variable (e : Ld M) (i : grid0.Coords) (k : Fin (k0_t1_loop i).trips)

theorem v349_at (c : Fin 512) (l : Fin 128) :
    trip_k0_t1.sl.v349 (F := Ideal) i M.a3 e.X3 k (ix2 c l) = e.kt (kbOf i k) c l := by
  pointwise [trip_k0_t1.sl.v349]
  exact read_tile M.a3 e.X3 _ _ (k0_off1_eq i k) _ c l _

theorem v352_at (c : Fin 512) (l : Fin 128) :
    trip_k0_t1.sl.v352 (F := Ideal) i M.a4 e.X4 k (ix2 c l) = e.vt (kbOf i k) c l := by
  pointwise [trip_k0_t1.sl.v352]
  exact read_tile M.a4 e.X4 _ _ (k0_off1_eq i k) _ c l _

/-- Four loads of key biases side by side are the tile's. -/
theorem bt_ladder (b : Bool) (kb : Fin 8) (x0 x1 x2 x3 : Fin 128 → EReal)
    (H : ∀ l : Fin 128, x0 l = e.bt i b kb ⟨l.val, by omega⟩ ∧ x1 l = e.bt i b kb ⟨128 + l.val, by omega⟩
      ∧ x2 l = e.bt i b kb ⟨256 + l.val, by omega⟩ ∧ x3 l = e.bt i b kb ⟨384 + l.val, by omega⟩) (c : Fin 512) :
    (if h : c.val < 128 then x0 ⟨c.val, h⟩
      else if h : c.val - 128 < 128 then x1 ⟨c.val - 128, h⟩
      else if h : c.val - 128 - 128 < 128 then x2 ⟨c.val - 128 - 128, h⟩
      else x3 ⟨c.val - 128 - 128 - 128, by omega⟩) = e.bt i b kb c := by
  by_cases h0 : c.val < 128
  · rw [dif_pos h0, (H _).1]
  · rw [dif_neg h0]
    by_cases h1 : c.val - 128 < 128
    · rw [dif_pos h1, (H _).2.1]; congr 1; apply Fin.ext; show 128 + (c.val - 128) = c.val; omega
    · rw [dif_neg h1]
      by_cases h2 : c.val - 128 - 128 < 128
      · rw [dif_pos h2, (H _).2.2.1]; congr 1; apply Fin.ext; show 256 + (c.val - 128 - 128) = c.val; omega
      · rw [dif_neg h2, (H _).2.2.2]; congr 1; apply Fin.ext; show 384 + (c.val - 128 - 128 - 128) = c.val; omega

/-- A load of one row of key biases. -/
theorem row_bt {off : Fin 3 → ℕ} (b : Bool) (kb : Fin 8) (j : Fin 4) (hoff : off = ![4 * kb.val + j.val, (headOf i b).val, 0])
    (inb : ∀ d, off d + S1x1x128.size d ≤ S32x8x128.size d) (l : Fin 128) :
    View.readAt (Elt Ideal) M.a6.view (Rect.unit (s := S32x8x128) off S1x1x128.size inb).toLoadRect e.X6 (ix3 0 0 l)
      = e.bt i b kb ⟨128 * j.val + l.val, by omega⟩ := by
  rw [read_row M.a6 e.X6 _ _ _ hoff _ l (by omega) (headOf i b).isLt]
  unfold Ld.bt
  have h1 : (128 * j.val + l.val) / 128 = j.val := by omega
  have h2 : (128 * j.val + l.val) % 128 = l.val := by omega
  congr 2 <;> apply Fin.ext <;> simp only [h1, h2]

theorem off2_head (b : Fin 2) (j : Fin 4) :
    k0_off2 i k (BitVec.ofNat 32 j.val) (BitVec.ofNat 32 b.val) = ![4 * (kbOf i k).val + j.val, (headOf i (b == 1)).val, 0] := by
  rw [k0_off2_eq i k j b]
  match b with
  | ⟨0, _⟩ => rfl
  | ⟨1, _⟩ => rfl

theorem v361_at (l : Fin 128) :
    trip_k0_t1.sl.v361 (F := Ideal) i M.a6 e.X6 k (ix2 0 l) = e.bt i false (kbOf i k) ⟨l.val, by omega⟩ := by
  pointwise [trip_k0_t1.sl.v361]
  refine (row_bt e i false (kbOf i k) ⟨0, by decide⟩ (off2_head i k ⟨0, by decide⟩ ⟨0, by decide⟩) _ l).trans ?_
  congr 1; apply Fin.ext; show 128 * 0 + l.val = l.val; omega

theorem v367_at (l : Fin 128) :
    trip_k0_t1.sl.v367 (F := Ideal) i M.a6 e.X6 k (ix2 0 l) = e.bt i false (kbOf i k) ⟨128 + l.val, by omega⟩ := by
  pointwise [trip_k0_t1.sl.v367]
  exact row_bt e i false (kbOf i k) ⟨1, by decide⟩ (off2_head i k ⟨0, by decide⟩ ⟨1, by decide⟩) _ l

theorem v373_at (l : Fin 128) :
    trip_k0_t1.sl.v373 (F := Ideal) i M.a6 e.X6 k (ix2 0 l) = e.bt i false (kbOf i k) ⟨256 + l.val, by omega⟩ := by
  pointwise [trip_k0_t1.sl.v373]
  exact row_bt e i false (kbOf i k) ⟨2, by decide⟩ (off2_head i k ⟨0, by decide⟩ ⟨2, by decide⟩) _ l

theorem v379_at (l : Fin 128) :
    trip_k0_t1.sl.v379 (F := Ideal) i M.a6 e.X6 k (ix2 0 l) = e.bt i false (kbOf i k) ⟨384 + l.val, by omega⟩ := by
  pointwise [trip_k0_t1.sl.v379]
  exact row_bt e i false (kbOf i k) ⟨3, by decide⟩ (off2_head i k ⟨0, by decide⟩ ⟨3, by decide⟩) _ l

theorem v473_at (l : Fin 128) :
    trip_k0_t1.sl.v473 (F := Ideal) i M.a6 e.X6 k (ix2 0 l) = e.bt i true (kbOf i k) ⟨l.val, by omega⟩ := by
  pointwise [trip_k0_t1.sl.v473]
  refine (row_bt e i true (kbOf i k) ⟨0, by decide⟩ (off2_head i k ⟨1, by decide⟩ ⟨0, by decide⟩) _ l).trans ?_
  congr 1; apply Fin.ext; show 128 * 0 + l.val = l.val; omega

theorem v479_at (l : Fin 128) :
    trip_k0_t1.sl.v479 (F := Ideal) i M.a6 e.X6 k (ix2 0 l) = e.bt i true (kbOf i k) ⟨128 + l.val, by omega⟩ := by
  pointwise [trip_k0_t1.sl.v479]
  exact row_bt e i true (kbOf i k) ⟨1, by decide⟩ (off2_head i k ⟨1, by decide⟩ ⟨1, by decide⟩) _ l

theorem v485_at (l : Fin 128) :
    trip_k0_t1.sl.v485 (F := Ideal) i M.a6 e.X6 k (ix2 0 l) = e.bt i true (kbOf i k) ⟨256 + l.val, by omega⟩ := by
  pointwise [trip_k0_t1.sl.v485]
  exact row_bt e i true (kbOf i k) ⟨2, by decide⟩ (off2_head i k ⟨1, by decide⟩ ⟨2, by decide⟩) _ l

theorem v491_at (l : Fin 128) :
    trip_k0_t1.sl.v491 (F := Ideal) i M.a6 e.X6 k (ix2 0 l) = e.bt i true (kbOf i k) ⟨384 + l.val, by omega⟩ := by
  pointwise [trip_k0_t1.sl.v491]
  exact row_bt e i true (kbOf i k) ⟨3, by decide⟩ (off2_head i k ⟨1, by decide⟩ ⟨3, by decide⟩) _ l

theorem v385_at (r c : Fin 512) :
    trip_k0_t1.sl.v385 (F := Ideal) i M.a3 M.a6 e.fq (k0_pay64 (F := Ideal) e.q) (k0_pay67 i) e.la e.X3 e.X6 k (ix2 r c) = e.P i false false (kbOf i k) r c := by
  pointwise [trip_k0_t1.sl.v385, trip_k0_t1.sl.v384, trip_k0_t1.sl.v383, trip_k0_t1.sl.v382, trip_k0_t1.sl.v381, trip_k0_t1.sl.v380, trip_k0_t1.sl.v355, trip_k0_t1.sl.v354, trip_k0_t1.sl.v353, trip_k0_t1.sl.cst_134, v349_at, pay68_at, pay69_at, pay64_at]
  rw [bt_ladder e i false (kbOf i k) _ _ _ _ (fun l => ⟨v361_at e i k l, v367_at e i k l, v373_at e i k l, v379_at e i k l⟩) c]
  unfold Ld.P
  rw [tp_false]
  rfl

theorem v497_at (r c : Fin 512) :
    trip_k0_t1.sl.v497 (F := Ideal) i M.a3 M.a6 (pairWord i) lanes (k0_pay60 (F := Ideal) e.q) e.fq e.lb e.X3 e.X6 k (ix2 r c) = e.P i false true (kbOf i k) r c := by
  pointwise [trip_k0_t1.sl.v497, trip_k0_t1.sl.v496, trip_k0_t1.sl.v495, trip_k0_t1.sl.v494, trip_k0_t1.sl.v493, trip_k0_t1.sl.v492, trip_k0_t1.sl.v467, trip_k0_t1.sl.v466, trip_k0_t1.sl.v465, trip_k0_t1.sl.cst_134, v349_at, pay74_at, pay75_at, pay71_at]
  rw [bt_ladder e i true (kbOf i k) _ _ _ _ (fun l => ⟨v473_at e i k l, v479_at e i k l, v485_at e i k l, v491_at e i k l⟩) c]
  unfold Ld.P
  rw [tp_false]
  rfl

theorem v389_at (r c : Fin 512) :
    trip_k0_t1.sl.v389 (F := Ideal) i M.a3 M.a4 M.a6 e.fq (k0_pay64 (F := Ideal) e.q) (k0_pay65 (F := Ideal) e.g) (k0_pay66 (F := Ideal) e.g e.o) (k0_pay67 i) e.la e.X3 e.X4 e.X6 k (ix2 r c) = e.D i false false (kbOf i k) r c := by
  pointwise [trip_k0_t1.sl.v389, trip_k0_t1.sl.v388, trip_k0_t1.sl.v387, trip_k0_t1.sl.v386, trip_k0_t1.sl.cst_134, v385_at, v352_at, pay65_at, pay66_at]
  rfl

theorem v501_at (r c : Fin 512) :
    trip_k0_t1.sl.v501 (F := Ideal) i M.a3 M.a4 M.a6 (pairWord i) lanes (k0_pay60 (F := Ideal) e.q) (k0_pay61 (F := Ideal) e.g) (k0_pay62 (F := Ideal) e.g e.o) e.fq e.lb e.X3 e.X4 e.X6 k (ix2 r c) = e.D i false true (kbOf i k) r c := by
  pointwise [trip_k0_t1.sl.v501, trip_k0_t1.sl.v500, trip_k0_t1.sl.v499, trip_k0_t1.sl.v498, trip_k0_t1.sl.cst_134, v497_at, v352_at, pay72_at, pay73_at]
  rfl

theorem v504_at (c : Fin 512) (l : Fin 128) :
    trip_k0_t1.sl.v504 (F := Ideal) i M.a3 M.a4 M.a6 (pairWord i) lanes (k0_pay60 (F := Ideal) e.q) (k0_pay61 (F := Ideal) e.g) (k0_pay62 (F := Ideal) e.g e.o) e.fq (k0_pay64 (F := Ideal) e.q) (k0_pay65 (F := Ideal) e.g) (k0_pay66 (F := Ideal) e.g e.o) (k0_pay67 i) e.la e.lb e.X3 e.X4 e.X6 k (ix2 c l)
      = (∑ r, e.D i false false (kbOf i k) r c * e.qh false r l) + ∑ r, e.D i false true (kbOf i k) r c * e.qh true r l := by
  pointwise [trip_k0_t1.sl.v504, trip_k0_t1.sl.v503, trip_k0_t1.sl.v502, trip_k0_t1.sl.v393, trip_k0_t1.sl.v392, trip_k0_t1.sl.v391, trip_k0_t1.sl.v390, trip_k0_t1.sl.cst_148, trip_k0_t1.sl.cst_149, v389_at, v501_at, pay64_at, pay71_at]
  rfl

theorem v507_at (c : Fin 512) (l : Fin 128) :
    trip_k0_t1.sl.v507 (F := Ideal) i M.a3 M.a6 (pairWord i) lanes (k0_pay60 (F := Ideal) e.q) (k0_pay61 (F := Ideal) e.g) e.fq (k0_pay64 (F := Ideal) e.q) (k0_pay65 (F := Ideal) e.g) (k0_pay67 i) e.la e.lb e.X3 e.X6 k (ix2 c l)
      = (∑ r, e.P i false false (kbOf i k) r c * e.gh false r l) + ∑ r, e.P i false true (kbOf i k) r c * e.gh true r l := by
  pointwise [trip_k0_t1.sl.v507, trip_k0_t1.sl.v506, trip_k0_t1.sl.v505, trip_k0_t1.sl.v397, trip_k0_t1.sl.v392, trip_k0_t1.sl.v395, trip_k0_t1.sl.v394, trip_k0_t1.sl.cst_148, trip_k0_t1.sl.cst_149, v385_at, v497_at, pay65_at, pay72_at]
  rfl

end Cert.KernelIdeal.Gen
-- ==== Proof.Loop.lean ====
module

public import proofs.«01_k».proof.Proof.Trip

@[expose] public section

set_option maxRecDepth 16384

noncomputable section

namespace Cert.KernelIdeal.Gen

open Idealize.ShloMosaic Idealize.ShloMosaic.TcCoe Idealize.SL.Sem

variable {M : Mem}

/-- What the loop carries: two gradient blocks and two columns of row sums, one each for a head. -/
abbrev Carry := FVec Ideal S512x128 .f32 × FVec Ideal S512x1 .f32 × FVec Ideal S512x128 .f32 × FVec Ideal S512x1 .f32

/-- The loop over the tiles before the diagonal, after a number of trips. -/
def T1 (c : Dev nD) (a1 w23 w44 : BitVec 32) (e : Ld M) (i : grid0.Coords) (f13 : BufTy.Contents (Elt Ideal) M.a13.view.ty)
    (f15 : BufTy.Contents (Elt Ideal) M.a15.view.ty) (f16 : BufTy.Contents (Elt Ideal) M.a16.view.ty) (init : Carry) (n : ℕ) :
    Carry × List (View.Piece (Elt Ideal) S32x8x128 .f32) × List (View.Piece (Elt Ideal) S4096x128 .f32) × List (View.Piece (Elt Ideal) S4096x128 .f32) :=
  st_k0_t1 (F := Ideal) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 (pairWord i) a1 lanes (k0_pay60 (F := Ideal) e.q) (k0_pay61 (F := Ideal) e.g) (k0_pay62 (F := Ideal) e.g e.o) e.fq w23 (k0_pay64 (F := Ideal) e.q) (k0_pay65 (F := Ideal) e.g) (k0_pay66 (F := Ideal) e.g e.o) (k0_pay67 i) e.la w44 e.lb e.X3 e.X4 e.X6 f13 f15 f16 init n

/-- What a trip stores in the key-bias gradients. -/
def trip13 (e : Ld M) (i : grid0.Coords) (k : Fin (k0_t1_loop i).trips) (f13 : BufTy.Contents (Elt Ideal) M.a13.view.ty) :
    List (View.Piece (Elt Ideal) S32x8x128 .f32) :=
  [⟨Rect.unit (s := S32x8x128) (k0_off2 i k 3#32 1#32) S1x1x128.size (k0_off2_inb i k 3 1), k0_pay78 (F := Ideal) (trip_k0_t1.sl.v509 (F := Ideal) i M.a3 M.a4 M.a6 (pairWord i) lanes (k0_pay60 (F := Ideal) e.q) (k0_pay61 (F := Ideal) e.g) (k0_pay62 (F := Ideal) e.g e.o) e.fq e.lb e.X3 e.X4 e.X6 k) (trip_k0_t1.sl.v559 (F := Ideal) i M.a13 k f13)⟩,
    ⟨Rect.unit (s := S32x8x128) (k0_off2 i k 2#32 1#32) S1x1x128.size (k0_off2_inb i k 2 1), trip_k0_t1.sl.v554 (F := Ideal) i M.a3 M.a4 M.a6 M.a13 (pairWord i) lanes (k0_pay60 (F := Ideal) e.q) (k0_pay61 (F := Ideal) e.g) (k0_pay62 (F := Ideal) e.g e.o) e.fq e.lb e.X3 e.X4 e.X6 k f13⟩,
    ⟨Rect.unit (s := S32x8x128) (k0_off2 i k 1#32 1#32) S1x1x128.size (k0_off2_inb i k 1 1), trip_k0_t1.sl.v539 (F := Ideal) i M.a3 M.a4 M.a6 M.a13 (pairWord i) lanes (k0_pay60 (F := Ideal) e.q) (k0_pay61 (F := Ideal) e.g) (k0_pay62 (F := Ideal) e.g e.o) e.fq e.lb e.X3 e.X4 e.X6 k f13⟩,
    ⟨Rect.unit (s := S32x8x128) (k0_off2 i k 0#32 1#32) S1x1x128.size (k0_off2_inb i k 0 1), trip_k0_t1.sl.v524 (F := Ideal) i M.a3 M.a4 M.a6 M.a13 (pairWord i) lanes (k0_pay60 (F := Ideal) e.q) (k0_pay61 (F := Ideal) e.g) (k0_pay62 (F := Ideal) e.g e.o) e.fq e.lb e.X3 e.X4 e.X6 k f13⟩,
    ⟨Rect.unit (s := S32x8x128) (k0_off2 i k 3#32 0#32) S1x1x128.size (k0_off2_inb i k 3 0), trip_k0_t1.sl.v459 (F := Ideal) i M.a3 M.a4 M.a6 M.a13 e.fq (k0_pay64 (F := Ideal) e.q) (k0_pay65 (F := Ideal) e.g) (k0_pay66 (F := Ideal) e.g e.o) (k0_pay67 i) e.la e.X3 e.X4 e.X6 k f13⟩,
    ⟨Rect.unit (s := S32x8x128) (k0_off2 i k 2#32 0#32) S1x1x128.size (k0_off2_inb i k 2 0), trip_k0_t1.sl.v444 (F := Ideal) i M.a3 M.a4 M.a6 M.a13 e.fq (k0_pay64 (F := Ideal) e.q) (k0_pay65 (F := Ideal) e.g) (k0_pay66 (F := Ideal) e.g e.o) (k0_pay67 i) e.la e.X3 e.X4 e.X6 k f13⟩,
    ⟨Rect.unit (s := S32x8x128) (k0_off2 i k 1#32 0#32) S1x1x128.size (k0_off2_inb i k 1 0), trip_k0_t1.sl.v429 (F := Ideal) i M.a3 M.a4 M.a6 M.a13 e.fq (k0_pay64 (F := Ideal) e.q) (k0_pay65 (F := Ideal) e.g) (k0_pay66 (F := Ideal) e.g e.o) (k0_pay67 i) e.la e.X3 e.X4 e.X6 k f13⟩,
    ⟨Rect.unit (s := S32x8x128) (k0_off2 i k 0#32 0#32) S1x1x128.size (k0_off2_inb i k 0 0), trip_k0_t1.sl.v414 (F := Ideal) i M.a3 M.a4 M.a6 M.a13 e.fq (k0_pay64 (F := Ideal) e.q) (k0_pay65 (F := Ideal) e.g) (k0_pay66 (F := Ideal) e.g e.o) (k0_pay67 i) e.la e.X3 e.X4 e.X6 k f13⟩]

/-- What a trip adds to the key gradients. -/
def trip15 (e : Ld M) (i : grid0.Coords) (k : Fin (k0_t1_loop i).trips) (f15 : BufTy.Contents (Elt Ideal) M.a15.view.ty) :
    List (View.Piece (Elt Ideal) S4096x128 .f32) :=
  [⟨Rect.unit (s := S4096x128) (k0_off1 i k) S512x128.size (k0_off1_inb i k), k0_pay81 (F := Ideal) (trip_k0_t1.sl.v504 (F := Ideal) i M.a3 M.a4 M.a6 (pairWord i) lanes (k0_pay60 (F := Ideal) e.q) (k0_pay61 (F := Ideal) e.g) (k0_pay62 (F := Ideal) e.g e.o) e.fq (k0_pay64 (F := Ideal) e.q) (k0_pay65 (F := Ideal) e.g) (k0_pay66 (F := Ideal) e.g e.o) (k0_pay67 i) e.la e.lb e.X3 e.X4 e.X6 k)
      (View.readAt (Elt Ideal) M.a15.view (Rect.unit (s := S4096x128) (k0_off1 i k) S512x128.size (k0_off1_inb i k)).toLoadRect f15)⟩]

/-- What a trip adds to the value gradients. -/
def trip16 (e : Ld M) (i : grid0.Coords) (k : Fin (k0_t1_loop i).trips) (f16 : BufTy.Contents (Elt Ideal) M.a16.view.ty) :
    List (View.Piece (Elt Ideal) S4096x128 .f32) :=
  [⟨Rect.unit (s := S4096x128) (k0_off1 i k) S512x128.size (k0_off1_inb i k), k0_pay82 (F := Ideal) (trip_k0_t1.sl.v507 (F := Ideal) i M.a3 M.a6 (pairWord i) lanes (k0_pay60 (F := Ideal) e.q) (k0_pay61 (F := Ideal) e.g) e.fq (k0_pay64 (F := Ideal) e.q) (k0_pay65 (F := Ideal) e.g) (k0_pay67 i) e.la e.lb e.X3 e.X6 k)
      (View.readAt (Elt Ideal) M.a16.view (Rect.unit (s := S4096x128) (k0_off1 i k) S512x128.size (k0_off1_inb i k)).toLoadRect f16)⟩]

/-- What a trip carries on. -/
def tripC (e : Ld M) (i : grid0.Coords) (k : Fin (k0_t1_loop i).trips) (acc : Carry) : Carry :=
  (trip_k0_t1.sl.v461 (F := Ideal) i M.a3 M.a4 M.a6 e.fq (k0_pay64 (F := Ideal) e.q) (k0_pay65 (F := Ideal) e.g) (k0_pay66 (F := Ideal) e.g e.o) (k0_pay67 i) e.la e.X3 e.X4 e.X6 k acc,
   trip_k0_t1.sl.v464 (F := Ideal) i M.a3 M.a4 M.a6 e.fq (k0_pay64 (F := Ideal) e.q) (k0_pay65 (F := Ideal) e.g) (k0_pay66 (F := Ideal) e.g e.o) (k0_pay67 i) e.la e.X3 e.X4 e.X6 k acc,
   k0_pay79 acc.2.2.1 (trip_k0_t1.sl.v349 (F := Ideal) i M.a3 e.X3 k) (trip_k0_t1.sl.v502 (F := Ideal) i M.a3 M.a4 M.a6 (pairWord i) lanes (k0_pay60 (F := Ideal) e.q) (k0_pay61 (F := Ideal) e.g) (k0_pay62 (F := Ideal) e.g e.o) e.fq e.lb e.X3 e.X4 e.X6 k),
   k0_pay80 acc.2.2.2 (trip_k0_t1.sl.v501 (F := Ideal) i M.a3 M.a4 M.a6 (pairWord i) lanes (k0_pay60 (F := Ideal) e.q) (k0_pay61 (F := Ideal) e.g) (k0_pay62 (F := Ideal) e.g e.o) e.fq e.lb e.X3 e.X4 e.X6 k))

theorem T1_zero (c : Dev nD) (a1 w23 w44 : BitVec 32) (e : Ld M) (i : grid0.Coords) (f13 f15 f16) (init : Carry) :
    T1 c a1 w23 w44 e i f13 f15 f16 init 0 = (init, [], [], []) := rfl

set_option maxHeartbeats 1000000 in
theorem T1_succ (c : Dev nD) (a1 w23 w44 : BitVec 32) (e : Ld M) (i : grid0.Coords) (f13 f15 f16) (init : Carry)
    (k : Fin (k0_t1_loop i).trips) :
    T1 c a1 w23 w44 e i f13 f15 f16 init (k.val + 1)
      = (tripC e i k (T1 c a1 w23 w44 e i f13 f15 f16 init k.val).1,
         trip13 e i k (M.a13.view.writes (Elt Ideal) f13 (T1 c a1 w23 w44 e i f13 f15 f16 init k.val).2.1)
           ++ (T1 c a1 w23 w44 e i f13 f15 f16 init k.val).2.1,
         trip15 e i k (M.a15.view.writes (Elt Ideal) f15 (T1 c a1 w23 w44 e i f13 f15 f16 init k.val).2.2.1)
           ++ (T1 c a1 w23 w44 e i f13 f15 f16 init k.val).2.2.1,
         trip16 e i k (M.a16.view.writes (Elt Ideal) f16 (T1 c a1 w23 w44 e i f13 f15 f16 init k.val).2.2.2)
           ++ (T1 c a1 w23 w44 e i f13 f15 f16 init k.val).2.2.2) := by
  unfold T1
  rw [st_k0_t1_succ]
  generalize st_k0_t1 (F := Ideal) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 (pairWord i) a1 lanes (k0_pay60 (F := Ideal) e.q) (k0_pay61 (F := Ideal) e.g) (k0_pay62 (F := Ideal) e.g e.o) e.fq w23 (k0_pay64 (F := Ideal) e.q) (k0_pay65 (F := Ideal) e.g) (k0_pay66 (F := Ideal) e.g e.o) (k0_pay67 i) e.la w44 e.lb e.X3 e.X4 e.X6 f13 f15 f16 init k.val = s
  delta tripR_k0_t1 tripL_k0_t1 trip_k0_t1
  rfl

end Cert.KernelIdeal.Gen
-- ==== Proof.LoopValue.lean ====
module

public import proofs.«01_k».proof.Proof.Loop

@[expose] public section

set_option maxRecDepth 16384

noncomputable section

namespace Cert.KernelIdeal.Gen

open Idealize.ShloMosaic Idealize.ShloMosaic.TcCoe Idealize.SL.Sem

variable {M : Mem}

namespace Ld

/-- The change a tile makes to a row of key-bias gradients. -/
def i13 (e : Ld M) (i : grid0.Coords) (w : Bool) (kb : Fin 8) (h : Fin 8) (c : Fin 512) : EReal :=
  if h = headOf i false then 0 - ∑ r, e.D i w false kb r c
  else if h = headOf i true then 0 - ∑ r, e.D i w true kb r c else 0

/-- The change a tile makes to its rows of key gradients. -/
def i15 (e : Ld M) (i : grid0.Coords) (w : Bool) (kb : Fin 8) (c : Fin 512) (l : Fin 128) : EReal :=
  (∑ r, e.D i w false kb r c * e.qh false r l) + ∑ r, e.D i w true kb r c * e.qh true r l

/-- The change a tile makes to its rows of value gradients. -/
def i16 (e : Ld M) (i : grid0.Coords) (w : Bool) (kb : Fin 8) (c : Fin 512) (l : Fin 128) : EReal :=
  (∑ r, e.P i w false kb r c * e.gh false r l) + ∑ r, e.P i w true kb r c * e.gh true r l

/-- A tile's part of the query gradients. -/
def cq (e : Ld M) (i : grid0.Coords) (w b : Bool) (kb : Fin 8) (r : Fin 512) (l : Fin 128) : EReal :=
  ∑ c, e.D i w b kb r c * e.kt kb c l

/-- A tile's part of the row sums. -/
def cr (e : Ld M) (i : grid0.Coords) (w b : Bool) (kb : Fin 8) (r : Fin 512) : EReal := ∑ c, e.D i w b kb r c

end Ld

/-- A row of the key-bias array. -/
def rowOf (kb : Fin 8) (j : Fin 4) : Fin 32 := ⟨4 * kb.val + j.val, by omega⟩

/-- A row of a tile, in the whole array. -/
def tileRow (kb : Fin 8) (c : Fin 512) : Fin 4096 := ⟨512 * kb.val + c.val, by omega⟩

/-- A column of a tile. -/
def tileCol (j : Fin 4) (l : Fin 128) : Fin 512 := ⟨128 * j.val + l.val, by omega⟩

theorem rowOf_eq {kb kb' : Fin 8} {j j' : Fin 4} : rowOf kb j = rowOf kb' j' ↔ kb = kb' ∧ j = j' := by
  constructor
  · intro h
    have := congrArg Fin.val h
    simp only [rowOf] at this
    exact ⟨Fin.ext (by omega), Fin.ext (by omega)⟩
  · rintro ⟨rfl, rfl⟩; rfl

theorem headOf_ne (i : grid0.Coords) : headOf i true ≠ headOf i false := by
  intro h
  have := congrArg Fin.val h
  simp only [headOf, head0, head1] at this
  revert this
  simp

/-- A read of the key-bias array after the store of one row. -/
theorem read_cons_row {t : EltTy} (a : Memref sig .tc .vmem S32x8x128 t) (f : BufTy.Contents (Elt Ideal) a.view.ty) {off : Fin 3 → ℕ}
    (n : Fin 32) (m : Fin 8) (hoff : off = ![n.val, m.val, 0]) (inb : ∀ d, off d + S1x1x128.size d ≤ S32x8x128.size d)
    (w : (Rect.unit (s := S32x8x128) off S1x1x128.size inb).shape.Idx → Elt Ideal t) (L : List (View.Piece (Elt Ideal) S32x8x128 t)) (x : Fin 32) (h : Fin 8) (l : Fin 128) :
    a.view.read (Elt Ideal) (a.view.writes (Elt Ideal) f ((⟨Rect.unit (s := S32x8x128) off S1x1x128.size inb, w⟩ : View.Piece (Elt Ideal) S32x8x128 t) :: L)) (ix3 x h l)
      = if x = n ∧ h = m then w (ix3 0 0 l) else a.view.read (Elt Ideal) (a.view.writes (Elt Ideal) f L) (ix3 x h l) := by
  by_cases hx : x = n
  · by_cases hh : h = m
    · rw [if_pos ⟨hx, hh⟩]
      refine View.read_writes_cons_unit_of_mem a.view f inb w L _ (ix3 0 0 l) hoff fun d => ?_
      match d with
      | ⟨0, _⟩ => show x.val = n.val + 0; rw [hx]; rfl
      | ⟨1, _⟩ => show h.val = m.val + 0; rw [hh]; rfl
      | ⟨2, _⟩ => show l.val = 0 + l.val; omega
    · rw [if_neg (fun q => hh q.2)]
      refine View.read_writes_cons_unit_of_not_mem a.view f inb w L _ hoff (1 : Fin 3) ?_
      have : h.val ≠ m.val := fun q => hh (Fin.ext q)
      show h.val < m.val ∨ m.val + 1 ≤ h.val
      omega
  · rw [if_neg (fun q => hx q.1)]
    refine View.read_writes_cons_unit_of_not_mem a.view f inb w L _ hoff (0 : Fin 3) ?_
    have : x.val ≠ n.val := fun q => hx (Fin.ext q)
    show x.val < n.val ∨ n.val + 1 ≤ x.val
    omega

/-- A read of a gradient array after the store of one tile. -/
theorem read_cons_tile {t : EltTy} (a : Memref sig .tc .vmem S4096x128 t) (f : BufTy.Contents (Elt Ideal) a.view.ty) {off : Fin 2 → ℕ}
    (kb : Fin 8) (hoff : off = ![512 * kb.val, 0]) (inb : ∀ d, off d + S512x128.size d ≤ S4096x128.size d)
    (w : (Rect.unit (s := S4096x128) off S512x128.size inb).shape.Idx → Elt Ideal t) (L : List (View.Piece (Elt Ideal) S4096x128 t)) (kb' : Fin 8) (c : Fin 512) (l : Fin 128) :
    a.view.read (Elt Ideal) (a.view.writes (Elt Ideal) f ((⟨Rect.unit (s := S4096x128) off S512x128.size inb, w⟩ : View.Piece (Elt Ideal) S4096x128 t) :: L)) (ix2 (tileRow kb' c) l)
      = if kb' = kb then w (ix2 c l) else a.view.read (Elt Ideal) (a.view.writes (Elt Ideal) f L) (ix2 (tileRow kb' c) l) := by
  by_cases hx : kb' = kb
  · rw [if_pos hx]
    refine View.read_writes_cons_unit_of_mem a.view f inb w L _ (ix2 c l) hoff fun d => ?_
    match d with
    | ⟨0, _⟩ => show 512 * kb'.val + c.val = 512 * kb.val + c.val; rw [hx]
    | ⟨1, _⟩ => show l.val = 0 + l.val; omega
  · rw [if_neg hx]
    refine View.read_writes_cons_unit_of_not_mem a.view f inb w L _ hoff (0 : Fin 2) ?_
    have : kb'.val ≠ kb.val := fun q => hx (Fin.ext q)
    show 512 * kb'.val + c.val < 512 * kb.val ∨ 512 * kb.val + 512 ≤ 512 * kb'.val + c.val
    omega

/-- Eight stores of rows, one each for a head and a quarter of a tile. -/
theorem read_eight {t : EltTy} (a : Memref sig .tc .vmem S32x8x128 t) (f : BufTy.Contents (Elt Ideal) a.view.ty)
    (off : Fin 4 → Fin 2 → Fin 3 → ℕ) (kb : Fin 8) (hd : Fin 2 → Fin 8) (hne : hd 1 ≠ hd 0)
    (hoff : ∀ j b, off j b = ![(rowOf kb j).val, (hd b).val, 0]) (inb : ∀ j b d, off j b d + S1x1x128.size d ≤ S32x8x128.size d)
    (w : Fin 4 → Fin 2 → S1x1x128.Idx → Elt Ideal t) (L : List (View.Piece (Elt Ideal) S32x8x128 t)) (kb' : Fin 8) (j : Fin 4) (h : Fin 8) (l : Fin 128) :
    a.view.read (Elt Ideal) (a.view.writes (Elt Ideal) f ((⟨Rect.unit (s := S32x8x128) (off 3 1) S1x1x128.size (inb 3 1), w 3 1⟩ : View.Piece (Elt Ideal) S32x8x128 t) ::
      ⟨Rect.unit (s := S32x8x128) (off 2 1) S1x1x128.size (inb 2 1), w 2 1⟩ :: ⟨Rect.unit (s := S32x8x128) (off 1 1) S1x1x128.size (inb 1 1), w 1 1⟩ ::
      ⟨Rect.unit (s := S32x8x128) (off 0 1) S1x1x128.size (inb 0 1), w 0 1⟩ :: ⟨Rect.unit (s := S32x8x128) (off 3 0) S1x1x128.size (inb 3 0), w 3 0⟩ ::
      ⟨Rect.unit (s := S32x8x128) (off 2 0) S1x1x128.size (inb 2 0), w 2 0⟩ :: ⟨Rect.unit (s := S32x8x128) (off 1 0) S1x1x128.size (inb 1 0), w 1 0⟩ ::
      ⟨Rect.unit (s := S32x8x128) (off 0 0) S1x1x128.size (inb 0 0), w 0 0⟩ :: L)) (ix3 (rowOf kb' j) h l)
      = if kb' = kb then (if h = hd 0 then w j 0 (ix3 0 0 l) else if h = hd 1 then w j 1 (ix3 0 0 l)
          else a.view.read (Elt Ideal) (a.view.writes (Elt Ideal) f L) (ix3 (rowOf kb' j) h l))
        else a.view.read (Elt Ideal) (a.view.writes (Elt Ideal) f L) (ix3 (rowOf kb' j) h l) := by
  rw [read_cons_row a f (rowOf kb 3) (hd 1) (hoff 3 1), read_cons_row a f (rowOf kb 2) (hd 1) (hoff 2 1),
    read_cons_row a f (rowOf kb 1) (hd 1) (hoff 1 1), read_cons_row a f (rowOf kb 0) (hd 1) (hoff 0 1),
    read_cons_row a f (rowOf kb 3) (hd 0) (hoff 3 0), read_cons_row a f (rowOf kb 2) (hd 0) (hoff 2 0),
    read_cons_row a f (rowOf kb 1) (hd 0) (hoff 1 0), read_cons_row a f (rowOf kb 0) (hd 0) (hoff 0 0)]
  simp only [rowOf_eq]
  by_cases hk : kb' = kb
  · by_cases h0 : h = hd 0
    · have h1 : ¬ h = hd 1 := fun q => hne (q.symm.trans h0)
      simp only [hk, h1, h0, true_and, and_false, and_true, if_true, if_false]
      have h1 : ¬ hd 0 = hd 1 := fun q => hne q.symm
      fin_cases j <;> simp [h1]
    · by_cases h1 : h = hd 1
      · simp only [hk, h1, hne, true_and, and_false, and_true, if_true, if_false]
        fin_cases j <;> simp
      · simp only [h0, h1, and_false, if_false, ite_self]
  · simp only [hk, false_and, if_false]

variable (e : Ld M) (i : grid0.Coords) (k : Fin (k0_t1_loop i).trips)

theorem row13 (f13 : BufTy.Contents (Elt Ideal) M.a13.view.ty) (b : Fin 2) (j : Fin 4) (l : Fin 128)
    (inb : ∀ d, k0_off2 i k (BitVec.ofNat 32 j.val) (BitVec.ofNat 32 b.val) d + S1x1x128.size d ≤ S32x8x128.size d) :
    View.readAt (Elt Ideal) M.a13.view (Rect.unit (s := S32x8x128) (k0_off2 i k (BitVec.ofNat 32 j.val) (BitVec.ofNat 32 b.val)) S1x1x128.size inb).toLoadRect f13 (ix3 0 0 l)
      = M.a13.view.read (Elt Ideal) f13 (ix3 (rowOf (kbOf i k) j) (headOf i (b == 1)) l) :=
  read_row M.a13 f13 _ _ _ (off2_head i k b j) inb l (rowOf (kbOf i k) j).isLt (headOf i (b == 1)).isLt

theorem tileCol_zero (l : Fin 128) : tileCol 0 l = ⟨l.val, by omega⟩ := Fin.ext (by show 128 * 0 + l.val = l.val; omega)

theorem v414_at (f13 : BufTy.Contents (Elt Ideal) M.a13.view.ty) (l : Fin 128) :
    trip_k0_t1.sl.v414 (F := Ideal) i M.a3 M.a4 M.a6 M.a13 e.fq (k0_pay64 (F := Ideal) e.q) (k0_pay65 (F := Ideal) e.g) (k0_pay66 (F := Ideal) e.g e.o) (k0_pay67 i) e.la e.X3 e.X4 e.X6 k f13 (ix3 0 0 l)
      = M.a13.view.read (Elt Ideal) f13 (ix3 (rowOf (kbOf i k) 0) (headOf i false) l) + (0 - ∑ r, e.D i false false (kbOf i k) r (tileCol 0 l)) := by
  pointwise [trip_k0_t1.sl.v414, trip_k0_t1.sl.v409, trip_k0_t1.sl.v408, trip_k0_t1.sl.v407, trip_k0_t1.sl.v406, trip_k0_t1.sl.v405, trip_k0_t1.sl.cst_149, trip_k0_t1.sl.v399, trip_k0_t1.sl.v398, v389_at]
  exact congrArg₂ (· + ·) (row13 i k f13 0 0 l _) (by rw [tileCol_zero])

theorem v429_at (f13 : BufTy.Contents (Elt Ideal) M.a13.view.ty) (l : Fin 128) :
    trip_k0_t1.sl.v429 (F := Ideal) i M.a3 M.a4 M.a6 M.a13 e.fq (k0_pay64 (F := Ideal) e.q) (k0_pay65 (F := Ideal) e.g) (k0_pay66 (F := Ideal) e.g e.o) (k0_pay67 i) e.la e.X3 e.X4 e.X6 k f13 (ix3 0 0 l)
      = M.a13.view.read (Elt Ideal) f13 (ix3 (rowOf (kbOf i k) 1) (headOf i false) l) + (0 - ∑ r, e.D i false false (kbOf i k) r (tileCol 1 l)) := by
  pointwise [trip_k0_t1.sl.v429, trip_k0_t1.sl.v424, trip_k0_t1.sl.v423, trip_k0_t1.sl.v421, trip_k0_t1.sl.v420, trip_k0_t1.sl.v419, trip_k0_t1.sl.v407, trip_k0_t1.sl.cst_149, trip_k0_t1.sl.v399, trip_k0_t1.sl.v398, v389_at]
  exact congrArg₂ (· + ·) (row13 i k f13 0 1 l _) rfl

theorem v444_at (f13 : BufTy.Contents (Elt Ideal) M.a13.view.ty) (l : Fin 128) :
    trip_k0_t1.sl.v444 (F := Ideal) i M.a3 M.a4 M.a6 M.a13 e.fq (k0_pay64 (F := Ideal) e.q) (k0_pay65 (F := Ideal) e.g) (k0_pay66 (F := Ideal) e.g e.o) (k0_pay67 i) e.la e.X3 e.X4 e.X6 k f13 (ix3 0 0 l)
      = M.a13.view.read (Elt Ideal) f13 (ix3 (rowOf (kbOf i k) 2) (headOf i false) l) + (0 - ∑ r, e.D i false false (kbOf i k) r (tileCol 2 l)) := by
  pointwise [trip_k0_t1.sl.v444, trip_k0_t1.sl.v439, trip_k0_t1.sl.v438, trip_k0_t1.sl.v436, trip_k0_t1.sl.v435, trip_k0_t1.sl.v434, trip_k0_t1.sl.v407, trip_k0_t1.sl.cst_149, trip_k0_t1.sl.v399, trip_k0_t1.sl.v398, v389_at]
  exact congrArg₂ (· + ·) (row13 i k f13 0 2 l _) rfl

theorem v459_at (f13 : BufTy.Contents (Elt Ideal) M.a13.view.ty) (l : Fin 128) :
    trip_k0_t1.sl.v459 (F := Ideal) i M.a3 M.a4 M.a6 M.a13 e.fq (k0_pay64 (F := Ideal) e.q) (k0_pay65 (F := Ideal) e.g) (k0_pay66 (F := Ideal) e.g e.o) (k0_pay67 i) e.la e.X3 e.X4 e.X6 k f13 (ix3 0 0 l)
      = M.a13.view.read (Elt Ideal) f13 (ix3 (rowOf (kbOf i k) 3) (headOf i false) l) + (0 - ∑ r, e.D i false false (kbOf i k) r (tileCol 3 l)) := by
  pointwise [trip_k0_t1.sl.v459, trip_k0_t1.sl.v454, trip_k0_t1.sl.v453, trip_k0_t1.sl.v451, trip_k0_t1.sl.v450, trip_k0_t1.sl.v449, trip_k0_t1.sl.v407, trip_k0_t1.sl.cst_149, trip_k0_t1.sl.v399, trip_k0_t1.sl.v398, v389_at]
  exact congrArg₂ (· + ·) (row13 i k f13 0 3 l _) rfl

theorem v524_at (f13 : BufTy.Contents (Elt Ideal) M.a13.view.ty) (l : Fin 128) :
    trip_k0_t1.sl.v524 (F := Ideal) i M.a3 M.a4 M.a6 M.a13 (pairWord i) lanes (k0_pay60 (F := Ideal) e.q) (k0_pay61 (F := Ideal) e.g) (k0_pay62 (F := Ideal) e.g e.o) e.fq e.lb e.X3 e.X4 e.X6 k f13 (ix3 0 0 l)
      = M.a13.view.read (Elt Ideal) f13 (ix3 (rowOf (kbOf i k) 0) (headOf i true) l) + (0 - ∑ r, e.D i false true (kbOf i k) r (tileCol 0 l)) := by
  pointwise [trip_k0_t1.sl.v524, trip_k0_t1.sl.v519, trip_k0_t1.sl.v518, trip_k0_t1.sl.v516, trip_k0_t1.sl.v515, trip_k0_t1.sl.v514, trip_k0_t1.sl.v407, trip_k0_t1.sl.cst_149, trip_k0_t1.sl.v509, trip_k0_t1.sl.v508, v501_at]
  exact congrArg₂ (· + ·) (row13 i k f13 1 0 l _) (by rw [tileCol_zero])

theorem v539_at (f13 : BufTy.Contents (Elt Ideal) M.a13.view.ty) (l : Fin 128) :
    trip_k0_t1.sl.v539 (F := Ideal) i M.a3 M.a4 M.a6 M.a13 (pairWord i) lanes (k0_pay60 (F := Ideal) e.q) (k0_pay61 (F := Ideal) e.g) (k0_pay62 (F := Ideal) e.g e.o) e.fq e.lb e.X3 e.X4 e.X6 k f13 (ix3 0 0 l)
      = M.a13.view.read (Elt Ideal) f13 (ix3 (rowOf (kbOf i k) 1) (headOf i true) l) + (0 - ∑ r, e.D i false true (kbOf i k) r (tileCol 1 l)) := by
  pointwise [trip_k0_t1.sl.v539, trip_k0_t1.sl.v534, trip_k0_t1.sl.v533, trip_k0_t1.sl.v531, trip_k0_t1.sl.v530, trip_k0_t1.sl.v529, trip_k0_t1.sl.v407, trip_k0_t1.sl.cst_149, trip_k0_t1.sl.v509, trip_k0_t1.sl.v508, v501_at]
  exact congrArg₂ (· + ·) (row13 i k f13 1 1 l _) rfl

theorem v554_at (f13 : BufTy.Contents (Elt Ideal) M.a13.view.ty) (l : Fin 128) :
    trip_k0_t1.sl.v554 (F := Ideal) i M.a3 M.a4 M.a6 M.a13 (pairWord i) lanes (k0_pay60 (F := Ideal) e.q) (k0_pay61 (F := Ideal) e.g) (k0_pay62 (F := Ideal) e.g e.o) e.fq e.lb e.X3 e.X4 e.X6 k f13 (ix3 0 0 l)
      = M.a13.view.read (Elt Ideal) f13 (ix3 (rowOf (kbOf i k) 2) (headOf i true) l) + (0 - ∑ r, e.D i false true (kbOf i k) r (tileCol 2 l)) := by
  pointwise [trip_k0_t1.sl.v554, trip_k0_t1.sl.v549, trip_k0_t1.sl.v548, trip_k0_t1.sl.v546, trip_k0_t1.sl.v545, trip_k0_t1.sl.v544, trip_k0_t1.sl.v407, trip_k0_t1.sl.cst_149, trip_k0_t1.sl.v509, trip_k0_t1.sl.v508, v501_at]
  exact congrArg₂ (· + ·) (row13 i k f13 1 2 l _) rfl

theorem v78_at (f13 : BufTy.Contents (Elt Ideal) M.a13.view.ty) (l : Fin 128) :
    k0_pay78 (F := Ideal) (trip_k0_t1.sl.v509 (F := Ideal) i M.a3 M.a4 M.a6 (pairWord i) lanes (k0_pay60 (F := Ideal) e.q) (k0_pay61 (F := Ideal) e.g) (k0_pay62 (F := Ideal) e.g e.o) e.fq e.lb e.X3 e.X4 e.X6 k) (trip_k0_t1.sl.v559 (F := Ideal) i M.a13 k f13) (ix3 0 0 l)
      = M.a13.view.read (Elt Ideal) f13 (ix3 (rowOf (kbOf i k) 3) (headOf i true) l) + (0 - ∑ r, e.D i false true (kbOf i k) r (tileCol 3 l)) := by
  pointwise [pay78_at, trip_k0_t1.sl.v559, trip_k0_t1.sl.v509, trip_k0_t1.sl.v508, v501_at]
  exact congrArg₂ (· + ·) (row13 i k f13 1 3 l _) rfl

theorem tripC_q0 (acc : Carry) (r : Fin 512) (l : Fin 128) :
    (tripC e i k acc).1 (ix2 r l) = acc.1 (ix2 r l) + e.cq i false false (kbOf i k) r l := by
  show trip_k0_t1.sl.v461 (F := Ideal) i M.a3 M.a4 M.a6 e.fq (k0_pay64 (F := Ideal) e.q) (k0_pay65 (F := Ideal) e.g) (k0_pay66 (F := Ideal) e.g e.o) (k0_pay67 i) e.la e.X3 e.X4 e.X6 k acc (ix2 r l) = _
  pointwise [trip_k0_t1.sl.v461, trip_k0_t1.sl.v460, trip_k0_t1.sl.v390, trip_k0_t1.sl.cst_148, v389_at, v349_at]
  rfl

theorem tripC_r0 (acc : Carry) (r : Fin 512) :
    (tripC e i k acc).2.1 (ix2 r 0) = acc.2.1 (ix2 r 0) + e.cr i false false (kbOf i k) r := by
  show trip_k0_t1.sl.v464 (F := Ideal) i M.a3 M.a4 M.a6 e.fq (k0_pay64 (F := Ideal) e.q) (k0_pay65 (F := Ideal) e.g) (k0_pay66 (F := Ideal) e.g e.o) (k0_pay67 i) e.la e.X3 e.X4 e.X6 k acc (ix2 r 0) = _
  pointwise [trip_k0_t1.sl.v464, trip_k0_t1.sl.v463, trip_k0_t1.sl.v462, v389_at]
  rfl

theorem tripC_q1 (acc : Carry) (r : Fin 512) (l : Fin 128) :
    (tripC e i k acc).2.2.1 (ix2 r l) = acc.2.2.1 (ix2 r l) + e.cq i false true (kbOf i k) r l := by
  show k0_pay79 acc.2.2.1 (trip_k0_t1.sl.v349 (F := Ideal) i M.a3 e.X3 k) (trip_k0_t1.sl.v502 (F := Ideal) i M.a3 M.a4 M.a6 (pairWord i) lanes (k0_pay60 (F := Ideal) e.q) (k0_pay61 (F := Ideal) e.g) (k0_pay62 (F := Ideal) e.g e.o) e.fq e.lb e.X3 e.X4 e.X6 k) (ix2 r l) = _
  pointwise [k0_pay79, trip_k0_t1.sl.v502, v501_at, v349_at]
  rfl

theorem tripC_r1 (acc : Carry) (r : Fin 512) :
    (tripC e i k acc).2.2.2 (ix2 r 0) = acc.2.2.2 (ix2 r 0) + e.cr i false true (kbOf i k) r := by
  show k0_pay80 acc.2.2.2 (trip_k0_t1.sl.v501 (F := Ideal) i M.a3 M.a4 M.a6 (pairWord i) lanes (k0_pay60 (F := Ideal) e.q) (k0_pay61 (F := Ideal) e.g) (k0_pay62 (F := Ideal) e.g e.o) e.fq e.lb e.X3 e.X4 e.X6 k) (ix2 r 0) = _
  pointwise [k0_pay80, v501_at]
  rfl

theorem trip15_read (f f15 : BufTy.Contents (Elt Ideal) M.a15.view.ty) (L : List (View.Piece (Elt Ideal) S4096x128 .f32))
    (hf : f = M.a15.view.writes (Elt Ideal) f15 L) (kb' : Fin 8) (c : Fin 512) (l : Fin 128) :
    M.a15.view.read (Elt Ideal) (M.a15.view.writes (Elt Ideal) f15 (trip15 e i k f ++ L)) (ix2 (tileRow kb' c) l)
      = M.a15.view.read (Elt Ideal) f (ix2 (tileRow kb' c) l) + if kb' = kbOf i k then e.i15 i false kb' c l else 0 := by
  subst hf
  unfold trip15
  rw [List.cons_append, List.nil_append, read_cons_tile M.a15 f15 (kbOf i k) (k0_off1_eq i k)]
  by_cases h : kb' = kbOf i k
  · rw [if_pos h, if_pos h, h]
    have hr := read_tile M.a15 (M.a15.view.writes (Elt Ideal) f15 L) _ _ (k0_off1_eq i k) (k0_off1_inb i k) c l (by have := (kbOf i k).isLt; show 512 * (kbOf i k).val + c.val < 4096; omega)
    pointwise [k0_pay81, v504_at]
    rw [hr]
    rfl
  · rw [if_neg h, if_neg h, add_zero]

theorem trip16_read (f f16 : BufTy.Contents (Elt Ideal) M.a16.view.ty) (L : List (View.Piece (Elt Ideal) S4096x128 .f32))
    (hf : f = M.a16.view.writes (Elt Ideal) f16 L) (kb' : Fin 8) (c : Fin 512) (l : Fin 128) :
    M.a16.view.read (Elt Ideal) (M.a16.view.writes (Elt Ideal) f16 (trip16 e i k f ++ L)) (ix2 (tileRow kb' c) l)
      = M.a16.view.read (Elt Ideal) f (ix2 (tileRow kb' c) l) + if kb' = kbOf i k then e.i16 i false kb' c l else 0 := by
  subst hf
  unfold trip16
  rw [List.cons_append, List.nil_append, read_cons_tile M.a16 f16 (kbOf i k) (k0_off1_eq i k)]
  by_cases h : kb' = kbOf i k
  · rw [if_pos h, if_pos h, h]
    have hr := read_tile M.a16 (M.a16.view.writes (Elt Ideal) f16 L) _ _ (k0_off1_eq i k) (k0_off1_inb i k) c l (by have := (kbOf i k).isLt; show 512 * (kbOf i k).val + c.val < 4096; omega)
    pointwise [k0_pay82, v507_at]
    rw [hr]
    rfl
  · rw [if_neg h, if_neg h, add_zero]

/-- The eight payloads of a trip. -/
def pay8 (f13 : BufTy.Contents (Elt Ideal) M.a13.view.ty) (j : Fin 4) (b : Fin 2) : S1x1x128.Idx → Elt Ideal .f32 :=
  match j, b with
  | 0, 0 => trip_k0_t1.sl.v414 (F := Ideal) i M.a3 M.a4 M.a6 M.a13 e.fq (k0_pay64 (F := Ideal) e.q) (k0_pay65 (F := Ideal) e.g) (k0_pay66 (F := Ideal) e.g e.o) (k0_pay67 i) e.la e.X3 e.X4 e.X6 k f13
  | 1, 0 => trip_k0_t1.sl.v429 (F := Ideal) i M.a3 M.a4 M.a6 M.a13 e.fq (k0_pay64 (F := Ideal) e.q) (k0_pay65 (F := Ideal) e.g) (k0_pay66 (F := Ideal) e.g e.o) (k0_pay67 i) e.la e.X3 e.X4 e.X6 k f13
  | 2, 0 => trip_k0_t1.sl.v444 (F := Ideal) i M.a3 M.a4 M.a6 M.a13 e.fq (k0_pay64 (F := Ideal) e.q) (k0_pay65 (F := Ideal) e.g) (k0_pay66 (F := Ideal) e.g e.o) (k0_pay67 i) e.la e.X3 e.X4 e.X6 k f13
  | 3, 0 => trip_k0_t1.sl.v459 (F := Ideal) i M.a3 M.a4 M.a6 M.a13 e.fq (k0_pay64 (F := Ideal) e.q) (k0_pay65 (F := Ideal) e.g) (k0_pay66 (F := Ideal) e.g e.o) (k0_pay67 i) e.la e.X3 e.X4 e.X6 k f13
  | 0, 1 => trip_k0_t1.sl.v524 (F := Ideal) i M.a3 M.a4 M.a6 M.a13 (pairWord i) lanes (k0_pay60 (F := Ideal) e.q) (k0_pay61 (F := Ideal) e.g) (k0_pay62 (F := Ideal) e.g e.o) e.fq e.lb e.X3 e.X4 e.X6 k f13
  | 1, 1 => trip_k0_t1.sl.v539 (F := Ideal) i M.a3 M.a4 M.a6 M.a13 (pairWord i) lanes (k0_pay60 (F := Ideal) e.q) (k0_pay61 (F := Ideal) e.g) (k0_pay62 (F := Ideal) e.g e.o) e.fq e.lb e.X3 e.X4 e.X6 k f13
  | 2, 1 => trip_k0_t1.sl.v554 (F := Ideal) i M.a3 M.a4 M.a6 M.a13 (pairWord i) lanes (k0_pay60 (F := Ideal) e.q) (k0_pay61 (F := Ideal) e.g) (k0_pay62 (F := Ideal) e.g e.o) e.fq e.lb e.X3 e.X4 e.X6 k f13
  | 3, 1 => k0_pay78 (F := Ideal) (trip_k0_t1.sl.v509 (F := Ideal) i M.a3 M.a4 M.a6 (pairWord i) lanes (k0_pay60 (F := Ideal) e.q) (k0_pay61 (F := Ideal) e.g) (k0_pay62 (F := Ideal) e.g e.o) e.fq e.lb e.X3 e.X4 e.X6 k) (trip_k0_t1.sl.v559 (F := Ideal) i M.a13 k f13)

theorem pay8_at (f13 : BufTy.Contents (Elt Ideal) M.a13.view.ty) (j : Fin 4) (b : Fin 2) (l : Fin 128) :
    pay8 e i k f13 j b (ix3 0 0 l)
      = M.a13.view.read (Elt Ideal) f13 (ix3 (rowOf (kbOf i k) j) (headOf i (b == 1)) l) + (0 - ∑ r, e.D i false (b == 1) (kbOf i k) r (tileCol j l)) := by
  match j, b with
  | 0, 0 => exact v414_at e i k f13 l
  | 1, 0 => exact v429_at e i k f13 l
  | 2, 0 => exact v444_at e i k f13 l
  | 3, 0 => exact v459_at e i k f13 l
  | 0, 1 => exact v524_at e i k f13 l
  | 1, 1 => exact v539_at e i k f13 l
  | 2, 1 => exact v554_at e i k f13 l
  | 3, 1 => exact v78_at e i k f13 l

theorem trip13_read (f f13 : BufTy.Contents (Elt Ideal) M.a13.view.ty) (L : List (View.Piece (Elt Ideal) S32x8x128 .f32))
    (hf : f = M.a13.view.writes (Elt Ideal) f13 L) (kb' : Fin 8) (j : Fin 4) (h : Fin 8) (l : Fin 128) :
    M.a13.view.read (Elt Ideal) (M.a13.view.writes (Elt Ideal) f13 (trip13 e i k f ++ L)) (ix3 (rowOf kb' j) h l)
      = M.a13.view.read (Elt Ideal) f (ix3 (rowOf kb' j) h l) + if kb' = kbOf i k then e.i13 i false kb' h (tileCol j l) else 0 := by
  have key := read_eight M.a13 f13 (fun j b => k0_off2 i k (BitVec.ofNat 32 j.val) (BitVec.ofNat 32 b.val)) (kbOf i k)
    (fun b => headOf i (b == 1)) (headOf_ne i) (fun j b => off2_head i k b j) (fun j b => k0_off2_inb i k j b)
    (pay8 e i k f) L kb' j h l
  refine Eq.trans ?_ (key.trans ?_)
  · rfl
  · have e0 : ((0 : Fin 2) == 1) = false := rfl
    have e1 : ((1 : Fin 2) == 1) = true := rfl
    rw [pay8_at, pay8_at]
    simp only [e0, e1]
    unfold Ld.i13
    subst hf
    by_cases hk : kb' = kbOf i k
    · rw [if_pos hk, if_pos hk, hk]
      by_cases h0 : h = headOf i false
      · rw [if_pos h0, if_pos h0, h0]
      · rw [if_neg h0, if_neg h0]
        by_cases h1 : h = headOf i true
        · rw [if_pos h1, if_pos h1, h1]
        · rw [if_neg h1, if_neg h1, add_zero]
    · rw [if_neg hk, if_neg hk, add_zero]

end Cert.KernelIdeal.Gen
-- ==== Proof.LoopClosed.lean ====
module

public import proofs.«01_k».proof.Proof.LoopValue

@[expose] public section

set_option maxRecDepth 16384

noncomputable section

namespace Cert.KernelIdeal.Gen

open Idealize.ShloMosaic Idealize.ShloMosaic.TcCoe Idealize.SL.Sem

variable {M : Mem}

/-- The part of a sum over tiles that lies below a bound. -/
def below (n : ℕ) (F : Fin 8 → EReal) : EReal := ∑ kb : Fin 8, if kb.val < n then F kb else 0

theorem below_zero (F : Fin 8 → EReal) : below 0 F = 0 := by simp [below]

theorem below_succ (k : Fin 8) (F : Fin 8 → EReal) : below (k.val + 1) F = below k.val F + F k := by
  have h : ∀ kb : Fin 8, (if kb.val < k.val + 1 then F kb else 0) = (if kb.val < k.val then F kb else 0) + (if kb = k then F kb else 0) := by
    intro kb
    by_cases h1 : kb = k
    · subst h1; simp
    · have : kb.val ≠ k.val := fun q => h1 (Fin.ext q)
      by_cases h2 : kb.val < k.val
      · rw [if_pos (by omega), if_pos h2, if_neg h1, add_zero]
      · rw [if_neg (by omega), if_neg h2, if_neg h1, add_zero]
  unfold below
  rw [Finset.sum_congr rfl fun kb _ => h kb, Finset.sum_add_distrib, Finset.sum_ite_eq' Finset.univ k, if_pos (Finset.mem_univ k)]

variable (c : Dev nD) (a1 w23 w44 : BitVec 32) (e : Ld M) (i : grid0.Coords)

theorem T1_q0 (f13 f15 f16) (init : Carry) (n : ℕ) (hn : n ≤ (k0_t1_loop i).trips) (r : Fin 512) (l : Fin 128) :
    (T1 c a1 w23 w44 e i f13 f15 f16 init n).1.1 (ix2 r l) = init.1 (ix2 r l) + below n fun kb => e.cq i false false kb r l := by
  induction n with
  | zero => rw [T1_zero, below_zero, add_zero]
  | succ k ih =>
    have := T1_succ c a1 w23 w44 e i f13 f15 f16 init ⟨k, hn⟩
    rw [show k + 1 = (⟨k, hn⟩ : Fin (k0_t1_loop i).trips).val + 1 from rfl, this]
    show (tripC e i ⟨k, hn⟩ _).1 (ix2 r l) = _
    rw [tripC_q0, ih (Nat.le_of_succ_le hn), add_assoc]
    exact congrArg _ (below_succ (kbOf i ⟨k, hn⟩) _).symm

theorem T1_r0 (f13 f15 f16) (init : Carry) (n : ℕ) (hn : n ≤ (k0_t1_loop i).trips) (r : Fin 512) :
    (T1 c a1 w23 w44 e i f13 f15 f16 init n).1.2.1 (ix2 r 0) = init.2.1 (ix2 r 0) + below n fun kb => e.cr i false false kb r := by
  induction n with
  | zero => rw [T1_zero, below_zero, add_zero]
  | succ k ih =>
    have := T1_succ c a1 w23 w44 e i f13 f15 f16 init ⟨k, hn⟩
    rw [show k + 1 = (⟨k, hn⟩ : Fin (k0_t1_loop i).trips).val + 1 from rfl, this]
    show (tripC e i ⟨k, hn⟩ _).2.1 (ix2 r 0) = _
    rw [tripC_r0, ih (Nat.le_of_succ_le hn), add_assoc]
    exact congrArg _ (below_succ (kbOf i ⟨k, hn⟩) _).symm

theorem T1_q1 (f13 f15 f16) (init : Carry) (n : ℕ) (hn : n ≤ (k0_t1_loop i).trips) (r : Fin 512) (l : Fin 128) :
    (T1 c a1 w23 w44 e i f13 f15 f16 init n).1.2.2.1 (ix2 r l) = init.2.2.1 (ix2 r l) + below n fun kb => e.cq i false true kb r l := by
  induction n with
  | zero => rw [T1_zero, below_zero, add_zero]
  | succ k ih =>
    have := T1_succ c a1 w23 w44 e i f13 f15 f16 init ⟨k, hn⟩
    rw [show k + 1 = (⟨k, hn⟩ : Fin (k0_t1_loop i).trips).val + 1 from rfl, this]
    show (tripC e i ⟨k, hn⟩ _).2.2.1 (ix2 r l) = _
    rw [tripC_q1, ih (Nat.le_of_succ_le hn), add_assoc]
    exact congrArg _ (below_succ (kbOf i ⟨k, hn⟩) _).symm

theorem T1_r1 (f13 f15 f16) (init : Carry) (n : ℕ) (hn : n ≤ (k0_t1_loop i).trips) (r : Fin 512) :
    (T1 c a1 w23 w44 e i f13 f15 f16 init n).1.2.2.2 (ix2 r 0) = init.2.2.2 (ix2 r 0) + below n fun kb => e.cr i false true kb r := by
  induction n with
  | zero => rw [T1_zero, below_zero, add_zero]
  | succ k ih =>
    have := T1_succ c a1 w23 w44 e i f13 f15 f16 init ⟨k, hn⟩
    rw [show k + 1 = (⟨k, hn⟩ : Fin (k0_t1_loop i).trips).val + 1 from rfl, this]
    show (tripC e i ⟨k, hn⟩ _).2.2.2 (ix2 r 0) = _
    rw [tripC_r1, ih (Nat.le_of_succ_le hn), add_assoc]
    exact congrArg _ (below_succ (kbOf i ⟨k, hn⟩) _).symm

/-- A change made by one tile, and the changes made before it. -/
theorem step_lt (k : ℕ) (hk : k < 8) (kb : Fin 8) (x y : EReal) :
    (x + if kb.val < k then y else 0) + (if kb = ⟨k, hk⟩ then y else 0) = x + if kb.val < k + 1 then y else 0 := by
  by_cases h1 : kb = ⟨k, hk⟩
  · subst h1; simp
  · have : kb.val ≠ k := fun q => h1 (Fin.ext q)
    by_cases h2 : kb.val < k
    · rw [if_pos h2, if_neg h1, if_pos (by omega), add_zero]
    · rw [if_neg h2, if_neg h1, if_neg (by omega), add_zero]

theorem T1_13 (f : BufTy.Contents (Elt Ideal) M.a13.view.ty) (H : List (View.Piece (Elt Ideal) S32x8x128 .f32)) (f15 f16) (init : Carry) (n : ℕ) (hn : n ≤ (k0_t1_loop i).trips)
    (kb : Fin 8) (j : Fin 4) (h : Fin 8) (l : Fin 128) :
    M.a13.view.read (Elt Ideal) (M.a13.view.writes (Elt Ideal) f ((T1 c a1 w23 w44 e i (M.a13.view.writes (Elt Ideal) f H) f15 f16 init n).2.1 ++ H)) (ix3 (rowOf kb j) h l)
      = M.a13.view.read (Elt Ideal) (M.a13.view.writes (Elt Ideal) f H) (ix3 (rowOf kb j) h l)
        + if kb.val < n then e.i13 i false kb h (tileCol j l) else 0 := by
  rw [View.writes_append]
  induction n with
  | zero => rw [T1_zero, if_neg (Nat.not_lt_zero _), add_zero]; rfl
  | succ k ih =>
    have := T1_succ c a1 w23 w44 e i (M.a13.view.writes (Elt Ideal) f H) f15 f16 init ⟨k, hn⟩
    rw [show k + 1 = (⟨k, hn⟩ : Fin (k0_t1_loop i).trips).val + 1 from rfl, this]
    show M.a13.view.read (Elt Ideal) (M.a13.view.writes (Elt Ideal) _ (trip13 e i ⟨k, hn⟩ _ ++ _)) _ = _
    rw [trip13_read e i ⟨k, hn⟩ _ _ _ rfl, ih (Nat.le_of_succ_le hn)]
    exact step_lt k (kbOf i ⟨k, hn⟩).isLt kb _ _

theorem T1_15 (f : BufTy.Contents (Elt Ideal) M.a15.view.ty) (H : List (View.Piece (Elt Ideal) S4096x128 .f32)) (f13 f16) (init : Carry) (n : ℕ) (hn : n ≤ (k0_t1_loop i).trips)
    (kb : Fin 8) (x : Fin 512) (l : Fin 128) :
    M.a15.view.read (Elt Ideal) (M.a15.view.writes (Elt Ideal) f ((T1 c a1 w23 w44 e i f13 (M.a15.view.writes (Elt Ideal) f H) f16 init n).2.2.1 ++ H)) (ix2 (tileRow kb x) l)
      = M.a15.view.read (Elt Ideal) (M.a15.view.writes (Elt Ideal) f H) (ix2 (tileRow kb x) l)
        + if kb.val < n then e.i15 i false kb x l else 0 := by
  rw [View.writes_append]
  induction n with
  | zero => rw [T1_zero, if_neg (Nat.not_lt_zero _), add_zero]; rfl
  | succ k ih =>
    have := T1_succ c a1 w23 w44 e i f13 (M.a15.view.writes (Elt Ideal) f H) f16 init ⟨k, hn⟩
    rw [show k + 1 = (⟨k, hn⟩ : Fin (k0_t1_loop i).trips).val + 1 from rfl, this]
    show M.a15.view.read (Elt Ideal) (M.a15.view.writes (Elt Ideal) _ (trip15 e i ⟨k, hn⟩ _ ++ _)) _ = _
    rw [trip15_read e i ⟨k, hn⟩ _ _ _ rfl, ih (Nat.le_of_succ_le hn)]
    exact step_lt k (kbOf i ⟨k, hn⟩).isLt kb _ _

theorem T1_16 (f : BufTy.Contents (Elt Ideal) M.a16.view.ty) (H : List (View.Piece (Elt Ideal) S4096x128 .f32)) (f13 f15) (init : Carry) (n : ℕ) (hn : n ≤ (k0_t1_loop i).trips)
    (kb : Fin 8) (x : Fin 512) (l : Fin 128) :
    M.a16.view.read (Elt Ideal) (M.a16.view.writes (Elt Ideal) f ((T1 c a1 w23 w44 e i f13 f15 (M.a16.view.writes (Elt Ideal) f H) init n).2.2.2 ++ H)) (ix2 (tileRow kb x) l)
      = M.a16.view.read (Elt Ideal) (M.a16.view.writes (Elt Ideal) f H) (ix2 (tileRow kb x) l)
        + if kb.val < n then e.i16 i false kb x l else 0 := by
  rw [View.writes_append]
  induction n with
  | zero => rw [T1_zero, if_neg (Nat.not_lt_zero _), add_zero]; rfl
  | succ k ih =>
    have := T1_succ c a1 w23 w44 e i f13 f15 (M.a16.view.writes (Elt Ideal) f H) init ⟨k, hn⟩
    rw [show k + 1 = (⟨k, hn⟩ : Fin (k0_t1_loop i).trips).val + 1 from rfl, this]
    show M.a16.view.read (Elt Ideal) (M.a16.view.writes (Elt Ideal) _ (trip16 e i ⟨k, hn⟩ _ ++ _)) _ = _
    rw [trip16_read e i ⟨k, hn⟩ _ _ _ rfl, ih (Nat.le_of_succ_le hn)]
    exact step_lt k (kbOf i ⟨k, hn⟩).isLt kb _ _

end Cert.KernelIdeal.Gen
-- ==== Proof.Diag.lean ====
module

public import proofs.«01_k».proof.Proof.LoopClosed

@[expose] public section

set_option maxRecDepth 16384

noncomputable section

namespace Cert.KernelIdeal.Gen

open Idealize.ShloMosaic Idealize.ShloMosaic.TcCoe Idealize.SL.Sem

variable {M : Mem}

/-- What the diagonal tile starts from: the carry of the loops, and the gradient arrays as stores into a start. -/
structure Pre (M : Mem) where
  acc : Carry
  f13 : BufTy.Contents (Elt Ideal) M.a13.view.ty
  L13 : List (View.Piece (Elt Ideal) S32x8x128 .f32)
  f15 : BufTy.Contents (Elt Ideal) M.a15.view.ty
  L15 : List (View.Piece (Elt Ideal) S4096x128 .f32)
  f16 : BufTy.Contents (Elt Ideal) M.a16.view.ty
  L16 : List (View.Piece (Elt Ideal) S4096x128 .f32)

/-- The diagonal's tile. -/
def dg (i : grid0.Coords) : Fin 8 := ⟨(i 1).val, (i 1).isLt⟩

variable (e : Ld M) (i : grid0.Coords) (p : Pre M)

namespace Dg

/-- The diagonal's keys, as loaded. -/
def k0 : FVec Ideal S512x128 .bf16 := View.readAt (Elt Ideal) M.a3.view (Rect.unit (s := S4096x128) (k0_off5 i) S512x128.size (k0_off5_inb i)).toLoadRect e.X3

/-- The diagonal's keys. -/
def k : FVec Ideal S512x128 .bf16 := k0_pay88 (F := Ideal) (k0 e i)

/-- The diagonal's values. -/
def v : FVec Ideal S512x128 .bf16 := k0_pay89 (F := Ideal) (View.readAt (Elt Ideal) M.a4.view (Rect.unit (s := S4096x128) (k0_off5 i) S512x128.size (k0_off5_inb i)).toLoadRect e.X4)

/-- A row of the diagonal's key biases. -/
def b00 : FVec Ideal S1x1x128 .f32 := View.readAt (Elt Ideal) M.a6.view (Rect.unit (s := S32x8x128) (k0_off6 i 0#32 0#32) S1x1x128.size (k0_off6_inb i 0 0)).toLoadRect e.X6

/-- A row of the diagonal's key biases. -/
def b10 : FVec Ideal S1x1x128 .f32 := View.readAt (Elt Ideal) M.a6.view (Rect.unit (s := S32x8x128) (k0_off6 i 1#32 0#32) S1x1x128.size (k0_off6_inb i 1 0)).toLoadRect e.X6

/-- A row of the diagonal's key biases. -/
def b20 : FVec Ideal S1x1x128 .f32 := View.readAt (Elt Ideal) M.a6.view (Rect.unit (s := S32x8x128) (k0_off6 i 2#32 0#32) S1x1x128.size (k0_off6_inb i 2 0)).toLoadRect e.X6

/-- A row of the diagonal's key biases. -/
def b30 : FVec Ideal S1x1x128 .f32 := View.readAt (Elt Ideal) M.a6.view (Rect.unit (s := S32x8x128) (k0_off6 i 3#32 0#32) S1x1x128.size (k0_off6_inb i 3 0)).toLoadRect e.X6

/-- A row of the diagonal's key biases. -/
def b01 : FVec Ideal S1x1x128 .f32 := View.readAt (Elt Ideal) M.a6.view (Rect.unit (s := S32x8x128) (k0_off6 i 0#32 1#32) S1x1x128.size (k0_off6_inb i 0 1)).toLoadRect e.X6

/-- A row of the diagonal's key biases. -/
def b11 : FVec Ideal S1x1x128 .f32 := View.readAt (Elt Ideal) M.a6.view (Rect.unit (s := S32x8x128) (k0_off6 i 1#32 1#32) S1x1x128.size (k0_off6_inb i 1 1)).toLoadRect e.X6

/-- A row of the diagonal's key biases. -/
def b21 : FVec Ideal S1x1x128 .f32 := View.readAt (Elt Ideal) M.a6.view (Rect.unit (s := S32x8x128) (k0_off6 i 2#32 1#32) S1x1x128.size (k0_off6_inb i 2 1)).toLoadRect e.X6

/-- A row of the diagonal's key biases. -/
def b31 : FVec Ideal S1x1x128 .f32 := View.readAt (Elt Ideal) M.a6.view (Rect.unit (s := S32x8x128) (k0_off6 i 3#32 1#32) S1x1x128.size (k0_off6_inb i 3 1)).toLoadRect e.X6

/-- The first head's probabilities. -/
def p0 : FVec Ideal S512x512 .f32 := k0_pay90 (F := Ideal) k0_pay59 (k0_pay64 (F := Ideal) e.q) (k0_pay68 (F := Ideal) e.fq (k0_pay67 i)) (k0_pay69 (F := Ideal) e.la) (k0 e i) (b00 e i) (b10 e i) (b20 e i) (b30 e i)

/-- The second head's scores before the key biases. -/
def s1 : FVec Ideal S512x512 .f32 := k0_pay103 (F := Ideal) (k0_pay71 (F := Ideal) lanes (k0_pay60 (F := Ideal) e.q)) (k0_pay74 (F := Ideal) (pairWord i) lanes e.fq) (k e i)

/-- The second head's score gradients. -/
def d1 : FVec Ideal S512x512 .f32 := k0_pay105 (F := Ideal) k0_pay59 (k0_pay72 (F := Ideal) lanes (k0_pay61 (F := Ideal) e.g)) (k0_pay73 (F := Ideal) lanes (k0_pay62 (F := Ideal) e.g e.o)) (k0_pay75 (F := Ideal) e.lb) (v e i) (s1 e i) (b01 e i) (b11 e i) (b21 e i) (b31 e i)

/-- The key gradients of both heads. -/
def dk : FVec Ideal S512x128 .f32 := k0_pay107 (F := Ideal) k0_pay59 (k0_pay71 (F := Ideal) lanes (k0_pay60 (F := Ideal) e.q)) (k0_pay72 (F := Ideal) lanes (k0_pay61 (F := Ideal) e.g)) (k0_pay73 (F := Ideal) lanes (k0_pay62 (F := Ideal) e.g e.o)) (k0_pay75 (F := Ideal) e.lb) (v e i)
  (k0_pay93 (F := Ideal) (k0_pay64 (F := Ideal) e.q) (k0_pay65 (F := Ideal) e.g) (k0_pay66 (F := Ideal) e.g e.o) (v e i) (p0 e i)) (s1 e i) (b01 e i) (b11 e i) (b21 e i) (b31 e i)

/-- The value gradients of both heads. -/
def dv : FVec Ideal S512x128 .f32 := k0_pay108 (F := Ideal) k0_pay59 (k0_pay72 (F := Ideal) lanes (k0_pay61 (F := Ideal) e.g)) (k0_pay75 (F := Ideal) e.lb) (k0_pay94 (F := Ideal) (k0_pay65 (F := Ideal) e.g) (p0 e i)) (s1 e i) (b01 e i) (b11 e i) (b21 e i) (b31 e i)

/-- The second head's column sums. -/
def c1 : FVec Ideal S1x512 .f32 := k0_pay109 (F := Ideal) k0_pay59 (k0_pay72 (F := Ideal) lanes (k0_pay61 (F := Ideal) e.g)) (k0_pay73 (F := Ideal) lanes (k0_pay62 (F := Ideal) e.g e.o)) (k0_pay75 (F := Ideal) e.lb) (v e i) (s1 e i) (b01 e i) (b11 e i) (b21 e i) (b31 e i)

/-- The first head's column sums. -/
def c0 : FVec Ideal S1x512 .f32 := k0_pay95 (F := Ideal) (k0_pay65 (F := Ideal) e.g) (k0_pay66 (F := Ideal) e.g e.o) (v e i) (p0 e i)

/-- The stores of key-bias gradients, 1 of 8. -/
def H1 : List (View.Piece (Elt Ideal) S32x8x128 .f32) := ⟨Rect.unit (s := S32x8x128) (k0_off6 i 0#32 0#32) S1x1x128.size (k0_off6_inb i 0 0), k0_pay96 (F := Ideal) (k0_pay65 (F := Ideal) e.g) (k0_pay66 (F := Ideal) e.g e.o) (v e i) (p0 e i) (View.readAt (Elt Ideal) M.a13.view (Rect.unit (s := S32x8x128) (k0_off6 i 0#32 0#32) S1x1x128.size (k0_off6_inb i 0 0)).toLoadRect (M.a13.view.writes (Elt Ideal) p.f13 p.L13))⟩ :: p.L13

/-- The stores of key-bias gradients, 2 of 8. -/
def H2 : List (View.Piece (Elt Ideal) S32x8x128 .f32) := ⟨Rect.unit (s := S32x8x128) (k0_off6 i 1#32 0#32) S1x1x128.size (k0_off6_inb i 1 0), k0_pay98 (F := Ideal) (k0_pay97 (F := Ideal) (k0_pay65 (F := Ideal) e.g) (k0_pay66 (F := Ideal) e.g e.o) (v e i) (p0 e i) (View.readAt (Elt Ideal) M.a13.view (Rect.unit (s := S32x8x128) (k0_off6 i 1#32 0#32) S1x1x128.size (k0_off6_inb i 1 0)).toLoadRect (M.a13.view.writes (Elt Ideal) p.f13 (H1 e i p))))⟩ :: (H1 e i p)

/-- The stores of key-bias gradients, 3 of 8. -/
def H3 : List (View.Piece (Elt Ideal) S32x8x128 .f32) := ⟨Rect.unit (s := S32x8x128) (k0_off6 i 2#32 0#32) S1x1x128.size (k0_off6_inb i 2 0), k0_pay99 (F := Ideal) (c0 e i) (View.readAt (Elt Ideal) M.a13.view (Rect.unit (s := S32x8x128) (k0_off6 i 2#32 0#32) S1x1x128.size (k0_off6_inb i 2 0)).toLoadRect (M.a13.view.writes (Elt Ideal) p.f13 (H2 e i p)))⟩ :: (H2 e i p)

/-- The stores of key-bias gradients, 4 of 8. -/
def H4 : List (View.Piece (Elt Ideal) S32x8x128 .f32) := ⟨Rect.unit (s := S32x8x128) (k0_off6 i 3#32 0#32) S1x1x128.size (k0_off6_inb i 3 0), k0_pay100 (F := Ideal) (c0 e i) (View.readAt (Elt Ideal) M.a13.view (Rect.unit (s := S32x8x128) (k0_off6 i 3#32 0#32) S1x1x128.size (k0_off6_inb i 3 0)).toLoadRect (M.a13.view.writes (Elt Ideal) p.f13 (H3 e i p)))⟩ :: (H3 e i p)

/-- The stores of key-bias gradients, 5 of 8. -/
def H5 : List (View.Piece (Elt Ideal) S32x8x128 .f32) := ⟨Rect.unit (s := S32x8x128) (k0_off6 i 0#32 1#32) S1x1x128.size (k0_off6_inb i 0 1), k0_pay110 (F := Ideal) (c1 e i) (View.readAt (Elt Ideal) M.a13.view (Rect.unit (s := S32x8x128) (k0_off6 i 0#32 1#32) S1x1x128.size (k0_off6_inb i 0 1)).toLoadRect (M.a13.view.writes (Elt Ideal) p.f13 (H4 e i p)))⟩ :: (H4 e i p)

/-- The stores of key-bias gradients, 6 of 8. -/
def H6 : List (View.Piece (Elt Ideal) S32x8x128 .f32) := ⟨Rect.unit (s := S32x8x128) (k0_off6 i 1#32 1#32) S1x1x128.size (k0_off6_inb i 1 1), k0_pay111 (F := Ideal) (c1 e i) (View.readAt (Elt Ideal) M.a13.view (Rect.unit (s := S32x8x128) (k0_off6 i 1#32 1#32) S1x1x128.size (k0_off6_inb i 1 1)).toLoadRect (M.a13.view.writes (Elt Ideal) p.f13 (H5 e i p)))⟩ :: (H5 e i p)

/-- The stores of key-bias gradients, 7 of 8. -/
def H7 : List (View.Piece (Elt Ideal) S32x8x128 .f32) := ⟨Rect.unit (s := S32x8x128) (k0_off6 i 2#32 1#32) S1x1x128.size (k0_off6_inb i 2 1), k0_pay112 (F := Ideal) (c1 e i) (View.readAt (Elt Ideal) M.a13.view (Rect.unit (s := S32x8x128) (k0_off6 i 2#32 1#32) S1x1x128.size (k0_off6_inb i 2 1)).toLoadRect (M.a13.view.writes (Elt Ideal) p.f13 (H6 e i p)))⟩ :: (H6 e i p)

/-- The stores of key-bias gradients, 8 of 8. -/
def H8 : List (View.Piece (Elt Ideal) S32x8x128 .f32) := ⟨Rect.unit (s := S32x8x128) (k0_off6 i 3#32 1#32) S1x1x128.size (k0_off6_inb i 3 1), k0_pay113 (F := Ideal) (c1 e i) (View.readAt (Elt Ideal) M.a13.view (Rect.unit (s := S32x8x128) (k0_off6 i 3#32 1#32) S1x1x128.size (k0_off6_inb i 3 1)).toLoadRect (M.a13.view.writes (Elt Ideal) p.f13 (H7 e i p)))⟩ :: (H7 e i p)

/-- The stores of key gradients. -/
def H15 : List (View.Piece (Elt Ideal) S4096x128 .f32) :=
  ⟨Rect.unit (s := S4096x128) (k0_off5 i) S512x128.size (k0_off5_inb i), k0_pay115 (F := Ideal) (dk e i)
    (View.readAt (Elt Ideal) M.a15.view (Rect.unit (s := S4096x128) (k0_off5 i) S512x128.size (k0_off5_inb i)).toLoadRect (M.a15.view.writes (Elt Ideal) p.f15 p.L15))⟩ :: p.L15

/-- The stores of value gradients. -/
def H16 : List (View.Piece (Elt Ideal) S4096x128 .f32) :=
  ⟨Rect.unit (s := S4096x128) (k0_off5 i) S512x128.size (k0_off5_inb i), k0_pay116 (F := Ideal) (dv e i)
    (View.readAt (Elt Ideal) M.a16.view (Rect.unit (s := S4096x128) (k0_off5 i) S512x128.size (k0_off5_inb i)).toLoadRect (M.a16.view.writes (Elt Ideal) p.f16 p.L16))⟩ :: p.L16

/-- The block of query gradients. -/
def o8 : FVec Ideal S512x128 .bf16 := k0_pay117 (F := Ideal) lanes p.acc.2.2.1 (k e i)
  (k0_pay101 (F := Ideal) p.acc.1 (k e i) (k0_pay92 (F := Ideal) (k0_pay65 (F := Ideal) e.g) (k0_pay66 (F := Ideal) e.g e.o) (v e i) (p0 e i)))
  (k0_pay106 (F := Ideal) k0_pay59 (k0_pay72 (F := Ideal) lanes (k0_pay61 (F := Ideal) e.g)) (k0_pay73 (F := Ideal) lanes (k0_pay62 (F := Ideal) e.g e.o)) (k0_pay75 (F := Ideal) e.lb) (v e i) (s1 e i) (b01 e i) (b11 e i) (b21 e i) (b31 e i))

/-- The block of query-bias gradients. -/
def o12 : FVec Ideal S1x512x128 .f32 := k0_pay1 (F := Ideal) lanes (Scalar.addi (Scalar.muli 2#32 (BitVec.ofNat 32 (i 0).val)) 1#32)
  (k0_pay102 (F := Ideal) p.acc.2.1 (k0_pay91 (F := Ideal) (k0_pay65 (F := Ideal) e.g) (k0_pay66 (F := Ideal) e.g e.o) (v e i) (p0 e i)))
  (k0_pay114 (F := Ideal) p.acc.2.2.2 (d1 e i)) (k0_pay118 (Scalar.addi (Scalar.muli 2#32 (BitVec.ofNat 32 (i 0).val)) 0#32))

/-- The stores of query gradients. -/
def HQ : List (View.Piece (Elt Ideal) S512x128 .bf16) := [⟨Rect.unit (s := S512x128) ![0, 0] S512x128.size inb_S512x128_S512x128_0_0, o8 e i p⟩]

/-- The stores of query-bias gradients. -/
def HR : List (View.Piece (Elt Ideal) S1x512x128 .f32) := [⟨Rect.unit (s := S1x512x128) ![0, 0, 0] S1x512x128.size inb_S1x512x128_S1x512x128_0_0_0, o12 e i p⟩]

/-! What they hold. -/

theorem k0_at (c : Fin 512) (l : Fin 128) : k0 e i (ix2 c l) = e.kt (dg i) c l :=
  read_tile M.a3 e.X3 _ _ (k0_off5_eq i) _ c l (by have := (dg i).isLt; show 512 * (dg i).val + c.val < 4096; omega)

theorem k_at (c : Fin 512) (l : Fin 128) : k e i (ix2 c l) = e.kt (dg i) c l := by
  pointwise [k, k0_pay88, k0_at]

theorem v_at (c : Fin 512) (l : Fin 128) : v e i (ix2 c l) = e.vt (dg i) c l := by
  pointwise [v, k0_pay89]
  exact read_tile M.a4 e.X4 _ _ (k0_off5_eq i) _ c l (by have := (dg i).isLt; show 512 * (dg i).val + c.val < 4096; omega)

theorem off6_head (b : Fin 2) (j : Fin 4) :
    k0_off6 i (BitVec.ofNat 32 j.val) (BitVec.ofNat 32 b.val) = ![4 * (dg i).val + j.val, (headOf i (b == 1)).val, 0] := by
  rw [k0_off6_eq i j b]
  match b with
  | ⟨0, _⟩ => rfl
  | ⟨1, _⟩ => rfl

theorem b00_at (l : Fin 128) : b00 e i (ix3 0 0 l) = e.bt i false (dg i) ⟨l.val, by omega⟩ := by
  refine (row_bt e i false (dg i) ⟨0, by decide⟩ (off6_head i ⟨0, by decide⟩ ⟨0, by decide⟩) _ l).trans ?_
  congr 1; apply Fin.ext; show 128 * 0 + l.val = l.val; omega

theorem b10_at (l : Fin 128) : b10 e i (ix3 0 0 l) = e.bt i false (dg i) ⟨128 + l.val, by omega⟩ :=
  row_bt e i false (dg i) ⟨1, by decide⟩ (off6_head i ⟨0, by decide⟩ ⟨1, by decide⟩) _ l

theorem b20_at (l : Fin 128) : b20 e i (ix3 0 0 l) = e.bt i false (dg i) ⟨256 + l.val, by omega⟩ :=
  row_bt e i false (dg i) ⟨2, by decide⟩ (off6_head i ⟨0, by decide⟩ ⟨2, by decide⟩) _ l

theorem b30_at (l : Fin 128) : b30 e i (ix3 0 0 l) = e.bt i false (dg i) ⟨384 + l.val, by omega⟩ :=
  row_bt e i false (dg i) ⟨3, by decide⟩ (off6_head i ⟨0, by decide⟩ ⟨3, by decide⟩) _ l

theorem b01_at (l : Fin 128) : b01 e i (ix3 0 0 l) = e.bt i true (dg i) ⟨l.val, by omega⟩ := by
  refine (row_bt e i true (dg i) ⟨0, by decide⟩ (off6_head i ⟨1, by decide⟩ ⟨0, by decide⟩) _ l).trans ?_
  congr 1; apply Fin.ext; show 128 * 0 + l.val = l.val; omega

theorem b11_at (l : Fin 128) : b11 e i (ix3 0 0 l) = e.bt i true (dg i) ⟨128 + l.val, by omega⟩ :=
  row_bt e i true (dg i) ⟨1, by decide⟩ (off6_head i ⟨1, by decide⟩ ⟨1, by decide⟩) _ l

theorem b21_at (l : Fin 128) : b21 e i (ix3 0 0 l) = e.bt i true (dg i) ⟨256 + l.val, by omega⟩ :=
  row_bt e i true (dg i) ⟨2, by decide⟩ (off6_head i ⟨1, by decide⟩ ⟨2, by decide⟩) _ l

theorem b31_at (l : Fin 128) : b31 e i (ix3 0 0 l) = e.bt i true (dg i) ⟨384 + l.val, by omega⟩ :=
  row_bt e i true (dg i) ⟨3, by decide⟩ (off6_head i ⟨1, by decide⟩ ⟨3, by decide⟩) _ l

theorem cat0 : cat4 (b00 e i) (b10 e i) (b20 e i) (b30 e i) = e.bt i false (dg i) :=
  funext fun c => bt_ladder e i false (dg i) (fun l => b00 e i (ix3 0 0 l)) (fun l => b10 e i (ix3 0 0 l)) (fun l => b20 e i (ix3 0 0 l)) (fun l => b30 e i (ix3 0 0 l))
    (fun l => ⟨b00_at e i l, b10_at e i l, b20_at e i l, b30_at e i l⟩) c

theorem cat1 : cat4 (b01 e i) (b11 e i) (b21 e i) (b31 e i) = e.bt i true (dg i) :=
  funext fun c => bt_ladder e i true (dg i) (fun l => b01 e i (ix3 0 0 l)) (fun l => b11 e i (ix3 0 0 l)) (fun l => b21 e i (ix3 0 0 l)) (fun l => b31 e i (ix3 0 0 l))
    (fun l => ⟨b01_at e i l, b11_at e i l, b21_at e i l, b31_at e i l⟩) c

theorem mq0 : mat (k0_pay64 (F := Ideal) e.q) = e.qh false := funext fun r => funext fun l => pay64_at e.q r l

theorem mq1 : mat (k0_pay71 (F := Ideal) lanes (k0_pay60 (F := Ideal) e.q)) = e.qh true := funext fun r => funext fun l => pay71_at e.q r l

theorem mg0 : mat (k0_pay65 (F := Ideal) e.g) = e.gh false := funext fun r => funext fun l => pay65_at e.g r l

theorem mg1 : mat (k0_pay72 (F := Ideal) lanes (k0_pay61 (F := Ideal) e.g)) = e.gh true := funext fun r => funext fun l => pay72_at e.g r l

theorem cd0 : col (k0_pay66 (F := Ideal) e.g e.o) = e.dh false := funext fun r => pay66_at e.g e.o r

theorem cd1 : col (k0_pay73 (F := Ideal) lanes (k0_pay62 (F := Ideal) e.g e.o)) = e.dh true := funext fun r => pay73_at e.g e.o r

theorem cf0 : col (k0_pay68 (F := Ideal) e.fq (k0_pay67 i)) = e.fh i false := funext fun r => pay68_at i e.fq r

theorem cf1 : col (k0_pay74 (F := Ideal) (pairWord i) lanes e.fq) = e.fh i true := funext fun r => pay74_at i e.fq r

theorem cl0 : col (k0_pay69 (F := Ideal) e.la) = e.lh false := funext fun r => pay69_at e.la r

theorem cl1 : col (k0_pay75 (F := Ideal) e.lb) = e.lh true := funext fun r => pay75_at e.lb r

theorem mk0 : mat (k0 e i) = e.kt (dg i) := funext fun c => funext fun l => k0_at e i c l

theorem mk : mat (k e i) = e.kt (dg i) := funext fun c => funext fun l => k_at e i c l

theorem mv : mat (v e i) = e.vt (dg i) := funext fun c => funext fun l => v_at e i c l

theorem mp0 : mat (p0 e i) = e.P i true false (dg i) := by
  funext r c
  refine (pay90_at _ _ _ _ _ _ _ _ r c).trans ?_
  rw [mq0, cf0, cl0, mk0, cat0]; rfl

theorem mp1 : mat (k0_pay104 (F := Ideal) k0_pay59 (k0_pay75 (F := Ideal) e.lb) (s1 e i) (b01 e i) (b11 e i) (b21 e i) (b31 e i)) = e.P i true true (dg i) := by
  funext r c
  refine (pay104_at _ _ _ _ _ _ _ _ r c).trans ?_
  rw [mq1, cf1, cl1, mk, cat1]; rfl

theorem md0 : mat (k0_pay91 (F := Ideal) (k0_pay65 (F := Ideal) e.g) (k0_pay66 (F := Ideal) e.g e.o) (v e i) (p0 e i)) = e.D i true false (dg i) := by
  funext r c
  refine (pay91_at _ _ _ _ r c).trans ?_
  rw [mp0, mg0, cd0, mv]; rfl

theorem md1 : mat (d1 e i) = e.D i true true (dg i) := by
  funext r c
  refine (pay105_at _ _ _ _ _ _ _ _ _ r c).trans ?_
  rw [mp1, mg1, cd1, mv]; rfl

theorem dk_at (c : Fin 512) (l : Fin 128) : dk e i (ix2 c l) = e.i15 i true (dg i) c l := by
  refine (pay107_at _ _ _ _ _ _ _ _ _ _ _ c l).trans ?_
  rw [mp1, mg1, cd1, mv, mq1]
  show k0_pay93 (F := Ideal) _ _ _ _ _ (ix2 c l) + _ = _
  rw [pay93_at, mp0, mg0, cd0, mv, mq0]; rfl

theorem dv_at (c : Fin 512) (l : Fin 128) : dv e i (ix2 c l) = e.i16 i true (dg i) c l := by
  refine (pay108_at _ _ _ _ _ _ _ _ c l).trans ?_
  rw [mp1, mg1]
  show k0_pay94 (F := Ideal) _ _ (ix2 c l) + _ = _
  rw [pay94_at, mp0, mg0]; rfl

theorem c1_at (c : Fin 512) : c1 e i (ix2 0 c) = ∑ r, e.D i true true (dg i) r c := by
  refine (pay109_at _ _ _ _ _ _ _ _ _ c).trans ?_
  rw [mp1, mg1, cd1, mv]; rfl

theorem c0_at (c : Fin 512) : c0 e i (ix2 0 c) = ∑ r, e.D i true false (dg i) r c := by
  refine (pay95_at _ _ _ _ c).trans ?_
  rw [mp0, mg0, cd0, mv]; rfl

theorem o8_at (r : Fin 512) (l : Fin 128) :
    o8 e i p (ix2 r l) = (if 64 ≤ l.val then p.acc.2.2.1 (ix2 r l) + e.cq i true true (dg i) r l
      else p.acc.1 (ix2 r l) + e.cq i true false (dg i) r l) * Ideal.ofBits .f32 0x3E000000#32 := by
  refine (pay117_at _ _ _ _ r l).trans ?_
  rw [pay101_at]
  have h0 : ∀ c, k0_pay92 (F := Ideal) (k0_pay65 (F := Ideal) e.g) (k0_pay66 (F := Ideal) e.g e.o) (v e i) (p0 e i) (ix2 r c) = e.D i true false (dg i) r c := fun c => by
    rw [← md0]; pointwise [k0_pay92]
  have h1 : ∀ c, k0_pay106 (F := Ideal) k0_pay59 (k0_pay72 (F := Ideal) lanes (k0_pay61 (F := Ideal) e.g)) (k0_pay73 (F := Ideal) lanes (k0_pay62 (F := Ideal) e.g e.o)) (k0_pay75 (F := Ideal) e.lb) (v e i) (s1 e i) (b01 e i) (b11 e i) (b21 e i) (b31 e i) (ix2 r c) = e.D i true true (dg i) r c := fun c => by
    rw [← md1]; pointwise [k0_pay106]; rfl
  simp only [h0, h1, k_at]
  rfl

theorem o12_at (r : Fin 512) (l : Fin 128) :
    o12 e i p (ix3 0 r l) = if l = lane (headOf i false) then p.acc.2.1 (ix2 r 0) + e.cr i true false (dg i) r
      else if l = lane (headOf i true) then p.acc.2.2.2 (ix2 r 0) + e.cr i true true (dg i) r else 0 := by
  refine (pay1_at i _ _ r l).trans ?_
  rw [pay102_at, pay114_at]
  have h0 : ∀ c, k0_pay91 (F := Ideal) (k0_pay65 (F := Ideal) e.g) (k0_pay66 (F := Ideal) e.g e.o) (v e i) (p0 e i) (ix2 r c) = e.D i true false (dg i) r c := fun c => by
    rw [← md0]
  have h1 : ∀ c, d1 e i (ix2 r c) = e.D i true true (dg i) r c := fun c => by rw [← md1]
  simp only [h0, h1]
  rfl

theorem read15 (kb : Fin 8) (c : Fin 512) (l : Fin 128) :
    M.a15.view.read (Elt Ideal) (M.a15.view.writes (Elt Ideal) p.f15 (H15 e i p)) (ix2 (tileRow kb c) l)
      = M.a15.view.read (Elt Ideal) (M.a15.view.writes (Elt Ideal) p.f15 p.L15) (ix2 (tileRow kb c) l)
        + if kb = dg i then e.i15 i true kb c l else 0 := by
  unfold H15
  rw [read_cons_tile M.a15 p.f15 (dg i) (k0_off5_eq i)]
  by_cases h : kb = dg i
  · rw [if_pos h, if_pos h, h]
    refine (pay115_at _ _ c l).trans ?_
    rw [dk_at]
    exact congrArg (· + _) (read_tile M.a15 _ _ _ (k0_off5_eq i) (k0_off5_inb i) c l (by have := (dg i).isLt; show 512 * (dg i).val + c.val < 4096; omega))
  · rw [if_neg h, if_neg h, add_zero]

theorem read16 (kb : Fin 8) (c : Fin 512) (l : Fin 128) :
    M.a16.view.read (Elt Ideal) (M.a16.view.writes (Elt Ideal) p.f16 (H16 e i p)) (ix2 (tileRow kb c) l)
      = M.a16.view.read (Elt Ideal) (M.a16.view.writes (Elt Ideal) p.f16 p.L16) (ix2 (tileRow kb c) l)
        + if kb = dg i then e.i16 i true kb c l else 0 := by
  unfold H16
  rw [read_cons_tile M.a16 p.f16 (dg i) (k0_off5_eq i)]
  by_cases h : kb = dg i
  · rw [if_pos h, if_pos h, h]
    refine (pay116_at _ _ c l).trans ?_
    rw [dv_at]
    exact congrArg (· + _) (read_tile M.a16 _ _ _ (k0_off5_eq i) (k0_off5_inb i) c l (by have := (dg i).isLt; show 512 * (dg i).val + c.val < 4096; omega))
  · rw [if_neg h, if_neg h, add_zero]

/-- Storing a row leaves the others. -/
theorem row_ne {off : Fin 3 → ℕ} (f : BufTy.Contents (Elt Ideal) M.a13.view.ty) (n n' : Fin 32) (h h' : Fin 8) (hne : ¬(n = n' ∧ h = h')) (hoff : off = ![n'.val, h'.val, 0])
    (inb : ∀ d, off d + S1x1x128.size d ≤ S32x8x128.size d) (w : (Rect.unit (s := S32x8x128) off S1x1x128.size inb).shape.Idx → Elt Ideal .f32)
    (L : List (View.Piece (Elt Ideal) S32x8x128 .f32)) (l : Fin 128) :
    M.a13.view.read (Elt Ideal) (M.a13.view.writes (Elt Ideal) f ((⟨Rect.unit (s := S32x8x128) off S1x1x128.size inb, w⟩ : View.Piece (Elt Ideal) S32x8x128 .f32) :: L)) (ix3 n h l)
      = M.a13.view.read (Elt Ideal) (M.a13.view.writes (Elt Ideal) f L) (ix3 n h l) := by
  rw [read_cons_row M.a13 f n' h' hoff, if_neg hne]

end Dg

end Cert.KernelIdeal.Gen
-- ==== Proof.DiagRows.lean ====
module

public import proofs.«01_k».proof.Proof.Diag

@[expose] public section

set_option maxRecDepth 16384

noncomputable section

namespace Cert.KernelIdeal.Gen

open Idealize.ShloMosaic Idealize.ShloMosaic.TcCoe Idealize.SL.Sem

variable {M : Mem} (e : Ld M) (i : grid0.Coords) (p : Pre M)

namespace Dg

theorem rd6 (b : Fin 2) (j : Fin 4) (f : BufTy.Contents (Elt Ideal) M.a13.view.ty) (l : Fin 128)
    (inb : ∀ d, k0_off6 i (BitVec.ofNat 32 j.val) (BitVec.ofNat 32 b.val) d + S1x1x128.size d ≤ S32x8x128.size d) :
    View.readAt (Elt Ideal) M.a13.view (Rect.unit (s := S32x8x128) (k0_off6 i (BitVec.ofNat 32 j.val) (BitVec.ofNat 32 b.val)) S1x1x128.size inb).toLoadRect f (ix3 0 0 l)
      = M.a13.view.read (Elt Ideal) f (ix3 (rowOf (dg i) j) (headOf i (b == 1)) l) :=
  read_row M.a13 f _ _ _ (off6_head i b j) inb l (rowOf (dg i) j).isLt (headOf i (b == 1)).isLt

theorem P1_at (l : Fin 128) :
    (k0_pay96 (F := Ideal) (k0_pay65 (F := Ideal) e.g) (k0_pay66 (F := Ideal) e.g e.o) (v e i) (p0 e i) (View.readAt (Elt Ideal) M.a13.view (Rect.unit (s := S32x8x128) (k0_off6 i 0#32 0#32) S1x1x128.size (k0_off6_inb i 0 0)).toLoadRect (M.a13.view.writes (Elt Ideal) p.f13 p.L13)) : FVec Ideal S1x1x128 .f32) (ix3 0 0 l)
      = M.a13.view.read (Elt Ideal) (M.a13.view.writes (Elt Ideal) p.f13 p.L13) (ix3 (rowOf (dg i) 0) (headOf i false) l)
        + (0 - ∑ r, e.D i true false (dg i) r (tileCol 0 l)) := by
  refine (pay96_at _ _ _ _ _ l).trans ?_
  refine congrArg₂ (· + ·) ((rd6 i 0 0 _ l _).trans ?_) (congrArg (fun x => (0 : EReal) - x) ?_)
  · rfl
  · refine (c0_at e i _).trans ?_
    rw [tileCol_zero]; simp only [Nat.zero_add]

theorem P2_at (l : Fin 128) :
    (k0_pay98 (F := Ideal) (k0_pay97 (F := Ideal) (k0_pay65 (F := Ideal) e.g) (k0_pay66 (F := Ideal) e.g e.o) (v e i) (p0 e i) (View.readAt (Elt Ideal) M.a13.view (Rect.unit (s := S32x8x128) (k0_off6 i 1#32 0#32) S1x1x128.size (k0_off6_inb i 1 0)).toLoadRect (M.a13.view.writes (Elt Ideal) p.f13 (H1 e i p)))) : FVec Ideal S1x1x128 .f32) (ix3 0 0 l)
      = M.a13.view.read (Elt Ideal) (M.a13.view.writes (Elt Ideal) p.f13 p.L13) (ix3 (rowOf (dg i) 1) (headOf i false) l)
        + (0 - ∑ r, e.D i true false (dg i) r (tileCol 1 l)) := by
  refine (pay98_at _ _ _ _ _ l).trans ?_
  refine congrArg₂ (· + ·) ((rd6 i 0 1 _ l _).trans ?_) (congrArg (fun x => (0 : EReal) - x) ?_)
  · have e0 : ((0 : Fin 2) == 1) = false := rfl
    have e1 : ((1 : Fin 2) == 1) = true := rfl
    simp only [e0, e1]
    rw [H1, row_ne (off := k0_off6 i 0#32 0#32) p.f13 (rowOf (dg i) 1) (rowOf (dg i) 0) (headOf i false) (headOf i false) (by rw [rowOf_eq]; simp [headOf_ne]) (off6_head i 0 0)]
  · refine (c0_at e i _).trans ?_
    rfl

theorem P3_at (l : Fin 128) :
    (k0_pay99 (F := Ideal) (c0 e i) (View.readAt (Elt Ideal) M.a13.view (Rect.unit (s := S32x8x128) (k0_off6 i 2#32 0#32) S1x1x128.size (k0_off6_inb i 2 0)).toLoadRect (M.a13.view.writes (Elt Ideal) p.f13 (H2 e i p))) : FVec Ideal S1x1x128 .f32) (ix3 0 0 l)
      = M.a13.view.read (Elt Ideal) (M.a13.view.writes (Elt Ideal) p.f13 p.L13) (ix3 (rowOf (dg i) 2) (headOf i false) l)
        + (0 - ∑ r, e.D i true false (dg i) r (tileCol 2 l)) := by
  refine (pay99_at _ _ l).trans ?_
  refine congrArg₂ (· + ·) ((rd6 i 0 2 _ l _).trans ?_) (congrArg (fun x => (0 : EReal) - x) ?_)
  · have e0 : ((0 : Fin 2) == 1) = false := rfl
    have e1 : ((1 : Fin 2) == 1) = true := rfl
    simp only [e0, e1]
    rw [H2, row_ne (off := k0_off6 i 1#32 0#32) p.f13 (rowOf (dg i) 2) (rowOf (dg i) 1) (headOf i false) (headOf i false) (by rw [rowOf_eq]; simp [headOf_ne]) (off6_head i 0 1)]
    rw [H1, row_ne (off := k0_off6 i 0#32 0#32) p.f13 (rowOf (dg i) 2) (rowOf (dg i) 0) (headOf i false) (headOf i false) (by rw [rowOf_eq]; simp [headOf_ne]) (off6_head i 0 0)]
  · refine (c0_at e i _).trans ?_
    rfl

theorem P4_at (l : Fin 128) :
    (k0_pay100 (F := Ideal) (c0 e i) (View.readAt (Elt Ideal) M.a13.view (Rect.unit (s := S32x8x128) (k0_off6 i 3#32 0#32) S1x1x128.size (k0_off6_inb i 3 0)).toLoadRect (M.a13.view.writes (Elt Ideal) p.f13 (H3 e i p))) : FVec Ideal S1x1x128 .f32) (ix3 0 0 l)
      = M.a13.view.read (Elt Ideal) (M.a13.view.writes (Elt Ideal) p.f13 p.L13) (ix3 (rowOf (dg i) 3) (headOf i false) l)
        + (0 - ∑ r, e.D i true false (dg i) r (tileCol 3 l)) := by
  refine (pay100_at _ _ l).trans ?_
  refine congrArg₂ (· + ·) ((rd6 i 0 3 _ l _).trans ?_) (congrArg (fun x => (0 : EReal) - x) ?_)
  · have e0 : ((0 : Fin 2) == 1) = false := rfl
    have e1 : ((1 : Fin 2) == 1) = true := rfl
    simp only [e0, e1]
    rw [H3, row_ne (off := k0_off6 i 2#32 0#32) p.f13 (rowOf (dg i) 3) (rowOf (dg i) 2) (headOf i false) (headOf i false) (by rw [rowOf_eq]; simp [headOf_ne]) (off6_head i 0 2)]
    rw [H2, row_ne (off := k0_off6 i 1#32 0#32) p.f13 (rowOf (dg i) 3) (rowOf (dg i) 1) (headOf i false) (headOf i false) (by rw [rowOf_eq]; simp [headOf_ne]) (off6_head i 0 1)]
    rw [H1, row_ne (off := k0_off6 i 0#32 0#32) p.f13 (rowOf (dg i) 3) (rowOf (dg i) 0) (headOf i false) (headOf i false) (by rw [rowOf_eq]; simp [headOf_ne]) (off6_head i 0 0)]
  · refine (c0_at e i _).trans ?_
    rfl

theorem P5_at (l : Fin 128) :
    (k0_pay110 (F := Ideal) (c1 e i) (View.readAt (Elt Ideal) M.a13.view (Rect.unit (s := S32x8x128) (k0_off6 i 0#32 1#32) S1x1x128.size (k0_off6_inb i 0 1)).toLoadRect (M.a13.view.writes (Elt Ideal) p.f13 (H4 e i p))) : FVec Ideal S1x1x128 .f32) (ix3 0 0 l)
      = M.a13.view.read (Elt Ideal) (M.a13.view.writes (Elt Ideal) p.f13 p.L13) (ix3 (rowOf (dg i) 0) (headOf i true) l)
        + (0 - ∑ r, e.D i true true (dg i) r (tileCol 0 l)) := by
  refine (pay110_at _ _ l).trans ?_
  refine congrArg₂ (· + ·) ((rd6 i 1 0 _ l _).trans ?_) (congrArg (fun x => (0 : EReal) - x) ?_)
  · have e0 : ((0 : Fin 2) == 1) = false := rfl
    have e1 : ((1 : Fin 2) == 1) = true := rfl
    simp only [e0, e1]
    rw [H4, row_ne (off := k0_off6 i 3#32 0#32) p.f13 (rowOf (dg i) 0) (rowOf (dg i) 3) (headOf i true) (headOf i false) (by rw [rowOf_eq]; simp [headOf_ne]) (off6_head i 0 3)]
    rw [H3, row_ne (off := k0_off6 i 2#32 0#32) p.f13 (rowOf (dg i) 0) (rowOf (dg i) 2) (headOf i true) (headOf i false) (by rw [rowOf_eq]; simp [headOf_ne]) (off6_head i 0 2)]
    rw [H2, row_ne (off := k0_off6 i 1#32 0#32) p.f13 (rowOf (dg i) 0) (rowOf (dg i) 1) (headOf i true) (headOf i false) (by rw [rowOf_eq]; simp [headOf_ne]) (off6_head i 0 1)]
    rw [H1, row_ne (off := k0_off6 i 0#32 0#32) p.f13 (rowOf (dg i) 0) (rowOf (dg i) 0) (headOf i true) (headOf i false) (by rw [rowOf_eq]; simp [headOf_ne]) (off6_head i 0 0)]
  · refine (c1_at e i _).trans ?_
    rw [tileCol_zero]; simp only [Nat.zero_add]

theorem P6_at (l : Fin 128) :
    (k0_pay111 (F := Ideal) (c1 e i) (View.readAt (Elt Ideal) M.a13.view (Rect.unit (s := S32x8x128) (k0_off6 i 1#32 1#32) S1x1x128.size (k0_off6_inb i 1 1)).toLoadRect (M.a13.view.writes (Elt Ideal) p.f13 (H5 e i p))) : FVec Ideal S1x1x128 .f32) (ix3 0 0 l)
      = M.a13.view.read (Elt Ideal) (M.a13.view.writes (Elt Ideal) p.f13 p.L13) (ix3 (rowOf (dg i) 1) (headOf i true) l)
        + (0 - ∑ r, e.D i true true (dg i) r (tileCol 1 l)) := by
  refine (pay111_at _ _ l).trans ?_
  refine congrArg₂ (· + ·) ((rd6 i 1 1 _ l _).trans ?_) (congrArg (fun x => (0 : EReal) - x) ?_)
  · have e0 : ((0 : Fin 2) == 1) = false := rfl
    have e1 : ((1 : Fin 2) == 1) = true := rfl
    simp only [e0, e1]
    rw [H5, row_ne (off := k0_off6 i 0#32 1#32) p.f13 (rowOf (dg i) 1) (rowOf (dg i) 0) (headOf i true) (headOf i true) (by rw [rowOf_eq]; simp [headOf_ne]) (off6_head i 1 0)]
    rw [H4, row_ne (off := k0_off6 i 3#32 0#32) p.f13 (rowOf (dg i) 1) (rowOf (dg i) 3) (headOf i true) (headOf i false) (by rw [rowOf_eq]; simp [headOf_ne]) (off6_head i 0 3)]
    rw [H3, row_ne (off := k0_off6 i 2#32 0#32) p.f13 (rowOf (dg i) 1) (rowOf (dg i) 2) (headOf i true) (headOf i false) (by rw [rowOf_eq]; simp [headOf_ne]) (off6_head i 0 2)]
    rw [H2, row_ne (off := k0_off6 i 1#32 0#32) p.f13 (rowOf (dg i) 1) (rowOf (dg i) 1) (headOf i true) (headOf i false) (by rw [rowOf_eq]; simp [headOf_ne]) (off6_head i 0 1)]
    rw [H1, row_ne (off := k0_off6 i 0#32 0#32) p.f13 (rowOf (dg i) 1) (rowOf (dg i) 0) (headOf i true) (headOf i false) (by rw [rowOf_eq]; simp [headOf_ne]) (off6_head i 0 0)]
  · refine (c1_at e i _).trans ?_
    rfl

theorem P7_at (l : Fin 128) :
    (k0_pay112 (F := Ideal) (c1 e i) (View.readAt (Elt Ideal) M.a13.view (Rect.unit (s := S32x8x128) (k0_off6 i 2#32 1#32) S1x1x128.size (k0_off6_inb i 2 1)).toLoadRect (M.a13.view.writes (Elt Ideal) p.f13 (H6 e i p))) : FVec Ideal S1x1x128 .f32) (ix3 0 0 l)
      = M.a13.view.read (Elt Ideal) (M.a13.view.writes (Elt Ideal) p.f13 p.L13) (ix3 (rowOf (dg i) 2) (headOf i true) l)
        + (0 - ∑ r, e.D i true true (dg i) r (tileCol 2 l)) := by
  refine (pay112_at _ _ l).trans ?_
  refine congrArg₂ (· + ·) ((rd6 i 1 2 _ l _).trans ?_) (congrArg (fun x => (0 : EReal) - x) ?_)
  · have e0 : ((0 : Fin 2) == 1) = false := rfl
    have e1 : ((1 : Fin 2) == 1) = true := rfl
    simp only [e0, e1]
    rw [H6, row_ne (off := k0_off6 i 1#32 1#32) p.f13 (rowOf (dg i) 2) (rowOf (dg i) 1) (headOf i true) (headOf i true) (by rw [rowOf_eq]; simp [headOf_ne]) (off6_head i 1 1)]
    rw [H5, row_ne (off := k0_off6 i 0#32 1#32) p.f13 (rowOf (dg i) 2) (rowOf (dg i) 0) (headOf i true) (headOf i true) (by rw [rowOf_eq]; simp [headOf_ne]) (off6_head i 1 0)]
    rw [H4, row_ne (off := k0_off6 i 3#32 0#32) p.f13 (rowOf (dg i) 2) (rowOf (dg i) 3) (headOf i true) (headOf i false) (by rw [rowOf_eq]; simp [headOf_ne]) (off6_head i 0 3)]
    rw [H3, row_ne (off := k0_off6 i 2#32 0#32) p.f13 (rowOf (dg i) 2) (rowOf (dg i) 2) (headOf i true) (headOf i false) (by rw [rowOf_eq]; simp [headOf_ne]) (off6_head i 0 2)]
    rw [H2, row_ne (off := k0_off6 i 1#32 0#32) p.f13 (rowOf (dg i) 2) (rowOf (dg i) 1) (headOf i true) (headOf i false) (by rw [rowOf_eq]; simp [headOf_ne]) (off6_head i 0 1)]
    rw [H1, row_ne (off := k0_off6 i 0#32 0#32) p.f13 (rowOf (dg i) 2) (rowOf (dg i) 0) (headOf i true) (headOf i false) (by rw [rowOf_eq]; simp [headOf_ne]) (off6_head i 0 0)]
  · refine (c1_at e i _).trans ?_
    rfl

theorem P8_at (l : Fin 128) :
    (k0_pay113 (F := Ideal) (c1 e i) (View.readAt (Elt Ideal) M.a13.view (Rect.unit (s := S32x8x128) (k0_off6 i 3#32 1#32) S1x1x128.size (k0_off6_inb i 3 1)).toLoadRect (M.a13.view.writes (Elt Ideal) p.f13 (H7 e i p))) : FVec Ideal S1x1x128 .f32) (ix3 0 0 l)
      = M.a13.view.read (Elt Ideal) (M.a13.view.writes (Elt Ideal) p.f13 p.L13) (ix3 (rowOf (dg i) 3) (headOf i true) l)
        + (0 - ∑ r, e.D i true true (dg i) r (tileCol 3 l)) := by
  refine (pay113_at _ _ l).trans ?_
  refine congrArg₂ (· + ·) ((rd6 i 1 3 _ l _).trans ?_) (congrArg (fun x => (0 : EReal) - x) ?_)
  · have e0 : ((0 : Fin 2) == 1) = false := rfl
    have e1 : ((1 : Fin 2) == 1) = true := rfl
    simp only [e0, e1]
    rw [H7, row_ne (off := k0_off6 i 2#32 1#32) p.f13 (rowOf (dg i) 3) (rowOf (dg i) 2) (headOf i true) (headOf i true) (by rw [rowOf_eq]; simp [headOf_ne]) (off6_head i 1 2)]
    rw [H6, row_ne (off := k0_off6 i 1#32 1#32) p.f13 (rowOf (dg i) 3) (rowOf (dg i) 1) (headOf i true) (headOf i true) (by rw [rowOf_eq]; simp [headOf_ne]) (off6_head i 1 1)]
    rw [H5, row_ne (off := k0_off6 i 0#32 1#32) p.f13 (rowOf (dg i) 3) (rowOf (dg i) 0) (headOf i true) (headOf i true) (by rw [rowOf_eq]; simp [headOf_ne]) (off6_head i 1 0)]
    rw [H4, row_ne (off := k0_off6 i 3#32 0#32) p.f13 (rowOf (dg i) 3) (rowOf (dg i) 3) (headOf i true) (headOf i false) (by rw [rowOf_eq]; simp [headOf_ne]) (off6_head i 0 3)]
    rw [H3, row_ne (off := k0_off6 i 2#32 0#32) p.f13 (rowOf (dg i) 3) (rowOf (dg i) 2) (headOf i true) (headOf i false) (by rw [rowOf_eq]; simp [headOf_ne]) (off6_head i 0 2)]
    rw [H2, row_ne (off := k0_off6 i 1#32 0#32) p.f13 (rowOf (dg i) 3) (rowOf (dg i) 1) (headOf i true) (headOf i false) (by rw [rowOf_eq]; simp [headOf_ne]) (off6_head i 0 1)]
    rw [H1, row_ne (off := k0_off6 i 0#32 0#32) p.f13 (rowOf (dg i) 3) (rowOf (dg i) 0) (headOf i true) (headOf i false) (by rw [rowOf_eq]; simp [headOf_ne]) (off6_head i 0 0)]
  · refine (c1_at e i _).trans ?_
    rfl

/-- The eight payloads of the diagonal. -/
def pay8 (j : Fin 4) (b : Fin 2) : S1x1x128.Idx → Elt Ideal .f32 :=
  match j, b with
  | 0, 0 => k0_pay96 (F := Ideal) (k0_pay65 (F := Ideal) e.g) (k0_pay66 (F := Ideal) e.g e.o) (v e i) (p0 e i) (View.readAt (Elt Ideal) M.a13.view (Rect.unit (s := S32x8x128) (k0_off6 i 0#32 0#32) S1x1x128.size (k0_off6_inb i 0 0)).toLoadRect (M.a13.view.writes (Elt Ideal) p.f13 p.L13))
  | 1, 0 => k0_pay98 (F := Ideal) (k0_pay97 (F := Ideal) (k0_pay65 (F := Ideal) e.g) (k0_pay66 (F := Ideal) e.g e.o) (v e i) (p0 e i) (View.readAt (Elt Ideal) M.a13.view (Rect.unit (s := S32x8x128) (k0_off6 i 1#32 0#32) S1x1x128.size (k0_off6_inb i 1 0)).toLoadRect (M.a13.view.writes (Elt Ideal) p.f13 (H1 e i p))))
  | 2, 0 => k0_pay99 (F := Ideal) (c0 e i) (View.readAt (Elt Ideal) M.a13.view (Rect.unit (s := S32x8x128) (k0_off6 i 2#32 0#32) S1x1x128.size (k0_off6_inb i 2 0)).toLoadRect (M.a13.view.writes (Elt Ideal) p.f13 (H2 e i p)))
  | 3, 0 => k0_pay100 (F := Ideal) (c0 e i) (View.readAt (Elt Ideal) M.a13.view (Rect.unit (s := S32x8x128) (k0_off6 i 3#32 0#32) S1x1x128.size (k0_off6_inb i 3 0)).toLoadRect (M.a13.view.writes (Elt Ideal) p.f13 (H3 e i p)))
  | 0, 1 => k0_pay110 (F := Ideal) (c1 e i) (View.readAt (Elt Ideal) M.a13.view (Rect.unit (s := S32x8x128) (k0_off6 i 0#32 1#32) S1x1x128.size (k0_off6_inb i 0 1)).toLoadRect (M.a13.view.writes (Elt Ideal) p.f13 (H4 e i p)))
  | 1, 1 => k0_pay111 (F := Ideal) (c1 e i) (View.readAt (Elt Ideal) M.a13.view (Rect.unit (s := S32x8x128) (k0_off6 i 1#32 1#32) S1x1x128.size (k0_off6_inb i 1 1)).toLoadRect (M.a13.view.writes (Elt Ideal) p.f13 (H5 e i p)))
  | 2, 1 => k0_pay112 (F := Ideal) (c1 e i) (View.readAt (Elt Ideal) M.a13.view (Rect.unit (s := S32x8x128) (k0_off6 i 2#32 1#32) S1x1x128.size (k0_off6_inb i 2 1)).toLoadRect (M.a13.view.writes (Elt Ideal) p.f13 (H6 e i p)))
  | 3, 1 => k0_pay113 (F := Ideal) (c1 e i) (View.readAt (Elt Ideal) M.a13.view (Rect.unit (s := S32x8x128) (k0_off6 i 3#32 1#32) S1x1x128.size (k0_off6_inb i 3 1)).toLoadRect (M.a13.view.writes (Elt Ideal) p.f13 (H7 e i p)))

theorem pay8_at (j : Fin 4) (b : Fin 2) (l : Fin 128) :
    pay8 e i p j b (ix3 0 0 l)
      = M.a13.view.read (Elt Ideal) (M.a13.view.writes (Elt Ideal) p.f13 p.L13) (ix3 (rowOf (dg i) j) (headOf i (b == 1)) l)
        + (0 - ∑ r, e.D i true (b == 1) (dg i) r (tileCol j l)) := by
  match j, b with
  | 0, 0 => exact P1_at e i p l
  | 1, 0 => exact P2_at e i p l
  | 2, 0 => exact P3_at e i p l
  | 3, 0 => exact P4_at e i p l
  | 0, 1 => exact P5_at e i p l
  | 1, 1 => exact P6_at e i p l
  | 2, 1 => exact P7_at e i p l
  | 3, 1 => exact P8_at e i p l

theorem read13 (kb' : Fin 8) (j : Fin 4) (h : Fin 8) (l : Fin 128) :
    M.a13.view.read (Elt Ideal) (M.a13.view.writes (Elt Ideal) p.f13 (H8 e i p)) (ix3 (rowOf kb' j) h l)
      = M.a13.view.read (Elt Ideal) (M.a13.view.writes (Elt Ideal) p.f13 p.L13) (ix3 (rowOf kb' j) h l)
        + if kb' = dg i then e.i13 i true kb' h (tileCol j l) else 0 := by
  have key := read_eight M.a13 p.f13 (fun j b => k0_off6 i (BitVec.ofNat 32 j.val) (BitVec.ofNat 32 b.val)) (dg i)
    (fun b => headOf i (b == 1)) (headOf_ne i) (fun j b => off6_head i b j) (fun j b => k0_off6_inb i j b)
    (pay8 e i p) p.L13 kb' j h l
  refine Eq.trans ?_ (key.trans ?_)
  · rfl
  · have e0 : ((0 : Fin 2) == 1) = false := rfl
    have e1 : ((1 : Fin 2) == 1) = true := rfl
    rw [pay8_at, pay8_at]
    simp only [e0, e1]
    unfold Ld.i13
    by_cases hk : kb' = dg i
    · rw [if_pos hk, if_pos hk, hk]
      by_cases h0 : h = headOf i false
      · rw [if_pos h0, if_pos h0, h0]
      · rw [if_neg h0, if_neg h0]
        by_cases h1 : h = headOf i true
        · rw [if_pos h1, if_pos h1, h1]
        · rw [if_neg h1, if_neg h1, add_zero]
    · rw [if_neg hk, if_neg hk, add_zero]

end Dg

end Cert.KernelIdeal.Gen
-- ==== Proof.RunBase.lean ====
module

public import proofs.«01_k».proof.Proof.DiagRows

@[expose] public section

set_option maxRecDepth 16384

noncomputable section

namespace Cert.KernelIdeal.Gen

open Idealize.ShloMosaic Idealize.ShloMosaic.TcCoe Idealize.SL.Sem

variable {M : Mem}

/-- The gradient arrays a point starts from: stores into a start. -/
structure Base (M : Mem) where
  f13 : BufTy.Contents (Elt Ideal) M.a13.view.ty
  H13 : List (View.Piece (Elt Ideal) S32x8x128 .f32)
  f15 : BufTy.Contents (Elt Ideal) M.a15.view.ty
  H15 : List (View.Piece (Elt Ideal) S4096x128 .f32)
  f16 : BufTy.Contents (Elt Ideal) M.a16.view.ty
  H16 : List (View.Piece (Elt Ideal) S4096x128 .f32)

/-- The number of the first head, as a word. -/
def w23 (i : grid0.Coords) : BitVec 32 := Scalar.addi (Scalar.muli 2#32 (BitVec.ofNat 32 (i 0).val)) 0#32

/-- The number of the second head, as a word. -/
def w44 (i : grid0.Coords) : BitVec 32 := Scalar.addi (Scalar.muli 2#32 (BitVec.ofNat 32 (i 0).val)) 1#32

/-- What the loops start from. -/
def carry0 : Carry := (k0_pay76 (F := Ideal), k0_pay77 (F := Ideal), k0_pay76 (F := Ideal), k0_pay77 (F := Ideal))

/-- The loop over the tiles before the diagonal. -/
def A1 (c : Dev nD) (e : Ld M) (i : grid0.Coords) (b : Base M) :=
  T1 c (BitVec.ofNat 32 (i 1).val) (w23 i) (w44 i) e i (M.a13.view.writes (Elt Ideal) b.f13 b.H13) (M.a15.view.writes (Elt Ideal) b.f15 b.H15)
    (M.a16.view.writes (Elt Ideal) b.f16 b.H16) carry0 (k0_t1_loop i).trips

/-- The loop that takes the tiles left over, of which there are none. -/
def A2 (c : Dev nD) (e : Ld M) (i : grid0.Coords) (b : Base M) (G13 : BufTy.Contents (Elt Ideal) M.a13.view.ty)
    (G15 : BufTy.Contents (Elt Ideal) M.a15.view.ty) (G16 : BufTy.Contents (Elt Ideal) M.a16.view.ty) :
    Carry × List (View.Piece (Elt Ideal) S32x8x128 .f32) × List (View.Piece (Elt Ideal) S4096x128 .f32) × List (View.Piece (Elt Ideal) S4096x128 .f32) :=
  st_k0_t2 (F := Ideal) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 (pairWord i) (BitVec.ofNat 32 (i 1).val) lanes (k0_pay60 (F := Ideal) e.q) (k0_pay61 (F := Ideal) e.g) (k0_pay62 (F := Ideal) e.g e.o) e.fq (w23 i) (k0_pay64 (F := Ideal) e.q) (k0_pay65 (F := Ideal) e.g) (k0_pay66 (F := Ideal) e.g e.o) (k0_pay67 i) e.la (w44 i) e.lb
    (Scalar.addi 0#32 (Scalar.muli (Scalar.divsi (Scalar.subi (BitVec.ofNat 32 (i 1).val) 0#32) 1#32) 1#32)) e.X3 e.X4 e.X6
    G13 G15 G16 (A1 c e i b).1 (k0_t2_loop i).trips

theorem A2_eq (c : Dev nD) (e : Ld M) (i : grid0.Coords) (b : Base M) (G13 G15 G16) : A2 c e i b G13 G15 G16 = ((A1 c e i b).1, [], [], []) := by
  unfold A2
  rw [Nat.le_zero.mp (k0_t2_abs i).2.1]
  rfl

/-- What the diagonal tile starts from, over the stores before it. -/
def preG (c : Dev nD) (e : Ld M) (i : grid0.Coords) (b : Base M) (L13 : List (View.Piece (Elt Ideal) S32x8x128 .f32))
    (L15 L16 : List (View.Piece (Elt Ideal) S4096x128 .f32)) : Pre M where
  acc := (A2 c e i b (M.a13.view.writes (Elt Ideal) b.f13 L13) (M.a15.view.writes (Elt Ideal) b.f15 L15) (M.a16.view.writes (Elt Ideal) b.f16 L16)).1
  f13 := b.f13
  L13 := (A2 c e i b (M.a13.view.writes (Elt Ideal) b.f13 L13) (M.a15.view.writes (Elt Ideal) b.f15 L15) (M.a16.view.writes (Elt Ideal) b.f16 L16)).2.1 ++ L13
  f15 := b.f15
  L15 := (A2 c e i b (M.a13.view.writes (Elt Ideal) b.f13 L13) (M.a15.view.writes (Elt Ideal) b.f15 L15) (M.a16.view.writes (Elt Ideal) b.f16 L16)).2.2.1 ++ L15
  f16 := b.f16
  L16 := (A2 c e i b (M.a13.view.writes (Elt Ideal) b.f13 L13) (M.a15.view.writes (Elt Ideal) b.f15 L15) (M.a16.view.writes (Elt Ideal) b.f16 L16)).2.2.2 ++ L16

/-- What the diagonal tile starts from. -/
def pre (c : Dev nD) (e : Ld M) (i : grid0.Coords) (b : Base M) : Pre M :=
  ⟨(A1 c e i b).1, b.f13, (A1 c e i b).2.1 ++ b.H13, b.f15, (A1 c e i b).2.2.1 ++ b.H15, b.f16, (A1 c e i b).2.2.2 ++ b.H16⟩

theorem preG_eq (c : Dev nD) (e : Ld M) (i : grid0.Coords) (b : Base M) (L13 L15 L16) :
    preG c e i b L13 L15 L16 = ⟨(A1 c e i b).1, b.f13, L13, b.f15, L15, b.f16, L16⟩ := by
  unfold preG
  simp only [A2_eq, List.nil_append]

/-- What a point loads. -/
def ldOf (M : Mem) (x0 : Vec Ideal S512x128 .bf16) (x1 x2 : Vec Ideal S4096x128 .bf16) (x3 : Vec Ideal S512x128 .f32) (x4 : Vec Ideal S32x8x128 .f32)
    (x5 x6 : Vec Ideal S512x128 .bf16) (x7 : Vec Ideal S2x512x128 .f32) : Ld M where
  q := View.readAt (Elt Ideal) M.a2.view (Rect.unit (s := S512x128) ![0, 0] S512x128.size inb_S512x128_S512x128_0_0).toLoadRect (M.h2.unread x0)
  g := View.readAt (Elt Ideal) M.a7.view (Rect.unit (s := S512x128) ![0, 0] S512x128.size inb_S512x128_S512x128_0_0).toLoadRect (M.h7.unread x5)
  o := View.readAt (Elt Ideal) M.a8.view (Rect.unit (s := S512x128) ![0, 0] S512x128.size inb_S512x128_S512x128_0_0).toLoadRect (M.h8.unread x6)
  fq := View.readAt (Elt Ideal) M.a5.view (Rect.unit (s := S512x128) ![0, 0] S512x128.size inb_S512x128_S512x128_0_0).toLoadRect (M.h5.unread x3)
  la := View.readAt (Elt Ideal) M.a9.view (Rect.unit (s := S2x512x128) ![0, 0, 0] S1x512x128.size inb_S2x512x128_S1x512x128_0_0_0).toLoadRect (M.h9.unread x7)
  lb := View.readAt (Elt Ideal) M.a9.view (Rect.unit (s := S2x512x128) ![1, 0, 0] S1x512x128.size inb_S2x512x128_S1x512x128_1_0_0).toLoadRect (M.h9.unread x7)
  X3 := M.h3.unread x1
  X4 := M.h4.unread x2
  X6 := M.h6.unread x4

/-- A point inside a row of points: all three arrays are what the point before left. -/
def baseB (M : Mem) (xo11 : Vec Ideal S32x8x128 .f32) (xs0 xs1 : Vec Ideal S4096x128 .f32) : Base M := ⟨M.h13.unread xo11, [], M.h15.unread xs0, [], M.h16.unread xs1, []⟩

/-- The first point of all: the three arrays are set to zero. -/
def baseA (M : Mem) : Base M :=
  ⟨M.a13.view.junk, [⟨Rect.unit (s := S32x8x128) ![0, 0, 0] S32x8x128.size inb_S32x8x128_S32x8x128_0_0_0, k0_pay58 (F := Ideal)⟩],
   M.a15.view.junk, [⟨Rect.unit (s := S4096x128) ![0, 0] S4096x128.size inb_S4096x128_S4096x128_0_0, k0_pay56 (F := Ideal)⟩],
   M.a16.view.junk, [⟨Rect.unit (s := S4096x128) ![0, 0] S4096x128.size inb_S4096x128_S4096x128_0_0, k0_pay57 (F := Ideal)⟩]⟩

/-- The first point of a later row: the key and value gradients are set to zero. -/
def baseD (M : Mem) (xo11 : Vec Ideal S32x8x128 .f32) : Base M :=
  ⟨M.h13.unread xo11, [],
   M.a15.view.junk, [⟨Rect.unit (s := S4096x128) ![0, 0] S4096x128.size inb_S4096x128_S4096x128_0_0, k0_pay56 (F := Ideal)⟩],
   M.a16.view.junk, [⟨Rect.unit (s := S4096x128) ![0, 0] S4096x128.size inb_S4096x128_S4096x128_0_0, k0_pay57 (F := Ideal)⟩]⟩

end Cert.KernelIdeal.Gen
-- ==== Proof.Step.lean ====
module

public import proofs.«01_k».proof.Proof.RunBase

@[expose] public section

set_option maxRecDepth 16384

noncomputable section

namespace Cert.KernelIdeal.Gen

open Idealize.ShloMosaic Idealize.ShloMosaic.TcCoe Idealize.SL.Sem

variable {M : Mem}

/-- The loop before the diagonal takes one step for each tile of keys before the tile of queries. -/
theorem trips_eq (i : grid0.Coords) : (k0_t1_loop i).trips = (i 1).val := by
  have h' : ∀ a : Fin 8, (Scf.trips (0#32) (Scalar.addi 0#32 (Scalar.muli (Scalar.divsi (Scalar.subi (BitVec.ofNat 32 a.val) 0#32) 1#32) 1#32)) (1#32)) = a.val := by decide +kernel
  exact h' ⟨(i 1).val, (i 1).isLt⟩

namespace Ld

/-- The query gradients of a head, over the tiles up to the diagonal. -/
def tq (e : Ld M) (i : grid0.Coords) (b : Bool) (r : Fin 512) (l : Fin 128) : EReal :=
  below ((i 1).val + 1) fun kb => e.cq i (decide (kb = dg i)) b kb r l

/-- The row sums of a head, over the tiles up to the diagonal. -/
def tr (e : Ld M) (i : grid0.Coords) (b : Bool) (r : Fin 512) : EReal :=
  below ((i 1).val + 1) fun kb => e.cr i (decide (kb = dg i)) b kb r

/-- What a point adds to the key gradients. -/
def t15 (e : Ld M) (i : grid0.Coords) (kb : Fin 8) (c : Fin 512) (l : Fin 128) : EReal :=
  if kb.val < (i 1).val + 1 then e.i15 i (decide (kb = dg i)) kb c l else 0

/-- What a point adds to the value gradients. -/
def t16 (e : Ld M) (i : grid0.Coords) (kb : Fin 8) (c : Fin 512) (l : Fin 128) : EReal :=
  if kb.val < (i 1).val + 1 then e.i16 i (decide (kb = dg i)) kb c l else 0

/-- What a point adds to the key-bias gradients. -/
def t13 (e : Ld M) (i : grid0.Coords) (kb : Fin 8) (h : Fin 8) (c : Fin 512) : EReal :=
  if kb.val < (i 1).val + 1 then e.i13 i (decide (kb = dg i)) kb h c else 0

end Ld

/-- The tiles before the diagonal, and the diagonal. -/
theorem below_dg (i : grid0.Coords) (F : Bool → Fin 8 → EReal) :
    below (i 1).val (F false) + F true (dg i) = below ((i 1).val + 1) fun kb => F (decide (kb = dg i)) kb := by
  have h := below_succ (dg i) fun kb => F (decide (kb = dg i)) kb
  have h2 : below (i 1).val (F false) = below (dg i).val fun kb => F (decide (kb = dg i)) kb := by
    unfold below
    refine Finset.sum_congr rfl fun kb _ => ?_
    by_cases hk : kb.val < (i 1).val
    · have : kb ≠ dg i := fun q => absurd hk (by rw [q]; exact lt_irrefl _)
      rw [if_pos hk, if_pos (show kb.val < (dg i).val from hk)]
      show F false kb = F (decide (kb = dg i)) kb
      rw [decide_eq_false this]
    · rw [if_neg hk, if_neg (show ¬ kb.val < (dg i).val from hk)]
  rw [show (i 1).val + 1 = (dg i).val + 1 from rfl, h, h2, decide_eq_true rfl]

/-- The changes of a point to one tile of keys. -/
theorem step_dg (i : grid0.Coords) (kb : Fin 8) (x : EReal) (F : Bool → EReal) :
    (x + if kb.val < (i 1).val then F false else 0) + (if kb = dg i then F true else 0)
      = x + if kb.val < (i 1).val + 1 then F (decide (kb = dg i)) else 0 := by
  by_cases h1 : kb = dg i
  · have h2 : kb.val = (i 1).val := congrArg Fin.val h1
    rw [if_neg (by omega), if_pos h1, if_pos (by omega), decide_eq_true h1, add_zero]
  · have h2 : kb.val ≠ (i 1).val := fun q => h1 (Fin.ext q)
    rw [if_neg h1, add_zero, decide_eq_false h1]
    by_cases h3 : kb.val < (i 1).val
    · rw [if_pos h3, if_pos (by omega)]
    · rw [if_neg h3, if_neg (by omega)]

variable (c : Dev nD) (e : Ld M) (i : grid0.Coords) (b : Base M)

theorem zero76 (r : Fin 512) (l : Fin 128) : k0_pay76 (F := Ideal) (ix2 r l) = 0 := by
  pointwise [k0_pay76]

theorem zero77 (r : Fin 512) : k0_pay77 (F := Ideal) (ix2 r 0) = 0 := by
  pointwise [k0_pay77]

theorem step8 (r : Fin 512) (l : Fin 128) :
    Dg.o8 e i (pre c e i b) (ix2 r l) = (if 64 ≤ l.val then e.tq i true r l else e.tq i false r l) * Ideal.ofBits .f32 0x3E000000#32 := by
  rw [Dg.o8_at]
  have h1 : (pre c e i b).acc.2.2.1 (ix2 r l) + e.cq i true true (dg i) r l = e.tq i true r l := by
    refine Eq.trans (congrArg (· + _) (T1_q1 _ _ _ _ _ _ _ _ _ _ _ le_rfl r l)) ?_
    rw [trips_eq, show carry0.2.2.1 (ix2 r l) = 0 from zero76 r l, zero_add]
    exact below_dg i fun w kb => e.cq i w true kb r l
  have h0 : (pre c e i b).acc.1 (ix2 r l) + e.cq i true false (dg i) r l = e.tq i false r l := by
    refine Eq.trans (congrArg (· + _) (T1_q0 _ _ _ _ _ _ _ _ _ _ _ le_rfl r l)) ?_
    rw [trips_eq, show carry0.1 (ix2 r l) = 0 from zero76 r l, zero_add]
    exact below_dg i fun w kb => e.cq i w false kb r l
  rw [h1, h0]

theorem step12 (r : Fin 512) (l : Fin 128) :
    Dg.o12 e i (pre c e i b) (ix3 0 r l) = if l = lane (headOf i false) then e.tr i false r
      else if l = lane (headOf i true) then e.tr i true r else 0 := by
  rw [Dg.o12_at]
  have h1 : (pre c e i b).acc.2.2.2 (ix2 r 0) + e.cr i true true (dg i) r = e.tr i true r := by
    refine Eq.trans (congrArg (· + _) (T1_r1 _ _ _ _ _ _ _ _ _ _ _ le_rfl r)) ?_
    rw [trips_eq, show carry0.2.2.2 (ix2 r 0) = 0 from zero77 r, zero_add]
    exact below_dg i fun w kb => e.cr i w true kb r
  have h0 : (pre c e i b).acc.2.1 (ix2 r 0) + e.cr i true false (dg i) r = e.tr i false r := by
    refine Eq.trans (congrArg (· + _) (T1_r0 _ _ _ _ _ _ _ _ _ _ _ le_rfl r)) ?_
    rw [trips_eq, show carry0.2.1 (ix2 r 0) = 0 from zero77 r, zero_add]
    exact below_dg i fun w kb => e.cr i w false kb r
  rw [h1, h0]

theorem step15 (kb : Fin 8) (x : Fin 512) (l : Fin 128) :
    M.a15.view.read (Elt Ideal) (M.a15.view.writes (Elt Ideal) b.f15 (Dg.H15 e i (pre c e i b))) (ix2 (tileRow kb x) l)
      = M.a15.view.read (Elt Ideal) (M.a15.view.writes (Elt Ideal) b.f15 b.H15) (ix2 (tileRow kb x) l) + e.t15 i kb x l := by
  refine (Dg.read15 e i (pre c e i b) kb x l).trans ?_
  refine Eq.trans (congrArg (· + _) (T1_15 _ _ _ _ _ _ _ _ _ _ _ _ le_rfl kb x l)) ?_
  rw [trips_eq]
  exact step_dg i kb _ fun w => e.i15 i w kb x l

theorem step16 (kb : Fin 8) (x : Fin 512) (l : Fin 128) :
    M.a16.view.read (Elt Ideal) (M.a16.view.writes (Elt Ideal) b.f16 (Dg.H16 e i (pre c e i b))) (ix2 (tileRow kb x) l)
      = M.a16.view.read (Elt Ideal) (M.a16.view.writes (Elt Ideal) b.f16 b.H16) (ix2 (tileRow kb x) l) + e.t16 i kb x l := by
  refine (Dg.read16 e i (pre c e i b) kb x l).trans ?_
  refine Eq.trans (congrArg (· + _) (T1_16 _ _ _ _ _ _ _ _ _ _ _ _ le_rfl kb x l)) ?_
  rw [trips_eq]
  exact step_dg i kb _ fun w => e.i16 i w kb x l

theorem step13 (kb : Fin 8) (j : Fin 4) (h : Fin 8) (l : Fin 128) :
    M.a13.view.read (Elt Ideal) (M.a13.view.writes (Elt Ideal) b.f13 (Dg.H8 e i (pre c e i b))) (ix3 (rowOf kb j) h l)
      = M.a13.view.read (Elt Ideal) (M.a13.view.writes (Elt Ideal) b.f13 b.H13) (ix3 (rowOf kb j) h l) + e.t13 i kb h (tileCol j l) := by
  refine (Dg.read13 e i (pre c e i b) kb j h l).trans ?_
  refine Eq.trans (congrArg (· + _) (T1_13 _ _ _ _ _ _ _ _ _ _ _ _ le_rfl kb j h l)) ?_
  rw [trips_eq]
  exact step_dg i kb _ fun w => e.i13 i w kb h (tileCol j l)

end Cert.KernelIdeal.Gen
-- ==== Proof.StepRead.lean ====
module

public import proofs.«01_k».proof.Proof.Step

@[expose] public section

set_option maxRecDepth 16384

noncomputable section

namespace Cert.KernelIdeal.Gen

open Idealize.ShloMosaic Idealize.ShloMosaic.TcCoe Idealize.SL.Sem

variable {M : Mem}

theorem zero56 (y : S4096x128.Idx) : k0_pay56 (F := Ideal) y = 0 := by
  idx_vars y
  pointwise [k0_pay56]

theorem zero57 (y : S4096x128.Idx) : k0_pay57 (F := Ideal) y = 0 := by
  idx_vars y
  pointwise [k0_pay57]

theorem zero58 (y : S32x8x128.Idx) : k0_pay58 (F := Ideal) y = 0 := by
  idx_vars y
  pointwise [k0_pay58]

/-- Zero stored over the whole key-bias array. -/
theorem zero13 (v : View sig .tc .vmem S32x8x128 .f32) (f : BufTy.Contents (Elt Ideal) v.ty) (y : S32x8x128.Idx) :
    v.read (Elt Ideal) (v.writes (Elt Ideal) f [⟨Rect.unit (s := S32x8x128) ![0, 0, 0] S32x8x128.size inb_S32x8x128_S32x8x128_0_0_0, k0_pay58 (F := Ideal)⟩]) y = 0 :=
  (View.read_writes_cons_unit_of_mem v f _ _ _ y y rfl (by intro a; fin_cases a <;> exact (Nat.zero_add _).symm)).trans (zero58 y)

theorem zero15 (v : View sig .tc .vmem S4096x128 .f32) (f : BufTy.Contents (Elt Ideal) v.ty) (y : S4096x128.Idx) :
    v.read (Elt Ideal) (v.writes (Elt Ideal) f [⟨Rect.unit (s := S4096x128) ![0, 0] S4096x128.size inb_S4096x128_S4096x128_0_0, k0_pay56 (F := Ideal)⟩]) y = 0 :=
  (View.read_writes_cons_unit_of_mem v f _ _ _ y y rfl (by intro a; fin_cases a <;> exact (Nat.zero_add _).symm)).trans (zero56 y)

theorem zero16 (v : View sig .tc .vmem S4096x128 .f32) (f : BufTy.Contents (Elt Ideal) v.ty) (y : S4096x128.Idx) :
    v.read (Elt Ideal) (v.writes (Elt Ideal) f [⟨Rect.unit (s := S4096x128) ![0, 0] S4096x128.size inb_S4096x128_S4096x128_0_0, k0_pay57 (F := Ideal)⟩]) y = 0 :=
  (View.read_writes_cons_unit_of_mem v f _ _ _ y y rfl (by intro a; fin_cases a <;> exact (Nat.zero_add _).symm)).trans (zero57 y)

theorem read8 (v : View sig .tc .vmem S512x128 .bf16) (f : BufTy.Contents (Elt Ideal) v.ty) (e : Ld M) (i : grid0.Coords) (p : Pre M) (r : Fin 512) (l : Fin 128) :
    v.read (Elt Ideal) (v.writes (Elt Ideal) f (Dg.HQ e i p)) (ix2 r l) = Dg.o8 e i p (ix2 r l) :=
  View.read_writes_cons_unit_of_mem v f _ _ _ (ix2 r l) (ix2 r l) rfl (by intro a; fin_cases a <;> exact (Nat.zero_add _).symm)

theorem read12 (v : View sig .tc .vmem S1x512x128 .f32) (f : BufTy.Contents (Elt Ideal) v.ty) (e : Ld M) (i : grid0.Coords) (p : Pre M) (r : Fin 512) (l : Fin 128) :
    v.read (Elt Ideal) (v.writes (Elt Ideal) f (Dg.HR e i p)) (ix3 0 r l) = Dg.o12 e i p (ix3 0 r l) :=
  View.read_writes_cons_unit_of_mem v f _ _ _ (ix3 0 r l) (ix3 0 r l) rfl (by intro a; fin_cases a <;> exact (Nat.zero_add _).symm)

end Cert.KernelIdeal.Gen
-- ==== Proof.RunsA.lean ====
module

public import proofs.«01_k».proof.Proof.RunBase
public import proofs.«01_k».proof.Proof.Gen.KernelIdeal.Frame

@[expose] public section

set_option maxRecDepth 16384

noncomputable section

namespace Cert.KernelIdeal.Gen

open Idealize.ShloMosaic Idealize.ShloMosaic.TcCoe Idealize.SL.Sem

variable {M : Mem}

variable (c : Dev nD) (i : grid0.Coords) (x0 : Vec Ideal S512x128 .bf16) (x1 x2 : Vec Ideal S4096x128 .bf16) (x3 : Vec Ideal S512x128 .f32)
  (x4 : Vec Ideal S32x8x128 .f32) (x5 x6 : Vec Ideal S512x128 .bf16) (x7 : Vec Ideal S2x512x128 .f32)

set_option maxHeartbeats 4000000 in
theorem runA_HQ (hc0 : cond0_0 i) (hc1 : cond0_1 i) (hc2 : ¬cond0_2 i)  :
    (kernelRun0_A (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7).1
      = Dg.HQ (ldOf M x0 x1 x2 x3 x4 x5 x6 x7) i (pre c (ldOf M x0 x1 x2 x3 x4 x5 x6 x7) i (baseA M)) := by
  have hp : pre c (ldOf M x0 x1 x2 x3 x4 x5 x6 x7) i (baseA M) = preG c (ldOf M x0 x1 x2 x3 x4 x5 x6 x7) i (baseA M) ((A1 c (ldOf M x0 x1 x2 x3 x4 x5 x6 x7) i (baseA M)).2.1 ++ (baseA M).H13) ((A1 c (ldOf M x0 x1 x2 x3 x4 x5 x6 x7) i (baseA M)).2.2.1 ++ (baseA M).H15) ((A1 c (ldOf M x0 x1 x2 x3 x4 x5 x6 x7) i (baseA M)).2.2.2 ++ (baseA M).H16) := by
    rw [preG_eq]; unfold pre baseA; simp only [List.append_nil]
  rw [hp]
  delta kernelRun0_A
  rfl

set_option maxHeartbeats 4000000 in
theorem runA_H8 (hc0 : cond0_0 i) (hc1 : cond0_1 i) (hc2 : ¬cond0_2 i)  :
    (kernelRun0_A (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7).2.2.2.1
      = Dg.H8 (ldOf M x0 x1 x2 x3 x4 x5 x6 x7) i (pre c (ldOf M x0 x1 x2 x3 x4 x5 x6 x7) i (baseA M)) := by
  have hp : pre c (ldOf M x0 x1 x2 x3 x4 x5 x6 x7) i (baseA M) = preG c (ldOf M x0 x1 x2 x3 x4 x5 x6 x7) i (baseA M) ((A1 c (ldOf M x0 x1 x2 x3 x4 x5 x6 x7) i (baseA M)).2.1 ++ (baseA M).H13) ((A1 c (ldOf M x0 x1 x2 x3 x4 x5 x6 x7) i (baseA M)).2.2.1 ++ (baseA M).H15) ((A1 c (ldOf M x0 x1 x2 x3 x4 x5 x6 x7) i (baseA M)).2.2.2 ++ (baseA M).H16) := by
    rw [preG_eq]; unfold pre baseA; simp only [List.append_nil]
  rw [hp]
  delta kernelRun0_A
  rfl

set_option maxHeartbeats 4000000 in
theorem runA_HR (hc0 : cond0_0 i) (hc1 : cond0_1 i) (hc2 : ¬cond0_2 i)  :
    (kernelRun0_A (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7).2.2.2.2.1
      = Dg.HR (ldOf M x0 x1 x2 x3 x4 x5 x6 x7) i (pre c (ldOf M x0 x1 x2 x3 x4 x5 x6 x7) i (baseA M)) := by
  have hp : pre c (ldOf M x0 x1 x2 x3 x4 x5 x6 x7) i (baseA M) = preG c (ldOf M x0 x1 x2 x3 x4 x5 x6 x7) i (baseA M) ((A1 c (ldOf M x0 x1 x2 x3 x4 x5 x6 x7) i (baseA M)).2.1 ++ (baseA M).H13) ((A1 c (ldOf M x0 x1 x2 x3 x4 x5 x6 x7) i (baseA M)).2.2.1 ++ (baseA M).H15) ((A1 c (ldOf M x0 x1 x2 x3 x4 x5 x6 x7) i (baseA M)).2.2.2 ++ (baseA M).H16) := by
    rw [preG_eq]; unfold pre baseA; simp only [List.append_nil]
  rw [hp]
  delta kernelRun0_A
  rfl

set_option maxHeartbeats 4000000 in
theorem runA_H15 (hc0 : cond0_0 i) (hc1 : cond0_1 i) (hc2 : ¬cond0_2 i)  :
    (kernelRun0_A (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7).2.2.2.2.2.1
      = Dg.H15 (ldOf M x0 x1 x2 x3 x4 x5 x6 x7) i (pre c (ldOf M x0 x1 x2 x3 x4 x5 x6 x7) i (baseA M)) := by
  have hp : pre c (ldOf M x0 x1 x2 x3 x4 x5 x6 x7) i (baseA M) = preG c (ldOf M x0 x1 x2 x3 x4 x5 x6 x7) i (baseA M) ((A1 c (ldOf M x0 x1 x2 x3 x4 x5 x6 x7) i (baseA M)).2.1 ++ (baseA M).H13) ((A1 c (ldOf M x0 x1 x2 x3 x4 x5 x6 x7) i (baseA M)).2.2.1 ++ (baseA M).H15) ((A1 c (ldOf M x0 x1 x2 x3 x4 x5 x6 x7) i (baseA M)).2.2.2 ++ (baseA M).H16) := by
    rw [preG_eq]; unfold pre baseA; simp only [List.append_nil]
  rw [hp]
  delta kernelRun0_A
  rfl

set_option maxHeartbeats 4000000 in
theorem runA_H16 (hc0 : cond0_0 i) (hc1 : cond0_1 i) (hc2 : ¬cond0_2 i)  :
    (kernelRun0_A (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7).2.2.2.2.2.2.1
      = Dg.H16 (ldOf M x0 x1 x2 x3 x4 x5 x6 x7) i (pre c (ldOf M x0 x1 x2 x3 x4 x5 x6 x7) i (baseA M)) := by
  have hp : pre c (ldOf M x0 x1 x2 x3 x4 x5 x6 x7) i (baseA M) = preG c (ldOf M x0 x1 x2 x3 x4 x5 x6 x7) i (baseA M) ((A1 c (ldOf M x0 x1 x2 x3 x4 x5 x6 x7) i (baseA M)).2.1 ++ (baseA M).H13) ((A1 c (ldOf M x0 x1 x2 x3 x4 x5 x6 x7) i (baseA M)).2.2.1 ++ (baseA M).H15) ((A1 c (ldOf M x0 x1 x2 x3 x4 x5 x6 x7) i (baseA M)).2.2.2 ++ (baseA M).H16) := by
    rw [preG_eq]; unfold pre baseA; simp only [List.append_nil]
  rw [hp]
  delta kernelRun0_A
  rfl

end Cert.KernelIdeal.Gen
-- ==== Proof.CaseA.lean ====
module

public import proofs.«01_k».proof.Proof.StepRead
public import proofs.«01_k».proof.Proof.RunsA

@[expose] public section

set_option maxRecDepth 16384

noncomputable section

namespace Cert.KernelIdeal.Gen

open Idealize.ShloMosaic Idealize.ShloMosaic.TcCoe Idealize.SL.Sem

variable {M : Mem}

variable (c : Dev nD) (i : grid0.Coords) (x0 : Vec Ideal S512x128 .bf16) (x1 x2 : Vec Ideal S4096x128 .bf16) (x3 : Vec Ideal S512x128 .f32)
  (x4 : Vec Ideal S32x8x128 .f32) (x5 x6 : Vec Ideal S512x128 .bf16) (x7 : Vec Ideal S2x512x128 .f32)

theorem caseA_8 (hc0 : cond0_0 i) (hc1 : cond0_1 i) (hc2 : ¬cond0_2 i) (r : Fin 512) (l : Fin 128) :
    out0_A_8 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 (ix2 r l)
      = (if 64 ≤ l.val then (ldOf M x0 x1 x2 x3 x4 x5 x6 x7).tq i true r l else (ldOf M x0 x1 x2 x3 x4 x5 x6 x7).tq i false r l) * Ideal.ofBits .f32 0x3E000000#32 := by
  unfold out0_A_8
  rw [runA_HQ c i x0 x1 x2 x3 x4 x5 x6 x7 hc0 hc1 hc2]
  exact (read8 _ _ _ _ _ r l).trans (step8 _ _ _ _ r l)

theorem caseA_12 (hc0 : cond0_0 i) (hc1 : cond0_1 i) (hc2 : ¬cond0_2 i) (r : Fin 512) (l : Fin 128) :
    out0_A_12 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 (ix3 0 r l)
      = if l = lane (headOf i false) then (ldOf M x0 x1 x2 x3 x4 x5 x6 x7).tr i false r else if l = lane (headOf i true) then (ldOf M x0 x1 x2 x3 x4 x5 x6 x7).tr i true r else 0 := by
  unfold out0_A_12
  rw [runA_HR c i x0 x1 x2 x3 x4 x5 x6 x7 hc0 hc1 hc2]
  exact (read12 _ _ _ _ _ r l).trans (step12 _ _ _ _ r l)

theorem caseA_13 (hc0 : cond0_0 i) (hc1 : cond0_1 i) (hc2 : ¬cond0_2 i) (kb : Fin 8) (j : Fin 4) (h : Fin 8) (l : Fin 128) :
    out0_A_11 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 (ix3 (rowOf kb j) h l)
      = (ldOf M x0 x1 x2 x3 x4 x5 x6 x7).t13 i kb h (tileCol j l) := by
  unfold out0_A_11
  rw [View.read_writes_of_cover VO0_11 VO0_11.junk M.a13.view M.a13.view.junk _ (cover0_A_11 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7), runA_H8 c i x0 x1 x2 x3 x4 x5 x6 x7 hc0 hc1 hc2]
  refine (step13 c (ldOf M x0 x1 x2 x3 x4 x5 x6 x7) i (baseA M) _ _ _ _).trans ?_
  exact (congrArg (· + _) (zero13 _ _ _)).trans (zero_add _)

theorem caseA_15 (hc0 : cond0_0 i) (hc1 : cond0_1 i) (hc2 : ¬cond0_2 i) (kb : Fin 8) (x : Fin 512) (l : Fin 128) :
    sout0_A_0 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 (ix2 (tileRow kb x) l)
      = (ldOf M x0 x1 x2 x3 x4 x5 x6 x7).t15 i kb x l := by
  unfold sout0_A_0
  rw [View.read_writes_of_cover VS0_0 VS0_0.junk M.a15.view M.a15.view.junk _ (scover0_A_0 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7), runA_H15 c i x0 x1 x2 x3 x4 x5 x6 x7 hc0 hc1 hc2]
  refine (step15 c (ldOf M x0 x1 x2 x3 x4 x5 x6 x7) i (baseA M) _ _ _).trans ?_
  exact (congrArg (· + _) (zero15 _ _ _)).trans (zero_add _)

theorem caseA_16 (hc0 : cond0_0 i) (hc1 : cond0_1 i) (hc2 : ¬cond0_2 i) (kb : Fin 8) (x : Fin 512) (l : Fin 128) :
    sout0_A_1 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 (ix2 (tileRow kb x) l)
      = (ldOf M x0 x1 x2 x3 x4 x5 x6 x7).t16 i kb x l := by
  unfold sout0_A_1
  rw [View.read_writes_of_cover VS0_1 VS0_1.junk M.a16.view M.a16.view.junk _ (scover0_A_1 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7), runA_H16 c i x0 x1 x2 x3 x4 x5 x6 x7 hc0 hc1 hc2]
  refine (step16 c (ldOf M x0 x1 x2 x3 x4 x5 x6 x7) i (baseA M) _ _ _).trans ?_
  exact (congrArg (· + _) (zero16 _ _ _)).trans (zero_add _)

end Cert.KernelIdeal.Gen
-- ==== Proof.RunsB.lean ====
module

public import proofs.«01_k».proof.Proof.RunBase
public import proofs.«01_k».proof.Proof.Gen.KernelIdeal.Frame

@[expose] public section

set_option maxRecDepth 16384

noncomputable section

namespace Cert.KernelIdeal.Gen

open Idealize.ShloMosaic Idealize.ShloMosaic.TcCoe Idealize.SL.Sem

variable {M : Mem}

variable (c : Dev nD) (i : grid0.Coords) (x0 : Vec Ideal S512x128 .bf16) (x1 x2 : Vec Ideal S4096x128 .bf16) (x3 : Vec Ideal S512x128 .f32)
  (x4 : Vec Ideal S32x8x128 .f32) (x5 x6 : Vec Ideal S512x128 .bf16) (x7 : Vec Ideal S2x512x128 .f32)

set_option maxHeartbeats 4000000 in
theorem runB_HQ (hc0 : ¬cond0_0 i) (hc1 : ¬cond0_1 i) (hc2 : ¬cond0_2 i) (xo11 : Vec Ideal S32x8x128 .f32) (xs0 xs1 : Vec Ideal S4096x128 .f32) :
    (kernelRun0_B (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1).1
      = Dg.HQ (ldOf M x0 x1 x2 x3 x4 x5 x6 x7) i (pre c (ldOf M x0 x1 x2 x3 x4 x5 x6 x7) i (baseB M xo11 xs0 xs1)) := by
  have hp : pre c (ldOf M x0 x1 x2 x3 x4 x5 x6 x7) i (baseB M xo11 xs0 xs1) = preG c (ldOf M x0 x1 x2 x3 x4 x5 x6 x7) i (baseB M xo11 xs0 xs1) (A1 c (ldOf M x0 x1 x2 x3 x4 x5 x6 x7) i (baseB M xo11 xs0 xs1)).2.1 (A1 c (ldOf M x0 x1 x2 x3 x4 x5 x6 x7) i (baseB M xo11 xs0 xs1)).2.2.1 (A1 c (ldOf M x0 x1 x2 x3 x4 x5 x6 x7) i (baseB M xo11 xs0 xs1)).2.2.2 := by
    rw [preG_eq]; unfold pre baseB; simp only [List.append_nil]
  rw [hp]
  delta kernelRun0_B
  rfl

set_option maxHeartbeats 4000000 in
theorem runB_H8 (hc0 : ¬cond0_0 i) (hc1 : ¬cond0_1 i) (hc2 : ¬cond0_2 i) (xo11 : Vec Ideal S32x8x128 .f32) (xs0 xs1 : Vec Ideal S4096x128 .f32) :
    (kernelRun0_B (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1).2.2.2.1
      = Dg.H8 (ldOf M x0 x1 x2 x3 x4 x5 x6 x7) i (pre c (ldOf M x0 x1 x2 x3 x4 x5 x6 x7) i (baseB M xo11 xs0 xs1)) := by
  have hp : pre c (ldOf M x0 x1 x2 x3 x4 x5 x6 x7) i (baseB M xo11 xs0 xs1) = preG c (ldOf M x0 x1 x2 x3 x4 x5 x6 x7) i (baseB M xo11 xs0 xs1) (A1 c (ldOf M x0 x1 x2 x3 x4 x5 x6 x7) i (baseB M xo11 xs0 xs1)).2.1 (A1 c (ldOf M x0 x1 x2 x3 x4 x5 x6 x7) i (baseB M xo11 xs0 xs1)).2.2.1 (A1 c (ldOf M x0 x1 x2 x3 x4 x5 x6 x7) i (baseB M xo11 xs0 xs1)).2.2.2 := by
    rw [preG_eq]; unfold pre baseB; simp only [List.append_nil]
  rw [hp]
  delta kernelRun0_B
  rfl

set_option maxHeartbeats 4000000 in
theorem runB_HR (hc0 : ¬cond0_0 i) (hc1 : ¬cond0_1 i) (hc2 : ¬cond0_2 i) (xo11 : Vec Ideal S32x8x128 .f32) (xs0 xs1 : Vec Ideal S4096x128 .f32) :
    (kernelRun0_B (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1).2.2.2.2.1
      = Dg.HR (ldOf M x0 x1 x2 x3 x4 x5 x6 x7) i (pre c (ldOf M x0 x1 x2 x3 x4 x5 x6 x7) i (baseB M xo11 xs0 xs1)) := by
  have hp : pre c (ldOf M x0 x1 x2 x3 x4 x5 x6 x7) i (baseB M xo11 xs0 xs1) = preG c (ldOf M x0 x1 x2 x3 x4 x5 x6 x7) i (baseB M xo11 xs0 xs1) (A1 c (ldOf M x0 x1 x2 x3 x4 x5 x6 x7) i (baseB M xo11 xs0 xs1)).2.1 (A1 c (ldOf M x0 x1 x2 x3 x4 x5 x6 x7) i (baseB M xo11 xs0 xs1)).2.2.1 (A1 c (ldOf M x0 x1 x2 x3 x4 x5 x6 x7) i (baseB M xo11 xs0 xs1)).2.2.2 := by
    rw [preG_eq]; unfold pre baseB; simp only [List.append_nil]
  rw [hp]
  delta kernelRun0_B
  rfl

set_option maxHeartbeats 4000000 in
theorem runB_H15 (hc0 : ¬cond0_0 i) (hc1 : ¬cond0_1 i) (hc2 : ¬cond0_2 i) (xo11 : Vec Ideal S32x8x128 .f32) (xs0 xs1 : Vec Ideal S4096x128 .f32) :
    (kernelRun0_B (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1).2.2.2.2.2.1
      = Dg.H15 (ldOf M x0 x1 x2 x3 x4 x5 x6 x7) i (pre c (ldOf M x0 x1 x2 x3 x4 x5 x6 x7) i (baseB M xo11 xs0 xs1)) := by
  have hp : pre c (ldOf M x0 x1 x2 x3 x4 x5 x6 x7) i (baseB M xo11 xs0 xs1) = preG c (ldOf M x0 x1 x2 x3 x4 x5 x6 x7) i (baseB M xo11 xs0 xs1) (A1 c (ldOf M x0 x1 x2 x3 x4 x5 x6 x7) i (baseB M xo11 xs0 xs1)).2.1 (A1 c (ldOf M x0 x1 x2 x3 x4 x5 x6 x7) i (baseB M xo11 xs0 xs1)).2.2.1 (A1 c (ldOf M x0 x1 x2 x3 x4 x5 x6 x7) i (baseB M xo11 xs0 xs1)).2.2.2 := by
    rw [preG_eq]; unfold pre baseB; simp only [List.append_nil]
  rw [hp]
  delta kernelRun0_B
  rfl

set_option maxHeartbeats 4000000 in
theorem runB_H16 (hc0 : ¬cond0_0 i) (hc1 : ¬cond0_1 i) (hc2 : ¬cond0_2 i) (xo11 : Vec Ideal S32x8x128 .f32) (xs0 xs1 : Vec Ideal S4096x128 .f32) :
    (kernelRun0_B (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1).2.2.2.2.2.2.1
      = Dg.H16 (ldOf M x0 x1 x2 x3 x4 x5 x6 x7) i (pre c (ldOf M x0 x1 x2 x3 x4 x5 x6 x7) i (baseB M xo11 xs0 xs1)) := by
  have hp : pre c (ldOf M x0 x1 x2 x3 x4 x5 x6 x7) i (baseB M xo11 xs0 xs1) = preG c (ldOf M x0 x1 x2 x3 x4 x5 x6 x7) i (baseB M xo11 xs0 xs1) (A1 c (ldOf M x0 x1 x2 x3 x4 x5 x6 x7) i (baseB M xo11 xs0 xs1)).2.1 (A1 c (ldOf M x0 x1 x2 x3 x4 x5 x6 x7) i (baseB M xo11 xs0 xs1)).2.2.1 (A1 c (ldOf M x0 x1 x2 x3 x4 x5 x6 x7) i (baseB M xo11 xs0 xs1)).2.2.2 := by
    rw [preG_eq]; unfold pre baseB; simp only [List.append_nil]
  rw [hp]
  delta kernelRun0_B
  rfl

end Cert.KernelIdeal.Gen
-- ==== Proof.CaseB.lean ====
module

public import proofs.«01_k».proof.Proof.StepRead
public import proofs.«01_k».proof.Proof.RunsB

@[expose] public section

set_option maxRecDepth 16384

noncomputable section

namespace Cert.KernelIdeal.Gen

open Idealize.ShloMosaic Idealize.ShloMosaic.TcCoe Idealize.SL.Sem

variable {M : Mem}

variable (c : Dev nD) (i : grid0.Coords) (x0 : Vec Ideal S512x128 .bf16) (x1 x2 : Vec Ideal S4096x128 .bf16) (x3 : Vec Ideal S512x128 .f32)
  (x4 : Vec Ideal S32x8x128 .f32) (x5 x6 : Vec Ideal S512x128 .bf16) (x7 : Vec Ideal S2x512x128 .f32)

theorem caseB_8 (hc0 : ¬cond0_0 i) (hc1 : ¬cond0_1 i) (hc2 : ¬cond0_2 i) (xo11 : Vec Ideal S32x8x128 .f32) (xs0 xs1 : Vec Ideal S4096x128 .f32) (r : Fin 512) (l : Fin 128) :
    out0_B_8 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1 (ix2 r l)
      = (if 64 ≤ l.val then (ldOf M x0 x1 x2 x3 x4 x5 x6 x7).tq i true r l else (ldOf M x0 x1 x2 x3 x4 x5 x6 x7).tq i false r l) * Ideal.ofBits .f32 0x3E000000#32 := by
  unfold out0_B_8
  rw [runB_HQ c i x0 x1 x2 x3 x4 x5 x6 x7 hc0 hc1 hc2 xo11 xs0 xs1]
  exact (read8 _ _ _ _ _ r l).trans (step8 _ _ _ _ r l)

theorem caseB_12 (hc0 : ¬cond0_0 i) (hc1 : ¬cond0_1 i) (hc2 : ¬cond0_2 i) (xo11 : Vec Ideal S32x8x128 .f32) (xs0 xs1 : Vec Ideal S4096x128 .f32) (r : Fin 512) (l : Fin 128) :
    out0_B_12 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1 (ix3 0 r l)
      = if l = lane (headOf i false) then (ldOf M x0 x1 x2 x3 x4 x5 x6 x7).tr i false r else if l = lane (headOf i true) then (ldOf M x0 x1 x2 x3 x4 x5 x6 x7).tr i true r else 0 := by
  unfold out0_B_12
  rw [runB_HR c i x0 x1 x2 x3 x4 x5 x6 x7 hc0 hc1 hc2 xo11 xs0 xs1]
  exact (read12 _ _ _ _ _ r l).trans (step12 _ _ _ _ r l)

theorem caseB_13 (hc0 : ¬cond0_0 i) (hc1 : ¬cond0_1 i) (hc2 : ¬cond0_2 i) (xo11 : Vec Ideal S32x8x128 .f32) (xs0 xs1 : Vec Ideal S4096x128 .f32) (kb : Fin 8) (j : Fin 4) (h : Fin 8) (l : Fin 128) :
    out0_B_11 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1 (ix3 (rowOf kb j) h l)
      = xo11 (ix3 (rowOf kb j) h l) + (ldOf M x0 x1 x2 x3 x4 x5 x6 x7).t13 i kb h (tileCol j l) := by
  unfold out0_B_11
  rw [runB_H8 c i x0 x1 x2 x3 x4 x5 x6 x7 hc0 hc1 hc2 xo11 xs0 xs1]
  refine (step13 c (ldOf M x0 x1 x2 x3 x4 x5 x6 x7) i (baseB M xo11 xs0 xs1) _ _ _ _).trans ?_
  exact congrArg (· + _) (congrFun (M.h13.read_unread _) _)

theorem caseB_15 (hc0 : ¬cond0_0 i) (hc1 : ¬cond0_1 i) (hc2 : ¬cond0_2 i) (xo11 : Vec Ideal S32x8x128 .f32) (xs0 xs1 : Vec Ideal S4096x128 .f32) (kb : Fin 8) (x : Fin 512) (l : Fin 128) :
    sout0_B_0 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1 (ix2 (tileRow kb x) l)
      = xs0 (ix2 (tileRow kb x) l) + (ldOf M x0 x1 x2 x3 x4 x5 x6 x7).t15 i kb x l := by
  unfold sout0_B_0
  rw [runB_H15 c i x0 x1 x2 x3 x4 x5 x6 x7 hc0 hc1 hc2 xo11 xs0 xs1]
  refine (step15 c (ldOf M x0 x1 x2 x3 x4 x5 x6 x7) i (baseB M xo11 xs0 xs1) _ _ _).trans ?_
  exact congrArg (· + _) (congrFun (M.h15.read_unread _) _)

theorem caseB_16 (hc0 : ¬cond0_0 i) (hc1 : ¬cond0_1 i) (hc2 : ¬cond0_2 i) (xo11 : Vec Ideal S32x8x128 .f32) (xs0 xs1 : Vec Ideal S4096x128 .f32) (kb : Fin 8) (x : Fin 512) (l : Fin 128) :
    sout0_B_1 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1 (ix2 (tileRow kb x) l)
      = xs1 (ix2 (tileRow kb x) l) + (ldOf M x0 x1 x2 x3 x4 x5 x6 x7).t16 i kb x l := by
  unfold sout0_B_1
  rw [runB_H16 c i x0 x1 x2 x3 x4 x5 x6 x7 hc0 hc1 hc2 xo11 xs0 xs1]
  refine (step16 c (ldOf M x0 x1 x2 x3 x4 x5 x6 x7) i (baseB M xo11 xs0 xs1) _ _ _).trans ?_
  exact congrArg (· + _) (congrFun (M.h16.read_unread _) _)

end Cert.KernelIdeal.Gen
-- ==== Proof.RunsC.lean ====
module

public import proofs.«01_k».proof.Proof.RunBase
public import proofs.«01_k».proof.Proof.Gen.KernelIdeal.Frame

@[expose] public section

set_option maxRecDepth 16384

noncomputable section

namespace Cert.KernelIdeal.Gen

open Idealize.ShloMosaic Idealize.ShloMosaic.TcCoe Idealize.SL.Sem

variable {M : Mem}

variable (c : Dev nD) (i : grid0.Coords) (x0 : Vec Ideal S512x128 .bf16) (x1 x2 : Vec Ideal S4096x128 .bf16) (x3 : Vec Ideal S512x128 .f32)
  (x4 : Vec Ideal S32x8x128 .f32) (x5 x6 : Vec Ideal S512x128 .bf16) (x7 : Vec Ideal S2x512x128 .f32)

set_option maxHeartbeats 4000000 in
theorem runC_HQ (hc0 : ¬cond0_0 i) (hc1 : ¬cond0_1 i) (hc2 : cond0_2 i) (xo11 : Vec Ideal S32x8x128 .f32) (xs0 xs1 : Vec Ideal S4096x128 .f32) :
    (kernelRun0_C (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1).1
      = Dg.HQ (ldOf M x0 x1 x2 x3 x4 x5 x6 x7) i (pre c (ldOf M x0 x1 x2 x3 x4 x5 x6 x7) i (baseB M xo11 xs0 xs1)) := by
  have hp : pre c (ldOf M x0 x1 x2 x3 x4 x5 x6 x7) i (baseB M xo11 xs0 xs1) = preG c (ldOf M x0 x1 x2 x3 x4 x5 x6 x7) i (baseB M xo11 xs0 xs1) (A1 c (ldOf M x0 x1 x2 x3 x4 x5 x6 x7) i (baseB M xo11 xs0 xs1)).2.1 (A1 c (ldOf M x0 x1 x2 x3 x4 x5 x6 x7) i (baseB M xo11 xs0 xs1)).2.2.1 (A1 c (ldOf M x0 x1 x2 x3 x4 x5 x6 x7) i (baseB M xo11 xs0 xs1)).2.2.2 := by
    rw [preG_eq]; unfold pre baseB; simp only [List.append_nil]
  rw [hp]
  delta kernelRun0_C
  rfl

set_option maxHeartbeats 4000000 in
theorem runC_H8 (hc0 : ¬cond0_0 i) (hc1 : ¬cond0_1 i) (hc2 : cond0_2 i) (xo11 : Vec Ideal S32x8x128 .f32) (xs0 xs1 : Vec Ideal S4096x128 .f32) :
    (kernelRun0_C (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1).2.2.2.1
      = Dg.H8 (ldOf M x0 x1 x2 x3 x4 x5 x6 x7) i (pre c (ldOf M x0 x1 x2 x3 x4 x5 x6 x7) i (baseB M xo11 xs0 xs1)) := by
  have hp : pre c (ldOf M x0 x1 x2 x3 x4 x5 x6 x7) i (baseB M xo11 xs0 xs1) = preG c (ldOf M x0 x1 x2 x3 x4 x5 x6 x7) i (baseB M xo11 xs0 xs1) (A1 c (ldOf M x0 x1 x2 x3 x4 x5 x6 x7) i (baseB M xo11 xs0 xs1)).2.1 (A1 c (ldOf M x0 x1 x2 x3 x4 x5 x6 x7) i (baseB M xo11 xs0 xs1)).2.2.1 (A1 c (ldOf M x0 x1 x2 x3 x4 x5 x6 x7) i (baseB M xo11 xs0 xs1)).2.2.2 := by
    rw [preG_eq]; unfold pre baseB; simp only [List.append_nil]
  rw [hp]
  delta kernelRun0_C
  rfl

set_option maxHeartbeats 4000000 in
theorem runC_HR (hc0 : ¬cond0_0 i) (hc1 : ¬cond0_1 i) (hc2 : cond0_2 i) (xo11 : Vec Ideal S32x8x128 .f32) (xs0 xs1 : Vec Ideal S4096x128 .f32) :
    (kernelRun0_C (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1).2.2.2.2.1
      = Dg.HR (ldOf M x0 x1 x2 x3 x4 x5 x6 x7) i (pre c (ldOf M x0 x1 x2 x3 x4 x5 x6 x7) i (baseB M xo11 xs0 xs1)) := by
  have hp : pre c (ldOf M x0 x1 x2 x3 x4 x5 x6 x7) i (baseB M xo11 xs0 xs1) = preG c (ldOf M x0 x1 x2 x3 x4 x5 x6 x7) i (baseB M xo11 xs0 xs1) (A1 c (ldOf M x0 x1 x2 x3 x4 x5 x6 x7) i (baseB M xo11 xs0 xs1)).2.1 (A1 c (ldOf M x0 x1 x2 x3 x4 x5 x6 x7) i (baseB M xo11 xs0 xs1)).2.2.1 (A1 c (ldOf M x0 x1 x2 x3 x4 x5 x6 x7) i (baseB M xo11 xs0 xs1)).2.2.2 := by
    rw [preG_eq]; unfold pre baseB; simp only [List.append_nil]
  rw [hp]
  delta kernelRun0_C
  rfl

set_option maxHeartbeats 4000000 in
theorem runC_H15 (hc0 : ¬cond0_0 i) (hc1 : ¬cond0_1 i) (hc2 : cond0_2 i) (xo11 : Vec Ideal S32x8x128 .f32) (xs0 xs1 : Vec Ideal S4096x128 .f32) :
    (kernelRun0_C (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1).2.2.2.2.2.1
      = Dg.H15 (ldOf M x0 x1 x2 x3 x4 x5 x6 x7) i (pre c (ldOf M x0 x1 x2 x3 x4 x5 x6 x7) i (baseB M xo11 xs0 xs1)) := by
  have hp : pre c (ldOf M x0 x1 x2 x3 x4 x5 x6 x7) i (baseB M xo11 xs0 xs1) = preG c (ldOf M x0 x1 x2 x3 x4 x5 x6 x7) i (baseB M xo11 xs0 xs1) (A1 c (ldOf M x0 x1 x2 x3 x4 x5 x6 x7) i (baseB M xo11 xs0 xs1)).2.1 (A1 c (ldOf M x0 x1 x2 x3 x4 x5 x6 x7) i (baseB M xo11 xs0 xs1)).2.2.1 (A1 c (ldOf M x0 x1 x2 x3 x4 x5 x6 x7) i (baseB M xo11 xs0 xs1)).2.2.2 := by
    rw [preG_eq]; unfold pre baseB; simp only [List.append_nil]
  rw [hp]
  delta kernelRun0_C
  rfl

set_option maxHeartbeats 4000000 in
theorem runC_H16 (hc0 : ¬cond0_0 i) (hc1 : ¬cond0_1 i) (hc2 : cond0_2 i) (xo11 : Vec Ideal S32x8x128 .f32) (xs0 xs1 : Vec Ideal S4096x128 .f32) :
    (kernelRun0_C (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1).2.2.2.2.2.2.1
      = Dg.H16 (ldOf M x0 x1 x2 x3 x4 x5 x6 x7) i (pre c (ldOf M x0 x1 x2 x3 x4 x5 x6 x7) i (baseB M xo11 xs0 xs1)) := by
  have hp : pre c (ldOf M x0 x1 x2 x3 x4 x5 x6 x7) i (baseB M xo11 xs0 xs1) = preG c (ldOf M x0 x1 x2 x3 x4 x5 x6 x7) i (baseB M xo11 xs0 xs1) (A1 c (ldOf M x0 x1 x2 x3 x4 x5 x6 x7) i (baseB M xo11 xs0 xs1)).2.1 (A1 c (ldOf M x0 x1 x2 x3 x4 x5 x6 x7) i (baseB M xo11 xs0 xs1)).2.2.1 (A1 c (ldOf M x0 x1 x2 x3 x4 x5 x6 x7) i (baseB M xo11 xs0 xs1)).2.2.2 := by
    rw [preG_eq]; unfold pre baseB; simp only [List.append_nil]
  rw [hp]
  delta kernelRun0_C
  rfl

end Cert.KernelIdeal.Gen
-- ==== Proof.RunsC2.lean ====
module

public import proofs.«01_k».proof.Proof.RunBase
public import proofs.«01_k».proof.Proof.Gen.KernelIdeal.Frame

@[expose] public section

set_option maxRecDepth 16384

noncomputable section

namespace Cert.KernelIdeal.Gen

open Idealize.ShloMosaic Idealize.ShloMosaic.TcCoe Idealize.SL.Sem

variable {M : Mem}

/-- The key gradients, all rows stored at once. -/
def whole9 (f : BufTy.Contents (Elt Ideal) M.a15.view.ty) : List (View.Piece (Elt Ideal) S4096x128 .bf16) :=
  [⟨Rect.unit (s := S4096x128) ![0, 0] S4096x128.size inb_S4096x128_S4096x128_0_0,
    k0_pay2 (F := Ideal) (View.readAt (Elt Ideal) M.a15.view (Rect.unit (s := S4096x128) ![0, 0] S4096x128.size inb_S4096x128_S4096x128_0_0).toLoadRect f)⟩]

/-- The value gradients, all rows stored at once. -/
def whole10 (f : BufTy.Contents (Elt Ideal) M.a16.view.ty) : List (View.Piece (Elt Ideal) S4096x128 .bf16) :=
  [⟨Rect.unit (s := S4096x128) ![0, 0] S4096x128.size inb_S4096x128_S4096x128_0_0,
    k0_pay3 (F := Ideal) (View.readAt (Elt Ideal) M.a16.view (Rect.unit (s := S4096x128) ![0, 0] S4096x128.size inb_S4096x128_S4096x128_0_0).toLoadRect f)⟩]

variable (c : Dev nD) (i : grid0.Coords) (x0 : Vec Ideal S512x128 .bf16) (x1 x2 : Vec Ideal S4096x128 .bf16) (x3 : Vec Ideal S512x128 .f32)
  (x4 : Vec Ideal S32x8x128 .f32) (x5 x6 : Vec Ideal S512x128 .bf16) (x7 : Vec Ideal S2x512x128 .f32)

set_option maxHeartbeats 4000000 in
theorem runC_L9 (hc0 : ¬cond0_0 i) (hc1 : ¬cond0_1 i) (hc2 : cond0_2 i) (xo11 : Vec Ideal S32x8x128 .f32) (xs0 xs1 : Vec Ideal S4096x128 .f32) :
    (kernelRun0_C (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1).2.1
      = whole9 (M.a15.view.writes (Elt Ideal) (M.h15.unread xs0) (Dg.H15 (ldOf M x0 x1 x2 x3 x4 x5 x6 x7) i (pre c (ldOf M x0 x1 x2 x3 x4 x5 x6 x7) i (baseB M xo11 xs0 xs1)))) := by
  have hp : pre c (ldOf M x0 x1 x2 x3 x4 x5 x6 x7) i (baseB M xo11 xs0 xs1) = preG c (ldOf M x0 x1 x2 x3 x4 x5 x6 x7) i (baseB M xo11 xs0 xs1) (A1 c (ldOf M x0 x1 x2 x3 x4 x5 x6 x7) i (baseB M xo11 xs0 xs1)).2.1 (A1 c (ldOf M x0 x1 x2 x3 x4 x5 x6 x7) i (baseB M xo11 xs0 xs1)).2.2.1 (A1 c (ldOf M x0 x1 x2 x3 x4 x5 x6 x7) i (baseB M xo11 xs0 xs1)).2.2.2 := by
    rw [preG_eq]; unfold pre baseB; simp only [List.append_nil]
  rw [hp]
  delta kernelRun0_C
  rfl

set_option maxHeartbeats 4000000 in
theorem runC_L10 (hc0 : ¬cond0_0 i) (hc1 : ¬cond0_1 i) (hc2 : cond0_2 i) (xo11 : Vec Ideal S32x8x128 .f32) (xs0 xs1 : Vec Ideal S4096x128 .f32) :
    (kernelRun0_C (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1).2.2.1
      = whole10 (M.a16.view.writes (Elt Ideal) (M.h16.unread xs1) (Dg.H16 (ldOf M x0 x1 x2 x3 x4 x5 x6 x7) i (pre c (ldOf M x0 x1 x2 x3 x4 x5 x6 x7) i (baseB M xo11 xs0 xs1)))) := by
  have hp : pre c (ldOf M x0 x1 x2 x3 x4 x5 x6 x7) i (baseB M xo11 xs0 xs1) = preG c (ldOf M x0 x1 x2 x3 x4 x5 x6 x7) i (baseB M xo11 xs0 xs1) (A1 c (ldOf M x0 x1 x2 x3 x4 x5 x6 x7) i (baseB M xo11 xs0 xs1)).2.1 (A1 c (ldOf M x0 x1 x2 x3 x4 x5 x6 x7) i (baseB M xo11 xs0 xs1)).2.2.1 (A1 c (ldOf M x0 x1 x2 x3 x4 x5 x6 x7) i (baseB M xo11 xs0 xs1)).2.2.2 := by
    rw [preG_eq]; unfold pre baseB; simp only [List.append_nil]
  rw [hp]
  delta kernelRun0_C
  rfl

end Cert.KernelIdeal.Gen
-- ==== Proof.CaseC.lean ====
module

public import proofs.«01_k».proof.Proof.StepRead
public import proofs.«01_k».proof.Proof.RunsC
public import proofs.«01_k».proof.Proof.RunsC2

@[expose] public section

set_option maxRecDepth 16384

noncomputable section

namespace Cert.KernelIdeal.Gen

open Idealize.ShloMosaic Idealize.ShloMosaic.TcCoe Idealize.SL.Sem

variable {M : Mem}

variable (c : Dev nD) (i : grid0.Coords) (x0 : Vec Ideal S512x128 .bf16) (x1 x2 : Vec Ideal S4096x128 .bf16) (x3 : Vec Ideal S512x128 .f32)
  (x4 : Vec Ideal S32x8x128 .f32) (x5 x6 : Vec Ideal S512x128 .bf16) (x7 : Vec Ideal S2x512x128 .f32)

theorem caseC_8 (hc0 : ¬cond0_0 i) (hc1 : ¬cond0_1 i) (hc2 : cond0_2 i) (xo11 : Vec Ideal S32x8x128 .f32) (xs0 xs1 : Vec Ideal S4096x128 .f32) (r : Fin 512) (l : Fin 128) :
    out0_C_8 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1 (ix2 r l)
      = (if 64 ≤ l.val then (ldOf M x0 x1 x2 x3 x4 x5 x6 x7).tq i true r l else (ldOf M x0 x1 x2 x3 x4 x5 x6 x7).tq i false r l) * Ideal.ofBits .f32 0x3E000000#32 := by
  unfold out0_C_8
  rw [runC_HQ c i x0 x1 x2 x3 x4 x5 x6 x7 hc0 hc1 hc2 xo11 xs0 xs1]
  exact (read8 _ _ _ _ _ r l).trans (step8 _ _ _ _ r l)

theorem caseC_12 (hc0 : ¬cond0_0 i) (hc1 : ¬cond0_1 i) (hc2 : cond0_2 i) (xo11 : Vec Ideal S32x8x128 .f32) (xs0 xs1 : Vec Ideal S4096x128 .f32) (r : Fin 512) (l : Fin 128) :
    out0_C_12 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1 (ix3 0 r l)
      = if l = lane (headOf i false) then (ldOf M x0 x1 x2 x3 x4 x5 x6 x7).tr i false r else if l = lane (headOf i true) then (ldOf M x0 x1 x2 x3 x4 x5 x6 x7).tr i true r else 0 := by
  unfold out0_C_12
  rw [runC_HR c i x0 x1 x2 x3 x4 x5 x6 x7 hc0 hc1 hc2 xo11 xs0 xs1]
  exact (read12 _ _ _ _ _ r l).trans (step12 _ _ _ _ r l)

theorem caseC_13 (hc0 : ¬cond0_0 i) (hc1 : ¬cond0_1 i) (hc2 : cond0_2 i) (xo11 : Vec Ideal S32x8x128 .f32) (xs0 xs1 : Vec Ideal S4096x128 .f32) (kb : Fin 8) (j : Fin 4) (h : Fin 8) (l : Fin 128) :
    out0_C_11 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1 (ix3 (rowOf kb j) h l)
      = xo11 (ix3 (rowOf kb j) h l) + (ldOf M x0 x1 x2 x3 x4 x5 x6 x7).t13 i kb h (tileCol j l) := by
  unfold out0_C_11
  rw [runC_H8 c i x0 x1 x2 x3 x4 x5 x6 x7 hc0 hc1 hc2 xo11 xs0 xs1]
  refine (step13 c (ldOf M x0 x1 x2 x3 x4 x5 x6 x7) i (baseB M xo11 xs0 xs1) _ _ _ _).trans ?_
  exact congrArg (· + _) (congrFun (M.h13.read_unread _) _)

theorem caseC_15 (hc0 : ¬cond0_0 i) (hc1 : ¬cond0_1 i) (hc2 : cond0_2 i) (xo11 : Vec Ideal S32x8x128 .f32) (xs0 xs1 : Vec Ideal S4096x128 .f32) (kb : Fin 8) (x : Fin 512) (l : Fin 128) :
    sout0_C_0 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1 (ix2 (tileRow kb x) l)
      = xs0 (ix2 (tileRow kb x) l) + (ldOf M x0 x1 x2 x3 x4 x5 x6 x7).t15 i kb x l := by
  unfold sout0_C_0
  rw [runC_H15 c i x0 x1 x2 x3 x4 x5 x6 x7 hc0 hc1 hc2 xo11 xs0 xs1]
  refine (step15 c (ldOf M x0 x1 x2 x3 x4 x5 x6 x7) i (baseB M xo11 xs0 xs1) _ _ _).trans ?_
  exact congrArg (· + _) (congrFun (M.h15.read_unread _) _)

theorem caseC_16 (hc0 : ¬cond0_0 i) (hc1 : ¬cond0_1 i) (hc2 : cond0_2 i) (xo11 : Vec Ideal S32x8x128 .f32) (xs0 xs1 : Vec Ideal S4096x128 .f32) (kb : Fin 8) (x : Fin 512) (l : Fin 128) :
    sout0_C_1 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1 (ix2 (tileRow kb x) l)
      = xs1 (ix2 (tileRow kb x) l) + (ldOf M x0 x1 x2 x3 x4 x5 x6 x7).t16 i kb x l := by
  unfold sout0_C_1
  rw [runC_H16 c i x0 x1 x2 x3 x4 x5 x6 x7 hc0 hc1 hc2 xo11 xs0 xs1]
  refine (step16 c (ldOf M x0 x1 x2 x3 x4 x5 x6 x7) i (baseB M xo11 xs0 xs1) _ _ _).trans ?_
  exact congrArg (· + _) (congrFun (M.h16.read_unread _) _)

theorem pay2_eq (x : FVec Ideal S4096x128 .f32) (y : S4096x128.Idx) : k0_pay2 (F := Ideal) x y = x y := by
  idx_vars y
  pointwise [k0_pay2]

theorem pay3_eq (x : FVec Ideal S4096x128 .f32) (y : S4096x128.Idx) : k0_pay3 (F := Ideal) x y = x y := by
  idx_vars y
  pointwise [k0_pay3]

theorem read9 (v : View sig .tc .vmem S4096x128 .bf16) (g : BufTy.Contents (Elt Ideal) v.ty) (f : BufTy.Contents (Elt Ideal) M.a15.view.ty) :
    v.read (Elt Ideal) (v.writes (Elt Ideal) g (whole9 f)) = M.a15.view.read (Elt Ideal) f := by
  funext y
  refine (View.read_writes_cons_unit_of_mem v g _ _ _ y y rfl (by intro a; fin_cases a <;> exact (Nat.zero_add _).symm)).trans ?_
  exact (pay2_eq _ y).trans (congrFun (View.readAt_full M.a15.view f _) y)

theorem read10 (v : View sig .tc .vmem S4096x128 .bf16) (g : BufTy.Contents (Elt Ideal) v.ty) (f : BufTy.Contents (Elt Ideal) M.a16.view.ty) :
    v.read (Elt Ideal) (v.writes (Elt Ideal) g (whole10 f)) = M.a16.view.read (Elt Ideal) f := by
  funext y
  refine (View.read_writes_cons_unit_of_mem v g _ _ _ y y rfl (by intro a; fin_cases a <;> exact (Nat.zero_add _).symm)).trans ?_
  exact (pay3_eq _ y).trans (congrFun (View.readAt_full M.a16.view f _) y)

theorem caseC_9 (hc0 : ¬cond0_0 i) (hc1 : ¬cond0_1 i) (hc2 : cond0_2 i) (xo11 : Vec Ideal S32x8x128 .f32) (xs0 xs1 : Vec Ideal S4096x128 .f32) :
    out0_C_9 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1 = sout0_C_0 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1 := by
  have h1 : out0_C_9 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1 = M.a15.view.read (Elt Ideal) (M.a15.view.writes (Elt Ideal) (M.h15.unread xs0) (Dg.H15 (ldOf M x0 x1 x2 x3 x4 x5 x6 x7) i (pre c (ldOf M x0 x1 x2 x3 x4 x5 x6 x7) i (baseB M xo11 xs0 xs1)))) := by
    unfold out0_C_9
    rw [runC_L9 c i x0 x1 x2 x3 x4 x5 x6 x7 hc0 hc1 hc2 xo11 xs0 xs1]
    exact read9 _ _ _
  have h2 : sout0_C_0 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1 = M.a15.view.read (Elt Ideal) (M.a15.view.writes (Elt Ideal) (M.h15.unread xs0) (Dg.H15 (ldOf M x0 x1 x2 x3 x4 x5 x6 x7) i (pre c (ldOf M x0 x1 x2 x3 x4 x5 x6 x7) i (baseB M xo11 xs0 xs1)))) := by
    unfold sout0_C_0
    rw [runC_H15 c i x0 x1 x2 x3 x4 x5 x6 x7 hc0 hc1 hc2 xo11 xs0 xs1]
  exact h1.trans h2.symm

theorem caseC_10 (hc0 : ¬cond0_0 i) (hc1 : ¬cond0_1 i) (hc2 : cond0_2 i) (xo11 : Vec Ideal S32x8x128 .f32) (xs0 xs1 : Vec Ideal S4096x128 .f32) :
    out0_C_10 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1 = sout0_C_1 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1 := by
  have h1 : out0_C_10 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1 = M.a16.view.read (Elt Ideal) (M.a16.view.writes (Elt Ideal) (M.h16.unread xs1) (Dg.H16 (ldOf M x0 x1 x2 x3 x4 x5 x6 x7) i (pre c (ldOf M x0 x1 x2 x3 x4 x5 x6 x7) i (baseB M xo11 xs0 xs1)))) := by
    unfold out0_C_10
    rw [runC_L10 c i x0 x1 x2 x3 x4 x5 x6 x7 hc0 hc1 hc2 xo11 xs0 xs1]
    exact read10 _ _ _
  have h2 : sout0_C_1 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 xs0 xs1 = M.a16.view.read (Elt Ideal) (M.a16.view.writes (Elt Ideal) (M.h16.unread xs1) (Dg.H16 (ldOf M x0 x1 x2 x3 x4 x5 x6 x7) i (pre c (ldOf M x0 x1 x2 x3 x4 x5 x6 x7) i (baseB M xo11 xs0 xs1)))) := by
    unfold sout0_C_1
    rw [runC_H16 c i x0 x1 x2 x3 x4 x5 x6 x7 hc0 hc1 hc2 xo11 xs0 xs1]
  exact h1.trans h2.symm

end Cert.KernelIdeal.Gen
-- ==== Proof.RunsD.lean ====
module

public import proofs.«01_k».proof.Proof.RunBase
public import proofs.«01_k».proof.Proof.Gen.KernelIdeal.Frame

@[expose] public section

set_option maxRecDepth 16384

noncomputable section

namespace Cert.KernelIdeal.Gen

open Idealize.ShloMosaic Idealize.ShloMosaic.TcCoe Idealize.SL.Sem

variable {M : Mem}

variable (c : Dev nD) (i : grid0.Coords) (x0 : Vec Ideal S512x128 .bf16) (x1 x2 : Vec Ideal S4096x128 .bf16) (x3 : Vec Ideal S512x128 .f32)
  (x4 : Vec Ideal S32x8x128 .f32) (x5 x6 : Vec Ideal S512x128 .bf16) (x7 : Vec Ideal S2x512x128 .f32)

set_option maxHeartbeats 4000000 in
theorem runD_HQ (hc0 : cond0_0 i) (hc1 : ¬cond0_1 i) (hc2 : ¬cond0_2 i) (xo11 : Vec Ideal S32x8x128 .f32) :
    (kernelRun0_D (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11).1
      = Dg.HQ (ldOf M x0 x1 x2 x3 x4 x5 x6 x7) i (pre c (ldOf M x0 x1 x2 x3 x4 x5 x6 x7) i (baseD M xo11)) := by
  have hp : pre c (ldOf M x0 x1 x2 x3 x4 x5 x6 x7) i (baseD M xo11) = preG c (ldOf M x0 x1 x2 x3 x4 x5 x6 x7) i (baseD M xo11) (A1 c (ldOf M x0 x1 x2 x3 x4 x5 x6 x7) i (baseD M xo11)).2.1 ((A1 c (ldOf M x0 x1 x2 x3 x4 x5 x6 x7) i (baseD M xo11)).2.2.1 ++ (baseD M xo11).H15) ((A1 c (ldOf M x0 x1 x2 x3 x4 x5 x6 x7) i (baseD M xo11)).2.2.2 ++ (baseD M xo11).H16) := by
    rw [preG_eq]; unfold pre baseD; simp only [List.append_nil]
  rw [hp]
  delta kernelRun0_D
  rfl

set_option maxHeartbeats 4000000 in
theorem runD_H8 (hc0 : cond0_0 i) (hc1 : ¬cond0_1 i) (hc2 : ¬cond0_2 i) (xo11 : Vec Ideal S32x8x128 .f32) :
    (kernelRun0_D (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11).2.2.2.1
      = Dg.H8 (ldOf M x0 x1 x2 x3 x4 x5 x6 x7) i (pre c (ldOf M x0 x1 x2 x3 x4 x5 x6 x7) i (baseD M xo11)) := by
  have hp : pre c (ldOf M x0 x1 x2 x3 x4 x5 x6 x7) i (baseD M xo11) = preG c (ldOf M x0 x1 x2 x3 x4 x5 x6 x7) i (baseD M xo11) (A1 c (ldOf M x0 x1 x2 x3 x4 x5 x6 x7) i (baseD M xo11)).2.1 ((A1 c (ldOf M x0 x1 x2 x3 x4 x5 x6 x7) i (baseD M xo11)).2.2.1 ++ (baseD M xo11).H15) ((A1 c (ldOf M x0 x1 x2 x3 x4 x5 x6 x7) i (baseD M xo11)).2.2.2 ++ (baseD M xo11).H16) := by
    rw [preG_eq]; unfold pre baseD; simp only [List.append_nil]
  rw [hp]
  delta kernelRun0_D
  rfl

set_option maxHeartbeats 4000000 in
theorem runD_HR (hc0 : cond0_0 i) (hc1 : ¬cond0_1 i) (hc2 : ¬cond0_2 i) (xo11 : Vec Ideal S32x8x128 .f32) :
    (kernelRun0_D (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11).2.2.2.2.1
      = Dg.HR (ldOf M x0 x1 x2 x3 x4 x5 x6 x7) i (pre c (ldOf M x0 x1 x2 x3 x4 x5 x6 x7) i (baseD M xo11)) := by
  have hp : pre c (ldOf M x0 x1 x2 x3 x4 x5 x6 x7) i (baseD M xo11) = preG c (ldOf M x0 x1 x2 x3 x4 x5 x6 x7) i (baseD M xo11) (A1 c (ldOf M x0 x1 x2 x3 x4 x5 x6 x7) i (baseD M xo11)).2.1 ((A1 c (ldOf M x0 x1 x2 x3 x4 x5 x6 x7) i (baseD M xo11)).2.2.1 ++ (baseD M xo11).H15) ((A1 c (ldOf M x0 x1 x2 x3 x4 x5 x6 x7) i (baseD M xo11)).2.2.2 ++ (baseD M xo11).H16) := by
    rw [preG_eq]; unfold pre baseD; simp only [List.append_nil]
  rw [hp]
  delta kernelRun0_D
  rfl

set_option maxHeartbeats 4000000 in
theorem runD_H15 (hc0 : cond0_0 i) (hc1 : ¬cond0_1 i) (hc2 : ¬cond0_2 i) (xo11 : Vec Ideal S32x8x128 .f32) :
    (kernelRun0_D (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11).2.2.2.2.2.1
      = Dg.H15 (ldOf M x0 x1 x2 x3 x4 x5 x6 x7) i (pre c (ldOf M x0 x1 x2 x3 x4 x5 x6 x7) i (baseD M xo11)) := by
  have hp : pre c (ldOf M x0 x1 x2 x3 x4 x5 x6 x7) i (baseD M xo11) = preG c (ldOf M x0 x1 x2 x3 x4 x5 x6 x7) i (baseD M xo11) (A1 c (ldOf M x0 x1 x2 x3 x4 x5 x6 x7) i (baseD M xo11)).2.1 ((A1 c (ldOf M x0 x1 x2 x3 x4 x5 x6 x7) i (baseD M xo11)).2.2.1 ++ (baseD M xo11).H15) ((A1 c (ldOf M x0 x1 x2 x3 x4 x5 x6 x7) i (baseD M xo11)).2.2.2 ++ (baseD M xo11).H16) := by
    rw [preG_eq]; unfold pre baseD; simp only [List.append_nil]
  rw [hp]
  delta kernelRun0_D
  rfl

set_option maxHeartbeats 4000000 in
theorem runD_H16 (hc0 : cond0_0 i) (hc1 : ¬cond0_1 i) (hc2 : ¬cond0_2 i) (xo11 : Vec Ideal S32x8x128 .f32) :
    (kernelRun0_D (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11).2.2.2.2.2.2.1
      = Dg.H16 (ldOf M x0 x1 x2 x3 x4 x5 x6 x7) i (pre c (ldOf M x0 x1 x2 x3 x4 x5 x6 x7) i (baseD M xo11)) := by
  have hp : pre c (ldOf M x0 x1 x2 x3 x4 x5 x6 x7) i (baseD M xo11) = preG c (ldOf M x0 x1 x2 x3 x4 x5 x6 x7) i (baseD M xo11) (A1 c (ldOf M x0 x1 x2 x3 x4 x5 x6 x7) i (baseD M xo11)).2.1 ((A1 c (ldOf M x0 x1 x2 x3 x4 x5 x6 x7) i (baseD M xo11)).2.2.1 ++ (baseD M xo11).H15) ((A1 c (ldOf M x0 x1 x2 x3 x4 x5 x6 x7) i (baseD M xo11)).2.2.2 ++ (baseD M xo11).H16) := by
    rw [preG_eq]; unfold pre baseD; simp only [List.append_nil]
  rw [hp]
  delta kernelRun0_D
  rfl

end Cert.KernelIdeal.Gen
-- ==== Proof.CaseD.lean ====
module

public import proofs.«01_k».proof.Proof.StepRead
public import proofs.«01_k».proof.Proof.RunsD

@[expose] public section

set_option maxRecDepth 16384

noncomputable section

namespace Cert.KernelIdeal.Gen

open Idealize.ShloMosaic Idealize.ShloMosaic.TcCoe Idealize.SL.Sem

variable {M : Mem}

variable (c : Dev nD) (i : grid0.Coords) (x0 : Vec Ideal S512x128 .bf16) (x1 x2 : Vec Ideal S4096x128 .bf16) (x3 : Vec Ideal S512x128 .f32)
  (x4 : Vec Ideal S32x8x128 .f32) (x5 x6 : Vec Ideal S512x128 .bf16) (x7 : Vec Ideal S2x512x128 .f32)

theorem caseD_8 (hc0 : cond0_0 i) (hc1 : ¬cond0_1 i) (hc2 : ¬cond0_2 i) (xo11 : Vec Ideal S32x8x128 .f32) (r : Fin 512) (l : Fin 128) :
    out0_D_8 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 (ix2 r l)
      = (if 64 ≤ l.val then (ldOf M x0 x1 x2 x3 x4 x5 x6 x7).tq i true r l else (ldOf M x0 x1 x2 x3 x4 x5 x6 x7).tq i false r l) * Ideal.ofBits .f32 0x3E000000#32 := by
  unfold out0_D_8
  rw [runD_HQ c i x0 x1 x2 x3 x4 x5 x6 x7 hc0 hc1 hc2 xo11]
  exact (read8 _ _ _ _ _ r l).trans (step8 _ _ _ _ r l)

theorem caseD_12 (hc0 : cond0_0 i) (hc1 : ¬cond0_1 i) (hc2 : ¬cond0_2 i) (xo11 : Vec Ideal S32x8x128 .f32) (r : Fin 512) (l : Fin 128) :
    out0_D_12 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 (ix3 0 r l)
      = if l = lane (headOf i false) then (ldOf M x0 x1 x2 x3 x4 x5 x6 x7).tr i false r else if l = lane (headOf i true) then (ldOf M x0 x1 x2 x3 x4 x5 x6 x7).tr i true r else 0 := by
  unfold out0_D_12
  rw [runD_HR c i x0 x1 x2 x3 x4 x5 x6 x7 hc0 hc1 hc2 xo11]
  exact (read12 _ _ _ _ _ r l).trans (step12 _ _ _ _ r l)

theorem caseD_13 (hc0 : cond0_0 i) (hc1 : ¬cond0_1 i) (hc2 : ¬cond0_2 i) (xo11 : Vec Ideal S32x8x128 .f32) (kb : Fin 8) (j : Fin 4) (h : Fin 8) (l : Fin 128) :
    out0_D_11 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 (ix3 (rowOf kb j) h l)
      = xo11 (ix3 (rowOf kb j) h l) + (ldOf M x0 x1 x2 x3 x4 x5 x6 x7).t13 i kb h (tileCol j l) := by
  unfold out0_D_11
  rw [runD_H8 c i x0 x1 x2 x3 x4 x5 x6 x7 hc0 hc1 hc2 xo11]
  refine (step13 c (ldOf M x0 x1 x2 x3 x4 x5 x6 x7) i (baseD M xo11) _ _ _ _).trans ?_
  exact congrArg (· + _) (congrFun (M.h13.read_unread _) _)

theorem caseD_15 (hc0 : cond0_0 i) (hc1 : ¬cond0_1 i) (hc2 : ¬cond0_2 i) (xo11 : Vec Ideal S32x8x128 .f32) (kb : Fin 8) (x : Fin 512) (l : Fin 128) :
    sout0_D_0 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 (ix2 (tileRow kb x) l)
      = (ldOf M x0 x1 x2 x3 x4 x5 x6 x7).t15 i kb x l := by
  unfold sout0_D_0
  rw [View.read_writes_of_cover VS0_0 VS0_0.junk M.a15.view M.a15.view.junk _ (scover0_D_0 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11), runD_H15 c i x0 x1 x2 x3 x4 x5 x6 x7 hc0 hc1 hc2 xo11]
  refine (step15 c (ldOf M x0 x1 x2 x3 x4 x5 x6 x7) i (baseD M xo11) _ _ _).trans ?_
  exact (congrArg (· + _) (zero15 _ _ _)).trans (zero_add _)

theorem caseD_16 (hc0 : cond0_0 i) (hc1 : ¬cond0_1 i) (hc2 : ¬cond0_2 i) (xo11 : Vec Ideal S32x8x128 .f32) (kb : Fin 8) (x : Fin 512) (l : Fin 128) :
    sout0_D_1 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11 (ix2 (tileRow kb x) l)
      = (ldOf M x0 x1 x2 x3 x4 x5 x6 x7).t16 i kb x l := by
  unfold sout0_D_1
  rw [View.read_writes_of_cover VS0_1 VS0_1.junk M.a16.view M.a16.view.junk _ (scover0_D_1 (F := Ideal) c i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 hc0 hc1 hc2 x0 x1 x2 x3 x4 x5 x6 x7 xo11), runD_H16 c i x0 x1 x2 x3 x4 x5 x6 x7 hc0 hc1 hc2 xo11]
  refine (step16 c (ldOf M x0 x1 x2 x3 x4 x5 x6 x7) i (baseD M xo11) _ _ _).trans ?_
  exact (congrArg (· + _) (zero16 _ _ _)).trans (zero_add _)

end Cert.KernelIdeal.Gen
-- ==== Proof.Points.lean ====
module

public import proofs.«01_k».proof.Proof.CaseA
public import proofs.«01_k».proof.Proof.CaseB
public import proofs.«01_k».proof.Proof.CaseC
public import proofs.«01_k».proof.Proof.CaseD

@[expose] public section

set_option maxRecDepth 16384
set_option maxHeartbeats 2000000

noncomputable section

namespace Cert.KernelIdeal.Gen

open Idealize.ShloMosaic Idealize.ShloMosaic.TcCoe Idealize.SL.Sem

variable (m : (ℓ : Loc nD τ sig) → Buf (Elt Ideal) ℓ) (c : Dev nD)

/-- The memory a point works in. -/
noncomputable def mm (t : Fin cfg0.N) : Mem :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, scM0_0, Memref.isWhole_whole _, scM0_1, Memref.isWhole_whole _⟩

/-- What a point loads. -/
noncomputable def ld (t : Fin cfg0.N) : Ld (mm t) :=
  ldOf (mm t) (iblk m c 0 t) (iblk m c 1 t) (iblk m c 2 t) (iblk m c 3 t) (iblk m c 4 t) (iblk m c 5 t) (iblk m c 6 t) (iblk m c 7 t)

/-- The point before. -/
theorem before (t : Fin cfg0.N) : t.val - 1 < cfg0.N := Nat.lt_of_le_of_lt (Nat.sub_le _ _) t.isLt

theorem at8 (t : Fin cfg0.N) (r : Fin 512) (l : Fin 128) :
    (outsAt0 m c t.val t.isLt).1 (ix2 r l) = (if 64 ≤ l.val then (ld m c t).tq (grid0.coords t) true r l else (ld m c t).tq (grid0.coords t) false r l) * Ideal.ofBits .f32 0x3E000000#32 := by
  by_cases h0 : t.val % 8 = 0
  · have h2 : ¬ t.val % 8 = 7 := by omega
    by_cases h1 : t.val % 32 = 0
    · exact (congrFun (show (outsAt0 m c t.val t.isLt).1 = out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) from by rw [outsAt0_A m c t h0 h1 h2]) _).trans (caseA_8 (M := mm t) c (grid0.coords t) (iblk m c 0 t) (iblk m c 1 t) (iblk m c 2 t) (iblk m c 3 t) (iblk m c 4 t) (iblk m c 5 t) (iblk m c 6 t) (iblk m c 7 t) ((hcond0_0 t).mpr h0) ((hcond0_1 t).mpr h1) (fun h => h2 ((hcond0_2 t).mp h)) r l)
    · exact (congrFun (show (outsAt0 m c t.val t.isLt).1 = out0_D_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (before t)).2.2.2.1 from by rw [outsAt0_D m c t h0 h1 h2]) _).trans (caseD_8 (M := mm t) c (grid0.coords t) (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h)) (fun h => h2 ((hcond0_2 t).mp h)) (outsAt0 m c (t.val - 1) (before t)).2.2.2.1 r l)
  · have h1 : ¬ t.val % 32 = 0 := by omega
    by_cases h2 : t.val % 8 = 7
    · exact (congrFun (show (outsAt0 m c t.val t.isLt).1 = out0_C_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (before t)).2.2.2.1 (outsAt0 m c (t.val - 1) (before t)).2.2.2.2.2.1 (outsAt0 m c (t.val - 1) (before t)).2.2.2.2.2.2 from by rw [outsAt0_C m c t h0 h1 h2]) _).trans (caseC_8 (M := mm t) c (grid0.coords t) (iblk m c 0 t) (iblk m c 1 t) (iblk m c 2 t) (iblk m c 3 t) (iblk m c 4 t) (iblk m c 5 t) (iblk m c 6 t) (iblk m c 7 t) (fun h => h0 ((hcond0_0 t).mp h)) (fun h => h1 ((hcond0_1 t).mp h)) ((hcond0_2 t).mpr h2) (outsAt0 m c (t.val - 1) (before t)).2.2.2.1 (outsAt0 m c (t.val - 1) (before t)).2.2.2.2.2.1 (outsAt0 m c (t.val - 1) (before t)).2.2.2.2.2.2 r l)
    · exact (congrFun (show (outsAt0 m c t.val t.isLt).1 = out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (before t)).2.2.2.1 (outsAt0 m c (t.val - 1) (before t)).2.2.2.2.2.1 (outsAt0 m c (t.val - 1) (before t)).2.2.2.2.2.2 from by rw [outsAt0_B m c t h0 h1 h2]) _).trans (caseB_8 (M := mm t) c (grid0.coords t) (iblk m c 0 t) (iblk m c 1 t) (iblk m c 2 t) (iblk m c 3 t) (iblk m c 4 t) (iblk m c 5 t) (iblk m c 6 t) (iblk m c 7 t) (fun h => h0 ((hcond0_0 t).mp h)) (fun h => h1 ((hcond0_1 t).mp h)) (fun h => h2 ((hcond0_2 t).mp h)) (outsAt0 m c (t.val - 1) (before t)).2.2.2.1 (outsAt0 m c (t.val - 1) (before t)).2.2.2.2.2.1 (outsAt0 m c (t.val - 1) (before t)).2.2.2.2.2.2 r l)

theorem at12 (t : Fin cfg0.N) (r : Fin 512) (l : Fin 128) :
    (outsAt0 m c t.val t.isLt).2.2.2.2.1 (ix3 0 r l) = if l = lane (headOf (grid0.coords t) false) then (ld m c t).tr (grid0.coords t) false r else if l = lane (headOf (grid0.coords t) true) then (ld m c t).tr (grid0.coords t) true r else 0 := by
  by_cases h0 : t.val % 8 = 0
  · have h2 : ¬ t.val % 8 = 7 := by omega
    by_cases h1 : t.val % 32 = 0
    · exact (congrFun (show (outsAt0 m c t.val t.isLt).2.2.2.2.1 = out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) from by rw [outsAt0_A m c t h0 h1 h2]) _).trans (caseA_12 (M := mm t) c (grid0.coords t) (iblk m c 0 t) (iblk m c 1 t) (iblk m c 2 t) (iblk m c 3 t) (iblk m c 4 t) (iblk m c 5 t) (iblk m c 6 t) (iblk m c 7 t) ((hcond0_0 t).mpr h0) ((hcond0_1 t).mpr h1) (fun h => h2 ((hcond0_2 t).mp h)) r l)
    · exact (congrFun (show (outsAt0 m c t.val t.isLt).2.2.2.2.1 = out0_D_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (before t)).2.2.2.1 from by rw [outsAt0_D m c t h0 h1 h2]) _).trans (caseD_12 (M := mm t) c (grid0.coords t) (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h)) (fun h => h2 ((hcond0_2 t).mp h)) (outsAt0 m c (t.val - 1) (before t)).2.2.2.1 r l)
  · have h1 : ¬ t.val % 32 = 0 := by omega
    by_cases h2 : t.val % 8 = 7
    · exact (congrFun (show (outsAt0 m c t.val t.isLt).2.2.2.2.1 = out0_C_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (before t)).2.2.2.1 (outsAt0 m c (t.val - 1) (before t)).2.2.2.2.2.1 (outsAt0 m c (t.val - 1) (before t)).2.2.2.2.2.2 from by rw [outsAt0_C m c t h0 h1 h2]) _).trans (caseC_12 (M := mm t) c (grid0.coords t) (iblk m c 0 t) (iblk m c 1 t) (iblk m c 2 t) (iblk m c 3 t) (iblk m c 4 t) (iblk m c 5 t) (iblk m c 6 t) (iblk m c 7 t) (fun h => h0 ((hcond0_0 t).mp h)) (fun h => h1 ((hcond0_1 t).mp h)) ((hcond0_2 t).mpr h2) (outsAt0 m c (t.val - 1) (before t)).2.2.2.1 (outsAt0 m c (t.val - 1) (before t)).2.2.2.2.2.1 (outsAt0 m c (t.val - 1) (before t)).2.2.2.2.2.2 r l)
    · exact (congrFun (show (outsAt0 m c t.val t.isLt).2.2.2.2.1 = out0_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (before t)).2.2.2.1 (outsAt0 m c (t.val - 1) (before t)).2.2.2.2.2.1 (outsAt0 m c (t.val - 1) (before t)).2.2.2.2.2.2 from by rw [outsAt0_B m c t h0 h1 h2]) _).trans (caseB_12 (M := mm t) c (grid0.coords t) (iblk m c 0 t) (iblk m c 1 t) (iblk m c 2 t) (iblk m c 3 t) (iblk m c 4 t) (iblk m c 5 t) (iblk m c 6 t) (iblk m c 7 t) (fun h => h0 ((hcond0_0 t).mp h)) (fun h => h1 ((hcond0_1 t).mp h)) (fun h => h2 ((hcond0_2 t).mp h)) (outsAt0 m c (t.val - 1) (before t)).2.2.2.1 (outsAt0 m c (t.val - 1) (before t)).2.2.2.2.2.1 (outsAt0 m c (t.val - 1) (before t)).2.2.2.2.2.2 r l)

theorem at13_zero (t : Fin cfg0.N) (h : t.val % 32 = 0) (kb : Fin 8) (j : Fin 4) (hd : Fin 8) (l : Fin 128) :
    (outsAt0 m c t.val t.isLt).2.2.2.1 (ix3 (rowOf kb j) hd l) = (ld m c t).t13 (grid0.coords t) kb hd (tileCol j l) := by
  have h0 : t.val % 8 = 0 := by omega
  have h2 : ¬ t.val % 8 = 7 := by omega
  exact (congrFun (show (outsAt0 m c t.val t.isLt).2.2.2.1 = out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) ((hcond0_1 t).mpr h) (fun h => h2 ((hcond0_2 t).mp h)) (iblk m c 0 t) (iblk m c 1 t) (iblk m c 2 t) (iblk m c 3 t) (iblk m c 4 t) (iblk m c 5 t) (iblk m c 6 t) (iblk m c 7 t) from by rw [outsAt0_A m c t h0 h h2]) _).trans (caseA_13 (M := mm t) c (grid0.coords t) (iblk m c 0 t) (iblk m c 1 t) (iblk m c 2 t) (iblk m c 3 t) (iblk m c 4 t) (iblk m c 5 t) (iblk m c 6 t) (iblk m c 7 t) ((hcond0_0 t).mpr h0) ((hcond0_1 t).mpr h) (fun h => h2 ((hcond0_2 t).mp h)) kb j hd l)

theorem at13_succ (t : Fin cfg0.N) (h : ¬ t.val % 32 = 0) (kb : Fin 8) (j : Fin 4) (hd : Fin 8) (l : Fin 128) :
    (outsAt0 m c t.val t.isLt).2.2.2.1 (ix3 (rowOf kb j) hd l) = (outsAt0 m c (t.val - 1) (before t)).2.2.2.1 (ix3 (rowOf kb j) hd l) + (ld m c t).t13 (grid0.coords t) kb hd (tileCol j l) := by
  have h1 : ¬ t.val % 32 = 0 := h
  by_cases h0 : t.val % 8 = 0
  · have h2 : ¬ t.val % 8 = 7 := by omega
    exact (congrFun (show (outsAt0 m c t.val t.isLt).2.2.2.1 = out0_D_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (before t)).2.2.2.1 from by rw [outsAt0_D m c t h0 h1 h2]) _).trans (caseD_13 (M := mm t) c (grid0.coords t) (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h)) (fun h => h2 ((hcond0_2 t).mp h)) (outsAt0 m c (t.val - 1) (before t)).2.2.2.1 kb j hd l)
  · by_cases h2 : t.val % 8 = 7
    · exact (congrFun (show (outsAt0 m c t.val t.isLt).2.2.2.1 = out0_C_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (before t)).2.2.2.1 (outsAt0 m c (t.val - 1) (before t)).2.2.2.2.2.1 (outsAt0 m c (t.val - 1) (before t)).2.2.2.2.2.2 from by rw [outsAt0_C m c t h0 h1 h2]) _).trans (caseC_13 (M := mm t) c (grid0.coords t) (iblk m c 0 t) (iblk m c 1 t) (iblk m c 2 t) (iblk m c 3 t) (iblk m c 4 t) (iblk m c 5 t) (iblk m c 6 t) (iblk m c 7 t) (fun h => h0 ((hcond0_0 t).mp h)) (fun h => h1 ((hcond0_1 t).mp h)) ((hcond0_2 t).mpr h2) (outsAt0 m c (t.val - 1) (before t)).2.2.2.1 (outsAt0 m c (t.val - 1) (before t)).2.2.2.2.2.1 (outsAt0 m c (t.val - 1) (before t)).2.2.2.2.2.2 kb j hd l)
    · exact (congrFun (show (outsAt0 m c t.val t.isLt).2.2.2.1 = out0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (before t)).2.2.2.1 (outsAt0 m c (t.val - 1) (before t)).2.2.2.2.2.1 (outsAt0 m c (t.val - 1) (before t)).2.2.2.2.2.2 from by rw [outsAt0_B m c t h0 h1 h2]) _).trans (caseB_13 (M := mm t) c (grid0.coords t) (iblk m c 0 t) (iblk m c 1 t) (iblk m c 2 t) (iblk m c 3 t) (iblk m c 4 t) (iblk m c 5 t) (iblk m c 6 t) (iblk m c 7 t) (fun h => h0 ((hcond0_0 t).mp h)) (fun h => h1 ((hcond0_1 t).mp h)) (fun h => h2 ((hcond0_2 t).mp h)) (outsAt0 m c (t.val - 1) (before t)).2.2.2.1 (outsAt0 m c (t.val - 1) (before t)).2.2.2.2.2.1 (outsAt0 m c (t.val - 1) (before t)).2.2.2.2.2.2 kb j hd l)

theorem at15_zero (t : Fin cfg0.N) (h : t.val % 8 = 0) (kb : Fin 8) (x : Fin 512) (l : Fin 128) :
    (outsAt0 m c t.val t.isLt).2.2.2.2.2.1 (ix2 (tileRow kb x) l) = (ld m c t).t15 (grid0.coords t) kb x l := by
  have h0 : t.val % 8 = 0 := h
  have h2 : ¬ t.val % 8 = 7 := by omega
  by_cases h1 : t.val % 32 = 0
  · exact (congrFun (show (outsAt0 m c t.val t.isLt).2.2.2.2.2.1 = sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) from by rw [outsAt0_A m c t h0 h1 h2]) _).trans (caseA_15 (M := mm t) c (grid0.coords t) (iblk m c 0 t) (iblk m c 1 t) (iblk m c 2 t) (iblk m c 3 t) (iblk m c 4 t) (iblk m c 5 t) (iblk m c 6 t) (iblk m c 7 t) ((hcond0_0 t).mpr h0) ((hcond0_1 t).mpr h1) (fun h => h2 ((hcond0_2 t).mp h)) kb x l)
  · exact (congrFun (show (outsAt0 m c t.val t.isLt).2.2.2.2.2.1 = sout0_D_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (before t)).2.2.2.1 from by rw [outsAt0_D m c t h0 h1 h2]) _).trans (caseD_15 (M := mm t) c (grid0.coords t) (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h)) (fun h => h2 ((hcond0_2 t).mp h)) (outsAt0 m c (t.val - 1) (before t)).2.2.2.1 kb x l)

theorem at15_succ (t : Fin cfg0.N) (h : ¬ t.val % 8 = 0) (kb : Fin 8) (x : Fin 512) (l : Fin 128) :
    (outsAt0 m c t.val t.isLt).2.2.2.2.2.1 (ix2 (tileRow kb x) l) = (outsAt0 m c (t.val - 1) (before t)).2.2.2.2.2.1 (ix2 (tileRow kb x) l) + (ld m c t).t15 (grid0.coords t) kb x l := by
  have h0 : ¬ t.val % 8 = 0 := h
  have h1 : ¬ t.val % 32 = 0 := by omega
  by_cases h2 : t.val % 8 = 7
  · exact (congrFun (show (outsAt0 m c t.val t.isLt).2.2.2.2.2.1 = sout0_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (before t)).2.2.2.1 (outsAt0 m c (t.val - 1) (before t)).2.2.2.2.2.1 (outsAt0 m c (t.val - 1) (before t)).2.2.2.2.2.2 from by rw [outsAt0_C m c t h0 h1 h2]) _).trans (caseC_15 (M := mm t) c (grid0.coords t) (iblk m c 0 t) (iblk m c 1 t) (iblk m c 2 t) (iblk m c 3 t) (iblk m c 4 t) (iblk m c 5 t) (iblk m c 6 t) (iblk m c 7 t) (fun h => h0 ((hcond0_0 t).mp h)) (fun h => h1 ((hcond0_1 t).mp h)) ((hcond0_2 t).mpr h2) (outsAt0 m c (t.val - 1) (before t)).2.2.2.1 (outsAt0 m c (t.val - 1) (before t)).2.2.2.2.2.1 (outsAt0 m c (t.val - 1) (before t)).2.2.2.2.2.2 kb x l)
  · exact (congrFun (show (outsAt0 m c t.val t.isLt).2.2.2.2.2.1 = sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (before t)).2.2.2.1 (outsAt0 m c (t.val - 1) (before t)).2.2.2.2.2.1 (outsAt0 m c (t.val - 1) (before t)).2.2.2.2.2.2 from by rw [outsAt0_B m c t h0 h1 h2]) _).trans (caseB_15 (M := mm t) c (grid0.coords t) (iblk m c 0 t) (iblk m c 1 t) (iblk m c 2 t) (iblk m c 3 t) (iblk m c 4 t) (iblk m c 5 t) (iblk m c 6 t) (iblk m c 7 t) (fun h => h0 ((hcond0_0 t).mp h)) (fun h => h1 ((hcond0_1 t).mp h)) (fun h => h2 ((hcond0_2 t).mp h)) (outsAt0 m c (t.val - 1) (before t)).2.2.2.1 (outsAt0 m c (t.val - 1) (before t)).2.2.2.2.2.1 (outsAt0 m c (t.val - 1) (before t)).2.2.2.2.2.2 kb x l)

theorem at16_zero (t : Fin cfg0.N) (h : t.val % 8 = 0) (kb : Fin 8) (x : Fin 512) (l : Fin 128) :
    (outsAt0 m c t.val t.isLt).2.2.2.2.2.2 (ix2 (tileRow kb x) l) = (ld m c t).t16 (grid0.coords t) kb x l := by
  have h0 : t.val % 8 = 0 := h
  have h2 : ¬ t.val % 8 = 7 := by omega
  by_cases h1 : t.val % 32 = 0
  · exact (congrFun (show (outsAt0 m c t.val t.isLt).2.2.2.2.2.2 = sout0_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) from by rw [outsAt0_A m c t h0 h1 h2]) _).trans (caseA_16 (M := mm t) c (grid0.coords t) (iblk m c 0 t) (iblk m c 1 t) (iblk m c 2 t) (iblk m c 3 t) (iblk m c 4 t) (iblk m c 5 t) (iblk m c 6 t) (iblk m c 7 t) ((hcond0_0 t).mpr h0) ((hcond0_1 t).mpr h1) (fun h => h2 ((hcond0_2 t).mp h)) kb x l)
  · exact (congrFun (show (outsAt0 m c t.val t.isLt).2.2.2.2.2.2 = sout0_D_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (before t)).2.2.2.1 from by rw [outsAt0_D m c t h0 h1 h2]) _).trans (caseD_16 (M := mm t) c (grid0.coords t) (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h)) (fun h => h2 ((hcond0_2 t).mp h)) (outsAt0 m c (t.val - 1) (before t)).2.2.2.1 kb x l)

theorem at16_succ (t : Fin cfg0.N) (h : ¬ t.val % 8 = 0) (kb : Fin 8) (x : Fin 512) (l : Fin 128) :
    (outsAt0 m c t.val t.isLt).2.2.2.2.2.2 (ix2 (tileRow kb x) l) = (outsAt0 m c (t.val - 1) (before t)).2.2.2.2.2.2 (ix2 (tileRow kb x) l) + (ld m c t).t16 (grid0.coords t) kb x l := by
  have h0 : ¬ t.val % 8 = 0 := h
  have h1 : ¬ t.val % 32 = 0 := by omega
  by_cases h2 : t.val % 8 = 7
  · exact (congrFun (show (outsAt0 m c t.val t.isLt).2.2.2.2.2.2 = sout0_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (before t)).2.2.2.1 (outsAt0 m c (t.val - 1) (before t)).2.2.2.2.2.1 (outsAt0 m c (t.val - 1) (before t)).2.2.2.2.2.2 from by rw [outsAt0_C m c t h0 h1 h2]) _).trans (caseC_16 (M := mm t) c (grid0.coords t) (iblk m c 0 t) (iblk m c 1 t) (iblk m c 2 t) (iblk m c 3 t) (iblk m c 4 t) (iblk m c 5 t) (iblk m c 6 t) (iblk m c 7 t) (fun h => h0 ((hcond0_0 t).mp h)) (fun h => h1 ((hcond0_1 t).mp h)) ((hcond0_2 t).mpr h2) (outsAt0 m c (t.val - 1) (before t)).2.2.2.1 (outsAt0 m c (t.val - 1) (before t)).2.2.2.2.2.1 (outsAt0 m c (t.val - 1) (before t)).2.2.2.2.2.2 kb x l)
  · exact (congrFun (show (outsAt0 m c t.val t.isLt).2.2.2.2.2.2 = sout0_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (before t)).2.2.2.1 (outsAt0 m c (t.val - 1) (before t)).2.2.2.2.2.1 (outsAt0 m c (t.val - 1) (before t)).2.2.2.2.2.2 from by rw [outsAt0_B m c t h0 h1 h2]) _).trans (caseB_16 (M := mm t) c (grid0.coords t) (iblk m c 0 t) (iblk m c 1 t) (iblk m c 2 t) (iblk m c 3 t) (iblk m c 4 t) (iblk m c 5 t) (iblk m c 6 t) (iblk m c 7 t) (fun h => h0 ((hcond0_0 t).mp h)) (fun h => h1 ((hcond0_1 t).mp h)) (fun h => h2 ((hcond0_2 t).mp h)) (outsAt0 m c (t.val - 1) (before t)).2.2.2.1 (outsAt0 m c (t.val - 1) (before t)).2.2.2.2.2.1 (outsAt0 m c (t.val - 1) (before t)).2.2.2.2.2.2 kb x l)

theorem at9 (t : Fin cfg0.N) (h2 : t.val % 8 = 7) : (outsAt0 m c t.val t.isLt).2.1 = (outsAt0 m c t.val t.isLt).2.2.2.2.2.1 := by
  have h0 : ¬ t.val % 8 = 0 := by omega
  have h1 : ¬ t.val % 32 = 0 := by omega
  exact (show (outsAt0 m c t.val t.isLt).2.1 = out0_C_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (before t)).2.2.2.1 (outsAt0 m c (t.val - 1) (before t)).2.2.2.2.2.1 (outsAt0 m c (t.val - 1) (before t)).2.2.2.2.2.2 from by rw [outsAt0_C m c t h0 h1 h2]).trans
    ((caseC_9 (M := mm t) c (grid0.coords t) (iblk m c 0 t) (iblk m c 1 t) (iblk m c 2 t) (iblk m c 3 t) (iblk m c 4 t) (iblk m c 5 t) (iblk m c 6 t) (iblk m c 7 t) (fun h => h0 ((hcond0_0 t).mp h)) (fun h => h1 ((hcond0_1 t).mp h)) ((hcond0_2 t).mpr h2) (outsAt0 m c (t.val - 1) (before t)).2.2.2.1 (outsAt0 m c (t.val - 1) (before t)).2.2.2.2.2.1 (outsAt0 m c (t.val - 1) (before t)).2.2.2.2.2.2).trans
      (show (outsAt0 m c t.val t.isLt).2.2.2.2.2.1 = sout0_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (before t)).2.2.2.1 (outsAt0 m c (t.val - 1) (before t)).2.2.2.2.2.1 (outsAt0 m c (t.val - 1) (before t)).2.2.2.2.2.2 from by rw [outsAt0_C m c t h0 h1 h2]).symm)

theorem at10 (t : Fin cfg0.N) (h2 : t.val % 8 = 7) : (outsAt0 m c t.val t.isLt).2.2.1 = (outsAt0 m c t.val t.isLt).2.2.2.2.2.2 := by
  have h0 : ¬ t.val % 8 = 0 := by omega
  have h1 : ¬ t.val % 32 = 0 := by omega
  exact (show (outsAt0 m c t.val t.isLt).2.2.1 = out0_C_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (before t)).2.2.2.1 (outsAt0 m c (t.val - 1) (before t)).2.2.2.2.2.1 (outsAt0 m c (t.val - 1) (before t)).2.2.2.2.2.2 from by rw [outsAt0_C m c t h0 h1 h2]).trans
    ((caseC_10 (M := mm t) c (grid0.coords t) (iblk m c 0 t) (iblk m c 1 t) (iblk m c 2 t) (iblk m c 3 t) (iblk m c 4 t) (iblk m c 5 t) (iblk m c 6 t) (iblk m c 7 t) (fun h => h0 ((hcond0_0 t).mp h)) (fun h => h1 ((hcond0_1 t).mp h)) ((hcond0_2 t).mpr h2) (outsAt0 m c (t.val - 1) (before t)).2.2.2.1 (outsAt0 m c (t.val - 1) (before t)).2.2.2.2.2.1 (outsAt0 m c (t.val - 1) (before t)).2.2.2.2.2.2).trans
      (show (outsAt0 m c t.val t.isLt).2.2.2.2.2.2 = sout0_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (before t)).2.2.2.1 (outsAt0 m c (t.val - 1) (before t)).2.2.2.2.2.1 (outsAt0 m c (t.val - 1) (before t)).2.2.2.2.2.2 from by rw [outsAt0_C m c t h0 h1 h2]).symm)

end Cert.KernelIdeal.Gen
-- ==== Proof.Fold.lean ====
module

public import proofs.«01_k».proof.Proof.Points
public import proofs.«01_k».proof.Proof.Gen.KernelIdeal.Value

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ) (c : Dev nD)

/-- The point of a pair of heads and a tile of queries. -/
noncomputable def pt (hp : Fin 4) (i : Fin 8) : Fin cfg0.N := ⟨8 * hp.val + i.val, lt_of_lt_of_eq (by omega) N_0.symm⟩

/-- Its coordinates. -/
noncomputable def co (hp : Fin 4) (i : Fin 8) : grid0.Coords := grid0.coords (pt hp i)

theorem co0 (hp : Fin 4) (i : Fin 8) : (co hp i 0).val = hp.val := by
  revert hp i; decide +kernel

theorem co1 (hp : Fin 4) (i : Fin 8) : (co hp i 1).val = i.val := by
  revert hp i; decide +kernel

/-- What it loads. -/
noncomputable def le (hp : Fin 4) (i : Fin 8) : Ld (mm (pt hp i)) := ld m c (pt hp i)

theorem G8_at (hp : Fin 4) (i : Fin 8) (r : Fin 512) (l : Fin 128) :
    Value.G8 m c (ix2 (tileRow i r) (tileCol hp l))
      = (if 64 ≤ l.val then (le m c hp i).tq (co hp i) true r l else (le m c hp i).tq (co hp i) false r l) * Ideal.ofBits .f32 0x3E000000#32 := by
  have hq : Value.pt8Of (ix2 (tileRow i r) (tileCol hp l)) = (pt hp i).val := by
    show 1 * ((512 * i.val + r.val) / 512 - 0) + 8 * ((128 * hp.val + l.val) / 128 - 0) = 8 * hp.val + i.val
    omega
  have hl : Value.loc8Of (ix2 (tileRow i r) (tileCol hp l)) = ix2 r l := by
    funext a
    match a with
    | ⟨0, _⟩ => exact Fin.ext (by show (512 * i.val + r.val) % 512 = r.val; omega)
    | ⟨1, _⟩ => exact Fin.ext (by show (128 * hp.val + l.val) % 128 = l.val; omega)
  unfold Value.G8
  rw [dif_pos (by rw [hq]; exact (pt hp i).isLt), hl, Value.fold0_congr m c _ _ (pt hp i).val (by rw [Nat.zero_add]; exact (pt hp i).isLt) hq,
    ← Value.outsAt0_sweep m c (pt hp i).val (pt hp i).isLt]
  exact at8 m c (pt hp i) r l

theorem G12_at (hp : Fin 4) (i : Fin 8) (r : Fin 512) (l : Fin 128) :
    Value.G12 m c (ix3 hp (tileRow i r) l)
      = if l = lane (headOf (co hp i) false) then (le m c hp i).tr (co hp i) false r
        else if l = lane (headOf (co hp i) true) then (le m c hp i).tr (co hp i) true r else 0 := by
  have hq : Value.pt12Of (ix3 hp (tileRow i r) l) = (pt hp i).val := by
    show 8 * (hp.val / 1 - 0) + 1 * ((512 * i.val + r.val) / 512 - 0) + 1 * (l.val / 128 - 0) = 8 * hp.val + i.val
    omega
  have hl : Value.loc12Of (ix3 hp (tileRow i r) l) = ix3 0 r l := by
    funext a
    match a with
    | ⟨0, _⟩ => exact Fin.ext (by show hp.val % 1 = 0; omega)
    | ⟨1, _⟩ => exact Fin.ext (by show (512 * i.val + r.val) % 512 = r.val; omega)
    | ⟨2, _⟩ => exact Fin.ext (by show l.val % 128 = l.val; omega)
  unfold Value.G12
  rw [dif_pos (by rw [hq]; exact (pt hp i).isLt), hl, Value.fold0_congr m c _ _ (pt hp i).val (by rw [Nat.zero_add]; exact (pt hp i).isLt) hq,
    ← Value.outsAt0_sweep m c (pt hp i).val (pt hp i).isLt]
  exact at12 m c (pt hp i) r l

/-- The point before one that does not start a row. -/
theorem outs_prev (t : Fin cfg0.N) (n : ℕ) (hn : n < cfg0.N) (h : t.val - 1 = n) : outsAt0 m c (t.val - 1) (before t) = outsAt0 m c n hn := by
  subst h; rfl

/-- The key gradients kept after a point. -/
theorem kept15 (hp : Fin 4) (n : ℕ) (hn : n < 8) (kb : Fin 8) (x : Fin 512) (l : Fin 128) :
    (outsAt0 m c (pt hp ⟨n, hn⟩).val (pt hp ⟨n, hn⟩).isLt).2.2.2.2.2.1 (ix2 (tileRow kb x) l)
      = below (n + 1) fun i => (le m c hp i).t15 (co hp i) kb x l := by
  induction n with
  | zero =>
    rw [at15_zero m c (pt hp ⟨0, hn⟩) (by show (8 * hp.val + 0) % 8 = 0; omega)]
    have := below_succ 0 fun i => (le m c hp i).t15 (co hp i) kb x l
    refine Eq.trans ?_ this.symm
    rw [show ((0 : Fin 8).val) = 0 from rfl, below_zero, zero_add]
    rfl
  | succ k ih =>
    have hk : (pt hp ⟨k + 1, hn⟩).val - 1 = (pt hp ⟨k, Nat.lt_of_succ_lt hn⟩).val := by
      show 8 * hp.val + (k + 1) - 1 = 8 * hp.val + k; omega
    rw [at15_succ m c (pt hp ⟨k + 1, hn⟩) (by show ¬ (8 * hp.val + (k + 1)) % 8 = 0; omega), outs_prev m c _ _ (pt hp ⟨k, Nat.lt_of_succ_lt hn⟩).isLt hk,
      ih (Nat.lt_of_succ_lt hn)]
    exact (below_succ ⟨k + 1, hn⟩ fun i => (le m c hp i).t15 (co hp i) kb x l).symm

/-- The value gradients kept after a point. -/
theorem kept16 (hp : Fin 4) (n : ℕ) (hn : n < 8) (kb : Fin 8) (x : Fin 512) (l : Fin 128) :
    (outsAt0 m c (pt hp ⟨n, hn⟩).val (pt hp ⟨n, hn⟩).isLt).2.2.2.2.2.2 (ix2 (tileRow kb x) l)
      = below (n + 1) fun i => (le m c hp i).t16 (co hp i) kb x l := by
  induction n with
  | zero =>
    rw [at16_zero m c (pt hp ⟨0, hn⟩) (by show (8 * hp.val + 0) % 8 = 0; omega)]
    have := below_succ 0 fun i => (le m c hp i).t16 (co hp i) kb x l
    refine Eq.trans ?_ this.symm
    rw [show ((0 : Fin 8).val) = 0 from rfl, below_zero, zero_add]
    rfl
  | succ k ih =>
    have hk : (pt hp ⟨k + 1, hn⟩).val - 1 = (pt hp ⟨k, Nat.lt_of_succ_lt hn⟩).val := by
      show 8 * hp.val + (k + 1) - 1 = 8 * hp.val + k; omega
    rw [at16_succ m c (pt hp ⟨k + 1, hn⟩) (by show ¬ (8 * hp.val + (k + 1)) % 8 = 0; omega), outs_prev m c _ _ (pt hp ⟨k, Nat.lt_of_succ_lt hn⟩).isLt hk,
      ih (Nat.lt_of_succ_lt hn)]
    exact (below_succ ⟨k + 1, hn⟩ fun i => (le m c hp i).t16 (co hp i) kb x l).symm

theorem below_eight (F : Fin 8 → EReal) : below 8 F = ∑ i, F i :=
  Finset.sum_congr rfl fun i _ => if_pos i.isLt

theorem G9_at (hp : Fin 4) (kb : Fin 8) (x : Fin 512) (l : Fin 128) :
    Value.G9 m c (ix2 (tileRow kb x) (tileCol hp l)) = ∑ i, (le m c hp i).t15 (co hp i) kb x l := by
  have hq : Value.pt9Of (ix2 (tileRow kb x) (tileCol hp l)) = (pt hp 7).val := by
    show 8 * (4 * ((512 * kb.val + x.val) / 4096 - 0) + 1 * ((128 * hp.val + l.val) / 128 - 0)) + 7 = 8 * hp.val + 7
    omega
  have hl : Value.loc9Of (ix2 (tileRow kb x) (tileCol hp l)) = ix2 (tileRow kb x) l := by
    funext a
    match a with
    | ⟨0, _⟩ => exact Fin.ext (by show (512 * kb.val + x.val) % 4096 = 512 * kb.val + x.val; omega)
    | ⟨1, _⟩ => exact Fin.ext (by show (128 * hp.val + l.val) % 128 = l.val; omega)
  unfold Value.G9
  rw [dif_pos (by rw [hq]; exact (pt hp 7).isLt), hl, Value.fold0_congr m c _ _ (pt hp 7).val (by rw [Nat.zero_add]; exact (pt hp 7).isLt) hq,
    ← Value.outsAt0_sweep m c (pt hp 7).val (pt hp 7).isLt, at9 m c (pt hp 7) (by show (8 * hp.val + 7) % 8 = 7; omega)]
  exact (kept15 m c hp 7 (by decide) kb x l).trans (below_eight _)

theorem G10_at (hp : Fin 4) (kb : Fin 8) (x : Fin 512) (l : Fin 128) :
    Value.G10 m c (ix2 (tileRow kb x) (tileCol hp l)) = ∑ i, (le m c hp i).t16 (co hp i) kb x l := by
  have hq : Value.pt10Of (ix2 (tileRow kb x) (tileCol hp l)) = (pt hp 7).val := by
    show 8 * (4 * ((512 * kb.val + x.val) / 4096 - 0) + 1 * ((128 * hp.val + l.val) / 128 - 0)) + 7 = 8 * hp.val + 7
    omega
  have hl : Value.loc10Of (ix2 (tileRow kb x) (tileCol hp l)) = ix2 (tileRow kb x) l := by
    funext a
    match a with
    | ⟨0, _⟩ => exact Fin.ext (by show (512 * kb.val + x.val) % 4096 = 512 * kb.val + x.val; omega)
    | ⟨1, _⟩ => exact Fin.ext (by show (128 * hp.val + l.val) % 128 = l.val; omega)
  unfold Value.G10
  rw [dif_pos (by rw [hq]; exact (pt hp 7).isLt), hl, Value.fold0_congr m c _ _ (pt hp 7).val (by rw [Nat.zero_add]; exact (pt hp 7).isLt) hq,
    ← Value.outsAt0_sweep m c (pt hp 7).val (pt hp 7).isLt, at10 m c (pt hp 7) (by show (8 * hp.val + 7) % 8 = 7; omega)]
  exact (kept16 m c hp 7 (by decide) kb x l).trans (below_eight _)

/-- The points in the order they run. -/
noncomputable def pn (n : Fin 32) : Fin cfg0.N := ⟨n.val, lt_of_lt_of_eq n.isLt N_0.symm⟩

/-- A change made at each of the first points. -/
def first (n : ℕ) (F : Fin 32 → EReal) : EReal := ∑ k : Fin 32, if k.val < n then F k else 0

theorem first_succ (k : Fin 32) (F : Fin 32 → EReal) : first (k.val + 1) F = first k.val F + F k := by
  have h : ∀ j : Fin 32, (if j.val < k.val + 1 then F j else 0) = (if j.val < k.val then F j else 0) + if j = k then F j else 0 := fun j => by
    by_cases h1 : j = k
    · subst h1; simp
    · have : j.val ≠ k.val := fun q => h1 (Fin.ext q)
      by_cases h2 : j.val < k.val
      · rw [if_pos (by omega), if_pos h2, if_neg h1, add_zero]
      · rw [if_neg (by omega), if_neg h2, if_neg h1, add_zero]
  unfold first
  rw [Finset.sum_congr rfl fun j _ => h j, Finset.sum_add_distrib, Finset.sum_ite_eq' Finset.univ k, if_pos (Finset.mem_univ k)]

/-- The key-bias gradients kept after a point. -/
theorem kept13 (n : ℕ) (hn : n < 32) (kb : Fin 8) (j : Fin 4) (h : Fin 8) (l : Fin 128) :
    (outsAt0 m c (pn ⟨n, hn⟩).val (pn ⟨n, hn⟩).isLt).2.2.2.1 (ix3 (rowOf kb j) h l)
      = first (n + 1) fun k => (ld m c (pn k)).t13 (grid0.coords (pn k)) kb h (tileCol j l) := by
  induction n with
  | zero =>
    rw [at13_zero m c (pn ⟨0, hn⟩) (by show 0 % 32 = 0; omega)]
    have := first_succ 0 fun k => (ld m c (pn k)).t13 (grid0.coords (pn k)) kb h (tileCol j l)
    refine Eq.trans ?_ this.symm
    rw [show first ((0 : Fin 32).val) _ = 0 from Finset.sum_eq_zero fun k _ => if_neg (Nat.not_lt_zero _), zero_add]
    rfl
  | succ k ih =>
    have hk : (pn ⟨k + 1, hn⟩).val - 1 = (pn ⟨k, Nat.lt_of_succ_lt hn⟩).val := rfl
    rw [at13_succ m c (pn ⟨k + 1, hn⟩) (by show ¬ (k + 1) % 32 = 0; omega), outs_prev m c _ _ (pn ⟨k, Nat.lt_of_succ_lt hn⟩).isLt hk,
      ih (Nat.lt_of_succ_lt hn)]
    exact (first_succ ⟨k + 1, hn⟩ fun k => (ld m c (pn k)).t13 (grid0.coords (pn k)) kb h (tileCol j l)).symm

theorem outs_congr (n n' : ℕ) (hn : n < cfg0.N) (hn' : n' < cfg0.N) (h : n = n') : outsAt0 m c n hn = outsAt0 m c n' hn' := by
  subst h; rfl

theorem G11_at (kb : Fin 8) (j : Fin 4) (h : Fin 8) (l : Fin 128) :
    Value.G11 m c (ix3 (rowOf kb j) h l) = ∑ hp, ∑ i, (le m c hp i).t13 (co hp i) kb h (tileCol j l) := by
  rw [Value.G11_last, ← Value.outsAt0_sweep m c 31 (lt_of_lt_of_eq (by decide) N_0.symm),
    outs_congr m c 31 (pn ⟨31, by decide⟩).val _ (pn ⟨31, by decide⟩).isLt rfl]
  refine (kept13 m c 31 (by decide) kb j h l).trans ?_
  refine Eq.trans (Finset.sum_congr rfl fun k _ => if_pos k.isLt) ?_
  refine (Fin.sum_univ_tiles 4 8 rfl _).trans ?_
  refine Finset.sum_congr rfl fun hp _ => Finset.sum_congr rfl fun i _ => ?_
  exact congrArg (fun t => (ld m c t).t13 (grid0.coords t) kb h (tileCol j l))
    (Fin.ext (by show hp.val * 8 + i.val = 8 * hp.val + i.val; omega) : pn ⟨hp.val * 8 + i.val, by omega⟩ = pt hp i)

end Cert.KernelIdeal.Gen
-- ==== Proof.BlockAt.lean ====
module

public import proofs.«01_k».proof.Proof.Fold
public import proofs.«01_k».proof.Proof.HostK
public import Idealize.ShloMosaic.Lib.Pipeline.ValueKit.Point

@[expose] public section

set_option maxRecDepth 16384

noncomputable section

namespace Cert.KernelIdeal.Gen

open Cert.KernelIdeal Idealize.ShloMosaic Idealize.ShloMosaic.TcCoe Idealize.SL.Sem Idealize.ShloMosaic.StableHlo

variable (m : (ℓ : Loc nD τ sig) → Buf (Elt Ideal) ℓ) (c : Dev nD)

theorem idx_in : ∀ t : Fin cfg0.N, win0_0.index t = ![t.val % 8, 12 + t.val / 8] ∧ win0_1.index t = ![0, 16 + t.val / 8] ∧ win0_2.index t = ![0, 20 + t.val / 8]
    ∧ win0_3.index t = ![t.val % 8, 0] ∧ win0_4.index t = ![0, 0, 0] ∧ win0_5.index t = ![t.val % 8, t.val / 8] ∧ win0_6.index t = ![t.val % 8, t.val / 8]
    ∧ win0_7.index t = ![t.val / 8, t.val % 8, 0] :=
  (by decide +kernel : ∀ t : Fin grid0.N, _)

theorem pt_val (hp : Fin 4) (i : Fin 8) : (pt hp i).val = 8 * hp.val + i.val := rfl

theorem iblk0_at (hp : Fin 4) (i : Fin 8) (r : Fin 512) (l : Fin 128) :
    iblk m c 0 (pt hp i) (ix2 r l) = V m c main_v10 (ix2 (tileRow i r) ⟨1536 + (tileCol hp l).val, by omega⟩) := by
  have hv := pt_val hp i
  blk_ext [iblk, idx_in (pt hp i), tileRow, tileCol]

theorem iblk1_at (hp : Fin 4) (i : Fin 8) (t : Fin 4096) (l : Fin 128) :
    iblk m c 1 (pt hp i) (ix2 t l) = V m c main_v10 (ix2 t ⟨2048 + (tileCol hp l).val, by omega⟩) := by
  have hv := pt_val hp i
  blk_ext [iblk, idx_in (pt hp i), tileRow, tileCol]

theorem iblk2_at (hp : Fin 4) (i : Fin 8) (t : Fin 4096) (l : Fin 128) :
    iblk m c 2 (pt hp i) (ix2 t l) = V m c main_v10 (ix2 t ⟨2560 + (tileCol hp l).val, by omega⟩) := by
  have hv := pt_val hp i
  blk_ext [iblk, idx_in (pt hp i), tileRow, tileCol]

theorem iblk3_at (hp : Fin 4) (i : Fin 8) (r : Fin 512) (l : Fin 128) :
    iblk m c 3 (pt hp i) (ix2 r l) = V m c main_arg1 (ix2 (tileRow i r) l) := by
  have hv := pt_val hp i
  blk_ext [iblk, idx_in (pt hp i), tileRow, tileCol]

theorem iblk4_at (hp : Fin 4) (i : Fin 8) (n : Fin 32) (h : Fin 8) (l : Fin 128) :
    iblk m c 4 (pt hp i) (ix3 n h l) = V m c main_v13 (ix3 n h l) := by
  have hv := pt_val hp i
  blk_ext [iblk, idx_in (pt hp i), tileRow, tileCol]

theorem iblk5_at (hp : Fin 4) (i : Fin 8) (r : Fin 512) (l : Fin 128) :
    iblk m c 5 (pt hp i) (ix2 r l) = V m c main_v85 (ix2 (tileRow i r) (tileCol hp l)) := by
  have hv := pt_val hp i
  blk_ext [iblk, idx_in (pt hp i), tileRow, tileCol]

theorem iblk6_at (hp : Fin 4) (i : Fin 8) (r : Fin 512) (l : Fin 128) :
    iblk m c 6 (pt hp i) (ix2 r l) = V m c main_v86 (ix2 (tileRow i r) (tileCol hp l)) := by
  have hv := pt_val hp i
  blk_ext [iblk, idx_in (pt hp i), tileRow, tileCol]

/-- The block of row sums, read through any contents of the buffers. -/
theorem read7 (X : (b : Ref sig .tc) → Buf (Elt Ideal) ((c : Thread nD τ).loc b)) (hp : Fin 4) (i : Fin 8) (b : Fin 2) (r : Fin 512) (l : Fin 128) :
    ((cfg0.win 7).blk (pt hp i)).view.read (Elt Ideal) (X (Pipeline.arrRef spec0 7)) (ix3 b r l)
      = X main_v88 (ix3 ⟨2 * hp.val + b.val, by omega⟩ (tileRow i r) l) := by
  have hv := pt_val hp i
  blk_ext [idx_in (pt hp i), tileRow]

theorem iblk7_at (hp : Fin 4) (i : Fin 8) (b : Fin 2) (r : Fin 512) (l : Fin 128) :
    iblk m c 7 (pt hp i) (ix3 b r l) = V m c main_v88 (ix3 ⟨2 * hp.val + b.val, by omega⟩ (tileRow i r) l) := by
  unfold iblk
  exact read7 c (V m c) hp i b r l

end Cert.KernelIdeal.Gen

end
-- ==== Proof.LoadAt.lean ====
module

public import proofs.«01_k».proof.Proof.RunBase
public import Idealize.ShloMosaic.Lib.Pipeline.Value

@[expose] public section

set_option maxRecDepth 16384

noncomputable section

namespace Cert.KernelIdeal.Gen

open Idealize.ShloMosaic Idealize.ShloMosaic.TcCoe Idealize.SL.Sem

variable (M : Mem) (x0 : Vec Ideal S512x128 .bf16) (x1 x2 : Vec Ideal S4096x128 .bf16) (x3 : Vec Ideal S512x128 .f32) (x4 : Vec Ideal S32x8x128 .f32)
    (x5 x6 : Vec Ideal S512x128 .bf16) (x7 : Vec Ideal S2x512x128 .f32)

theorem whole_idx (r : Fin 512) (l : Fin 128) :
    (Rect.unit (s := S512x128) ![0, 0] S512x128.size inb_S512x128_S512x128_0_0).toLoadRect.idx (ix2 r l) = ix2 r l := by
  funext a
  match a with
  | ⟨0, _⟩ => exact Fin.ext (by show 0 + 1 * r.val = r.val; omega)
  | ⟨1, _⟩ => exact Fin.ext (by show 0 + 1 * l.val = l.val; omega)

theorem ld_q (r : Fin 512) (l : Fin 128) : (ldOf M x0 x1 x2 x3 x4 x5 x6 x7).q (ix2 r l) = x0 (ix2 r l) :=
  (congrFun (M.h2.read_unread x0) _).trans (congrArg x0 (whole_idx r l))

theorem ld_g (r : Fin 512) (l : Fin 128) : (ldOf M x0 x1 x2 x3 x4 x5 x6 x7).g (ix2 r l) = x5 (ix2 r l) :=
  (congrFun (M.h7.read_unread x5) _).trans (congrArg x5 (whole_idx r l))

theorem ld_o (r : Fin 512) (l : Fin 128) : (ldOf M x0 x1 x2 x3 x4 x5 x6 x7).o (ix2 r l) = x6 (ix2 r l) :=
  (congrFun (M.h8.read_unread x6) _).trans (congrArg x6 (whole_idx r l))

theorem ld_fq (r : Fin 512) (l : Fin 128) : (ldOf M x0 x1 x2 x3 x4 x5 x6 x7).fq (ix2 r l) = x3 (ix2 r l) :=
  (congrFun (M.h5.read_unread x3) _).trans (congrArg x3 (whole_idx r l))

theorem ld_la (r : Fin 512) : (ldOf M x0 x1 x2 x3 x4 x5 x6 x7).la (ix3 0 r 0) = x7 (ix3 0 r 0) := by
  refine (congrFun (M.h9.read_unread x7) _).trans (congrArg x7 (funext fun a => ?_))
  match a with
  | ⟨0, _⟩ => rfl
  | ⟨1, _⟩ => exact Fin.ext (by show 0 + 1 * r.val = r.val; omega)
  | ⟨2, _⟩ => rfl

theorem ld_lb (r : Fin 512) : (ldOf M x0 x1 x2 x3 x4 x5 x6 x7).lb (ix3 0 r 0) = x7 (ix3 1 r 0) := by
  refine (congrFun (M.h9.read_unread x7) _).trans (congrArg x7 (funext fun a => ?_))
  match a with
  | ⟨0, _⟩ => rfl
  | ⟨1, _⟩ => exact Fin.ext (by show 0 + 1 * r.val = r.val; omega)
  | ⟨2, _⟩ => rfl

theorem ld_X3 : M.a3.view.read (Elt Ideal) (ldOf M x0 x1 x2 x3 x4 x5 x6 x7).X3 = x1 := M.h3.read_unread x1
theorem ld_X4 : M.a4.view.read (Elt Ideal) (ldOf M x0 x1 x2 x3 x4 x5 x6 x7).X4 = x2 := M.h4.read_unread x2
theorem ld_X6 : M.a6.view.read (Elt Ideal) (ldOf M x0 x1 x2 x3 x4 x5 x6 x7).X6 = x4 := M.h6.read_unread x4

end Cert.KernelIdeal.Gen

end
-- ==== Proof.Loads.lean ====
module

public import proofs.«01_k».proof.Proof.HostAt
public import proofs.«01_k».proof.Proof.BlockAt
public import proofs.«01_k».proof.Proof.LoadAt

@[expose] public section

set_option maxRecDepth 16384

noncomputable section

namespace Cert.KernelIdeal.Gen

open Cert.KernelIdeal Idealize.ShloMosaic Idealize.ShloMosaic.TcCoe Idealize.SL.Sem Fox

/-- The lane of a head of a pair. -/
def ln (b : Bool) (d : Fin 64) : Fin 128 := if b then ⟨64 + d.val, by omega⟩ else ⟨d.val, by omega⟩

/-- A head of a pair. -/
def hd (hp : Fin 4) (b : Bool) : Fin 8 := if b then ⟨2 * hp.val + 1, by omega⟩ else ⟨2 * hp.val, by omega⟩

theorem tileCol_ln (hp : Fin 4) (b : Bool) (d : Fin 64) : tileCol hp (ln b d) = hcol (hd hp b) d := by
  cases b
  · exact Fin.ext (by show 128 * hp.val + d.val = 2 * hp.val * 64 + d.val; omega)
  · exact Fin.ext (by show 128 * hp.val + (64 + d.val) = (2 * hp.val + 1) * 64 + d.val; omega)

variable (x : Fin 4096 → Fin 3072 → ℝ) (f : Fin 4096 → Fin 128 → ℝ) (g : Fin 4096 → Fin 512 → ℝ)

/-- What a point loads, for arguments with real entries. -/
structure Holds {M : Mem} (e : Ld M) (hp : Fin 4) (i : Fin 8) : Prop where
  q : ∀ r l, e.q (ix2 r l) = ((x (tileRow i r) ⟨1536 + (tileCol hp l).val, by omega⟩ * (1 / 8) : ℝ) : EReal)
  k : ∀ t l, M.a3.view.read (Elt Ideal) e.X3 (ix2 t l) = ((x t ⟨2048 + (tileCol hp l).val, by omega⟩ : ℝ) : EReal)
  v : ∀ t l, M.a4.view.read (Elt Ideal) e.X4 (ix2 t l) = ((x t ⟨2560 + (tileCol hp l).val, by omega⟩ : ℝ) : EReal)
  fq : ∀ r l, e.fq (ix2 r l) = ((f (tileRow i r) l : ℝ) : EReal)
  fk : ∀ n (h : Fin 8) l, M.a6.view.read (Elt Ideal) e.X6 (ix3 n h l) = ((gate f h ⟨n.val * 128 + l.val, by omega⟩ : ℝ) : EReal)
  g : ∀ r l, e.g (ix2 r l) = ((g (tileRow i r) (tileCol hp l) : ℝ) : EReal)
  o : ∀ r b d, e.o (ix2 r (ln b d)) = ((att x f (hd hp b) (tileRow i r) d : ℝ) : EReal)
  la : ∀ r, e.la (ix3 0 r 0) = ((Real.log (rowSum x f (hd hp false) (tileRow i r)) : ℝ) : EReal)
  lb : ∀ r, e.lb (ix3 0 r 0) = ((Real.log (rowSum x f (hd hp true) (tileRow i r)) : ℝ) : EReal)

variable (m : (ℓ : Loc nD τ sig) → Buf (Elt Ideal) ℓ) (c : Dev nD)

theorem le_holds (hx : hX m c = up2 x) (hf : hF m c = up2 f) (hg : hC m c = up2 g) (hp : Fin 4) (i : Fin 8) :
    Holds x f g (le m c hp i) hp i where
  q r l := by
    refine (ld_q _ _ _ _ _ _ _ _ _ r l).trans ((iblk0_at m c hp i r l).trans ?_)
    rw [V_v10, hx]; exact q_at x _ _
  k t l := by
    refine (congrFun (ld_X3 _ _ _ _ _ _ _ _ _) _).trans ((iblk1_at m c hp i t l).trans ?_)
    rw [V_v10, hx]; exact k_at x _ _
  v t l := by
    refine (congrFun (ld_X4 _ _ _ _ _ _ _ _ _) _).trans ((iblk2_at m c hp i t l).trans ?_)
    rw [V_v10, hx]; exact w_at x _ _
  fq r l := by
    refine (ld_fq _ _ _ _ _ _ _ _ _ r l).trans ((iblk3_at m c hp i r l).trans ?_)
    rw [V_main_arg1]; exact congrFun hf _
  fk n h l := by
    refine (congrFun (ld_X6 _ _ _ _ _ _ _ _ _) _).trans ((iblk4_at m c hp i n h l).trans ?_)
    rw [V_v13, hf]; exact fkt_at f n h l
  g r l := by
    refine (ld_g _ _ _ _ _ _ _ _ _ r l).trans ((iblk5_at m c hp i r l).trans ?_)
    rw [V_v85, hg]; rfl
  o r b d := by
    refine (ld_o _ _ _ _ _ _ _ _ _ r _).trans ((iblk6_at m c hp i r _).trans ?_)
    rw [V_v86, hx, hf, tileCol_ln]
    exact Cert.ReferenceIdeal.Read.v58_at x f (hd hp b) (tileRow i r) d
  la r := by
    refine (ld_la _ _ _ _ _ _ _ _ _ r).trans ((iblk7_at m c hp i 0 r 0).trans ?_)
    rw [V_v88, hx, hf]; exact lse_at x f _ _ _
  lb r := by
    refine (ld_lb _ _ _ _ _ _ _ _ _ r).trans ((iblk7_at m c hp i 1 r 0).trans ?_)
    rw [V_v88, hx, hf]; exact lse_at x f _ _ _

end Cert.KernelIdeal.Gen

end
-- ==== Proof.RealTile.lean ====
module

public import proofs.«01_k».proof.Proof.Loads

@[expose] public section

set_option maxRecDepth 16384

noncomputable section

namespace Cert.KernelIdeal.Gen

open Cert.KernelIdeal Idealize.ShloMosaic Fox

theorem part_ln (b b' : Bool) (d : Fin 64) (y : EReal) : part b (ln b' d) y = if b = b' then y else 0 := by
  have h := d.isLt
  cases b <;> cases b'
  · show (if 64 ≤ d.val then (0 : EReal) else y) = y
    rw [if_neg (by omega)]
  · show (if 64 ≤ 64 + d.val then (0 : EReal) else y) = 0
    rw [if_pos (by omega)]
  · show (if d.val < 64 then (0 : EReal) else y) = 0
    rw [if_pos h]
  · show (if 64 + d.val < 64 then (0 : EReal) else y) = y
    rw [if_neg (by omega)]

theorem part_mul (b : Bool) (l : Fin 128) (y z : EReal) : part b l y * z = part b l (y * z) := by
  cases b
  · show (if 64 ≤ l.val then (0 : EReal) else y) * z = if 64 ≤ l.val then (0 : EReal) else y * z
    split
    · exact zero_mul z
    · rfl
  · show (if l.val < 64 then (0 : EReal) else y) * z = if l.val < 64 then (0 : EReal) else y * z
    split
    · exact zero_mul z
    · rfl

/-- A sum over the lanes of one head. -/
theorem half (b : Bool) (F : Fin 128 → EReal) : ∑ l, part b l (F l) = ∑ d, F (ln b d) := by
  rw [Fin.sum_univ_tiles 2 64 (by decide), Fin.sum_univ_two]
  have h0 : ∀ d : Fin 64, (⟨(0 : Fin 2).val * 64 + d.val, by have := d.isLt; show 0 * 64 + d.val < 128; omega⟩ : Fin 128) = ln false d := fun d => Fin.ext (by show 0 * 64 + d.val = d.val; omega)
  have h1 : ∀ d : Fin 64, (⟨(1 : Fin 2).val * 64 + d.val, by have := d.isLt; show 1 * 64 + d.val < 128; omega⟩ : Fin 128) = ln true d := fun d => Fin.ext (by show 1 * 64 + d.val = 64 + d.val; omega)
  simp only [h0, h1, part_ln]
  cases b <;> simp

/-- A sum over all rows, tile by tile. -/
theorem tiles (F : Fin 4096 → ℝ) : ((∑ s, F s : ℝ) : EReal) = ∑ kb : Fin 8, ∑ c : Fin 512, ((F (tileRow kb c) : ℝ) : EReal) := by
  rw [coe_sum, Fin.sum_univ_tiles 8 512 (by decide)]
  refine Finset.sum_congr rfl fun kb _ => Finset.sum_congr rfl fun c _ => ?_
  rw [show (⟨kb.val * 512 + c.val, by omega⟩ : Fin 4096) = tileRow kb c from Fin.ext (by show kb.val * 512 + c.val = 512 * kb.val + c.val; omega)]

variable (x : Fin 4096 → Fin 3072 → ℝ) (f : Fin 4096 → Fin 128 → ℝ) (g : Fin 4096 → Fin 512 → ℝ)
variable {M : Mem} {e : Ld M} {hp : Fin 4} {i : Fin 8} (H : Holds x f g e hp i) {j : grid0.Coords}
  (j0 : (j 0).val = hp.val) (j1 : (j 1).val = i.val)

include j0 in
theorem headOf_eq (b : Bool) : headOf j b = hd hp b := by
  cases b
  · exact Fin.ext (by show 2 * (j 0).val = 2 * hp.val; rw [j0])
  · exact Fin.ext (by show 2 * (j 0).val + 1 = 2 * hp.val + 1; rw [j0])

include H in
theorem q_ln (b : Bool) (r : Fin 512) (d : Fin 64) :
    e.q (ix2 r (ln b d)) = ((qry x (hd hp b) (tileRow i r) d * (1 / 8) : ℝ) : EReal) := by
  rw [H.q]; simp only [tileCol_ln]; rfl

include H in
theorem g_ln (b : Bool) (r : Fin 512) (d : Fin 64) :
    e.g (ix2 r (ln b d)) = ((grd g (hd hp b) (tileRow i r) d : ℝ) : EReal) := by
  rw [H.g]; simp only [tileCol_ln]; rfl

include H in
theorem kt_ln (b : Bool) (kb : Fin 8) (c : Fin 512) (d : Fin 64) :
    e.kt kb c (ln b d) = ((key x (hd hp b) (tileRow kb c) d : ℝ) : EReal) := by
  refine (H.k _ _).trans ?_
  simp only [tileCol_ln]; rfl

include H in
theorem vt_ln (b : Bool) (kb : Fin 8) (c : Fin 512) (d : Fin 64) :
    e.vt kb c (ln b d) = ((vlu x (hd hp b) (tileRow kb c) d : ℝ) : EReal) := by
  refine (H.v _ _).trans ?_
  simp only [tileCol_ln]; rfl

include H j0 in
theorem fh_eq (b : Bool) (r : Fin 512) : e.fh j b r = ((gate f (hd hp b) (tileRow i r) : ℝ) : EReal) := by
  unfold Ld.fh
  rw [headOf_eq j0, H.fq]; rfl

include H j0 in
theorem bt_eq (b : Bool) (kb : Fin 8) (c : Fin 512) : e.bt j b kb c = ((gate f (hd hp b) (tileRow kb c) : ℝ) : EReal) := by
  unfold Ld.bt
  rw [headOf_eq j0, H.fk]
  refine congrArg (fun t => ((gate f (hd hp b) t : ℝ) : EReal)) (Fin.ext ?_)
  show (4 * kb.val + c.val / 128) * 128 + c.val % 128 = 512 * kb.val + c.val
  omega

include H in
theorem lh_eq (b : Bool) (r : Fin 512) : e.lh b r = ((Real.log (rowSum x f (hd hp b) (tileRow i r)) : ℝ) : EReal) := by
  cases b
  · exact H.la r
  · exact H.lb r

include H in
theorem dh_eq (b : Bool) (r : Fin 512) : e.dh b r = ((dl x f g (hd hp b) (tileRow i r) : ℝ) : EReal) := by
  unfold Ld.dh
  rw [half, ← dl_eq, coe_sum]
  refine Finset.sum_congr rfl fun d _ => ?_
  rw [g_ln x f g H, H.o, EReal.coe_mul]

include H in
theorem qk_eq (b : Bool) (kb : Fin 8) (r c : Fin 512) :
    ∑ l, e.qh b r l * e.kt kb c l = (((∑ d, qry x (hd hp b) (tileRow i r) d * key x (hd hp b) (tileRow kb c) d) * (1 / 8) : ℝ) : EReal) := by
  simp only [Ld.qh, part_mul]
  rw [half, Finset.sum_mul, coe_sum]
  refine Finset.sum_congr rfl fun d _ => ?_
  rw [q_ln x f g H, kt_ln x f g H, ← EReal.coe_mul]
  exact congrArg _ (by ring)

include H in
theorem gv_eq (b : Bool) (kb : Fin 8) (r c : Fin 512) :
    ∑ l, e.gh b r l * e.vt kb c l = ((dP x g (hd hp b) (tileRow i r) (tileRow kb c) : ℝ) : EReal) := by
  simp only [Ld.gh, part_mul]
  rw [half, dP, coe_sum]
  refine Finset.sum_congr rfl fun d _ => ?_
  rw [g_ln x f g H, vt_ln x f g H, ← EReal.coe_mul]

include H j0 j1 in
/-- A tile's probabilities. -/
theorem P_eq (b : Bool) (kb : Fin 8) (hk : kb.val ≤ i.val) (r c : Fin 512) :
    e.P j (decide (kb = dg j)) b kb r c = ((pr x f (hd hp b) (tileRow i r) (tileRow kb c) : ℝ) : EReal) := by
  have hm : (decide (kb = dg j) = true ∧ r < c) ↔ ¬ tileRow kb c ≤ tileRow i r := by
    rw [decide_eq_true_iff, Fin.ext_iff]
    show kb.val = (j 1).val ∧ r.val < c.val ↔ ¬ 512 * kb.val + c.val ≤ 512 * i.val + r.val
    rw [j1]; omega
  unfold Ld.P tp tz
  rw [pr_eq, qk_eq x f g H, fh_eq x f g H j0, bt_eq x f g H j0, lh_eq x f g H]
  by_cases h : tileRow kb c ≤ tileRow i r
  · rw [if_neg (fun a => hm.1 a h), if_pos h, ← EReal.coe_add, ← EReal.coe_sub, ← EReal.coe_sub, Ideal.exp_coe]
    rfl
  · rw [if_pos (hm.2 h), if_neg h]
    rfl

include H j0 j1 in
/-- A tile's score gradients. -/
theorem D_eq (b : Bool) (kb : Fin 8) (hk : kb.val ≤ i.val) (r c : Fin 512) :
    e.D j (decide (kb = dg j)) b kb r c = ((dz x f g (hd hp b) (tileRow i r) (tileRow kb c) : ℝ) : EReal) := by
  unfold Ld.D td
  rw [P_eq x f g H j0 j1 b kb hk, gv_eq x f g H, dh_eq x f g H, ← EReal.coe_sub, ← EReal.coe_mul]
  rfl

theorem pr_above (h : Fin 8) (i kb : Fin 8) (hk : ¬ kb.val < i.val + 1) (r c : Fin 512) : pr x f h (tileRow i r) (tileRow kb c) = 0 := by
  rw [pr_eq, if_neg]
  show ¬ 512 * kb.val + c.val ≤ 512 * i.val + r.val
  omega

theorem dz_above (h : Fin 8) (i kb : Fin 8) (hk : ¬ kb.val < i.val + 1) (r c : Fin 512) : dz x f g h (tileRow i r) (tileRow kb c) = 0 := by
  unfold dz
  rw [pr_above x f h i kb hk, zero_mul]

include H j0 j1 in
theorem tr_eq (b : Bool) (r : Fin 512) : e.tr j b r = ((dfq x f g (hd hp b) (tileRow i r) : ℝ) : EReal) := by
  unfold Ld.tr below dfq
  rw [tiles]
  refine Finset.sum_congr rfl fun kb _ => ?_
  rw [j1]
  split
  · exact Finset.sum_congr rfl fun c _ => D_eq x f g H j0 j1 b kb (by omega) r c
  · rename_i h
    exact (Finset.sum_eq_zero fun c _ => by rw [dz_above x f g _ i kb h]; rfl).symm

include H j0 j1 in
theorem tq_eq (b : Bool) (r : Fin 512) (d : Fin 64) :
    e.tq j b r (ln b d) = ((∑ s, dz x f g (hd hp b) (tileRow i r) s * key x (hd hp b) s d : ℝ) : EReal) := by
  unfold Ld.tq below
  rw [tiles]
  refine Finset.sum_congr rfl fun kb _ => ?_
  rw [j1]
  split
  · refine Finset.sum_congr rfl fun c _ => ?_
    rw [D_eq x f g H j0 j1 b kb (by omega) r c, kt_ln x f g H, EReal.coe_mul]
  · rename_i h
    exact (Finset.sum_eq_zero fun c _ => by rw [dz_above x f g _ i kb h, zero_mul]; rfl).symm

include H j0 j1 in
theorem t15_eq (b : Bool) (kb : Fin 8) (c : Fin 512) (d : Fin 64) :
    e.t15 j kb c (ln b d) = ∑ r : Fin 512, ((dz x f g (hd hp b) (tileRow i r) (tileRow kb c) * (qry x (hd hp b) (tileRow i r) d * (1 / 8)) : ℝ) : EReal) := by
  unfold Ld.t15 Ld.i15
  rw [j1]
  split
  · have hb : ∀ b', ∑ r, e.D j (decide (kb = dg j)) b' kb r c * e.qh b' r (ln b d)
        = if b' = b then ∑ r : Fin 512, ((dz x f g (hd hp b) (tileRow i r) (tileRow kb c) * (qry x (hd hp b) (tileRow i r) d * (1 / 8)) : ℝ) : EReal) else 0 := by
      intro b'
      simp only [Ld.qh, part_ln]
      split
      · rename_i h; subst h
        refine Finset.sum_congr rfl fun r _ => ?_
        rw [D_eq x f g H j0 j1 b' kb (by omega) r c, q_ln x f g H, ← EReal.coe_mul]
      · exact Finset.sum_eq_zero fun r _ => mul_zero _
    rw [hb, hb]
    cases b <;> simp
  · rename_i h
    exact (Finset.sum_eq_zero fun r _ => by rw [dz_above x f g _ i kb h, zero_mul]; rfl).symm

include H j0 j1 in
theorem t16_eq (b : Bool) (kb : Fin 8) (c : Fin 512) (d : Fin 64) :
    e.t16 j kb c (ln b d) = ∑ r : Fin 512, ((pr x f (hd hp b) (tileRow i r) (tileRow kb c) * grd g (hd hp b) (tileRow i r) d : ℝ) : EReal) := by
  unfold Ld.t16 Ld.i16
  rw [j1]
  split
  · have hb : ∀ b', ∑ r, e.P j (decide (kb = dg j)) b' kb r c * e.gh b' r (ln b d)
        = if b' = b then ∑ r : Fin 512, ((pr x f (hd hp b) (tileRow i r) (tileRow kb c) * grd g (hd hp b) (tileRow i r) d : ℝ) : EReal) else 0 := by
      intro b'
      simp only [Ld.gh, part_ln]
      split
      · rename_i h; subst h
        refine Finset.sum_congr rfl fun r _ => ?_
        rw [P_eq x f g H j0 j1 b' kb (by omega) r c, g_ln x f g H, EReal.coe_mul]
      · exact Finset.sum_eq_zero fun r _ => mul_zero _
    rw [hb, hb]
    cases b <;> simp
  · rename_i h
    exact (Finset.sum_eq_zero fun r _ => by rw [pr_above x f _ i kb h, zero_mul]; rfl).symm

include H j0 j1 in
theorem t13_eq (kb : Fin 8) (h : Fin 8) (c : Fin 512) :
    e.t13 j kb h c = if hp.val = h.val / 2 then ((-∑ r, dz x f g h (tileRow i r) (tileRow kb c) : ℝ) : EReal) else 0 := by
  unfold Ld.t13 Ld.i13
  rw [j1, headOf_eq j0, headOf_eq j0]
  have e0 : h = hd hp false ↔ h.val = 2 * hp.val := Fin.ext_iff
  have e1 : h = hd hp true ↔ h.val = 2 * hp.val + 1 := Fin.ext_iff
  split
  · rename_i hk
    have hs : ∀ b, 0 - ∑ r, e.D j (decide (kb = dg j)) b kb r c = ((-∑ r, dz x f g (hd hp b) (tileRow i r) (tileRow kb c) : ℝ) : EReal) := fun b => by
      rw [Finset.sum_congr rfl fun r _ => D_eq x f g H j0 j1 b kb (by omega) r c, ← coe_sum, zero_sub, EReal.coe_neg]
    by_cases h0 : h = hd hp false
    · rw [if_pos h0, hs, if_pos (by have := e0.1 h0; omega), h0]
    · rw [if_neg h0]
      by_cases h1 : h = hd hp true
      · rw [if_pos h1, hs, if_pos (by have := e1.1 h1; omega), h1]
      · rw [if_neg h1, if_neg (fun hh => by
          rcases Nat.mod_two_eq_zero_or_one h.val with h2 | h2
          · exact h0 (e0.2 (by omega))
          · exact h1 (e1.2 (by omega)))]
  · rename_i hk
    rw [Finset.sum_eq_zero fun r _ => dz_above x f g h i kb hk r c, neg_zero]
    split <;> rfl

end Cert.KernelIdeal.Gen

end
-- ==== Proof.RefB.lean ====
module

public import proofs.«01_k».proof.Proof.RefA

@[expose] public section

set_option maxRecDepth 16384

noncomputable section

namespace Cert.ReferenceIdeal.Read

open Cert.ReferenceIdeal Cert.ReferenceIdeal.Gen Idealize.ShloMosaic Fox

variable (x : Fin 4096 → Fin 3072 → ℝ) (f : Fin 4096 → Fin 128 → ℝ) (g : Fin 4096 → Fin 512 → ℝ)

theorem v61_at (h : Fin 8) (d : Fin 64) (s : Fin 4096) :
    val_main_v61 (F := Ideal) (up2 x) (up2 f) (up2 g) (ix3 h d s) = ((dv x f g h s d : ℝ) : EReal) := by
  unfold dv
  rw [val_main_v61_apply, coe_sum]
  refine Finset.sum_congr rfl fun k _ => ?_
  rw [show lidx_main_v61 (ix3 h d s) k = ix3 h k d from funext fun a => by fin_cases a <;> rfl,
    show ridx_main_v61 (ix3 h d s) k = ix3 h k s from funext fun a => by fin_cases a <;> rfl, v60_at, v50_at, EReal.coe_mul, mul_comm]

theorem swap_at (y : FVec Ideal S8x64x4096 .f32) (h : Fin 8) (s : Fin 4096) (d : Fin 64) :
    transpose S8x4096x64 [0, 2, 1] y transposes_S8x64x4096_S8x4096x64_0_2_1 (ix3 h s d) = y (ix3 h d s) := by
  pointwise []

theorem v101_at (h : Fin 8) (t : Fin 4096) (d : Fin 64) :
    val_main_v101 (F := Ideal) (up2 x) (up2 f) (up2 g) (ix2 t (hcol h d)) = ((dv x f g h t d : ℝ) : EReal) := by
  rw [val_main_v101_apply]
  unfold val_main_v65 val_main_v64 val_main_v62
  rw [merge_at, swap_at, v61_at]
  rfl

theorem col_at (y : FVec Ideal S8x4096x1 .f32) (h : Fin 8) (t s : Fin 4096) :
    broadcastInDim S8x4096x4096 ![0, 1, 2] bcast_S8x4096x1_S8x4096x4096_0_1_2 y (ix3 h t s) = y (ix3 h t 0) := by
  pointwise []

theorem v66_at (h : Fin 8) (t s : Fin 4096) :
    val_main_v66 (F := Ideal) (up2 x) (up2 f) (ix3 h t s) = ((1 / (el x f h t * el x f h t) : ℝ) : EReal) := by
  unfold val_main_v66
  rw [col_at, v53_at]

theorem v68_at (h : Fin 8) (t s : Fin 4096) :
    val_main_v68 (F := Ideal) (up2 x) (up2 f) (up2 g) (ix3 h t s)
      = ((dP x g h t s * (1 / (el x f h t * el x f h t)) * es x f h t s : ℝ) : EReal) := by
  rw [val_main_v68_apply, val_main_v67_apply, v63_at, v66_at, v46_at, EReal.coe_mul, EReal.coe_mul]
  rfl

theorem es_div (h : Fin 8) (t s : Fin 4096) : es x f h t s / el x f h t = pr x f h t s := shifted_div x f h t s _

theorem pull (a L E : ℝ) : a * (1 / (L * L)) * E = (E / L * a) * (1 / L) := by
  rw [one_div, mul_inv]; ring

/-- The reference's shift of a row's gradients. -/
theorem v69_at (h : Fin 8) (t : Fin 4096) :
    val_main_v69 (F := Ideal) (up2 x) (up2 f) (up2 g) (ix2 h t) = ((dl x f g h t * (1 / el x f h t) : ℝ) : EReal) := by
  unfold dl
  rw [Finset.sum_mul]
  rw [show (∑ s, pr x f h t s * dP x g h t s * (1 / el x f h t)) = ∑ s, dP x g h t s * (1 / (el x f h t * el x f h t)) * es x f h t s from
    Finset.sum_congr rfl fun s _ => by rw [pull, es_div], coe_sum]
  pointwise [val_main_v69, v68_at, val_main_cst_11]

theorem one_col (y : FVec Ideal S8x4096 .f32) (h : Fin 8) (t : Fin 4096) (o : Fin 1) :
    shapeCast S8x4096x1 y shapeCasts_S8x4096_S8x4096x1 (ix3 h t o) = y (ix2 h t) := by
  pointwise []

theorem v71_at (h : Fin 8) (t : Fin 4096) (o : Fin 1) :
    val_main_v71 (F := Ideal) (up2 x) (up2 f) (up2 g) (ix3 h t o) = ((-(dl x f g h t * (1 / el x f h t)) : ℝ) : EReal) := by
  rw [val_main_v71_apply]
  unfold val_main_v70
  rw [one_col, v69_at, EReal.coe_neg]
  rfl

theorem v74_at (h : Fin 8) (t : Fin 4096) :
    val_main_v74 (F := Ideal) (up2 x) (up2 f) (up2 g) (ix2 h t) = ((-(dl x f g h t * (1 / el x f h t)) : ℝ) : EReal) := by
  pointwise [val_main_v74, v71_at, val_main_cst_12]
  exact Fin.sum_univ_one _

theorem row2_at (y : FVec Ideal S8x4096 .f32) (h : Fin 8) (t s : Fin 4096) :
    broadcastInDim S8x4096x4096 ![0, 1] bcast_S8x4096_S8x4096x4096_0_1 y (ix3 h t s) = y (ix2 h t) := by
  pointwise []

theorem v48_at (h : Fin 8) (t : Fin 4096) (o : Fin 1) :
    val_main_v48 (F := Ideal) (up2 x) (up2 f) (ix3 h t o) = ((el x f h t : ℝ) : EReal) := by
  pointwise [val_main_v48, v47_at]

theorem v73_at (h : Fin 8) (t s : Fin 4096) :
    val_main_v73 (F := Ideal) (up2 x) (up2 f) (up2 g) (ix3 h t s) = ((dP x g h t s * (1 / el x f h t) : ℝ) : EReal) := by
  rw [val_main_v73_apply, v63_at]
  unfold val_main_v72
  rw [col_at, v48_at]
  exact (Ideal.div_coe (el_pos x f h t).ne' _).trans (EReal.coe_mul _ _).symm

theorem v77_at (h : Fin 8) (t s : Fin 4096) :
    val_main_v77 (F := Ideal) (up2 x) (up2 f) (up2 g) (ix3 h t s) = ((dz x f g h t s : ℝ) : EReal) := by
  rw [val_main_v77_apply, val_main_v76_apply, v73_at, v46_at]
  unfold val_main_v75
  rw [row2_at, v74_at]
  refine Eq.trans (b := (((dP x g h t s * (1 / el x f h t) + -(dl x f g h t * (1 / el x f h t))) * es x f h t s : ℝ) : EReal)) ?_ ?_
  · rw [EReal.coe_mul (_ + _) _, EReal.coe_add]; rfl
  · congr 1
    unfold dz
    rw [← es_div]
    ring

theorem v78_at (h : Fin 8) (t s : Fin 4096) :
    val_main_v78 (F := Ideal) (up2 x) (up2 f) (up2 g) (ix3 h t s) = ((dz x f g h t s : ℝ) : EReal) := by
  rw [val_main_v78_apply, v25_1_at, v77_at]
  split
  · rfl
  · rename_i hst
    have hz : val_main_call1_v0 (F := Ideal) (ix3 h t s) = (0 : EReal) := by
      rw [val_main_call1_v0_apply, val_main_call1_cst_apply]
      exact Ideal.ofBits_zero_f32
    rw [hz, show dz x f g h t s = 0 by unfold dz pr ez; rw [if_neg hst]; simp]
    rfl

theorem v80_at (h : Fin 8) (s : Fin 4096) :
    val_main_v80 (F := Ideal) (up2 x) (up2 f) (up2 g) (ix2 h s) = ((dfk x f g h s : ℝ) : EReal) := by
  unfold dfk
  rw [← Finset.sum_neg_distrib, coe_sum]
  have hn : ∀ t : Fin 4096, val_main_v79 (F := Ideal) (up2 x) (up2 f) (up2 g) (ix3 h t s) = ((-dz x f g h t s : ℝ) : EReal) := fun t => by
    rw [val_main_v79_apply, v78_at, EReal.coe_neg]; rfl
  simp only [← hn]
  pointwise [val_main_v80, val_main_cst_13]

theorem one_mid (y : FVec Ideal S8x4096 .f32) (h : Fin 8) (t : Fin 4096) (o : Fin 1) :
    shapeCast S8x1x4096 y shapeCasts_S8x4096_S8x1x4096 (ix3 h o t) = y (ix2 h t) := by
  pointwise []

theorem v82_at (h : Fin 8) (s : Fin 4096) :
    val_main_v82 (F := Ideal) (up2 x) (up2 f) (up2 g) (ix2 h s) = ((dfk x f g h s : ℝ) : EReal) := by
  have ho : ∀ o : Fin 1, val_main_v81 (F := Ideal) (up2 x) (up2 f) (up2 g) (ix3 h o s) = ((dfk x f g h s : ℝ) : EReal) := fun o => by
    unfold val_main_v81; rw [one_mid, v80_at]
  rw [← ho 0]
  pointwise [val_main_v82, val_main_cst_14]
  exact Fin.sum_univ_one _

theorem v83_at (h : Fin 8) (t : Fin 4096) :
    val_main_v83 (F := Ideal) (up2 x) (up2 f) (up2 g) (ix2 h t) = ((dfq x f g h t : ℝ) : EReal) := by
  unfold dfq
  rw [coe_sum]
  pointwise [val_main_v83, v78_at, val_main_cst_15]

theorem v85_at (h : Fin 8) (t : Fin 4096) :
    val_main_v85 (F := Ideal) (up2 x) (up2 f) (up2 g) (ix2 h t) = ((dfq x f g h t : ℝ) : EReal) := by
  have ho : ∀ o : Fin 1, val_main_v84 (F := Ideal) (up2 x) (up2 f) (up2 g) (ix3 h t o) = ((dfq x f g h t : ℝ) : EReal) := fun o => by
    unfold val_main_v84; rw [one_col, v83_at]
  rw [← ho 0]
  pointwise [val_main_v85, val_main_cst_16]
  exact Fin.sum_univ_one _

theorem v87_at (h : Fin 8) (t s : Fin 4096) :
    val_main_v87 (F := Ideal) (up2 x) (up2 f) (up2 g) (ix3 h t s) = ((dz x f g h t s * (1 / 8) : ℝ) : EReal) := by
  rw [val_main_v87_apply, v78_at, val_main_v86_apply, val_main_cst_17_apply, EReal.coe_mul, ← eighth]
  rfl

theorem v88_at (h : Fin 8) (s : Fin 4096) (d : Fin 64) :
    val_main_v88 (F := Ideal) (up2 x) (up2 f) (up2 g) (ix3 h s d) = ((dk x f g h s d : ℝ) : EReal) := by
  unfold dk
  rw [val_main_v88_apply, coe_sum]
  refine Finset.sum_congr rfl fun k _ => ?_
  rw [show lidx_main_v88 (ix3 h s d) k = ix3 h k s from funext fun a => by fin_cases a <;> rfl,
    show ridx_main_v88 (ix3 h s d) k = ix3 h k d from funext fun a => by fin_cases a <;> rfl, v87_at, v6_at, ← EReal.coe_mul]
  exact congrArg _ (by ring)

theorem v89_at (h : Fin 8) (t : Fin 4096) (d : Fin 64) :
    val_main_v89 (F := Ideal) (up2 x) (up2 f) (up2 g) (ix3 h t d) = ((dq x f g h t d : ℝ) : EReal) := by
  unfold dq
  rw [Finset.sum_mul]
  rw [val_main_v89_apply, coe_sum]
  refine Finset.sum_congr rfl fun k _ => ?_
  rw [show lidx_main_v89 (ix3 h t d) k = ix3 h t k from funext fun a => by fin_cases a <;> rfl,
    show ridx_main_v89 (ix3 h t d) k = ix3 h k d from funext fun a => by fin_cases a <;> rfl, v87_at, v8_at, ← EReal.coe_mul]
  exact congrArg _ (by ring)

theorem v99_at (h : Fin 8) (t : Fin 4096) (d : Fin 64) :
    val_main_v99 (F := Ideal) (up2 x) (up2 f) (up2 g) (ix2 t (hcol h d)) = ((dq x f g h t d : ℝ) : EReal) := by
  rw [val_main_v99_apply]
  unfold val_main_v93 val_main_v92
  rw [merge_at, v89_at]
  rfl

theorem v100_at (h : Fin 8) (t : Fin 4096) (d : Fin 64) :
    val_main_v100 (F := Ideal) (up2 x) (up2 f) (up2 g) (ix2 t (hcol h d)) = ((dk x f g h t d : ℝ) : EReal) := by
  rw [val_main_v100_apply]
  unfold val_main_v91 val_main_v90
  rw [merge_at, v88_at]
  rfl

theorem blocks_at (y : FVec Ideal S8x4096 .f32) (n : Fin 32) (h : Fin 8) (l : Fin 128) :
    transpose S32x8x128 [1, 0, 2] (shapeCast S8x32x128 y shapeCasts_S8x4096_S8x32x128) transposes_S8x32x128_S32x8x128_1_0_2 (ix3 n h l)
      = y (ix2 h ⟨n.val * 128 + l.val, by omega⟩) := by
  pointwise []

theorem v103_at (n : Fin 32) (h : Fin 8) (l : Fin 128) :
    val_main_v103 (F := Ideal) (up2 x) (up2 f) (up2 g) (ix3 n h l) = ((dfk x f g h ⟨n.val * 128 + l.val, by omega⟩ : ℝ) : EReal) := by
  unfold val_main_v103 val_main_v102
  rw [blocks_at, v82_at]

/-- The host's floor division of a lane by two. -/
theorem half_word : ∀ (hp : Fin 4) (l : Fin 128),
    IntOp.cmpi CmpIPredicate.eq
      (Scalar.select
        (IntOp.andi
          (IntOp.cmpi CmpIPredicate.ne
            (if BitVec.ofNat 32 l.val = 0 then (0 : BitVec 32) else if (BitVec.ofNat 32 l.val).msb = true then -1 else 1)
            (if 2#32 = 0 then (0 : BitVec 32) else if (2#32).msb = true then -1 else 1))
          (IntOp.cmpi CmpIPredicate.ne (IntOp.remsi ArithUnit.host (BitVec.ofNat 32 l.val) 2#32) 0#32))
        (IntOp.subi (IntOp.divsi ArithUnit.host (BitVec.ofNat 32 l.val) 2#32) 1#32)
        (IntOp.divsi ArithUnit.host (BitVec.ofNat 32 l.val) 2#32))
      (BitVec.ofNat 32 hp.val) =
    if l.val / 2 = hp.val then 1#1 else 0#1 := by
  decide +kernel

theorem v105_at (hp : Fin 4) (t : Fin 4096) (l : Fin 128) :
    val_main_v105 (F := Ideal) (ix3 hp t l) = if l.val / 2 = hp.val then 1#1 else 0#1 := by
  pointwise [val_main_v105, val_main_v104, val_main_call2_v13, val_main_call2_v12, val_main_call2_c_0, val_main_call2_v11, val_main_call2_v10, val_main_call2_v9, val_main_call2_c, val_main_call2_v8, val_main_call2_v7, val_main_call2_v6, val_main_call2_v5, val_main_call2_v4, val_main_call2_v3, val_main_call2_v2, val_main_call2_v1, val_main_call2_v0, val_main_c, val_main_v95, val_main_v94]
  have hc : (id (constantI S_ 32 2#32) ix0 : BitVec 32) = 2#32 := rfl
  simp only [hc]
  exact half_word hp l

theorem v98_at (t : Fin 4096) (h : Fin 8) :
    val_main_v98 (F := Ideal) (up2 x) (up2 f) (up2 g) (ix2 t ⟨h.val, by omega⟩) = ((dfq x f g h t : ℝ) : EReal) := by
  pointwise [val_main_v98, val_main_v97, val_main_v96, v85_at]

theorem v107_at (hp : Fin 4) (t : Fin 4096) (l : Fin 128) :
    val_main_v107 (F := Ideal) (up2 x) (up2 f) (up2 g) (ix3 hp t l) = if l.val / 2 = hp.val then val_main_v98 (F := Ideal) (up2 x) (up2 f) (up2 g) (ix2 t l) else 0 := by
  pointwise [val_main_v107, val_main_call3_v2, val_main_call3_v1, val_main_v106, val_main_call3_v0, val_main_cst_19, v105_at]
  show Scalar.select _ _ (Ideal.ofBits .f32 0x00000000#32) = _
  rw [Ideal.ofBits_zero_f32]
  split <;> rfl

end Cert.ReferenceIdeal.Read

end
-- ==== Proof.Results.lean ====
module

public import proofs.«01_k».proof.Proof.RealTile
public import proofs.«01_k».proof.Proof.RefB

@[expose] public section

set_option maxRecDepth 16384

noncomputable section

namespace Cert.KernelIdeal.Gen

open Cert.KernelIdeal Idealize.ShloMosaic Idealize.ShloMosaic.TcCoe Idealize.SL.Sem Fox

variable (x : Fin 4096 → Fin 3072 → ℝ) (f : Fin 4096 → Fin 128 → ℝ) (g : Fin 4096 → Fin 512 → ℝ)
variable (m : (ℓ : Loc nD τ sig) → Buf (Elt Ideal) ℓ) (c : Dev nD)
variable (hx : hX m c = up2 x) (hf : hF m c = up2 f) (hg : hC m c = up2 g)

theorem ln_side (b : Bool) (d : Fin 64) : (64 ≤ (ln b d).val) ↔ b = true := by
  have h := d.isLt
  cases b
  · show 64 ≤ d.val ↔ false = true
    simp
  · show 64 ≤ 64 + d.val ↔ true = true
    simp

include hx hf hg in
theorem G8_real (hp : Fin 4) (i : Fin 8) (r : Fin 512) (b : Bool) (d : Fin 64) :
    Value.G8 m c (ix2 (tileRow i r) (tileCol hp (ln b d))) = ((dq x f g (hd hp b) (tileRow i r) d : ℝ) : EReal) := by
  have H := le_holds x f g m c hx hf hg hp i
  have hq := fun b' => tq_eq x f g H (co0 hp i) (co1 hp i) b' r d
  rw [G8_at, dq, EReal.coe_mul, eighth]
  cases b
  · rw [if_neg (fun h => by have := (ln_side false d).1 h; cases this), hq]
  · rw [if_pos ((ln_side true d).2 rfl), hq]

include hx hf hg in
theorem G9_real (hp : Fin 4) (kb : Fin 8) (s : Fin 512) (b : Bool) (d : Fin 64) :
    Value.G9 m c (ix2 (tileRow kb s) (tileCol hp (ln b d))) = ((dk x f g (hd hp b) (tileRow kb s) d : ℝ) : EReal) := by
  refine (G9_at m c hp kb s _).trans ?_
  show (∑ i : Fin 8, (le m c hp i).t15 (co hp i) kb s (ln b d) : EReal) = _
  rw [dk, tiles]
  exact Finset.sum_congr rfl fun i _ => t15_eq x f g (le_holds x f g m c hx hf hg hp i) (co0 hp i) (co1 hp i) b kb s d

include hx hf hg in
theorem G10_real (hp : Fin 4) (kb : Fin 8) (s : Fin 512) (b : Bool) (d : Fin 64) :
    Value.G10 m c (ix2 (tileRow kb s) (tileCol hp (ln b d))) = ((dv x f g (hd hp b) (tileRow kb s) d : ℝ) : EReal) := by
  refine (G10_at m c hp kb s _).trans ?_
  show (∑ i : Fin 8, (le m c hp i).t16 (co hp i) kb s (ln b d) : EReal) = _
  rw [dv, tiles]
  exact Finset.sum_congr rfl fun i _ => t16_eq x f g (le_holds x f g m c hx hf hg hp i) (co0 hp i) (co1 hp i) b kb s d

include hx hf hg in
theorem G11_real (kb : Fin 8) (j : Fin 4) (h : Fin 8) (l : Fin 128) :
    Value.G11 m c (ix3 (rowOf kb j) h l) = ((dfk x f g h (tileRow kb (tileCol j l)) : ℝ) : EReal) := by
  refine (G11_at m c kb j h l).trans ?_
  show (∑ hp : Fin 4, ∑ i : Fin 8, (le m c hp i).t13 (co hp i) kb h (tileCol j l) : EReal) = _
  rw [dfk, ← Finset.sum_neg_distrib, tiles]
  have hh := h.isLt
  rw [Finset.sum_eq_single (⟨h.val / 2, by omega⟩ : Fin 4)]
  · refine Finset.sum_congr rfl fun i _ => ?_
    rw [t13_eq x f g (le_holds x f g m c hx hf hg _ i) (co0 _ i) (co1 _ i), if_pos rfl, ← Finset.sum_neg_distrib, coe_sum]
  · intro hp _ hne
    refine Finset.sum_eq_zero fun i _ => ?_
    rw [t13_eq x f g (le_holds x f g m c hx hf hg _ i) (co0 _ i) (co1 _ i), if_neg (fun e => hne (Fin.ext e))]
  · exact fun e => absurd (Finset.mem_univ _) e

include hx hf hg in
theorem G12_real (hp : Fin 4) (i : Fin 8) (r : Fin 512) (l : Fin 128) :
    Value.G12 m c (ix3 hp (tileRow i r) l)
      = if h : l.val / 2 = hp.val then ((dfq x f g ⟨l.val, by have := hp.isLt; omega⟩ (tileRow i r) : ℝ) : EReal) else 0 := by
  have H := le_holds x f g m c hx hf hg hp i
  have hq := fun b' => tr_eq x f g H (co0 hp i) (co1 hp i) b' r
  rw [G12_at, headOf_eq (co0 hp i), headOf_eq (co0 hp i), hq, hq]
  have e0 : l = lane (hd hp false) ↔ l.val = 2 * hp.val := Fin.ext_iff
  have e1 : l = lane (hd hp true) ↔ l.val = 2 * hp.val + 1 := Fin.ext_iff
  by_cases h0 : l = lane (hd hp false)
  · have := e0.1 h0
    rw [if_pos h0, dif_pos (by omega)]
    exact congrArg (fun h => ((dfq x f g h (tileRow i r) : ℝ) : EReal)) (Fin.ext this.symm)
  · rw [if_neg h0]
    by_cases h1 : l = lane (hd hp true)
    · have := e1.1 h1
      rw [if_pos h1, dif_pos (by omega)]
      exact congrArg (fun h => ((dfq x f g h (tileRow i r) : ℝ) : EReal)) (Fin.ext this.symm)
    · rw [if_neg h1, dif_neg (fun hh => by
        rcases Nat.mod_two_eq_zero_or_one l.val with h2 | h2
        · exact h0 (e0.2 (by omega))
        · exact h1 (e1.2 (by omega)))]

theorem two_cases {n k : ℕ} (j : (⟨2, ![n, k]⟩ : Shape).Idx) : ∃ a b, j = ix2 a b :=
  ⟨j 0, j 1, funext fun a => by match a with | ⟨0, _⟩ => rfl | ⟨1, _⟩ => rfl⟩

theorem three_cases {n k p : ℕ} (j : (⟨3, ![n, k, p]⟩ : Shape).Idx) : ∃ a b d, j = ix3 a b d :=
  ⟨j 0, j 1, j 2, funext fun a => by match a with | ⟨0, _⟩ => rfl | ⟨1, _⟩ => rfl | ⟨2, _⟩ => rfl⟩

/-- Every row is a row of a tile. -/
theorem row_cases (t : Fin 4096) : ∃ i r, t = tileRow i r :=
  ⟨⟨t.val / 512, by omega⟩, ⟨t.val % 512, by omega⟩, Fin.ext (by show t.val = 512 * (t.val / 512) + t.val % 512; omega)⟩

/-- Every column is a lane of a head. -/
theorem col_cases (n : Fin 512) : ∃ hp b d, n = tileCol hp (ln b d) := by
  by_cases h : n.val % 128 < 64
  · exact ⟨⟨n.val / 128, by omega⟩, false, ⟨n.val % 128, h⟩, Fin.ext (by show n.val = 128 * (n.val / 128) + n.val % 128; omega)⟩
  · exact ⟨⟨n.val / 128, by omega⟩, true, ⟨n.val % 128 - 64, by omega⟩, Fin.ext (by show n.val = 128 * (n.val / 128) + (64 + (n.val % 128 - 64)); omega)⟩

include hx hf hg in
theorem G8_eq : Value.G8 m c = Cert.ReferenceIdeal.Read.val_main_v99 (F := Ideal) (up2 x) (up2 f) (up2 g) := by
  refine funext fun (j : (⟨2, ![4096, 512]⟩ : Shape).Idx) => ?_
  obtain ⟨t, n, rfl⟩ := two_cases j
  obtain ⟨i, r, rfl⟩ := row_cases t
  obtain ⟨hp, b, d, rfl⟩ := col_cases n
  refine (G8_real x f g m c hx hf hg hp i r b d).trans ?_
  rw [tileCol_ln]
  exact (Cert.ReferenceIdeal.Read.v99_at x f g _ _ _).symm

include hx hf hg in
theorem G9_eq : Value.G9 m c = Cert.ReferenceIdeal.Read.val_main_v100 (F := Ideal) (up2 x) (up2 f) (up2 g) := by
  refine funext fun (j : (⟨2, ![4096, 512]⟩ : Shape).Idx) => ?_
  obtain ⟨t, n, rfl⟩ := two_cases j
  obtain ⟨i, r, rfl⟩ := row_cases t
  obtain ⟨hp, b, d, rfl⟩ := col_cases n
  refine (G9_real x f g m c hx hf hg hp i r b d).trans ?_
  rw [tileCol_ln]
  exact (Cert.ReferenceIdeal.Read.v100_at x f g _ _ _).symm

include hx hf hg in
theorem G10_eq : Value.G10 m c = Cert.ReferenceIdeal.Read.val_main_v101 (F := Ideal) (up2 x) (up2 f) (up2 g) := by
  refine funext fun (j : (⟨2, ![4096, 512]⟩ : Shape).Idx) => ?_
  obtain ⟨t, n, rfl⟩ := two_cases j
  obtain ⟨i, r, rfl⟩ := row_cases t
  obtain ⟨hp, b, d, rfl⟩ := col_cases n
  refine (G10_real x f g m c hx hf hg hp i r b d).trans ?_
  rw [tileCol_ln]
  exact (Cert.ReferenceIdeal.Read.v101_at x f g _ _ _).symm

include hx hf hg in
theorem G11_eq : Value.G11 m c = Cert.ReferenceIdeal.Read.val_main_v103 (F := Ideal) (up2 x) (up2 f) (up2 g) := by
  refine funext fun (j : (⟨3, ![32, 8, 128]⟩ : Shape).Idx) => ?_
  obtain ⟨n, h, l, rfl⟩ := three_cases j
  obtain ⟨kb, j, rfl⟩ : ∃ kb j, n = rowOf kb j :=
    ⟨⟨n.val / 4, by omega⟩, ⟨n.val % 4, by omega⟩, Fin.ext (by show n.val = 4 * (n.val / 4) + n.val % 4; omega)⟩
  refine (G11_real x f g m c hx hf hg kb j h l).trans (.trans ?_ (Cert.ReferenceIdeal.Read.v103_at x f g _ h l).symm)
  refine congrArg (fun t => ((dfk x f g h t : ℝ) : EReal)) (Fin.ext ?_)
  show 512 * kb.val + (128 * j.val + l.val) = (4 * kb.val + j.val) * 128 + l.val
  omega

include hx hf hg in
theorem G12_eq : Value.G12 m c = Cert.ReferenceIdeal.Read.val_main_v107 (F := Ideal) (up2 x) (up2 f) (up2 g) := by
  refine funext fun (j : (⟨3, ![4, 4096, 128]⟩ : Shape).Idx) => ?_
  obtain ⟨hp, t, l, rfl⟩ := three_cases j
  obtain ⟨i, r, rfl⟩ := row_cases t
  refine (G12_real x f g m c hx hf hg hp i r l).trans (.trans ?_ (Cert.ReferenceIdeal.Read.v107_at x f g hp _ l).symm)
  split
  · rename_i h
    exact (Cert.ReferenceIdeal.Read.v98_at x f g (tileRow i r) ⟨l.val, by have := hp.isLt; omega⟩).symm
  · rfl

end Cert.KernelIdeal.Gen

end
-- ==== Proof.Halves.lean ====
module

public import Idealize.ShloMosaic.Lib.Pipeline.ValueKit

@[expose] public section

namespace Ffn

/-- A sum over an even range, by halves. -/
theorem sum_halves (n N : ℕ) (h : n + n = N) (f : Fin N → EReal) :
    ∑ k : Fin N, f k = ∑ k : Fin n, f ⟨k.val, by omega⟩ + ∑ k : Fin n, f ⟨n + k.val, by omega⟩ := by
  subst h
  exact Fin.sum_univ_add f

end Ffn
-- ==== Proof.FfnBwd.lean ====
module

public import proofs.«01_k».proof.Proof.Gen.Kernel2Ideal.Value
public import proofs.«01_k».proof.Proof.Gen.Reference2Ideal.Read
public import proofs.«01_k».proof.Proof.Halves
public import proofs.«01_k».proof.Proof.Finite
public import Idealize.ShloMosaic.Lib.Pipeline.ValueKit

/- The feed-forward layer's backward call: what one row block's body stores, the product rule for `h * sg h`, the
arrays the call stages, and its four results as the reference's. -/

@[expose] public section

set_option maxRecDepth 16384

noncomputable section

namespace Cert.Kernel2Ideal.Gen

open Cert.Kernel2Ideal Idealize.ShloMosaic Idealize.ShloMosaic.TcCoe Idealize.SL.Sem Idealize.ShloMosaic.StableHlo

/-- The logistic function, as both programs write it. -/
def sg (h : EReal) : EReal := Ideal.div 1 (1 + Ideal.exp (0 - h))

variable (x0 : S256x1024.Idx → EReal) (x1 x2 : S256x2816.Idx → EReal) (x3 x4 x5 : S2816x1024.Idx → EReal)

/-- The gradient of the hidden layer at a row and a column. -/
def da (p : Fin 256) (q : Fin 2816) : EReal := ∑ k : Fin 1024, x0 (ix2 p k) * x5 (ix2 q k)

/-- The gradient of the gate's pre-activation, and of the other factor, as the kernel forms them. -/
def dg (p : Fin 256) (q : Fin 2816) : EReal :=
  da x0 x5 p q * x2 (ix2 p q) * (sg (x1 (ix2 p q)) * (1 + x1 (ix2 p q) * (1 - sg (x1 (ix2 p q)))))
/-- The gradient of the second pre-activation, as the kernel forms it. -/
def du (p : Fin 256) (q : Fin 2816) : EReal := da x0 x5 p q * (x1 (ix2 p q) * sg (x1 (ix2 p q)))

theorem ix2_of (y : S256x2816.Idx) (p : Fin 256) (q : Fin 2816) (h0 : (y 0).val = p.val) (h1 : (y 1).val = q.val) : y = ix2 p q :=
  funext fun a => by match a with | ⟨0, _⟩ => exact Fin.ext h0 | ⟨1, _⟩ => exact Fin.ext h1

/-- The stored hidden layer. -/
theorem out_act (y : S256x2816.Idx) : out0_6 (F := Ideal) x0 x1 x2 x3 x4 x5 y = x1 y * sg (x1 y) * x2 y := by
  unfold_out out0_6
  canon_tiles x h
  · rw [ix2_of y (x 0) ⟨1408 + (x 1).val, by omega⟩ h0 h1]
    pointwise [k0_pay18, k0_pay16, k0_pay17, k0_pay13, k0_pay14, k0_pay15, k0_pay2, k0_pay5, k0_pay6, k0_pay7, sg]
  · rw [ix2_of y (x 0) ⟨(x 1).val, by omega⟩ h0 h1]
    pointwise [k0_pay9, k0_pay8, k0_pay2, k0_pay5, k0_pay6, k0_pay7, sg]

/-- The stored gradient of the gate's pre-activation. -/
theorem out_dhg (y : S256x2816.Idx) : out0_7 (F := Ideal) x0 x1 x2 x3 x4 x5 y = dg x0 x1 x2 x5 (y 0) (y 1) := by
  unfold_out out0_7
  canon_tiles x h
  · rw [ix2_of y (x 0) ⟨1408 + (x 1).val, by omega⟩ h0 h1]
    pointwise [k0_pay22, k0_pay19, k0_pay21, k0_pay16, k0_pay17, k0_pay13, k0_pay14, k0_pay15, k0_pay2, k0_pay5, k0_pay6, k0_pay7, sg, dg, da]
  · rw [ix2_of y (x 0) ⟨(x 1).val, by omega⟩ h0 h1]
    pointwise [k0_pay10, k0_pay4, k0_pay8, k0_pay2, k0_pay5, k0_pay6, k0_pay7, sg, dg, da]

/-- The stored gradient of the second pre-activation. -/
theorem out_dhu (y : S256x2816.Idx) : out0_8 (F := Ideal) x0 x1 x2 x3 x4 x5 y = du x0 x1 x5 (y 0) (y 1) := by
  unfold_out out0_8
  canon_tiles x h
  · rw [ix2_of y (x 0) ⟨1408 + (x 1).val, by omega⟩ h0 h1]
    pointwise [k0_pay23, k0_pay20, k0_pay21, k0_pay16, k0_pay17, k0_pay13, k0_pay14, k0_pay15, k0_pay2, k0_pay5, k0_pay6, k0_pay7, sg, du, da]
  · rw [ix2_of y (x 0) ⟨(x 1).val, by omega⟩ h0 h1]
    pointwise [k0_pay11, k0_pay4, k0_pay8, k0_pay2, k0_pay5, k0_pay6, k0_pay7, sg, du, da]

/-- The stored gradient of the layer's input: the two halves of the columns together are the whole contractions. -/
theorem out_du2 (y : S256x1024.Idx) : out0_9 (F := Ideal) x0 x1 x2 x3 x4 x5 y
    = ∑ q : Fin 2816, dg x0 x1 x2 x5 (y 0) q * x3 (ix2 q (y 1)) + ∑ q : Fin 2816, du x0 x1 x5 (y 0) q * x4 (ix2 q (y 1)) := by
  rw [Ffn.sum_halves 1408 2816 (by norm_num), Ffn.sum_halves 1408 2816 (by norm_num), add_add_add_comm, ← add_assoc]
  unfold_out out0_9
  canon_tiles x h
  have hy : y = x := funext fun a => by match a with | ⟨0, _⟩ => exact Fin.ext h0 | ⟨1, _⟩ => exact Fin.ext h1
  subst hy
  pointwise [k0_pay1, k0_pay12, k0_pay3, k0_pay22, k0_pay23, k0_pay20, k0_pay19, k0_pay21, k0_pay16, k0_pay17, k0_pay13, k0_pay14, k0_pay15, k0_pay10, k0_pay11, k0_pay4, k0_pay8, k0_pay2, k0_pay5, k0_pay6, k0_pay7, sg, dg, du, da]

/-- A value that is a real number. -/
def IsReal (a : EReal) : Prop := ∃ r : ℝ, a = (r : EReal)

/-- Products and sums of reals are real. -/
theorem isReal_mul {a b : EReal} (ha : IsReal a) (hb : IsReal b) : IsReal (a * b) := by
  obtain ⟨r, rfl⟩ := ha
  obtain ⟨s, rfl⟩ := hb
  exact ⟨r * s, (EReal.coe_mul r s).symm⟩

theorem isReal_sum {n : ℕ} (f : Fin n → EReal) (h : ∀ k, IsReal (f k)) : IsReal (∑ k, f k) := by
  choose g hg using h
  exact ⟨∑ k, g k, (Finset.sum_congr rfl fun k _ => hg k).trans (Fox.coe_sum _ _).symm⟩

theorem sg_coe (h : ℝ) : sg (h : EReal) = ((1 / (1 + Real.exp (-h)) : ℝ) : EReal) := by
  unfold sg
  rw [zero_sub, ← EReal.coe_neg, Ideal.exp_coe, ← EReal.coe_one, ← EReal.coe_add, Ideal.div_coe (by positivity), ← EReal.coe_mul, one_mul]

theorem sg_top : sg ⊤ = 1 := by
  unfold sg
  rw [zero_sub, EReal.neg_top, Ideal.exp_bot, add_zero, ← EReal.coe_one, Ideal.div_coe one_ne_zero, ← EReal.coe_mul]
  norm_num

theorem sg_bot : sg ⊥ = 0 := by
  unfold sg
  rw [zero_sub, EReal.neg_bot, Ideal.exp_top, Ideal.div, ← EReal.coe_one, EReal.coe_add_top, if_neg (by simp), EReal.inv_top, mul_zero]

/-- The derivative of `h * sg h` with its common factor taken out, against the two terms of the product rule: equal when the factor in front is a real number, whatever `h` is. -/
theorem rule (d h : EReal) (hd : IsReal d) :
    d * (sg h * (1 + h * (1 - sg h))) = d * sg h + h * d * (sg h * (1 - sg h)) := by
  obtain ⟨d, rfl⟩ := hd
  induction h with
  | bot => rw [sg_bot]; simp
  | top =>
    rw [sg_top, show (1 : EReal) - 1 = 0 from by rw [← EReal.coe_one, ← EReal.coe_sub]; simp]
    simp
  | coe h =>
    rw [sg_coe]
    generalize 1 / (1 + Real.exp (-h)) = s
    rw [← EReal.coe_one, ← EReal.coe_sub]
    simp only [← EReal.coe_mul, ← EReal.coe_add]
    congr 1
    ring

/-! ## The arrays the call reads -/

variable (m : (ℓ : Loc nD τ sig) → Buf (Elt Ideal) ℓ) (c : Dev nD)

/-- The two pre-activations, the gradient of the hidden layer, and the five arguments, as arrays of extended reals. -/
def hgA : S4096x2816.Idx → EReal := Cert.Reference2Ideal.Read.val_main_v2 (F := Ideal) (m ((c : Thread nD τ).loc main_arg0)) (m ((c : Thread nD τ).loc main_arg1))
def huA : S4096x2816.Idx → EReal := Cert.Reference2Ideal.Read.val_main_v3 (F := Ideal) (m ((c : Thread nD τ).loc main_arg0)) (m ((c : Thread nD τ).loc main_arg2))
def daA : S4096x2816.Idx → EReal := Cert.Reference2Ideal.Read.val_main_v7 (F := Ideal) (m ((c : Thread nD τ).loc main_arg3)) (m ((c : Thread nD τ).loc main_arg4))
def uA : S4096x1024.Idx → EReal := m ((c : Thread nD τ).loc main_arg0)
def gA : S1024x2816.Idx → EReal := m ((c : Thread nD τ).loc main_arg1)
def pA : S1024x2816.Idx → EReal := m ((c : Thread nD τ).loc main_arg2)
def wA : S2816x1024.Idx → EReal := m ((c : Thread nD τ).loc main_arg3)
def ctA : S4096x1024.Idx → EReal := m ((c : Thread nD τ).loc main_arg4)

/-- What each of the six staged arrays holds when the call begins. -/
theorem V0 : (V m c main_v0 : S4096x1024.Idx → EReal) = ctA m c := by
  unfold V
  simp only [hostOps0, TRef.binary, TRef.nullary, TRef.ternary, TRef.unary, TRef.toBuf, TRef.ofBuf, cast_eq]
  after_results_simp <;> rfl
theorem V1 : (V m c main_v1 : S4096x2816.Idx → EReal) = hgA m c := by
  unfold V
  simp only [hostOps0, TRef.binary, TRef.nullary, TRef.ternary, TRef.unary, TRef.toBuf, TRef.ofBuf, cast_eq]
  after_results_simp <;> rfl
theorem V2 : (V m c main_v2 : S4096x2816.Idx → EReal) = huA m c := by
  unfold V
  simp only [hostOps0, TRef.binary, TRef.nullary, TRef.ternary, TRef.unary, TRef.toBuf, TRef.ofBuf, cast_eq]
  after_results_simp <;> rfl
theorem V4 (q : Fin 2816) (k : Fin 1024) : (V m c main_v4 : S2816x1024.Idx → EReal) (ix2 q k) = gA m c (ix2 k q) := by
  unfold V
  simp only [hostOps0, TRef.binary, TRef.nullary, TRef.ternary, TRef.unary, TRef.toBuf, TRef.ofBuf, cast_eq]
  after_results_simp
  pointwise [gA]
theorem V6 (q : Fin 2816) (k : Fin 1024) : (V m c main_v6 : S2816x1024.Idx → EReal) (ix2 q k) = pA m c (ix2 k q) := by
  unfold V
  simp only [hostOps0, TRef.binary, TRef.nullary, TRef.ternary, TRef.unary, TRef.toBuf, TRef.ofBuf, cast_eq]
  after_results_simp
  pointwise [pA]
theorem V7 : (V m c main_v7 : S2816x1024.Idx → EReal) = wA m c := by
  unfold V
  simp only [hostOps0, TRef.binary, TRef.nullary, TRef.ternary, TRef.unary, TRef.toBuf, TRef.ofBuf, cast_eq]
  after_results_simp <;> rfl

/-! ## The reference's results at an index -/

/-- The reference's hidden layer and gradients at an index. -/
theorem ref_act (i : S4096x2816.Idx) : Cert.Reference2Ideal.Read.val_main_v25 (F := Ideal) (m ((c : Thread nD τ).loc main_arg0)) (m ((c : Thread nD τ).loc main_arg1)) (m ((c : Thread nD τ).loc main_arg2)) i
    = hgA m c i * sg (hgA m c i) * huA m c i := by
  unfold hgA huA
  simp only [Cert.Reference2Ideal.Read.val_main_v25, Cert.Reference2Ideal.Read.val_main_v24, Cert.Reference2Ideal.Read.val_main_v23, Cert.Reference2Ideal.Read.val_main_call4_v5, Cert.Reference2Ideal.Read.val_main_call4_v4, Cert.Reference2Ideal.Read.val_main_call4_v3, Cert.Reference2Ideal.Read.val_main_call4_v2, Cert.Reference2Ideal.Read.val_main_call4_v1, Cert.Reference2Ideal.Read.val_main_call4_v0, Cert.Reference2Ideal.Read.val_main_call4_cst, Cert.Reference2Ideal.Read.val_main_call4_cst_0,
    show Cert.Reference2Ideal.Read.val_main_v0 (F := Ideal) (m ((c : Thread nD τ).loc main_arg0)) (m ((c : Thread nD τ).loc main_arg1)) = Cert.Reference2Ideal.Read.val_main_v2 (m ((c : Thread nD τ).loc main_arg0)) (m ((c : Thread nD τ).loc main_arg1)) from rfl,
    show Cert.Reference2Ideal.Read.val_main_v1 (F := Ideal) (m ((c : Thread nD τ).loc main_arg0)) (m ((c : Thread nD τ).loc main_arg2)) = Cert.Reference2Ideal.Read.val_main_v3 (m ((c : Thread nD τ).loc main_arg0)) (m ((c : Thread nD τ).loc main_arg2)) from rfl]
  generalize Cert.Reference2Ideal.Read.val_main_v2 (F := Ideal) _ _ = a
  generalize Cert.Reference2Ideal.Read.val_main_v3 (F := Ideal) _ _ = b
  pointwise [sg, zero_sub]

theorem ref_dhg (i : S4096x2816.Idx) : Cert.Reference2Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i
    = daA m c i * huA m c i * sg (hgA m c i) + hgA m c i * (daA m c i * huA m c i) * (sg (hgA m c i) * (1 - sg (hgA m c i))) := by
  unfold hgA huA daA
  simp only [Cert.Reference2Ideal.Read.val_main_v26, Cert.Reference2Ideal.Read.val_main_v10, Cert.Reference2Ideal.Read.val_main_v9, Cert.Reference2Ideal.Read.val_main_call1_v2, Cert.Reference2Ideal.Read.val_main_call1_v1, Cert.Reference2Ideal.Read.val_main_call1_v0, Cert.Reference2Ideal.Read.val_main_v4_2, Cert.Reference2Ideal.Read.val_main_v4_1, Cert.Reference2Ideal.Read.val_main_v4_0, Cert.Reference2Ideal.Read.val_main_call0_v7, Cert.Reference2Ideal.Read.val_main_call0_v6, Cert.Reference2Ideal.Read.val_main_call0_v4, Cert.Reference2Ideal.Read.val_main_call0_v3, Cert.Reference2Ideal.Read.val_main_call0_v2, Cert.Reference2Ideal.Read.val_main_call0_v1, Cert.Reference2Ideal.Read.val_main_call0_v0, Cert.Reference2Ideal.Read.val_main_call0_cst, Cert.Reference2Ideal.Read.val_main_call0_cst_0, Cert.Reference2Ideal.Read.val_main_call0_cst_1]
  generalize Cert.Reference2Ideal.Read.val_main_v2 (F := Ideal) _ _ = a
  generalize Cert.Reference2Ideal.Read.val_main_v3 (F := Ideal) _ _ = b
  generalize Cert.Reference2Ideal.Read.val_main_v7 (F := Ideal) _ _ = d
  pointwise [sg, zero_sub]

theorem ref_dhu (i : S4096x2816.Idx) : Cert.Reference2Ideal.Read.val_main_v27 (F := Ideal) (m ((c : Thread nD τ).loc main_arg0)) (m ((c : Thread nD τ).loc main_arg1)) (m ((c : Thread nD τ).loc main_arg3)) (m ((c : Thread nD τ).loc main_arg4)) i
    = hgA m c i * sg (hgA m c i) * daA m c i := by
  unfold hgA daA
  simp only [Cert.Reference2Ideal.Read.val_main_v27, Cert.Reference2Ideal.Read.val_main_v8, Cert.Reference2Ideal.Read.val_main_v4_2, Cert.Reference2Ideal.Read.val_main_v4_1, Cert.Reference2Ideal.Read.val_main_v4_0, Cert.Reference2Ideal.Read.val_main_call0_v7, Cert.Reference2Ideal.Read.val_main_call0_v6, Cert.Reference2Ideal.Read.val_main_call0_v4, Cert.Reference2Ideal.Read.val_main_call0_v3, Cert.Reference2Ideal.Read.val_main_call0_v2, Cert.Reference2Ideal.Read.val_main_call0_v1, Cert.Reference2Ideal.Read.val_main_call0_v0, Cert.Reference2Ideal.Read.val_main_call0_cst, Cert.Reference2Ideal.Read.val_main_call0_cst_0, Cert.Reference2Ideal.Read.val_main_call0_cst_1]
  generalize Cert.Reference2Ideal.Read.val_main_v2 (F := Ideal) _ _ = a
  generalize Cert.Reference2Ideal.Read.val_main_v7 (F := Ideal) _ _ = d
  pointwise [sg, zero_sub]

/-- The reference's gradients of the two pre-activations, as arrays of extended reals. -/
def dgA : S4096x2816.Idx → EReal := Cert.Reference2Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4))
def duA : S4096x2816.Idx → EReal := Cert.Reference2Ideal.Read.val_main_v27 (F := Ideal) (m ((c : Thread nD τ).loc main_arg0)) (m ((c : Thread nD τ).loc main_arg1)) (m ((c : Thread nD τ).loc main_arg3)) (m ((c : Thread nD τ).loc main_arg4))

theorem ref_du2 (i : S4096x1024.Idx) : Cert.Reference2Ideal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i
    = ∑ q : Fin 2816, duA m c (ix2 (i 0) q) * pA m c (ix2 (i 1) q) + ∑ q : Fin 2816, dgA m c (ix2 (i 0) q) * gA m c (ix2 (i 1) q) := by
  unfold duA dgA pA gA
  simp only [Cert.Reference2Ideal.Read.val_main_v22, Cert.Reference2Ideal.Read.val_main_v21, Cert.Reference2Ideal.Read.val_main_v20,
    show Cert.Reference2Ideal.Read.val_main_v17 (F := Ideal) (m ((c : Thread nD τ).loc main_arg0)) (m ((c : Thread nD τ).loc main_arg1)) (m ((c : Thread nD τ).loc main_arg3)) (m ((c : Thread nD τ).loc main_arg4)) = Cert.Reference2Ideal.Read.val_main_v27 (m ((c : Thread nD τ).loc main_arg0)) (m ((c : Thread nD τ).loc main_arg1)) (m ((c : Thread nD τ).loc main_arg3)) (m ((c : Thread nD τ).loc main_arg4)) from rfl,
    show Cert.Reference2Ideal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = Cert.Reference2Ideal.Read.val_main_v26 (m ((c : Thread nD τ).loc main_arg0)) (m ((c : Thread nD τ).loc main_arg1)) (m ((c : Thread nD τ).loc main_arg2)) (m ((c : Thread nD τ).loc main_arg3)) (m ((c : Thread nD τ).loc main_arg4)) from rfl]
  generalize Cert.Reference2Ideal.Read.val_main_v26 (F := Ideal) _ _ _ _ _ = a
  generalize Cert.Reference2Ideal.Read.val_main_v27 (F := Ideal) _ _ _ _ = b
  pointwise []

theorem da_at (i : S4096x2816.Idx) : daA m c i = ∑ k : Fin 1024, ctA m c (ix2 (i 0) k) * wA m c (ix2 (i 1) k) := by
  unfold daA ctA wA
  pointwise [Cert.Reference2Ideal.Read.val_main_v7]

theorem hu_at (i : S4096x2816.Idx) : huA m c i = ∑ k : Fin 1024, uA m c (ix2 (i 0) k) * pA m c (ix2 k (i 1)) := by
  unfold huA uA pA
  pointwise [Cert.Reference2Ideal.Read.val_main_v3]

/-! ## The blocks a point works on -/

theorem idx_at : ∀ t : Fin cfg0.N, win0_0.index t = ![t.val, 0] ∧ win0_1.index t = ![t.val, 0] ∧ win0_2.index t = ![t.val, 0] ∧ win0_3.index t = ![0, 0] ∧ win0_4.index t = ![0, 0]
    ∧ win0_5.index t = ![0, 0] ∧ win0_6.index t = ![t.val, 0] ∧ win0_7.index t = ![t.val, 0] ∧ win0_8.index t = ![t.val, 0] ∧ win0_9.index t = ![t.val, 0] :=
  (by decide +kernel : ∀ t : Fin grid0.N, _)

/-- The six blocks a point works on, each read from its array. -/
def b0 (t : Fin cfg0.N) : S256x1024.Idx → EReal := iblk m c 0 t
def b1 (t : Fin cfg0.N) : S256x2816.Idx → EReal := iblk m c 1 t
def b2 (t : Fin cfg0.N) : S256x2816.Idx → EReal := iblk m c 2 t
def b3 (t : Fin cfg0.N) : S2816x1024.Idx → EReal := iblk m c 3 t
def b4 (t : Fin cfg0.N) : S2816x1024.Idx → EReal := iblk m c 4 t
def b5 (t : Fin cfg0.N) : S2816x1024.Idx → EReal := iblk m c 5 t

theorem b0_at (t : Fin cfg0.N) (p : Fin 256) (k : Fin 1024) (p' : Fin 4096) (hp : p'.val = t.val * 256 + p.val) : b0 m c t (ix2 p k) = ctA m c (ix2 p' k) := by
  rw [← V0]
  unfold b0
  blk_ext [iblk, idx_at t]
theorem b1_at (t : Fin cfg0.N) (p : Fin 256) (q : Fin 2816) (p' : Fin 4096) (hp : p'.val = t.val * 256 + p.val) : b1 m c t (ix2 p q) = hgA m c (ix2 p' q) := by
  rw [← V1]
  unfold b1
  blk_ext [iblk, idx_at t]
theorem b2_at (t : Fin cfg0.N) (p : Fin 256) (q : Fin 2816) (p' : Fin 4096) (hp : p'.val = t.val * 256 + p.val) : b2 m c t (ix2 p q) = huA m c (ix2 p' q) := by
  rw [← V2]
  unfold b2
  blk_ext [iblk, idx_at t]
theorem b3_at (t : Fin cfg0.N) (q : Fin 2816) (k : Fin 1024) : b3 m c t (ix2 q k) = gA m c (ix2 k q) := by
  rw [← V4]
  unfold b3
  blk_ext [iblk, idx_at t]
theorem b4_at (t : Fin cfg0.N) (q : Fin 2816) (k : Fin 1024) : b4 m c t (ix2 q k) = pA m c (ix2 k q) := by
  rw [← V6]
  unfold b4
  blk_ext [iblk, idx_at t]
theorem b5_at (t : Fin cfg0.N) (q : Fin 2816) (k : Fin 1024) : b5 m c t (ix2 q k) = wA m c (ix2 q k) := by
  rw [← V7]
  unfold b5
  blk_ext [iblk, idx_at t]

/-- A row block's gradients are the reference's rows. -/
theorem da_row (t : Fin cfg0.N) (p : Fin 256) (q : Fin 2816) (p' : Fin 4096) (hp : p'.val = t.val * 256 + p.val) :
    da (b0 m c t) (b5 m c t) p q = daA m c (ix2 p' q) := by
  rw [da_at]
  exact Finset.sum_congr rfl fun k _ => congrArg₂ (· * ·) (b0_at m c t p k p' hp) (b5_at m c t q k)

theorem du_row (t : Fin cfg0.N) (p : Fin 256) (q : Fin 2816) (p' : Fin 4096) (hp : p'.val = t.val * 256 + p.val) :
    du (b0 m c t) (b1 m c t) (b5 m c t) p q = duA m c (ix2 p' q) := by
  unfold du duA
  rw [ref_dhu, da_row m c t p q p' hp, b1_at m c t p q p' hp, mul_comm]

theorem dg_row (hD : ∀ i, IsReal (daA m c i * huA m c i)) (t : Fin cfg0.N) (p : Fin 256) (q : Fin 2816) (p' : Fin 4096) (hp : p'.val = t.val * 256 + p.val) :
    dg (b0 m c t) (b1 m c t) (b2 m c t) (b5 m c t) p q = dgA m c (ix2 p' q) := by
  unfold dg dgA
  rw [ref_dhg, da_row m c t p q p' hp, b1_at m c t p q p' hp, b2_at m c t p q p' hp, rule _ _ (hD _)]

theorem ix2_big (i : S4096x2816.Idx) (q : Fin 2816) (h1 : (i 1).val = q.val) : i = ix2 (i 0) q :=
  funext fun a => by match a with | ⟨0, _⟩ => rfl | ⟨1, _⟩ => exact Fin.ext h1

/-- The four stored blocks against the reference's arrays, at an index of the block and the index it is written to. -/
theorem act_at (t : Fin cfg0.N) (y : S256x2816.Idx) (i : S4096x2816.Idx) (h0 : (i 0).val = t.val * 256 + (y 0).val) (h1 : (i 1).val = (y 1).val) :
    out0_6 (F := Ideal) (b0 m c t) (b1 m c t) (b2 m c t) (b3 m c t) (b4 m c t) (b5 m c t) y = Cert.Reference2Ideal.Read.val_main_v25 (F := Ideal) (m ((c : Thread nD τ).loc main_arg0)) (m ((c : Thread nD τ).loc main_arg1)) (m ((c : Thread nD τ).loc main_arg2)) i := by
  rw [ref_act, out_act, ix2_of y (y 0) (y 1) rfl rfl, b1_at m c t (y 0) (y 1) (i 0) h0, b2_at m c t (y 0) (y 1) (i 0) h0]
  exact congrArg (fun i => hgA m c i * sg (hgA m c i) * huA m c i) (ix2_big i (y 1) h1).symm

theorem dhg_at (hD : ∀ i, IsReal (daA m c i * huA m c i)) (t : Fin cfg0.N) (y : S256x2816.Idx) (i : S4096x2816.Idx) (h0 : (i 0).val = t.val * 256 + (y 0).val) (h1 : (i 1).val = (y 1).val) :
    out0_7 (F := Ideal) (b0 m c t) (b1 m c t) (b2 m c t) (b3 m c t) (b4 m c t) (b5 m c t) y = Cert.Reference2Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  rw [out_dhg, dg_row m c hD t (y 0) (y 1) (i 0) h0]
  exact congrArg (dgA m c) (ix2_big i (y 1) h1).symm

theorem dhu_at (t : Fin cfg0.N) (y : S256x2816.Idx) (i : S4096x2816.Idx) (h0 : (i 0).val = t.val * 256 + (y 0).val) (h1 : (i 1).val = (y 1).val) :
    out0_8 (F := Ideal) (b0 m c t) (b1 m c t) (b2 m c t) (b3 m c t) (b4 m c t) (b5 m c t) y = Cert.Reference2Ideal.Read.val_main_v27 (F := Ideal) (m ((c : Thread nD τ).loc main_arg0)) (m ((c : Thread nD τ).loc main_arg1)) (m ((c : Thread nD τ).loc main_arg3)) (m ((c : Thread nD τ).loc main_arg4)) i := by
  rw [out_dhu, du_row m c t (y 0) (y 1) (i 0) h0]
  exact congrArg (duA m c) (ix2_big i (y 1) h1).symm

theorem du2_at (hD : ∀ i, IsReal (daA m c i * huA m c i)) (t : Fin cfg0.N) (y : S256x1024.Idx) (i : S4096x1024.Idx) (h0 : (i 0).val = t.val * 256 + (y 0).val) (h1 : (i 1).val = (y 1).val) :
    out0_9 (F := Ideal) (b0 m c t) (b1 m c t) (b2 m c t) (b3 m c t) (b4 m c t) (b5 m c t) y = Cert.Reference2Ideal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  rw [ref_du2, out_du2, show i 1 = y 1 from Fin.ext h1, add_comm]
  refine congrArg₂ (· + ·) (Finset.sum_congr rfl fun q _ => ?_) (Finset.sum_congr rfl fun q _ => ?_)
  · exact congrArg₂ (· * ·) (du_row m c t (y 0) q (i 0) h0) (b4_at m c t q (y 1))
  · exact congrArg₂ (· * ·) (dg_row m c hD t (y 0) q (i 0) h0) (b3_at m c t q (y 1))

/-! ## The call's four results -/

/-- The four results. -/
theorem act : (dats m 0 c).arrAt 6 cfg0.N = Cert.Reference2Ideal.Read.val_main_v25 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  refine act_at m c t y _ ?_ ?_ <;> blk_simp [idx_at t]

theorem dhg (hD : ∀ i, IsReal (daA m c i * huA m c i)) : (dats m 0 c).arrAt 7 cfg0.N = Cert.Reference2Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  refine dhg_at m c hD t y _ ?_ ?_ <;> blk_simp [idx_at t]

theorem dhu : (dats m 0 c).arrAt 8 cfg0.N = Cert.Reference2Ideal.Read.val_main_v27 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 8 _ (by decide +kernel) fun t hf y => ?_
  blk_simp
  rw [after0_8]
  refine dhu_at m c t y _ ?_ ?_ <;> blk_simp [idx_at t]

theorem du2 (hD : ∀ i, IsReal (daA m c i * huA m c i)) : (dats m 0 c).arrAt 9 cfg0.N = Cert.Reference2Ideal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]
  refine du2_at m c hD t y _ ?_ ?_ <;> blk_simp [idx_at t]

/-- Arrays of reals give real gradients of the hidden layer. -/
theorem real_da (hu : ∀ i, IsReal (uA m c i)) (hp : ∀ i, IsReal (pA m c i)) (hw : ∀ i, IsReal (wA m c i)) (hct : ∀ i, IsReal (ctA m c i))
    (i : S4096x2816.Idx) : IsReal (daA m c i * huA m c i) := by
  rw [da_at, hu_at]
  exact isReal_mul (isReal_sum _ fun k => isReal_mul (hct _) (hw _)) (isReal_sum _ fun k => isReal_mul (hu _) (hp _))

end Cert.Kernel2Ideal.Gen
-- ==== Proof.DwGate.lean ====
module

public import proofs.«01_k».proof.Proof.Gen.Kernel3Ideal.Value
public import proofs.«01_k».proof.Proof.Gen.Reference3Ideal.Read
public import proofs.«01_k».proof.Proof.Halves

@[expose] public section

set_option maxRecDepth 16384

noncomputable section

namespace Cert.Kernel3Ideal.Gen

open Cert.Kernel3Ideal Idealize.ShloMosaic Idealize.ShloMosaic.TcCoe Idealize.SL.Sem Idealize.ShloMosaic.StableHlo

variable (m : (ℓ : Loc nD τ sig) → Buf (Elt Ideal) ℓ) (c : Dev nD)

/-- The left factor the call stages is the gradient of the gate's pre-activation. -/
theorem left_eq : (V m c main_v9 : S4096x2816.Idx → EReal) = Cert.Reference3Ideal.Read.val_main_v7 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  unfold V
  simp only [hostOps0, hostOps0_1, hostOps0_2, hostOps0_3, hostOps0_4, List.flatten_cons, List.flatten_nil, TRef.binary, TRef.nullary, TRef.ternary, TRef.unary, TRef.toBuf, TRef.ofBuf, cast_eq, List.cons_append, List.nil_append, List.append_nil]
  after_results_simp <;> rfl

/-- The right factor is the layer's input. -/
theorem right_eq : (V m c main_v10 : S4096x1024.Idx → EReal) = m ((c : Thread nD τ).loc main_arg0) := by
  unfold V
  simp only [hostOps0, hostOps0_1, hostOps0_2, hostOps0_3, hostOps0_4, List.flatten_cons, List.flatten_nil, TRef.binary, TRef.nullary, TRef.ternary, TRef.unary, TRef.toBuf, TRef.ofBuf, cast_eq, List.cons_append, List.nil_append, List.append_nil]
  after_results_simp <;> rfl

theorem fill_at (j : S1408x1024.Idx) : k0_pay1 (F := Ideal) j = 0 := by
  pointwise [k0_pay1]

/-- What one step over 2048 rows adds. -/
theorem part_at (acc : S1408x1024.Idx → EReal) (a : S2048x1408.Idx → EReal) (b : S2048x1024.Idx → EReal) (j : S1408x1024.Idx) :
    k0_pay2 (F := Ideal) acc a b j = acc j + ∑ k : Fin 2048, a (ix2 k (j 0)) * b (ix2 k (j 1)) := by
  pointwise [k0_pay2]

theorem narrow_at (v : S1408x1024.Idx → EReal) (j : S1408x1024.Idx) : k0_pay3 (F := Ideal) v j = v j := by
  pointwise [k0_pay3]

theorem idx_at : ∀ t : Fin cfg0.N, win0_0.index t = ![t.val % 2, t.val / 2] ∧ win0_1.index t = ![t.val % 2, 0] ∧ win0_2.index t = ![t.val / 2, 0] ∧ win0_3.index t = ![t.val / 2, 0] :=
  (by decide +kernel : ∀ t : Fin grid0.N, _)

/-- The two blocks a point works on. -/
def blkL (t : Fin cfg0.N) : S2048x1408.Idx → EReal := iblk m c 0 t
def blkR (t : Fin cfg0.N) : S2048x1024.Idx → EReal := iblk m c 1 t

/-- The two factors, whole. -/
def left : S4096x2816.Idx → EReal := V m c main_v9
def right : S4096x1024.Idx → EReal := V m c main_v10

theorem blkL_at (t : Fin cfg0.N) (k : Fin 2048) (r : Fin 1408) (k' : Fin 4096) (i : Fin 2816) (hk : k'.val = t.val % 2 * 2048 + k.val)
    (hi : i.val = t.val / 2 * 1408 + r.val) : blkL m c t (ix2 k r) = left m c (ix2 k' i) := by
  unfold blkL left
  blk_ext [iblk, idx_at t]

theorem blkR_at (t : Fin cfg0.N) (k : Fin 2048) (n : Fin 1024) (k' : Fin 4096) (hk : k'.val = t.val % 2 * 2048 + k.val) :
    blkR m c t (ix2 k n) = right m c (ix2 k' n) := by
  unfold blkR right
  blk_ext [iblk, idx_at t]

/-- After a point's body the accumulator holds the products over the rows met since the block began. -/
theorem acc_zero (t : Fin cfg0.N) (h : t.val % 2 = 0) (j : S1408x1024.Idx) :
    (outsAt0 m c t.val t.isLt).1 j = ∑ k : Fin 2048, blkL m c t (ix2 k (j 0)) * blkR m c t (ix2 k (j 1)) := by
  rw [outsAt0_A m c t h (by omega)]
  frame_out
  rw [part_at, fill_at, zero_add]
  rfl

theorem acc_step (t : Fin cfg0.N) (h : ¬ t.val % 2 = 0) (j : S1408x1024.Idx) :
    (outsAt0 m c t.val t.isLt).1 j = (outsAt0 m c (t.val - 1) (Nat.lt_of_le_of_lt (Nat.sub_le _ _) t.isLt)).1 j
      + ∑ k : Fin 2048, blkL m c t (ix2 k (j 0)) * blkR m c t (ix2 k (j 1)) := by
  rw [outsAt0_B m c t h (by omega)]
  frame_out
  rw [part_at]
  rfl

/-- At a block's last point the narrow result is the accumulator's value. -/
theorem narrow_acc (t : Fin cfg0.N) (h : ¬ t.val % 2 = 0) (j : S1408x1024.Idx) :
    (outsAt0 m c t.val t.isLt).2 j = ((outsAt0 m c t.val t.isLt).1 j : EReal) := by
  rw [outsAt0_B m c t h (by omega)]
  frame_out
  rw [narrow_at]

/-- The product the call is to form. -/
def prod (i : S2816x1024.Idx) : EReal :=
  ∑ k : Fin 4096, left m c (ix2 k (i 0)) * right m c (ix2 k (i 1))

/-- At a block's last point the accumulator holds the whole contraction. -/
theorem acc_all (t : Fin cfg0.N) (h : t.val % 2 = 1) (r : Fin 1408) (n : Fin 1024) (i : Fin 2816) (hi : i.val = t.val / 2 * 1408 + r.val) :
    (outsAt0 m c t.val t.isLt).1 (ix2 r n) = prod m c (ix2 i n) := by
  have hN : t.val < 4 := lt_of_lt_of_eq t.isLt N_0
  have hb : t.val - 1 < cfg0.N := Nat.lt_of_le_of_lt (Nat.sub_le _ _) t.isLt
  refine (acc_step m c t (by omega) (ix2 r n)).trans ?_
  refine (congrArg (· + _) (acc_zero m c ⟨t.val - 1, hb⟩ (by dsimp only; omega) (ix2 r n))).trans ?_
  unfold prod
  rw [Ffn.sum_halves 2048 4096 (by norm_num)]
  refine congrArg₂ (· + ·) (Fin.sum_fin_congr fun k => ?_) (Fin.sum_fin_congr fun k => ?_)
  · have h0 : (t.val - 1) % 2 = 0 := by omega
    have h1 : (t.val - 1) / 2 = t.val / 2 := by omega
    exact congrArg₂ (· * ·) (blkL_at m c ⟨t.val - 1, hb⟩ k r ⟨k.val, by omega⟩ i (by dsimp only; omega) (by dsimp only; omega))
      (blkR_at m c ⟨t.val - 1, hb⟩ k n ⟨k.val, by omega⟩ (by dsimp only; omega))
  · exact congrArg₂ (· * ·) (blkL_at m c t k r ⟨2048 + k.val, by omega⟩ i (by dsimp only; omega) hi)
      (blkR_at m c t k n ⟨2048 + k.val, by omega⟩ (by dsimp only; omega))

theorem prod_eq (i : S2816x1024.Idx) : prod m c i = Cert.Reference3Ideal.Read.val_main_v8 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) i := by
  rw [Cert.Reference3Ideal.Read.val_main_v8_apply]
  unfold prod left right
  rw [left_eq, right_eq]
  refine Fin.sum_fin_congr fun k => ?_
  rw [show Cert.Reference3Ideal.Read.lidx_main_v8 i k = ix2 k (i 0) from funext fun a => by match a with | ⟨0, _⟩ => rfl | ⟨1, _⟩ => rfl,
    show Cert.Reference3Ideal.Read.ridx_main_v8 i k = ix2 k (i 1) from funext fun a => by match a with | ⟨0, _⟩ => rfl | ⟨1, _⟩ => rfl]
  rfl

/-- The same at an index of the block and the index of the array it is written to. -/
theorem acc_at (t : Fin cfg0.N) (h : t.val % 2 = 1) (y : S1408x1024.Idx) (i : S2816x1024.Idx) (h0 : (i 0).val = t.val / 2 * 1408 + (y 0).val) (h1 : (i 1).val = (y 1).val) :
    (outsAt0 m c t.val t.isLt).1 y = Cert.Reference3Ideal.Read.val_main_v10 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) i := by
  have hy : y = ix2 (y 0) (y 1) := funext fun a => by match a with | ⟨0, _⟩ => rfl | ⟨1, _⟩ => rfl
  have hi : i = ix2 (i 0) (y 1) := funext fun a => by match a with | ⟨0, _⟩ => rfl | ⟨1, _⟩ => exact Fin.ext h1
  refine (congrArg _ hy).trans ((acc_all m c t h (y 0) (y 1) (i 0) h0).trans ?_)
  rw [show prod m c (ix2 (i 0) (y 1)) = prod m c i from congrArg _ hi.symm, prod_eq]
  unfold Cert.Reference3Ideal.Read.val_main_v10 Cert.Reference3Ideal.Read.val_main_v9
  generalize Cert.Reference3Ideal.Read.val_main_v8 (F := Ideal) _ _ _ _ _ = v
  pointwise []

/-- The wide result is the reference's. -/
theorem wide : (dats m 0 c).arrAt 2 cfg0.N = Cert.Reference3Ideal.Read.val_main_v10 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 2 _ (by decide +kernel) fun t hf y => ?_
  have ht : t.val % 2 = 1 := (flush0_2 t).mp hf
  blk_simp
  rw [after0_2]
  refine acc_at m c t ht y _ ?_ ?_ <;> blk_simp [idx_at t]

/-- The narrow result is the reference's. -/
theorem narrow : (dats m 0 c).arrAt 3 cfg0.N = Cert.Reference3Ideal.Read.val_main_v11 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 3 _ (by decide +kernel) fun t hf y => ?_
  have ht : t.val % 2 = 1 := (flush0_3 t).mp hf
  blk_simp
  rw [after0_3]
  refine (narrow_acc m c t (by omega) y).trans ?_
  refine acc_at m c t ht y _ ?_ ?_ <;> blk_simp [idx_at t]

end Cert.Kernel3Ideal.Gen
-- ==== Proof.DwUp.lean ====
module

public import proofs.«01_k».proof.Proof.Gen.Kernel4Ideal.Value
public import proofs.«01_k».proof.Proof.Gen.Reference4Ideal.Read
public import proofs.«01_k».proof.Proof.Halves

@[expose] public section

set_option maxRecDepth 16384

noncomputable section

namespace Cert.Kernel4Ideal.Gen

open Cert.Kernel4Ideal Idealize.ShloMosaic Idealize.ShloMosaic.TcCoe Idealize.SL.Sem Idealize.ShloMosaic.StableHlo

variable (m : (ℓ : Loc nD τ sig) → Buf (Elt Ideal) ℓ) (c : Dev nD)

/-- The left factor the call stages is the gradient of the up projection's value. -/
theorem left_eq : (V m c main_v9 : S4096x2816.Idx → EReal) = Cert.Reference4Ideal.Read.val_main_v6 (F := Ideal) (m ((c : Thread nD τ).loc main_arg0)) (m ((c : Thread nD τ).loc main_arg1))
    (m ((c : Thread nD τ).loc main_arg3)) (m ((c : Thread nD τ).loc main_arg4)) := by
  unfold V
  simp only [hostOps0, hostOps0_1, hostOps0_2, hostOps0_3, hostOps0_4, List.flatten_cons, List.flatten_nil, TRef.binary, TRef.nullary, TRef.ternary, TRef.unary, TRef.toBuf, TRef.ofBuf, cast_eq, List.cons_append, List.nil_append, List.append_nil]
  after_results_simp <;> rfl

/-- The right factor is the layer's input. -/
theorem right_eq : (V m c main_v10 : S4096x1024.Idx → EReal) = m ((c : Thread nD τ).loc main_arg0) := by
  unfold V
  simp only [hostOps0, hostOps0_1, hostOps0_2, hostOps0_3, hostOps0_4, List.flatten_cons, List.flatten_nil, TRef.binary, TRef.nullary, TRef.ternary, TRef.unary, TRef.toBuf, TRef.ofBuf, cast_eq, List.cons_append, List.nil_append, List.append_nil]
  after_results_simp <;> rfl

theorem fill_at (j : S1408x1024.Idx) : k0_pay1 (F := Ideal) j = 0 := by
  pointwise [k0_pay1]

/-- What one step over 2048 rows adds. -/
theorem part_at (acc : S1408x1024.Idx → EReal) (a : S2048x1408.Idx → EReal) (b : S2048x1024.Idx → EReal) (j : S1408x1024.Idx) :
    k0_pay2 (F := Ideal) acc a b j = acc j + ∑ k : Fin 2048, a (ix2 k (j 0)) * b (ix2 k (j 1)) := by
  pointwise [k0_pay2]

theorem narrow_at (v : S1408x1024.Idx → EReal) (j : S1408x1024.Idx) : k0_pay3 (F := Ideal) v j = v j := by
  pointwise [k0_pay3]

theorem idx_at : ∀ t : Fin cfg0.N, win0_0.index t = ![t.val % 2, t.val / 2] ∧ win0_1.index t = ![t.val % 2, 0] ∧ win0_2.index t = ![t.val / 2, 0] ∧ win0_3.index t = ![t.val / 2, 0] :=
  (by decide +kernel : ∀ t : Fin grid0.N, _)

/-- The two blocks a point works on. -/
def blkL (t : Fin cfg0.N) : S2048x1408.Idx → EReal := iblk m c 0 t
def blkR (t : Fin cfg0.N) : S2048x1024.Idx → EReal := iblk m c 1 t

/-- The two factors, whole. -/
def left : S4096x2816.Idx → EReal := V m c main_v9
def right : S4096x1024.Idx → EReal := V m c main_v10

theorem blkL_at (t : Fin cfg0.N) (k : Fin 2048) (r : Fin 1408) (k' : Fin 4096) (i : Fin 2816) (hk : k'.val = t.val % 2 * 2048 + k.val)
    (hi : i.val = t.val / 2 * 1408 + r.val) : blkL m c t (ix2 k r) = left m c (ix2 k' i) := by
  unfold blkL left
  blk_ext [iblk, idx_at t]

theorem blkR_at (t : Fin cfg0.N) (k : Fin 2048) (n : Fin 1024) (k' : Fin 4096) (hk : k'.val = t.val % 2 * 2048 + k.val) :
    blkR m c t (ix2 k n) = right m c (ix2 k' n) := by
  unfold blkR right
  blk_ext [iblk, idx_at t]

/-- After a point's body the accumulator holds the products over the rows met since the block began. -/
theorem acc_zero (t : Fin cfg0.N) (h : t.val % 2 = 0) (j : S1408x1024.Idx) :
    (outsAt0 m c t.val t.isLt).1 j = ∑ k : Fin 2048, blkL m c t (ix2 k (j 0)) * blkR m c t (ix2 k (j 1)) := by
  rw [outsAt0_A m c t h (by omega)]
  frame_out
  rw [part_at, fill_at, zero_add]
  rfl

theorem acc_step (t : Fin cfg0.N) (h : ¬ t.val % 2 = 0) (j : S1408x1024.Idx) :
    (outsAt0 m c t.val t.isLt).1 j = (outsAt0 m c (t.val - 1) (Nat.lt_of_le_of_lt (Nat.sub_le _ _) t.isLt)).1 j
      + ∑ k : Fin 2048, blkL m c t (ix2 k (j 0)) * blkR m c t (ix2 k (j 1)) := by
  rw [outsAt0_B m c t h (by omega)]
  frame_out
  rw [part_at]
  rfl

/-- At a block's last point the narrow result is the accumulator's value. -/
theorem narrow_acc (t : Fin cfg0.N) (h : ¬ t.val % 2 = 0) (j : S1408x1024.Idx) :
    (outsAt0 m c t.val t.isLt).2 j = ((outsAt0 m c t.val t.isLt).1 j : EReal) := by
  rw [outsAt0_B m c t h (by omega)]
  frame_out
  rw [narrow_at]

/-- The product the call is to form. -/
def prod (i : S2816x1024.Idx) : EReal :=
  ∑ k : Fin 4096, left m c (ix2 k (i 0)) * right m c (ix2 k (i 1))

/-- At a block's last point the accumulator holds the whole contraction. -/
theorem acc_all (t : Fin cfg0.N) (h : t.val % 2 = 1) (r : Fin 1408) (n : Fin 1024) (i : Fin 2816) (hi : i.val = t.val / 2 * 1408 + r.val) :
    (outsAt0 m c t.val t.isLt).1 (ix2 r n) = prod m c (ix2 i n) := by
  have hN : t.val < 4 := lt_of_lt_of_eq t.isLt N_0
  have hb : t.val - 1 < cfg0.N := Nat.lt_of_le_of_lt (Nat.sub_le _ _) t.isLt
  refine (acc_step m c t (by omega) (ix2 r n)).trans ?_
  refine (congrArg (· + _) (acc_zero m c ⟨t.val - 1, hb⟩ (by dsimp only; omega) (ix2 r n))).trans ?_
  unfold prod
  rw [Ffn.sum_halves 2048 4096 (by norm_num)]
  refine congrArg₂ (· + ·) (Fin.sum_fin_congr fun k => ?_) (Fin.sum_fin_congr fun k => ?_)
  · have h0 : (t.val - 1) % 2 = 0 := by omega
    have h1 : (t.val - 1) / 2 = t.val / 2 := by omega
    exact congrArg₂ (· * ·) (blkL_at m c ⟨t.val - 1, hb⟩ k r ⟨k.val, by omega⟩ i (by dsimp only; omega) (by dsimp only; omega))
      (blkR_at m c ⟨t.val - 1, hb⟩ k n ⟨k.val, by omega⟩ (by dsimp only; omega))
  · exact congrArg₂ (· * ·) (blkL_at m c t k r ⟨2048 + k.val, by omega⟩ i (by dsimp only; omega) hi)
      (blkR_at m c t k n ⟨2048 + k.val, by omega⟩ (by dsimp only; omega))

theorem prod_eq (i : S2816x1024.Idx) : prod m c i = Cert.Reference4Ideal.Read.val_main_v7 (F := Ideal) (m ((c : Thread nD τ).loc main_arg0)) (m ((c : Thread nD τ).loc main_arg1))
    (m ((c : Thread nD τ).loc main_arg3)) (m ((c : Thread nD τ).loc main_arg4)) i := by
  rw [Cert.Reference4Ideal.Read.val_main_v7_apply]
  unfold prod left right
  rw [left_eq, right_eq]
  refine Fin.sum_fin_congr fun k => ?_
  rw [show Cert.Reference4Ideal.Read.lidx_main_v7 i k = ix2 k (i 0) from funext fun a => by match a with | ⟨0, _⟩ => rfl | ⟨1, _⟩ => rfl,
    show Cert.Reference4Ideal.Read.ridx_main_v7 i k = ix2 k (i 1) from funext fun a => by match a with | ⟨0, _⟩ => rfl | ⟨1, _⟩ => rfl]
  rfl

/-- The same at an index of the block and the index of the array it is written to. -/
theorem acc_at (t : Fin cfg0.N) (h : t.val % 2 = 1) (y : S1408x1024.Idx) (i : S2816x1024.Idx) (h0 : (i 0).val = t.val / 2 * 1408 + (y 0).val) (h1 : (i 1).val = (y 1).val) :
    (outsAt0 m c t.val t.isLt).1 y = Cert.Reference4Ideal.Read.val_main_v9 (F := Ideal) (m ((c : Thread nD τ).loc main_arg0)) (m ((c : Thread nD τ).loc main_arg1))
    (m ((c : Thread nD τ).loc main_arg3)) (m ((c : Thread nD τ).loc main_arg4)) i := by
  have hy : y = ix2 (y 0) (y 1) := funext fun a => by match a with | ⟨0, _⟩ => rfl | ⟨1, _⟩ => rfl
  have hi : i = ix2 (i 0) (y 1) := funext fun a => by match a with | ⟨0, _⟩ => rfl | ⟨1, _⟩ => exact Fin.ext h1
  refine (congrArg _ hy).trans ((acc_all m c t h (y 0) (y 1) (i 0) h0).trans ?_)
  rw [show prod m c (ix2 (i 0) (y 1)) = prod m c i from congrArg _ hi.symm, prod_eq]
  unfold Cert.Reference4Ideal.Read.val_main_v9 Cert.Reference4Ideal.Read.val_main_v8
  generalize Cert.Reference4Ideal.Read.val_main_v7 (F := Ideal) _ _ _ _ = v
  pointwise []

/-- The wide result is the reference's. -/
theorem wide : (dats m 0 c).arrAt 2 cfg0.N = Cert.Reference4Ideal.Read.val_main_v9 (F := Ideal) (m ((c : Thread nD τ).loc main_arg0)) (m ((c : Thread nD τ).loc main_arg1))
    (m ((c : Thread nD τ).loc main_arg3)) (m ((c : Thread nD τ).loc main_arg4)) := by
  refine (dats m 0 c).arrAt_eq_of_covers 2 _ (by decide +kernel) fun t hf y => ?_
  have ht : t.val % 2 = 1 := (flush0_2 t).mp hf
  blk_simp
  rw [after0_2]
  refine acc_at m c t ht y _ ?_ ?_ <;> blk_simp [idx_at t]

/-- The narrow result is the reference's. -/
theorem narrow : (dats m 0 c).arrAt 3 cfg0.N = Cert.Reference4Ideal.Read.val_main_v10 (F := Ideal) (m ((c : Thread nD τ).loc main_arg0)) (m ((c : Thread nD τ).loc main_arg1))
    (m ((c : Thread nD τ).loc main_arg3)) (m ((c : Thread nD τ).loc main_arg4)) := by
  refine (dats m 0 c).arrAt_eq_of_covers 3 _ (by decide +kernel) fun t hf y => ?_
  have ht : t.val % 2 = 1 := (flush0_3 t).mp hf
  blk_simp
  rw [after0_3]
  refine (narrow_acc m c t (by omega) y).trans ?_
  refine acc_at m c t ht y _ ?_ ?_ <;> blk_simp [idx_at t]

end Cert.Kernel4Ideal.Gen
-- ==== Proof.DwDown.lean ====
module

public import proofs.«01_k».proof.Proof.Gen.Kernel5Ideal.Value
public import proofs.«01_k».proof.Proof.Gen.Reference5Ideal.Read
public import proofs.«01_k».proof.Proof.Halves

@[expose] public section

set_option maxRecDepth 16384

noncomputable section

namespace Cert.Kernel5Ideal.Gen

open Cert.Kernel5Ideal Idealize.ShloMosaic Idealize.ShloMosaic.TcCoe Idealize.SL.Sem Idealize.ShloMosaic.StableHlo

variable (m : (ℓ : Loc nD τ sig) → Buf (Elt Ideal) ℓ) (c : Dev nD)

/-- The left factor the call stages is the hidden activation. -/
theorem left_eq : (V m c main_v4 : S4096x2816.Idx → EReal) = Cert.Reference5Ideal.Read.val_main_v4 (F := Ideal) (m ((c : Thread nD τ).loc main_arg0)) (m ((c : Thread nD τ).loc main_arg1))
    (m ((c : Thread nD τ).loc main_arg2)) := by
  unfold V
  simp only [hostOps0, hostOps0_1, hostOps0_2, List.flatten_cons, List.flatten_nil, TRef.binary, TRef.nullary, TRef.ternary, TRef.unary, TRef.toBuf, TRef.ofBuf, cast_eq, List.cons_append, List.nil_append, List.append_nil]
  after_results_simp <;> rfl

/-- The right factor is the cotangent of the layer's output. -/
theorem right_eq : (V m c main_v5 : S4096x1024.Idx → EReal) = m ((c : Thread nD τ).loc main_arg3) := by
  unfold V
  simp only [hostOps0, hostOps0_1, hostOps0_2, List.flatten_cons, List.flatten_nil, TRef.binary, TRef.nullary, TRef.ternary, TRef.unary, TRef.toBuf, TRef.ofBuf, cast_eq, List.cons_append, List.nil_append, List.append_nil]
  after_results_simp <;> rfl

theorem fill_at (j : S1408x1024.Idx) : k0_pay1 (F := Ideal) j = 0 := by
  pointwise [k0_pay1]

/-- What one step over 2048 rows adds. -/
theorem part_at (acc : S1408x1024.Idx → EReal) (a : S2048x1408.Idx → EReal) (b : S2048x1024.Idx → EReal) (j : S1408x1024.Idx) :
    k0_pay2 (F := Ideal) acc a b j = acc j + ∑ k : Fin 2048, a (ix2 k (j 0)) * b (ix2 k (j 1)) := by
  pointwise [k0_pay2]

theorem narrow_at (v : S1408x1024.Idx → EReal) (j : S1408x1024.Idx) : k0_pay3 (F := Ideal) v j = v j := by
  pointwise [k0_pay3]

theorem idx_at : ∀ t : Fin cfg0.N, win0_0.index t = ![t.val % 2, t.val / 2] ∧ win0_1.index t = ![t.val % 2, 0] ∧ win0_2.index t = ![t.val / 2, 0] ∧ win0_3.index t = ![t.val / 2, 0] :=
  (by decide +kernel : ∀ t : Fin grid0.N, _)

/-- The two blocks a point works on. -/
def blkL (t : Fin cfg0.N) : S2048x1408.Idx → EReal := iblk m c 0 t
def blkR (t : Fin cfg0.N) : S2048x1024.Idx → EReal := iblk m c 1 t

/-- The two factors, whole. -/
def left : S4096x2816.Idx → EReal := V m c main_v4
def right : S4096x1024.Idx → EReal := V m c main_v5

theorem blkL_at (t : Fin cfg0.N) (k : Fin 2048) (r : Fin 1408) (k' : Fin 4096) (i : Fin 2816) (hk : k'.val = t.val % 2 * 2048 + k.val)
    (hi : i.val = t.val / 2 * 1408 + r.val) : blkL m c t (ix2 k r) = left m c (ix2 k' i) := by
  unfold blkL left
  blk_ext [iblk, idx_at t]

theorem blkR_at (t : Fin cfg0.N) (k : Fin 2048) (n : Fin 1024) (k' : Fin 4096) (hk : k'.val = t.val % 2 * 2048 + k.val) :
    blkR m c t (ix2 k n) = right m c (ix2 k' n) := by
  unfold blkR right
  blk_ext [iblk, idx_at t]

/-- After a point's body the accumulator holds the products over the rows met since the block began. -/
theorem acc_zero (t : Fin cfg0.N) (h : t.val % 2 = 0) (j : S1408x1024.Idx) :
    (outsAt0 m c t.val t.isLt).1 j = ∑ k : Fin 2048, blkL m c t (ix2 k (j 0)) * blkR m c t (ix2 k (j 1)) := by
  rw [outsAt0_A m c t h (by omega)]
  frame_out
  rw [part_at, fill_at, zero_add]
  rfl

theorem acc_step (t : Fin cfg0.N) (h : ¬ t.val % 2 = 0) (j : S1408x1024.Idx) :
    (outsAt0 m c t.val t.isLt).1 j = (outsAt0 m c (t.val - 1) (Nat.lt_of_le_of_lt (Nat.sub_le _ _) t.isLt)).1 j
      + ∑ k : Fin 2048, blkL m c t (ix2 k (j 0)) * blkR m c t (ix2 k (j 1)) := by
  rw [outsAt0_B m c t h (by omega)]
  frame_out
  rw [part_at]
  rfl

/-- At a block's last point the narrow result is the accumulator's value. -/
theorem narrow_acc (t : Fin cfg0.N) (h : ¬ t.val % 2 = 0) (j : S1408x1024.Idx) :
    (outsAt0 m c t.val t.isLt).2 j = ((outsAt0 m c t.val t.isLt).1 j : EReal) := by
  rw [outsAt0_B m c t h (by omega)]
  frame_out
  rw [narrow_at]

/-- The product the call is to form. -/
def prod (i : S2816x1024.Idx) : EReal :=
  ∑ k : Fin 4096, left m c (ix2 k (i 0)) * right m c (ix2 k (i 1))

/-- At a block's last point the accumulator holds the whole contraction. -/
theorem acc_all (t : Fin cfg0.N) (h : t.val % 2 = 1) (r : Fin 1408) (n : Fin 1024) (i : Fin 2816) (hi : i.val = t.val / 2 * 1408 + r.val) :
    (outsAt0 m c t.val t.isLt).1 (ix2 r n) = prod m c (ix2 i n) := by
  have hN : t.val < 4 := lt_of_lt_of_eq t.isLt N_0
  have hb : t.val - 1 < cfg0.N := Nat.lt_of_le_of_lt (Nat.sub_le _ _) t.isLt
  refine (acc_step m c t (by omega) (ix2 r n)).trans ?_
  refine (congrArg (· + _) (acc_zero m c ⟨t.val - 1, hb⟩ (by dsimp only; omega) (ix2 r n))).trans ?_
  unfold prod
  rw [Ffn.sum_halves 2048 4096 (by norm_num)]
  refine congrArg₂ (· + ·) (Fin.sum_fin_congr fun k => ?_) (Fin.sum_fin_congr fun k => ?_)
  · have h0 : (t.val - 1) % 2 = 0 := by omega
    have h1 : (t.val - 1) / 2 = t.val / 2 := by omega
    exact congrArg₂ (· * ·) (blkL_at m c ⟨t.val - 1, hb⟩ k r ⟨k.val, by omega⟩ i (by dsimp only; omega) (by dsimp only; omega))
      (blkR_at m c ⟨t.val - 1, hb⟩ k n ⟨k.val, by omega⟩ (by dsimp only; omega))
  · exact congrArg₂ (· * ·) (blkL_at m c t k r ⟨2048 + k.val, by omega⟩ i (by dsimp only; omega) hi)
      (blkR_at m c t k n ⟨2048 + k.val, by omega⟩ (by dsimp only; omega))

theorem prod_eq (i : S2816x1024.Idx) : prod m c i = Cert.Reference5Ideal.Read.val_main_v6 (F := Ideal) (m ((c : Thread nD τ).loc main_arg0)) (m ((c : Thread nD τ).loc main_arg1))
    (m ((c : Thread nD τ).loc main_arg2)) (m ((c : Thread nD τ).loc main_arg3)) (ix2 (i 1) (i 0)) := by
  rw [Cert.Reference5Ideal.Read.val_main_v6_apply]
  unfold prod left right
  rw [left_eq, right_eq]
  refine Fin.sum_fin_congr fun k => ?_
  rw [show Cert.Reference5Ideal.Read.lidx_main_v6 (ix2 (i 1) (i 0)) k = ix2 k (i 1) from funext fun a => by match a with | ⟨0, _⟩ => rfl | ⟨1, _⟩ => rfl,
    show Cert.Reference5Ideal.Read.ridx_main_v6 (ix2 (i 1) (i 0)) k = ix2 k (i 0) from funext fun a => by match a with | ⟨0, _⟩ => rfl | ⟨1, _⟩ => rfl]
  exact mul_comm (_ : EReal) _

/-- The same at an index of the block and the index of the array it is written to. -/
theorem acc_at (t : Fin cfg0.N) (h : t.val % 2 = 1) (y : S1408x1024.Idx) (i : S2816x1024.Idx) (h0 : (i 0).val = t.val / 2 * 1408 + (y 0).val) (h1 : (i 1).val = (y 1).val) :
    (outsAt0 m c t.val t.isLt).1 y = Cert.Reference5Ideal.Read.val_main_v7 (F := Ideal) (m ((c : Thread nD τ).loc main_arg0)) (m ((c : Thread nD τ).loc main_arg1))
    (m ((c : Thread nD τ).loc main_arg2)) (m ((c : Thread nD τ).loc main_arg3)) i := by
  have hy : y = ix2 (y 0) (y 1) := funext fun a => by match a with | ⟨0, _⟩ => rfl | ⟨1, _⟩ => rfl
  have hi : i = ix2 (i 0) (y 1) := funext fun a => by match a with | ⟨0, _⟩ => rfl | ⟨1, _⟩ => exact Fin.ext h1
  refine (congrArg _ hy).trans ((acc_all m c t h (y 0) (y 1) (i 0) h0).trans ?_)
  rw [show prod m c (ix2 (i 0) (y 1)) = prod m c i from congrArg _ hi.symm, prod_eq]
  unfold Cert.Reference5Ideal.Read.val_main_v7
  generalize Cert.Reference5Ideal.Read.val_main_v6 (F := Ideal) _ _ _ _ = v
  pointwise []

/-- The wide result is the reference's. -/
theorem wide : (dats m 0 c).arrAt 2 cfg0.N = Cert.Reference5Ideal.Read.val_main_v7 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 2 _ (by decide +kernel) fun t hf y => ?_
  have ht : t.val % 2 = 1 := (flush0_2 t).mp hf
  blk_simp
  rw [after0_2]
  refine acc_at m c t ht y _ ?_ ?_ <;> blk_simp [idx_at t]

/-- The narrow result is the reference's. -/
theorem narrow : (dats m 0 c).arrAt 3 cfg0.N = Cert.Reference5Ideal.Read.val_main_v8 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 3 _ (by decide +kernel) fun t hf y => ?_
  have ht : t.val % 2 = 1 := (flush0_3 t).mp hf
  blk_simp
  rw [after0_3]
  refine (narrow_acc m c t (by omega) y).trans ?_
  refine acc_at m c t ht y _ ?_ ?_ <;> blk_simp [idx_at t]

end Cert.Kernel5Ideal.Gen
-- ==== Proof.Norm.lean ====
module

public import proofs.«01_k».proof.Proof.Spec

/- The layer normalisation of one row over the extended reals, and its gradient: the form with three means the kernel
computes against the form that differentiating the row operation by operation gives. -/

@[expose] public section

noncomputable section

namespace Ln

open Idealize.ShloMosaic

variable {n : ℕ} (d e : EReal) (x g : Fin n → EReal)

/-- The mean of a row, `d` being the row's length as a float, its centred values, the reciprocal of its standard deviation, `e` being added to the variance, and its normalised values. -/
def mean : EReal := Ideal.div (∑ k, x k) d
def cen (k : Fin n) : EReal := x k - mean d x
def var : EReal := mean d (fun k => cen d x k * cen d x k) + e
def rstd : EReal := Ideal.rsqrt (var d e x)
def norm (k : Fin n) : EReal := cen d x k * rstd d e x

/-- The gradient of the row, `g` being that of its normalised values, by three means. -/
def back (k : Fin n) : EReal :=
  rstd d e x * (g k - mean d g - norm d e x k * mean d (fun j => g j * norm d e x j))

/-- The gradient through the variance, per centred value. -/
def slope (a : EReal) : EReal := Ideal.div ((∑ k, cen d x k * g k) * (a * Ideal.div (rstd d e x) (var d e x))) d

/-- The same gradient term by term: `a` is minus one half and `b` is two. -/
def terms (a b : EReal) (k : Fin n) : EReal :=
  g k * rstd d e x + slope d e x g a * (b * cen d x k)
    + Ideal.div (∑ k, -(g k * rstd d e x) + ∑ k, -(slope d e x g a * (b * cen d x k))) d

section
variable (x g : Fin n → ℝ) (D : ℝ)

theorem mean_coe (hD : D ≠ 0) : mean (D : EReal) (fun k => ((x k : ℝ) : EReal)) = ((∑ k, x k) / D : ℝ) := by
  unfold mean
  rw [← Fox.coe_sum, Ideal.div_coe hD, ← EReal.coe_mul, mul_one_div]

theorem cen_coe (hD : D ≠ 0) (k : Fin n) : cen (D : EReal) (fun k => ((x k : ℝ) : EReal)) k = (x k - (∑ k, x k) / D : ℝ) := by
  unfold cen
  rw [mean_coe x D hD, ← EReal.coe_sub]

/-- The variance of a row of reals, and what is added to it. -/
def wide (D E : ℝ) (x : Fin n → ℝ) : ℝ := (∑ k, (x k - (∑ k, x k) / D) * (x k - (∑ k, x k) / D)) / D + E

theorem wide_pos (E : ℝ) (hD : 0 < D) (hE : 0 < E) : 0 < wide D E x :=
  add_pos_of_nonneg_of_pos (div_nonneg (Finset.sum_nonneg fun k _ => mul_self_nonneg _) hD.le) hE

theorem var_coe (hD : D ≠ 0) (E : ℝ) : var (D : EReal) (E : EReal) (fun k => ((x k : ℝ) : EReal)) = (wide D E x : ℝ) := by
  unfold var wide
  simp only [cen_coe x D hD, ← EReal.coe_mul]
  rw [mean_coe _ D hD, ← EReal.coe_add]

theorem rstd_coe (E : ℝ) (hD : 0 < D) (hE : 0 < E) : rstd (D : EReal) (E : EReal) (fun k => ((x k : ℝ) : EReal)) = ((Real.sqrt (wide D E x))⁻¹ : ℝ) := by
  unfold rstd
  rw [var_coe x D hD.ne', Ideal.rsqrt_coe, if_neg (wide_pos x D E hD hE).not_gt, if_neg (wide_pos x D E hD hE).ne']

theorem norm_coe (E : ℝ) (hD : 0 < D) (hE : 0 < E) (k : Fin n) : norm (D : EReal) (E : EReal) (fun k => ((x k : ℝ) : EReal)) k
    = ((x k - (∑ k, x k) / D) * (Real.sqrt (wide D E x))⁻¹ : ℝ) := by
  unfold norm
  rw [cen_coe x D hD.ne', rstd_coe x D E hD hE, ← EReal.coe_mul]

theorem sum_cen (hD : D ≠ 0) (hn : (n : ℝ) = D) : ∑ k, (x k - (∑ k, x k) / D) = 0 := by
  rw [Finset.sum_sub_distrib, Finset.sum_const, Finset.card_univ, Fintype.card_fin, nsmul_eq_mul, hn, mul_div_cancel₀ _ hD, sub_self]

/-- For a row of reals the two forms of the gradient agree. -/
theorem back_coe (E : ℝ) (hD : 0 < D) (hE : 0 < E) (hn : (n : ℝ) = D) (k : Fin n) :
    back (D : EReal) (E : EReal) (fun k => ((x k : ℝ) : EReal)) (fun k => ((g k : ℝ) : EReal)) k
      = terms (D : EReal) (E : EReal) (fun k => ((x k : ℝ) : EReal)) (fun k => ((g k : ℝ) : EReal)) ((-(1 / 2) : ℝ) : EReal) ((2 : ℝ) : EReal) k := by
  have hw := wide_pos x D E hD hE
  unfold back terms slope
  simp only [norm_coe x D E hD hE, rstd_coe x D E hD hE, cen_coe x D hD.ne', var_coe x D hD.ne', ← EReal.coe_mul, mean_coe _ D hD.ne', Ideal.div_coe hw.ne', Ideal.div_coe hD.ne',
    ← EReal.coe_sub, ← EReal.coe_add, ← EReal.coe_neg, ← Fox.coe_sum]
  congr 1
  have hs : (Real.sqrt (wide D E x))⁻¹ * (Real.sqrt (wide D E x))⁻¹ = 1 / wide D E x := by
    rw [← mul_inv, Real.mul_self_sqrt hw.le, one_div]
  have h0 := sum_cen x D hD.ne' hn
  have h1 : ∑ j, g j * ((x j - (∑ k, x k) / D) * (Real.sqrt (wide D E x))⁻¹) = (∑ j, (x j - (∑ k, x k) / D) * g j) * (Real.sqrt (wide D E x))⁻¹ := by
    rw [Finset.sum_mul]
    exact Finset.sum_congr rfl fun j _ => by ring
  rw [h1]
  simp only [Finset.sum_neg_distrib, ← Finset.mul_sum, ← Finset.sum_mul, h0, ← hs]
  ring

end

/-- The same of a row known to be real, the constants known by their values. -/
theorem back_eq (D E : ℝ) (a b : EReal) (hd : d = (D : EReal)) (he : e = (E : EReal)) (ha : a = ((-(1 / 2) : ℝ) : EReal)) (hb : b = ((2 : ℝ) : EReal))
    (hD : 0 < D) (hE : 0 < E) (hn : (n : ℝ) = D) (hx : ∀ k, ∃ r : ℝ, x k = (r : EReal)) (hg : ∀ k, ∃ r : ℝ, g k = (r : EReal)) (k : Fin n) :
    back d e x g k = terms d e x g a b k := by
  choose x' hx using hx
  choose g' hg using hg
  rw [show x = fun k => ((x' k : ℝ) : EReal) from funext hx, show g = fun k => ((g' k : ℝ) : EReal) from funext hg, hd, he, ha, hb]
  exact back_coe x' g' D E hD hE hn k

/-- The row's length and what is added to the variance, as both programs write them, and the two factors of the second form. -/
def len : EReal := Ideal.ofBits .f32 0x44800000#32
def eps : EReal := Ideal.ofBits .f32 0x3727C5AC#32
def minusHalf : EReal := Ideal.ofBits .f32 0xBF000000#32
def two : EReal := Ideal.ofBits .f32 0x40000000#32

theorem len_eq : len = ((1024 : ℝ) : EReal) := by
  unfold len
  simp [Ideal.ofBits, Ideal.ieee, -EReal.coe_mul]; norm_num

theorem eps_eq : eps = ((10995116 / 1099511627776 : ℝ) : EReal) := by
  unfold eps
  simp [Ideal.ofBits, Ideal.ieee, -EReal.coe_mul]; norm_num

theorem minusHalf_eq : minusHalf = ((-(1 / 2) : ℝ) : EReal) := by
  unfold minusHalf
  simp [Ideal.ofBits, Ideal.ieee, -EReal.coe_mul]; norm_num

theorem two_eq : two = ((2 : ℝ) : EReal) := by
  unfold two
  simp [Ideal.ofBits, Ideal.ieee, -EReal.coe_mul]; norm_num

/-- For a row of 1024 reals the two forms agree. -/
theorem back_row (x g : Fin 1024 → EReal) (hx : ∀ k, ∃ r : ℝ, x k = (r : EReal)) (hg : ∀ k, ∃ r : ℝ, g k = (r : EReal)) (k : Fin 1024) :
    back len eps x g k = terms len eps x g minusHalf two k :=
  back_eq len eps x g 1024 (10995116 / 1099511627776) minusHalf two len_eq eps_eq minusHalf_eq two_eq (by norm_num) (by norm_num) (by norm_num) hx hg k

/-- The normalised values of a row of reals are real. -/
theorem norm_real (x : Fin 1024 → EReal) (hx : ∀ k, ∃ r : ℝ, x k = (r : EReal)) (k : Fin 1024) : ∃ r : ℝ, norm len eps x k = (r : EReal) := by
  choose x' hx using hx
  rw [show x = fun k => ((x' k : ℝ) : EReal) from funext hx, len_eq, eps_eq]
  exact ⟨_, norm_coe x' 1024 (10995116 / 1099511627776) (by norm_num) (by norm_num) k⟩

end Ln
-- ==== Proof.InProj.lean ====
module

public import proofs.«01_k».proof.Proof.Gen.Kernel6Ideal.Value
public import proofs.«01_k».proof.Proof.Gen.Reference6Ideal.Read
public import proofs.«01_k».proof.Proof.Norm
public import proofs.«01_k».proof.Proof.Halves
public import Idealize.ShloMosaic.Lib.Pipeline.ValueKit

/- The projections call: the normalised and modulated input of a row block, its products with the stored weights by
pieces of the columns, and the four results as the reference's. -/

@[expose] public section

set_option maxRecDepth 16384

noncomputable section

namespace Cert.Kernel6Ideal.Gen

open Cert.Kernel6Ideal Idealize.ShloMosaic Idealize.ShloMosaic.TcCoe Idealize.SL.Sem Idealize.ShloMosaic.StableHlo

variable (x0 : S256x1024.Idx → EReal) (x1 x2 : S1x1024.Idx → EReal) (x3 : S5248x1024.Idx → EReal) (x4 : S1x2048.Idx → EReal)

/-- The normalised and modulated input of a row block, and its product with a row of the stored weights. -/
def uu (p : Fin 256) (k : Fin 1024) : EReal := Ln.norm Ln.len Ln.eps (fun k => x0 (ix2 p k)) k * (1 + x2 (ix2 0 k)) + x1 (ix2 0 k)
def kp (p : Fin 256) (r : Fin 5248) : EReal := ∑ k : Fin 1024, uu x0 x1 x2 p k * x3 (ix2 r k)

/-- The factor a column of the first projections is scaled by: the two groups of queries by one eighth. -/
def qs (q : ℕ) : EReal := if q < 512 ∨ (1536 ≤ q ∧ q < 2048) then Ideal.ofBits .f32 0x3E000000#32 else 1

theorem qs_in (q : ℕ) (h : q < 512 ∨ (1536 ≤ q ∧ q < 2048)) : qs q = Ideal.ofBits .f32 0x3E000000#32 := if_pos h
theorem qs_out (q : ℕ) (h : ¬ (q < 512 ∨ (1536 ≤ q ∧ q < 2048))) : qs q = 1 := if_neg h

theorem ix2_of {n0 n1 : ℕ} (y : (⟨2, ![n0, n1]⟩ : Shape).Idx) (p : Fin n0) (q : Fin n1) (h0 : (y 0).val = p.val) (h1 : (y 1).val = q.val) : y = ix2 p q :=
  funext fun a => by match a with | ⟨0, _⟩ => exact Fin.ext h0 | ⟨1, _⟩ => exact Fin.ext h1

theorem uu_eq : k0_pay12 (F := Ideal) x0 x1 x2 x3 x4 = fun i => uu x0 x1 x2 (i 0) (i 1) := by
  funext i
  unfold k0_pay12
  pointwise [k0_pay4, uu, Ln.norm, Ln.cen, Ln.rstd, Ln.var, Ln.mean, Ln.len, Ln.eps]

/-- The four stored blocks. -/
theorem out_u (y : S256x1024.Idx) : out0_5 (F := Ideal) x0 x1 x2 x3 x4 y = uu x0 x1 x2 (y 0) (y 1) := by
  unfold_out out0_5
  canon_tiles x h
  rw [ix2_of y (x 0) (x 1) h0 h1]
  exact congrFun (uu_eq x0 x1 x2 x3 x4) x

theorem out_qkv (y : S256x3072.Idx) (r : Fin 5248) (hr : r.val = (y 1).val) : out0_6 (F := Ideal) x0 x1 x2 x3 x4 y = kp x0 x1 x2 x3 (y 0) r * qs r.val := by
  unfold out0_6
  rw [show k0_pay5 (F := Ideal) (View.ld x0 r0_0) (View.ld x2 r0_1) (View.ld x1 r0_1) (View.ld x3 r0_2) = k0_pay8 (k0_pay12 x0 x1 x2 x3 x4) (View.ld x3 r0_2) from rfl, uu_eq]
  canon_tiles x h
  · have hb : 2560 + (x 1).val < 5248 := by omega
    obtain rfl : r = ⟨2560 + (x 1).val, hb⟩ := Fin.ext (hr.trans h1)
    rw [qs_out _ (by omega), mul_one, ix2_of y (x 0) ⟨2560 + (x 1).val, by omega⟩ h0 h1]
    pointwise [k0_pay10, kp]
  · have hb : 2048 + (x 1).val < 5248 := by omega
    obtain rfl : r = ⟨2048 + (x 1).val, hb⟩ := Fin.ext (hr.trans h1)
    rw [qs_out _ (by omega), mul_one, ix2_of y (x 0) ⟨2048 + (x 1).val, by omega⟩ h0 h1]
    pointwise [k0_pay9, kp]
  · have hb : 1536 + (x 1).val < 5248 := by omega
    obtain rfl : r = ⟨1536 + (x 1).val, hb⟩ := Fin.ext (hr.trans h1)
    rw [qs_in _ (by omega), ix2_of y (x 0) ⟨1536 + (x 1).val, by omega⟩ h0 h1]
    pointwise [k0_pay8, kp]
  · have hb : 1024 + (x 1).val < 5248 := by omega
    obtain rfl : r = ⟨1024 + (x 1).val, hb⟩ := Fin.ext (hr.trans h1)
    rw [qs_out _ (by omega), mul_one, ix2_of y (x 0) ⟨1024 + (x 1).val, by omega⟩ h0 h1]
    pointwise [k0_pay7, kp]
  · have hb : 512 + (x 1).val < 5248 := by omega
    obtain rfl : r = ⟨512 + (x 1).val, hb⟩ := Fin.ext (hr.trans h1)
    rw [qs_out _ (by omega), mul_one, ix2_of y (x 0) ⟨512 + (x 1).val, by omega⟩ h0 h1]
    pointwise [k0_pay6, kp]
  · have hb : (x 1).val < 5248 := by omega
    obtain rfl : r = ⟨(x 1).val, hb⟩ := Fin.ext (hr.trans h1)
    rw [qs_in _ (by omega), ix2_of y (x 0) ⟨(x 1).val, by omega⟩ h0 h1]
    pointwise [k0_pay8, kp]

theorem out_forget (y : S256x128.Idx) (r : Fin 5248) (hr : r.val = 3072 + (y 1).val) : out0_7 (F := Ideal) x0 x1 x2 x3 x4 y = kp x0 x1 x2 x3 (y 0) r := by
  unfold out0_7
  rw [uu_eq]
  canon_tiles x h
  rw [ix2_of y (x 0) (x 1) h0 h1, show r = ⟨3072 + (x 1).val, by omega⟩ from Fin.ext (hr.trans (congrArg (3072 + ·) h1))]
  pointwise [k0_pay1, k0_pay11, kp]

theorem out_gate (y : S256x2048.Idx) (r : Fin 5248) (hr : r.val = 3200 + (y 1).val) : out0_8 (F := Ideal) x0 x1 x2 x3 x4 y = kp x0 x1 x2 x3 (y 0) r + x4 (ix2 0 (y 1)) := by
  unfold out0_8
  rw [uu_eq]
  canon_tiles x h
  · have hb : 4224 + (x 1).val < 5248 := by omega
    obtain rfl : r = ⟨4224 + (x 1).val, hb⟩ := Fin.ext (by dsimp only; omega)
    rw [ix2_of y (x 0) ⟨1024 + (x 1).val, by omega⟩ h0 h1]
    pointwise [k0_pay3, kp]
  · have hb : 3200 + (x 1).val < 5248 := by omega
    obtain rfl : r = ⟨3200 + (x 1).val, hb⟩ := Fin.ext (by dsimp only; omega)
    rw [ix2_of y (x 0) ⟨(x 1).val, by omega⟩ h0 h1]
    pointwise [k0_pay2, kp]

/-! ## The arrays the call reads -/

variable (m : (ℓ : Loc nD τ sig) → Buf (Elt Ideal) ℓ) (c : Dev nD)

/-- The five arguments, as arrays of extended reals. -/
def xA : S4096x1024.Idx → EReal := m ((c : Thread nD τ).loc main_arg0)
def shA : S1x1024.Idx → EReal := m ((c : Thread nD τ).loc main_arg1)
def scA : S1x1024.Idx → EReal := m ((c : Thread nD τ).loc main_arg2)
def wA : S1024x5128.Idx → EReal := m ((c : Thread nD τ).loc main_arg3)
def bA : S1x2048.Idx → EReal := m ((c : Thread nD τ).loc main_arg4)

/-- The stored weights: the columns of the argument as rows, with 120 rows of zeros between the forget gates' rows and the output gates'. -/
def stored : S5248x1024.Idx → EReal := V m c main_v5

theorem stored_all (r : Fin 5248) (k : Fin 1024) : stored m c (ix2 r k)
    = if h : r.val < 3080 then wA m c (ix2 k ⟨r.val, by omega⟩) else if h' : r.val < 3200 then 0 else wA m c (ix2 k ⟨r.val - 120, by omega⟩) := by
  unfold stored V
  simp only [hostOps0]
  after_results_simp
  pointwise []
  after_results_simp
  pointwise [wA]
  by_cases a : r.val < 3080
  · rw [dif_pos a, dif_pos a]
  · rw [dif_neg a, dif_neg a]
    by_cases b : r.val < 3200
    · rw [dif_pos (show r.val - 3080 < 120 by omega), dif_pos b]
    · rw [dif_neg (show ¬ r.val - 3080 < 120 by omega), dif_neg b]
      exact congrArg (fun q => wA m c (ix2 k q)) (Fin.ext (by dsimp only; omega))

/-! ## The reference's results at an index -/

/-- The reference's normalised and modulated input, and its product with the weights. -/
def uA : S4096x1024.Idx → EReal := Cert.Reference6Ideal.Read.val_main_v23 (F := Ideal) (m ((c : Thread nD τ).loc main_arg0)) (m ((c : Thread nD τ).loc main_arg1)) (m ((c : Thread nD τ).loc main_arg2))
def pA : Cert.Reference6Ideal.S4096x5128.Idx → EReal := Cert.Reference6Ideal.Read.val_main_v24 (F := Ideal) (m ((c : Thread nD τ).loc main_arg0)) (m ((c : Thread nD τ).loc main_arg1)) (m ((c : Thread nD τ).loc main_arg2)) (m ((c : Thread nD τ).loc main_arg3))

theorem uA_at (p : Fin 4096) (k : Fin 1024) : uA m c (ix2 p k) = Ln.norm Ln.len Ln.eps (fun k => xA m c (ix2 p k)) k * (1 + scA m c (ix2 0 k)) + shA m c (ix2 0 k) := by
  unfold uA xA scA shA
  pointwise [Cert.Reference6Ideal.Read.val_main_v23, Cert.Reference6Ideal.Read.val_main_v22, Cert.Reference6Ideal.Read.val_main_v21, Cert.Reference6Ideal.Read.val_main_v20, Cert.Reference6Ideal.Read.val_main_v19, Cert.Reference6Ideal.Read.val_main_v18, Cert.Reference6Ideal.Read.val_main_v17, Cert.Reference6Ideal.Read.val_main_v16, Cert.Reference6Ideal.Read.val_main_v15, Cert.Reference6Ideal.Read.val_main_v14, Cert.Reference6Ideal.Read.val_main_v13, Cert.Reference6Ideal.Read.val_main_v12, Cert.Reference6Ideal.Read.val_main_v11, Cert.Reference6Ideal.Read.val_main_v10, Cert.Reference6Ideal.Read.val_main_v9, Cert.Reference6Ideal.Read.val_main_v8, Cert.Reference6Ideal.Read.val_main_v7, Cert.Reference6Ideal.Read.val_main_v6, Cert.Reference6Ideal.Read.val_main_v5, Cert.Reference6Ideal.Read.val_main_v4, Cert.Reference6Ideal.Read.val_main_v3, Cert.Reference6Ideal.Read.val_main_v2, Cert.Reference6Ideal.Read.val_main_v1, Cert.Reference6Ideal.Read.val_main_v0, Cert.Reference6Ideal.Read.val_main_cst, Cert.Reference6Ideal.Read.val_main_cst_0, Cert.Reference6Ideal.Read.val_main_cst_1, Cert.Reference6Ideal.Read.val_main_cst_2, Cert.Reference6Ideal.Read.val_main_cst_3, Cert.Reference6Ideal.Read.val_main_cst_4, Ln.norm, Ln.cen, Ln.rstd, Ln.var, Ln.mean, Ln.len, Ln.eps]

theorem pA_at (p : Fin 4096) (q : Fin 5128) : pA m c (ix2 p q) = ∑ k : Fin 1024, uA m c (ix2 p k) * wA m c (ix2 k q) := by
  unfold pA uA wA Cert.Reference6Ideal.Read.val_main_v24
  generalize Cert.Reference6Ideal.Read.val_main_v23 (F := Ideal) _ _ _ = a
  pointwise []

theorem ref_u : Cert.Reference6Ideal.Read.val_main_v38 (F := Ideal) (m ((c : Thread nD τ).loc main_arg0)) (m ((c : Thread nD τ).loc main_arg1)) (m ((c : Thread nD τ).loc main_arg2)) = uA m c := rfl

theorem ref_qkv (p : Fin 4096) (q : Fin 3072) (q' : Fin 5128) (hq : q'.val = q.val) : Cert.Reference6Ideal.Read.val_main_v39 (F := Ideal) (m ((c : Thread nD τ).loc main_arg0)) (m ((c : Thread nD τ).loc main_arg1)) (m ((c : Thread nD τ).loc main_arg2)) (m ((c : Thread nD τ).loc main_arg3)) (ix2 p q) = pA m c (ix2 p q') * qs q.val := by
  obtain rfl : q' = ⟨q.val, Nat.lt_trans q.isLt (by norm_num)⟩ := Fin.ext hq
  unfold pA
  simp only [Cert.Reference6Ideal.Read.val_main_v39, Cert.Reference6Ideal.Read.val_main_v35, Cert.Reference6Ideal.Read.val_main_v34, Cert.Reference6Ideal.Read.val_main_v33, Cert.Reference6Ideal.Read.val_main_v32, Cert.Reference6Ideal.Read.val_main_v31, Cert.Reference6Ideal.Read.val_main_v30, Cert.Reference6Ideal.Read.val_main_v29, Cert.Reference6Ideal.Read.val_main_v28, Cert.Reference6Ideal.Read.val_main_v27, Cert.Reference6Ideal.Read.val_main_v26, Cert.Reference6Ideal.Read.val_main_v25, Cert.Reference6Ideal.Read.val_main_cst_5, Cert.Reference6Ideal.Read.val_main_cst_6]
  generalize (Cert.Reference6Ideal.Read.val_main_v24 (F := Ideal) _ _ _ _ : Cert.Reference6Ideal.S4096x5128.Idx → EReal) = a
  pointwise []
  by_cases b0 : q.val < 512
  · rw [dif_pos b0, qs_in _ (by omega)]
  rw [dif_neg b0]
  by_cases b1 : q.val - 512 < 512
  · rw [dif_pos b1, qs_out _ (by omega), mul_one]
    exact congrArg (fun r => a (ix2 p r)) (Fin.ext (by dsimp only; omega))
  rw [dif_neg b1]
  by_cases b2 : q.val - 512 - 512 < 512
  · rw [dif_pos b2, qs_out _ (by omega), mul_one]
    exact congrArg (fun r => a (ix2 p r)) (Fin.ext (by dsimp only; omega))
  rw [dif_neg b2]
  by_cases b3 : q.val - 512 - 512 - 512 < 512
  · rw [dif_pos b3, qs_in _ (by omega)]
    exact congrArg (fun r => a (ix2 p r) * Ideal.ofBits .f32 0x3E000000#32) (Fin.ext (by dsimp only; omega))
  rw [dif_neg b3]
  by_cases b4 : q.val - 512 - 512 - 512 - 512 < 512
  · rw [dif_pos b4, qs_out _ (by omega), mul_one]
    exact congrArg (fun r => a (ix2 p r)) (Fin.ext (by dsimp only; omega))
  rw [dif_neg b4]
  rw [qs_out _ (by omega), mul_one]
  exact congrArg (fun r => a (ix2 p r)) (Fin.ext (by dsimp only; omega))

theorem ref_forget (p : Fin 4096) (q : Fin 128) : Cert.Reference6Ideal.Read.val_main_v37 (F := Ideal) (m ((c : Thread nD τ).loc main_arg0)) (m ((c : Thread nD τ).loc main_arg1)) (m ((c : Thread nD τ).loc main_arg2)) (m ((c : Thread nD τ).loc main_arg3)) (ix2 p q) = if h : q.val < 8 then pA m c (ix2 p ⟨3072 + q.val, by omega⟩) else 0 := by
  unfold pA
  simp only [Cert.Reference6Ideal.Read.val_main_v37, Cert.Reference6Ideal.Read.val_main_v36, Cert.Reference6Ideal.Read.val_main_call0_v0, Cert.Reference6Ideal.Read.val_main_c]
  generalize (Cert.Reference6Ideal.Read.val_main_v24 (F := Ideal) _ _ _ _ : Cert.Reference6Ideal.S4096x5128.Idx → EReal) = a
  pointwise []
  rw [show (FloatOps.sitofp (F := Ideal) FTy.f32 0#32 : EReal) = 0 from by show ((((0#32 : BitVec 32).toInt : ℤ) : ℝ) : EReal) = 0; simp]

theorem ref_gate (p : Fin 4096) (q : Fin 2048) : Cert.Reference6Ideal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 p q) = pA m c (ix2 p ⟨3080 + q.val, by omega⟩) + bA m c (ix2 0 q) := by
  unfold pA bA
  simp only [Cert.Reference6Ideal.Read.val_main_v42, Cert.Reference6Ideal.Read.val_main_v41, Cert.Reference6Ideal.Read.val_main_v40]
  generalize (Cert.Reference6Ideal.Read.val_main_v24 (F := Ideal) _ _ _ _ : Cert.Reference6Ideal.S4096x5128.Idx → EReal) = a
  pointwise []

/-! ## The blocks a point works on -/

theorem idx_at : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![t.val, 0] ∧ win0_6.index t = ![t.val, 0] ∧ win0_7.index t = ![t.val, 0] ∧ win0_8.index t = ![t.val, 0] :=
  (by decide +kernel : ∀ t : Fin grid0.N, _)

def b0 (t : Fin cfg0.N) : S256x1024.Idx → EReal := iblk m c 0 t
def b1 (t : Fin cfg0.N) : S1x1024.Idx → EReal := iblk m c 1 t
def b2 (t : Fin cfg0.N) : S1x1024.Idx → EReal := iblk m c 2 t
def b3 (t : Fin cfg0.N) : S5248x1024.Idx → EReal := iblk m c 3 t
def b4 (t : Fin cfg0.N) : S1x2048.Idx → EReal := iblk m c 4 t

/-- The arguments staged as they are, whole. -/
theorem staged_x : (V m c main_arg0 : S4096x1024.Idx → EReal) = xA m c := V_main_arg0 m c
theorem staged_shift : (V m c main_arg1 : S1x1024.Idx → EReal) = shA m c := V_main_arg1 m c
theorem staged_scale : (V m c main_arg2 : S1x1024.Idx → EReal) = scA m c := V_main_arg2 m c
theorem staged_bias : (V m c main_arg4 : S1x2048.Idx → EReal) = bA m c := V_main_arg4 m c

theorem b0_at (t : Fin cfg0.N) (p : Fin 256) (k : Fin 1024) (p' : Fin 4096) (hp : p'.val = t.val * 256 + p.val) : b0 m c t (ix2 p k) = xA m c (ix2 p' k) := by
  rw [← staged_x]
  unfold b0
  blk_ext [iblk, idx_at t]

theorem b1_at (t : Fin cfg0.N) (k : Fin 1024) : b1 m c t (ix2 0 k) = shA m c (ix2 0 k) := by
  rw [← staged_shift]
  unfold b1
  blk_ext [iblk, idx_at t]

theorem b2_at (t : Fin cfg0.N) (k : Fin 1024) : b2 m c t (ix2 0 k) = scA m c (ix2 0 k) := by
  rw [← staged_scale]
  unfold b2
  blk_ext [iblk, idx_at t]

theorem b3_at (t : Fin cfg0.N) (r : Fin 5248) (k : Fin 1024) : b3 m c t (ix2 r k) = stored m c (ix2 r k) := by
  unfold b3 stored
  blk_ext [iblk, idx_at t]

theorem b4_at (t : Fin cfg0.N) (k : Fin 2048) : b4 m c t (ix2 0 k) = bA m c (ix2 0 k) := by
  rw [← staged_bias]
  unfold b4
  blk_ext [iblk, idx_at t]

/-- A row of a block's input is the reference's row, and its products are the reference's, or zero in the stored rows of zeros. -/
theorem uu_row (t : Fin cfg0.N) (p : Fin 256) (k : Fin 1024) (p' : Fin 4096) (hp : p'.val = t.val * 256 + p.val) :
    uu (b0 m c t) (b1 m c t) (b2 m c t) p k = uA m c (ix2 p' k) := by
  rw [uA_at]
  unfold uu
  rw [b1_at, b2_at, show (fun k => b0 m c t (ix2 p k)) = fun k => xA m c (ix2 p' k) from funext fun k => b0_at m c t p k p' hp]

theorem kp_low (t : Fin cfg0.N) (p : Fin 256) (r : Fin 5248) (p' : Fin 4096) (q : Fin 5128) (hp : p'.val = t.val * 256 + p.val) (hr : r.val < 3080) (hq : q.val = r.val) :
    kp (b0 m c t) (b1 m c t) (b2 m c t) (b3 m c t) p r = pA m c (ix2 p' q) := by
  obtain rfl : q = ⟨r.val, Nat.lt_trans hr (by norm_num)⟩ := Fin.ext hq
  rw [pA_at]
  unfold kp
  refine Fin.sum_fin_congr fun k => ?_
  rw [uu_row m c t p k p' hp, b3_at, stored_all, dif_pos hr]

theorem kp_mid (t : Fin cfg0.N) (p : Fin 256) (r : Fin 5248) (hr : 3080 ≤ r.val) (hr' : r.val < 3200) : kp (b0 m c t) (b1 m c t) (b2 m c t) (b3 m c t) p r = 0 := by
  unfold kp
  refine Finset.sum_eq_zero fun k _ => ?_
  rw [b3_at, stored_all, dif_neg (by omega), dif_pos hr', mul_zero]

theorem kp_high (t : Fin cfg0.N) (p : Fin 256) (r : Fin 5248) (p' : Fin 4096) (q : Fin 5128) (hp : p'.val = t.val * 256 + p.val) (hr : 3200 ≤ r.val) (hq : q.val + 120 = r.val) :
    kp (b0 m c t) (b1 m c t) (b2 m c t) (b3 m c t) p r = pA m c (ix2 p' q) := by
  have hb : r.val - 120 < 5128 := by omega
  obtain rfl : q = ⟨r.val - 120, hb⟩ := Fin.ext (by dsimp only; omega)
  rw [pA_at]
  unfold kp
  refine Fin.sum_fin_congr fun k => ?_
  rw [uu_row m c t p k p' hp, b3_at, stored_all, dif_neg (by omega), dif_neg (by omega)]

/-! ## The four results -/

theorem result_u_at (t : Fin cfg0.N) (y : S256x1024.Idx) (i : S4096x1024.Idx) (h0 : (i 0).val = t.val * 256 + (y 0).val) (h1 : (i 1).val = (y 1).val) :
    out0_5 (F := Ideal) (b0 m c t) (b1 m c t) (b2 m c t) (b3 m c t) (b4 m c t) y = Cert.Reference6Ideal.Read.val_main_v38 (F := Ideal) (m ((c : Thread nD τ).loc main_arg0)) (m ((c : Thread nD τ).loc main_arg1)) (m ((c : Thread nD τ).loc main_arg2)) i := by
  have hi : i = ix2 (i 0) (y 1) := ix2_of i (i 0) (y 1) rfl h1
  refine (out_u _ _ _ _ _ y).trans ((uu_row m c t (y 0) (y 1) (i 0) h0).trans ?_)
  exact (congrArg (uA m c) hi).symm

/-- The first result is the reference's. -/
theorem result_u : (dats m 0 c).arrAt 5 cfg0.N = Cert.Reference6Ideal.Read.val_main_v38 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  refine result_u_at m c t y _ ?_ ?_ <;> blk_simp [idx_at t]

theorem result_qkv_at (t : Fin cfg0.N) (y : S256x3072.Idx) (i : S4096x3072.Idx) (h0 : (i 0).val = t.val * 256 + (y 0).val) (h1 : (i 1).val = (y 1).val) :
    out0_6 (F := Ideal) (b0 m c t) (b1 m c t) (b2 m c t) (b3 m c t) (b4 m c t) y = Cert.Reference6Ideal.Read.val_main_v39 (F := Ideal) (m ((c : Thread nD τ).loc main_arg0)) (m ((c : Thread nD τ).loc main_arg1)) (m ((c : Thread nD τ).loc main_arg2)) (m ((c : Thread nD τ).loc main_arg3)) i := by
  have hi : i = ix2 (i 0) (y 1) := ix2_of i (i 0) (y 1) rfl h1
  have hy : (y 1).val < 3072 := (y 1).isLt
  refine (out_qkv _ _ _ _ _ y ⟨(y 1).val, by omega⟩ rfl).trans ?_
  refine Eq.trans ?_ (congrArg _ hi.symm)
  refine Eq.trans ?_ (ref_qkv m c (i 0) (y 1) ⟨(y 1).val, by omega⟩ rfl).symm
  exact congrArg (· * qs (y 1).val) (kp_low m c t (y 0) ⟨(y 1).val, by omega⟩ (i 0) ⟨(y 1).val, by omega⟩ h0 (by dsimp only; omega) rfl)

/-- The second result is the reference's. -/
theorem result_qkv : (dats m 0 c).arrAt 6 cfg0.N = Cert.Reference6Ideal.Read.val_main_v39 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  refine result_qkv_at m c t y _ ?_ ?_ <;> blk_simp [idx_at t]

theorem result_forget_at (t : Fin cfg0.N) (y : S256x128.Idx) (i : S4096x128.Idx) (h0 : (i 0).val = t.val * 256 + (y 0).val) (h1 : (i 1).val = (y 1).val) :
    out0_7 (F := Ideal) (b0 m c t) (b1 m c t) (b2 m c t) (b3 m c t) (b4 m c t) y = Cert.Reference6Ideal.Read.val_main_v37 (F := Ideal) (m ((c : Thread nD τ).loc main_arg0)) (m ((c : Thread nD τ).loc main_arg1)) (m ((c : Thread nD τ).loc main_arg2)) (m ((c : Thread nD τ).loc main_arg3)) i := by
  have hi : i = ix2 (i 0) (y 1) := ix2_of i (i 0) (y 1) rfl h1
  have hy : (y 1).val < 128 := (y 1).isLt
  refine (out_forget _ _ _ _ _ y ⟨3072 + (y 1).val, by omega⟩ rfl).trans ?_
  refine Eq.trans ?_ (congrArg _ hi.symm)
  refine Eq.trans ?_ (ref_forget m c (i 0) (y 1)).symm
  by_cases h : (y 1).val < 8
  · rw [dif_pos h]
    exact kp_low m c t (y 0) ⟨3072 + (y 1).val, by omega⟩ (i 0) ⟨3072 + (y 1).val, by omega⟩ h0 (by dsimp only; omega) rfl
  · rw [dif_neg h]
    exact kp_mid m c t (y 0) ⟨3072 + (y 1).val, by omega⟩ (by dsimp only; omega) (by dsimp only; omega)

/-- The third result is the reference's. -/
theorem result_forget : (dats m 0 c).arrAt 7 cfg0.N = Cert.Reference6Ideal.Read.val_main_v37 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  refine result_forget_at m c t y _ ?_ ?_ <;> blk_simp [idx_at t]

theorem result_gate_at (t : Fin cfg0.N) (y : S256x2048.Idx) (i : S4096x2048.Idx) (h0 : (i 0).val = t.val * 256 + (y 0).val) (h1 : (i 1).val = (y 1).val) :
    out0_8 (F := Ideal) (b0 m c t) (b1 m c t) (b2 m c t) (b3 m c t) (b4 m c t) y = Cert.Reference6Ideal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  have hi : i = ix2 (i 0) (y 1) := ix2_of i (i 0) (y 1) rfl h1
  have hy : (y 1).val < 2048 := (y 1).isLt
  refine (out_gate _ _ _ _ _ y ⟨3200 + (y 1).val, by omega⟩ rfl).trans ?_
  refine Eq.trans ?_ (congrArg _ hi.symm)
  refine Eq.trans ?_ (ref_gate m c (i 0) (y 1)).symm
  exact congrArg₂ (· + ·) (kp_high m c t (y 0) ⟨3200 + (y 1).val, by omega⟩ (i 0) ⟨3080 + (y 1).val, by omega⟩ h0 (by dsimp only; omega) (by dsimp only; omega)) (b4_at m c t (y 1))

/-- The fourth result is the reference's. -/
theorem result_gate : (dats m 0 c).arrAt 8 cfg0.N = Cert.Reference6Ideal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  refine result_gate_at m c t y _ ?_ ?_ <;> blk_simp [idx_at t]

end Cert.Kernel6Ideal.Gen
-- ==== Proof.DwIn512.lean ====
module

public import proofs.«01_k».proof.Proof.Gen.Kernel7Ideal.Value
public import proofs.«01_k».proof.Proof.Gen.Reference7Ideal.Read
public import proofs.«01_k».proof.Proof.Halves

@[expose] public section

set_option maxRecDepth 16384

noncomputable section

namespace Cert.Kernel7Ideal.Gen

open Cert.Kernel7Ideal Idealize.ShloMosaic Idealize.ShloMosaic.TcCoe Idealize.SL.Sem Idealize.ShloMosaic.StableHlo

variable (m : (ℓ : Loc nD τ sig) → Buf (Elt Ideal) ℓ) (c : Dev nD)

/-- The left factor the call stages is the gradient of this piece of the projection. -/
theorem left_eq : (V m c main_v0 : S4096x512.Idx → EReal) = m ((c : Thread nD τ).loc main_arg1) := by
  unfold V
  simp only [hostOps0]
  after_results_simp <;> rfl

/-- The right factor is the layer's normalised input. -/
theorem right_eq : (V m c main_v1 : S4096x1024.Idx → EReal) = m ((c : Thread nD τ).loc main_arg0) := by
  unfold V
  simp only [hostOps0]
  after_results_simp <;> rfl

theorem fill_at (j : S512x1024.Idx) : k0_pay1 (F := Ideal) j = 0 := by
  pointwise [k0_pay1]

/-- What one step over 2048 rows adds. -/
theorem part_at (acc : S512x1024.Idx → EReal) (a : S2048x512.Idx → EReal) (b : S2048x1024.Idx → EReal) (j : S512x1024.Idx) :
    k0_pay2 (F := Ideal) acc a b j = acc j + ∑ k : Fin 2048, a (ix2 k (j 0)) * b (ix2 k (j 1)) := by
  pointwise [k0_pay2]

theorem idx_at : ∀ t : Fin cfg0.N, win0_0.index t = ![t.val % 2, t.val / 2] ∧ win0_1.index t = ![t.val % 2, 0] ∧ win0_2.index t = ![t.val / 2, 0] :=
  (by decide +kernel : ∀ t : Fin grid0.N, _)

/-- The two blocks a point works on. -/
def blkL (t : Fin cfg0.N) : S2048x512.Idx → EReal := iblk m c 0 t
def blkR (t : Fin cfg0.N) : S2048x1024.Idx → EReal := iblk m c 1 t

/-- The two factors, whole. -/
def left : S4096x512.Idx → EReal := V m c main_v0
def right : S4096x1024.Idx → EReal := V m c main_v1

theorem blkL_at (t : Fin cfg0.N) (k : Fin 2048) (r : Fin 512) (k' : Fin 4096) (i : Fin 512) (hk : k'.val = t.val % 2 * 2048 + k.val)
    (hi : i.val = t.val / 2 * 512 + r.val) : blkL m c t (ix2 k r) = left m c (ix2 k' i) := by
  unfold blkL left
  blk_ext [iblk, idx_at t]

theorem blkR_at (t : Fin cfg0.N) (k : Fin 2048) (n : Fin 1024) (k' : Fin 4096) (hk : k'.val = t.val % 2 * 2048 + k.val) :
    blkR m c t (ix2 k n) = right m c (ix2 k' n) := by
  unfold blkR right
  blk_ext [iblk, idx_at t]

/-- After a point's body the accumulator holds the products over the rows met since the block began. -/
theorem acc_zero (t : Fin cfg0.N) (h : t.val % 2 = 0) (j : S512x1024.Idx) :
    outsAt0 m c t.val t.isLt j = ∑ k : Fin 2048, blkL m c t (ix2 k (j 0)) * blkR m c t (ix2 k (j 1)) := by
  rw [outsAt0_A m c t h]
  frame_out
  rw [part_at, fill_at, zero_add]
  rfl

theorem acc_step (t : Fin cfg0.N) (h : ¬ t.val % 2 = 0) (j : S512x1024.Idx) :
    outsAt0 m c t.val t.isLt j = outsAt0 m c (t.val - 1) (Nat.lt_of_le_of_lt (Nat.sub_le _ _) t.isLt) j
      + ∑ k : Fin 2048, blkL m c t (ix2 k (j 0)) * blkR m c t (ix2 k (j 1)) := by
  rw [outsAt0_B m c t h]
  frame_out
  rw [part_at]
  rfl

/-- The product the call is to form. -/
def prod (i : S512x1024.Idx) : EReal :=
  ∑ k : Fin 4096, left m c (ix2 k (i 0)) * right m c (ix2 k (i 1))

/-- At a block's last point the accumulator holds the whole contraction. -/
theorem acc_all (t : Fin cfg0.N) (h : t.val % 2 = 1) (r : Fin 512) (n : Fin 1024) (i : Fin 512) (hi : i.val = t.val / 2 * 512 + r.val) :
    outsAt0 m c t.val t.isLt (ix2 r n) = prod m c (ix2 i n) := by
  have hN : t.val < 2 := lt_of_lt_of_eq t.isLt N_0
  have hb : t.val - 1 < cfg0.N := Nat.lt_of_le_of_lt (Nat.sub_le _ _) t.isLt
  refine (acc_step m c t (by omega) (ix2 r n)).trans ?_
  refine (congrArg (· + _) (acc_zero m c ⟨t.val - 1, hb⟩ (by dsimp only; omega) (ix2 r n))).trans ?_
  unfold prod
  rw [Ffn.sum_halves 2048 4096 (by norm_num)]
  refine congrArg₂ (· + ·) (Fin.sum_fin_congr fun k => ?_) (Fin.sum_fin_congr fun k => ?_)
  · exact congrArg₂ (· * ·) (blkL_at m c ⟨t.val - 1, hb⟩ k r ⟨k.val, by omega⟩ i (by dsimp only; omega) (by dsimp only; omega))
      (blkR_at m c ⟨t.val - 1, hb⟩ k n ⟨k.val, by omega⟩ (by dsimp only; omega))
  · exact congrArg₂ (· * ·) (blkL_at m c t k r ⟨2048 + k.val, by omega⟩ i (by dsimp only; omega) hi)
      (blkR_at m c t k n ⟨2048 + k.val, by omega⟩ (by dsimp only; omega))

theorem prod_eq (i : S512x1024.Idx) :
    prod m c i = Cert.Reference7Ideal.Read.val_main_v4 (F := Ideal) (m ((c : Thread nD τ).loc main_arg0)) (m ((c : Thread nD τ).loc main_arg1)) i := by
  unfold prod left right
  rw [left_eq, right_eq]
  pointwise [Cert.Reference7Ideal.Read.val_main_v4, Cert.Reference7Ideal.Read.val_main_v3, Cert.Reference7Ideal.Read.val_main_v2]

/-- The same at an index of the block and the index of the array it is written to. -/
theorem acc_at (t : Fin cfg0.N) (h : t.val % 2 = 1) (y : S512x1024.Idx) (i : S512x1024.Idx) (h0 : (i 0).val = t.val / 2 * 512 + (y 0).val) (h1 : (i 1).val = (y 1).val) :
    outsAt0 m c t.val t.isLt y = Cert.Reference7Ideal.Read.val_main_v4 (F := Ideal) (m ((c : Thread nD τ).loc main_arg0)) (m ((c : Thread nD τ).loc main_arg1)) i := by
  have hy : y = ix2 (y 0) (y 1) := funext fun a => by match a with | ⟨0, _⟩ => rfl | ⟨1, _⟩ => rfl
  have hi : i = ix2 (i 0) (y 1) := funext fun a => by match a with | ⟨0, _⟩ => rfl | ⟨1, _⟩ => exact Fin.ext h1
  refine (congrArg _ hy).trans ((acc_all m c t h (y 0) (y 1) (i 0) h0).trans ?_)
  rw [show prod m c (ix2 (i 0) (y 1)) = prod m c i from congrArg _ hi.symm, prod_eq]

/-- The result is the reference's. -/
theorem result : (dats m 0 c).arrAt 2 cfg0.N = Cert.Reference7Ideal.Read.val_main_v4 (F := Ideal) (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  blk_simp
  rw [after0_2]
  refine acc_at m c t ht y _ ?_ ?_ <;> blk_simp [idx_at t]

end Cert.Kernel7Ideal.Gen
-- ==== Proof.DwIn128.lean ====
module

public import proofs.«01_k».proof.Proof.Gen.Kernel8Ideal.Value
public import proofs.«01_k».proof.Proof.Gen.Reference8Ideal.Read
public import proofs.«01_k».proof.Proof.Halves

@[expose] public section

set_option maxRecDepth 16384

noncomputable section

namespace Cert.Kernel8Ideal.Gen

open Cert.Kernel8Ideal Idealize.ShloMosaic Idealize.ShloMosaic.TcCoe Idealize.SL.Sem Idealize.ShloMosaic.StableHlo

variable (m : (ℓ : Loc nD τ sig) → Buf (Elt Ideal) ℓ) (c : Dev nD)

/-- The left factor the call stages is the gradient of this piece of the projection. -/
theorem left_eq : (V m c main_v0 : S4096x128.Idx → EReal) = m ((c : Thread nD τ).loc main_arg1) := by
  unfold V
  simp only [hostOps0]
  after_results_simp <;> rfl

/-- The right factor is the layer's normalised input. -/
theorem right_eq : (V m c main_v1 : S4096x1024.Idx → EReal) = m ((c : Thread nD τ).loc main_arg0) := by
  unfold V
  simp only [hostOps0]
  after_results_simp <;> rfl

theorem fill_at (j : S128x1024.Idx) : k0_pay1 (F := Ideal) j = 0 := by
  pointwise [k0_pay1]

/-- What one step over 2048 rows adds. -/
theorem part_at (acc : S128x1024.Idx → EReal) (a : S2048x128.Idx → EReal) (b : S2048x1024.Idx → EReal) (j : S128x1024.Idx) :
    k0_pay2 (F := Ideal) acc a b j = acc j + ∑ k : Fin 2048, a (ix2 k (j 0)) * b (ix2 k (j 1)) := by
  pointwise [k0_pay2]

theorem idx_at : ∀ t : Fin cfg0.N, win0_0.index t = ![t.val % 2, t.val / 2] ∧ win0_1.index t = ![t.val % 2, 0] ∧ win0_2.index t = ![t.val / 2, 0] :=
  (by decide +kernel : ∀ t : Fin grid0.N, _)

/-- The two blocks a point works on. -/
def blkL (t : Fin cfg0.N) : S2048x128.Idx → EReal := iblk m c 0 t
def blkR (t : Fin cfg0.N) : S2048x1024.Idx → EReal := iblk m c 1 t

/-- The two factors, whole. -/
def left : S4096x128.Idx → EReal := V m c main_v0
def right : S4096x1024.Idx → EReal := V m c main_v1

theorem blkL_at (t : Fin cfg0.N) (k : Fin 2048) (r : Fin 128) (k' : Fin 4096) (i : Fin 128) (hk : k'.val = t.val % 2 * 2048 + k.val)
    (hi : i.val = t.val / 2 * 128 + r.val) : blkL m c t (ix2 k r) = left m c (ix2 k' i) := by
  unfold blkL left
  blk_ext [iblk, idx_at t]

theorem blkR_at (t : Fin cfg0.N) (k : Fin 2048) (n : Fin 1024) (k' : Fin 4096) (hk : k'.val = t.val % 2 * 2048 + k.val) :
    blkR m c t (ix2 k n) = right m c (ix2 k' n) := by
  unfold blkR right
  blk_ext [iblk, idx_at t]

/-- After a point's body the accumulator holds the products over the rows met since the block began. -/
theorem acc_zero (t : Fin cfg0.N) (h : t.val % 2 = 0) (j : S128x1024.Idx) :
    outsAt0 m c t.val t.isLt j = ∑ k : Fin 2048, blkL m c t (ix2 k (j 0)) * blkR m c t (ix2 k (j 1)) := by
  rw [outsAt0_A m c t h]
  frame_out
  rw [part_at, fill_at, zero_add]
  rfl

theorem acc_step (t : Fin cfg0.N) (h : ¬ t.val % 2 = 0) (j : S128x1024.Idx) :
    outsAt0 m c t.val t.isLt j = outsAt0 m c (t.val - 1) (Nat.lt_of_le_of_lt (Nat.sub_le _ _) t.isLt) j
      + ∑ k : Fin 2048, blkL m c t (ix2 k (j 0)) * blkR m c t (ix2 k (j 1)) := by
  rw [outsAt0_B m c t h]
  frame_out
  rw [part_at]
  rfl

/-- The product the call is to form. -/
def prod (i : S128x1024.Idx) : EReal :=
  ∑ k : Fin 4096, left m c (ix2 k (i 0)) * right m c (ix2 k (i 1))

/-- At a block's last point the accumulator holds the whole contraction. -/
theorem acc_all (t : Fin cfg0.N) (h : t.val % 2 = 1) (r : Fin 128) (n : Fin 1024) (i : Fin 128) (hi : i.val = t.val / 2 * 128 + r.val) :
    outsAt0 m c t.val t.isLt (ix2 r n) = prod m c (ix2 i n) := by
  have hN : t.val < 2 := lt_of_lt_of_eq t.isLt N_0
  have hb : t.val - 1 < cfg0.N := Nat.lt_of_le_of_lt (Nat.sub_le _ _) t.isLt
  refine (acc_step m c t (by omega) (ix2 r n)).trans ?_
  refine (congrArg (· + _) (acc_zero m c ⟨t.val - 1, hb⟩ (by dsimp only; omega) (ix2 r n))).trans ?_
  unfold prod
  rw [Ffn.sum_halves 2048 4096 (by norm_num)]
  refine congrArg₂ (· + ·) (Fin.sum_fin_congr fun k => ?_) (Fin.sum_fin_congr fun k => ?_)
  · exact congrArg₂ (· * ·) (blkL_at m c ⟨t.val - 1, hb⟩ k r ⟨k.val, by omega⟩ i (by dsimp only; omega) (by dsimp only; omega))
      (blkR_at m c ⟨t.val - 1, hb⟩ k n ⟨k.val, by omega⟩ (by dsimp only; omega))
  · exact congrArg₂ (· * ·) (blkL_at m c t k r ⟨2048 + k.val, by omega⟩ i (by dsimp only; omega) hi)
      (blkR_at m c t k n ⟨2048 + k.val, by omega⟩ (by dsimp only; omega))

theorem prod_eq (i : S128x1024.Idx) :
    prod m c i = Cert.Reference8Ideal.Read.val_main_v4 (F := Ideal) (m ((c : Thread nD τ).loc main_arg0)) (m ((c : Thread nD τ).loc main_arg1)) i := by
  unfold prod left right
  rw [left_eq, right_eq]
  pointwise [Cert.Reference8Ideal.Read.val_main_v4, Cert.Reference8Ideal.Read.val_main_v3, Cert.Reference8Ideal.Read.val_main_v2]

/-- The same at an index of the block and the index of the array it is written to. -/
theorem acc_at (t : Fin cfg0.N) (h : t.val % 2 = 1) (y : S128x1024.Idx) (i : S128x1024.Idx) (h0 : (i 0).val = t.val / 2 * 128 + (y 0).val) (h1 : (i 1).val = (y 1).val) :
    outsAt0 m c t.val t.isLt y = Cert.Reference8Ideal.Read.val_main_v4 (F := Ideal) (m ((c : Thread nD τ).loc main_arg0)) (m ((c : Thread nD τ).loc main_arg1)) i := by
  have hy : y = ix2 (y 0) (y 1) := funext fun a => by match a with | ⟨0, _⟩ => rfl | ⟨1, _⟩ => rfl
  have hi : i = ix2 (i 0) (y 1) := funext fun a => by match a with | ⟨0, _⟩ => rfl | ⟨1, _⟩ => exact Fin.ext h1
  refine (congrArg _ hy).trans ((acc_all m c t h (y 0) (y 1) (i 0) h0).trans ?_)
  rw [show prod m c (ix2 (i 0) (y 1)) = prod m c i from congrArg _ hi.symm, prod_eq]

/-- The result is the reference's. -/
theorem result : (dats m 0 c).arrAt 2 cfg0.N = Cert.Reference8Ideal.Read.val_main_v4 (F := Ideal) (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  blk_simp
  rw [after0_2]
  refine acc_at m c t ht y _ ?_ ?_ <;> blk_simp [idx_at t]

end Cert.Kernel8Ideal.Gen
-- ==== Proof.DwIn2048.lean ====
module

public import proofs.«01_k».proof.Proof.Gen.Kernel9Ideal.Value
public import proofs.«01_k».proof.Proof.Gen.Reference9Ideal.Read
public import proofs.«01_k».proof.Proof.Halves

@[expose] public section

set_option maxRecDepth 16384

noncomputable section

namespace Cert.Kernel9Ideal.Gen

open Cert.Kernel9Ideal Idealize.ShloMosaic Idealize.ShloMosaic.TcCoe Idealize.SL.Sem Idealize.ShloMosaic.StableHlo

variable (m : (ℓ : Loc nD τ sig) → Buf (Elt Ideal) ℓ) (c : Dev nD)

/-- The left factor the call stages is the gradient of this piece of the projection. -/
theorem left_eq : (V m c main_v0 : S4096x2048.Idx → EReal) = m ((c : Thread nD τ).loc main_arg1) := by
  unfold V
  simp only [hostOps0]
  after_results_simp <;> rfl

/-- The right factor is the layer's normalised input. -/
theorem right_eq : (V m c main_v1 : S4096x1024.Idx → EReal) = m ((c : Thread nD τ).loc main_arg0) := by
  unfold V
  simp only [hostOps0]
  after_results_simp <;> rfl

theorem fill_at (j : S512x1024.Idx) : k0_pay1 (F := Ideal) j = 0 := by
  pointwise [k0_pay1]

/-- What one step over 2048 rows adds. -/
theorem part_at (acc : S512x1024.Idx → EReal) (a : S2048x512.Idx → EReal) (b : S2048x1024.Idx → EReal) (j : S512x1024.Idx) :
    k0_pay2 (F := Ideal) acc a b j = acc j + ∑ k : Fin 2048, a (ix2 k (j 0)) * b (ix2 k (j 1)) := by
  pointwise [k0_pay2]

theorem idx_at : ∀ t : Fin cfg0.N, win0_0.index t = ![t.val % 2, t.val / 2] ∧ win0_1.index t = ![t.val % 2, 0] ∧ win0_2.index t = ![t.val / 2, 0] :=
  (by decide +kernel : ∀ t : Fin grid0.N, _)

/-- The two blocks a point works on. -/
def blkL (t : Fin cfg0.N) : S2048x512.Idx → EReal := iblk m c 0 t
def blkR (t : Fin cfg0.N) : S2048x1024.Idx → EReal := iblk m c 1 t

/-- The two factors, whole. -/
def left : S4096x2048.Idx → EReal := V m c main_v0
def right : S4096x1024.Idx → EReal := V m c main_v1

theorem blkL_at (t : Fin cfg0.N) (k : Fin 2048) (r : Fin 512) (k' : Fin 4096) (i : Fin 2048) (hk : k'.val = t.val % 2 * 2048 + k.val)
    (hi : i.val = t.val / 2 * 512 + r.val) : blkL m c t (ix2 k r) = left m c (ix2 k' i) := by
  unfold blkL left
  blk_ext [iblk, idx_at t]

theorem blkR_at (t : Fin cfg0.N) (k : Fin 2048) (n : Fin 1024) (k' : Fin 4096) (hk : k'.val = t.val % 2 * 2048 + k.val) :
    blkR m c t (ix2 k n) = right m c (ix2 k' n) := by
  unfold blkR right
  blk_ext [iblk, idx_at t]

/-- After a point's body the accumulator holds the products over the rows met since the block began. -/
theorem acc_zero (t : Fin cfg0.N) (h : t.val % 2 = 0) (j : S512x1024.Idx) :
    outsAt0 m c t.val t.isLt j = ∑ k : Fin 2048, blkL m c t (ix2 k (j 0)) * blkR m c t (ix2 k (j 1)) := by
  rw [outsAt0_A m c t h]
  frame_out
  rw [part_at, fill_at, zero_add]
  rfl

theorem acc_step (t : Fin cfg0.N) (h : ¬ t.val % 2 = 0) (j : S512x1024.Idx) :
    outsAt0 m c t.val t.isLt j = outsAt0 m c (t.val - 1) (Nat.lt_of_le_of_lt (Nat.sub_le _ _) t.isLt) j
      + ∑ k : Fin 2048, blkL m c t (ix2 k (j 0)) * blkR m c t (ix2 k (j 1)) := by
  rw [outsAt0_B m c t h]
  frame_out
  rw [part_at]
  rfl

/-- The product the call is to form. -/
def prod (i : S2048x1024.Idx) : EReal :=
  ∑ k : Fin 4096, left m c (ix2 k (i 0)) * right m c (ix2 k (i 1))

/-- At a block's last point the accumulator holds the whole contraction. -/
theorem acc_all (t : Fin cfg0.N) (h : t.val % 2 = 1) (r : Fin 512) (n : Fin 1024) (i : Fin 2048) (hi : i.val = t.val / 2 * 512 + r.val) :
    outsAt0 m c t.val t.isLt (ix2 r n) = prod m c (ix2 i n) := by
  have hN : t.val < 8 := lt_of_lt_of_eq t.isLt N_0
  have hb : t.val - 1 < cfg0.N := Nat.lt_of_le_of_lt (Nat.sub_le _ _) t.isLt
  refine (acc_step m c t (by omega) (ix2 r n)).trans ?_
  refine (congrArg (· + _) (acc_zero m c ⟨t.val - 1, hb⟩ (by dsimp only; omega) (ix2 r n))).trans ?_
  unfold prod
  rw [Ffn.sum_halves 2048 4096 (by norm_num)]
  refine congrArg₂ (· + ·) (Fin.sum_fin_congr fun k => ?_) (Fin.sum_fin_congr fun k => ?_)
  · exact congrArg₂ (· * ·) (blkL_at m c ⟨t.val - 1, hb⟩ k r ⟨k.val, by omega⟩ i (by dsimp only; omega) (by dsimp only; omega))
      (blkR_at m c ⟨t.val - 1, hb⟩ k n ⟨k.val, by omega⟩ (by dsimp only; omega))
  · exact congrArg₂ (· * ·) (blkL_at m c t k r ⟨2048 + k.val, by omega⟩ i (by dsimp only; omega) hi)
      (blkR_at m c t k n ⟨2048 + k.val, by omega⟩ (by dsimp only; omega))

theorem prod_eq (i : S2048x1024.Idx) :
    prod m c i = Cert.Reference9Ideal.Read.val_main_v4 (F := Ideal) (m ((c : Thread nD τ).loc main_arg0)) (m ((c : Thread nD τ).loc main_arg1)) i := by
  unfold prod left right
  rw [left_eq, right_eq]
  pointwise [Cert.Reference9Ideal.Read.val_main_v4, Cert.Reference9Ideal.Read.val_main_v3, Cert.Reference9Ideal.Read.val_main_v2]

/-- The same at an index of the block and the index of the array it is written to. -/
theorem acc_at (t : Fin cfg0.N) (h : t.val % 2 = 1) (y : S512x1024.Idx) (i : S2048x1024.Idx) (h0 : (i 0).val = t.val / 2 * 512 + (y 0).val) (h1 : (i 1).val = (y 1).val) :
    outsAt0 m c t.val t.isLt y = Cert.Reference9Ideal.Read.val_main_v4 (F := Ideal) (m ((c : Thread nD τ).loc main_arg0)) (m ((c : Thread nD τ).loc main_arg1)) i := by
  have hy : y = ix2 (y 0) (y 1) := funext fun a => by match a with | ⟨0, _⟩ => rfl | ⟨1, _⟩ => rfl
  have hi : i = ix2 (i 0) (y 1) := funext fun a => by match a with | ⟨0, _⟩ => rfl | ⟨1, _⟩ => exact Fin.ext h1
  refine (congrArg _ hy).trans ((acc_all m c t h (y 0) (y 1) (i 0) h0).trans ?_)
  rw [show prod m c (ix2 (i 0) (y 1)) = prod m c i from congrArg _ hi.symm, prod_eq]

/-- The result is the reference's. -/
theorem result : (dats m 0 c).arrAt 2 cfg0.N = Cert.Reference9Ideal.Read.val_main_v4 (F := Ideal) (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  blk_simp
  rw [after0_2]
  refine acc_at m c t ht y _ ?_ ?_ <;> blk_simp [idx_at t]

end Cert.Kernel9Ideal.Gen
-- ==== Proof.MixFwd.lean ====
module

public import proofs.«01_k».proof.Proof.Gen.Kernel10Ideal.Value
public import proofs.«01_k».proof.Proof.Gen.Reference10Ideal.Read
public import proofs.«01_k».proof.Proof.Norm
public import proofs.«01_k».proof.Proof.Halves
public import Idealize.ShloMosaic.Lib.Pipeline.ValueKit

/- The mixing call: the two gated products of a row, the residual they are added to, and its two normalisations. -/

@[expose] public section

set_option maxRecDepth 16384

noncomputable section

namespace Cert.Kernel10Ideal.Gen

open Cert.Kernel10Ideal Idealize.ShloMosaic Idealize.ShloMosaic.TcCoe Idealize.SL.Sem Idealize.ShloMosaic.StableHlo

/-- The logistic function. -/
def sg (h : EReal) : EReal := Ideal.div 1 (1 + Ideal.exp (-h))

/-- The two attention outputs of a row, each through its own weights and gate, added. -/
def mixed (gt : Fin 2048 → EReal) (a b : Fin 512 → EReal) (wa wb : Fin 512 → Fin 1024 → EReal) (k : Fin 1024) : EReal :=
  sg (gt ⟨k.val, by omega⟩) * (∑ j, a j * wa j k) + sg (gt ⟨1024 + k.val, by omega⟩) * (∑ j, b j * wb j k)

/-- The row after the residual is added. -/
def resid (x : Fin 1024 → EReal) (gt : Fin 2048 → EReal) (a b : Fin 512 → EReal) (wa wb : Fin 512 → Fin 1024 → EReal) (wo : Fin 1024 → Fin 1024 → EReal)
    (g : Fin 1024 → EReal) (k : Fin 1024) : EReal :=
  Ideal.ofBits .f32 0x3F9837F0#32 * x k + g k * (∑ j, mixed gt a b wa wb j * wo j k)

/-- A row normalised, with its gain and bias, and normalised again and modulated. -/
def gained (r g b : Fin 1024 → EReal) (k : Fin 1024) : EReal := Ln.norm Ln.len Ln.eps r k * g k + b k
def twice (r g b sh sc : Fin 1024 → EReal) (k : Fin 1024) : EReal := Ln.norm Ln.len Ln.eps (gained r g b) k * (1 + sc k) + sh k

theorem ix2_of {n0 n1 : ℕ} (y : (⟨2, ![n0, n1]⟩ : Shape).Idx) (p : Fin n0) (q : Fin n1) (h0 : (y 0).val = p.val) (h1 : (y 1).val = q.val) : y = ix2 p q :=
  funext fun a => by match a with | ⟨0, _⟩ => exact Fin.ext h0 | ⟨1, _⟩ => exact Fin.ext h1

variable (x0 : S256x1024.Idx → EReal) (x1 : S256x512.Idx → EReal) (x2 : S256x512.Idx → EReal) (x3 : S256x2048.Idx → EReal) (x4 : S512x1024.Idx → EReal) (x5 : S512x1024.Idx → EReal) (x6 : S1024x1024.Idx → EReal) (x7 : S1x1024.Idx → EReal) (x8 : S1x1024.Idx → EReal) (x9 : S1x1024.Idx → EReal) (x10 : S1x1024.Idx → EReal) (x11 : S1x1024.Idx → EReal)

theorem mix_at (p : Fin 256) (k : Fin 1024) : k0_pay8 (F := Ideal) x0 x1 x2 x3 x4 x5 x6 x7 x8 x9 x10 x11 (ix2 p k) = mixed (fun k => x3 (ix2 p k)) (fun k => x1 (ix2 p k)) (fun k => x2 (ix2 p k)) (fun j k => x4 (ix2 j k)) (fun j k => x5 (ix2 j k)) k := by
  unfold k0_pay8
  simp only [mixed, sg, ← zero_sub]
  pointwise [k0_pay3]

/-- The stored row before it is normalised, and what is read of it. -/
def res (i : S256x1024.Idx) : EReal := resid (fun k => x0 (ix2 (i 0) k)) (fun k => x3 (ix2 (i 0) k)) (fun k => x1 (ix2 (i 0) k)) (fun k => x2 (ix2 (i 0) k)) (fun j k => x4 (ix2 j k)) (fun j k => x5 (ix2 j k)) (fun j k => x6 (ix2 j k)) (fun k => x7 (ix2 0 k)) (i 1)

theorem resid_eq : k0_pay4 (F := Ideal) (k0_pay7 x0 x1 x2 x3 x4 x5 x6 x7 x8 x9 x10 x11) (View.ld x7 r0_5) (k0_pay8 x0 x1 x2 x3 x4 x5 x6 x7 x8 x9 x10 x11) (View.ld x6 r0_6) = res x0 x1 x2 x3 x4 x5 x6 x7 := by
  funext i
  rw [ix2_of i (i 0) (i 1) rfl rfl]
  have h : ∀ j, k0_pay8 (F := Ideal) x0 x1 x2 x3 x4 x5 x6 x7 x8 x9 x10 x11 (ix2 (i 0) j) = _ := fun j => mix_at x0 x1 x2 x3 x4 x5 x6 x7 x8 x9 x10 x11 (i 0) j
  unfold k0_pay7 res resid
  generalize (k0_pay8 (F := Ideal) x0 x1 x2 x3 x4 x5 x6 x7 x8 x9 x10 x11 : S256x1024.Idx → EReal) = a at h ⊢
  pointwise [k0_pay4, k0_pay2, h]

theorem out_resid (y : S256x1024.Idx) : out0_12 (F := Ideal) x0 x1 x2 x3 x4 x5 x6 x7 x8 x9 x10 x11 y = res x0 x1 x2 x3 x4 x5 x6 x7 y := by
  rw [← resid_eq x0 x1 x2 x3 x4 x5 x6 x7 x8 x9 x10 x11]
  unfold out0_12
  canon_tiles x h
  rw [ix2_of y (x 0) (x 1) h0 h1]
  exact congrArg _ (ix2_of x (x 0) (x 1) rfl rfl)

/-- The normalised and modulated row that is stored. -/
theorem out_norm (y : S256x1024.Idx) : out0_13 (F := Ideal) x0 x1 x2 x3 x4 x5 x6 x7 x8 x9 x10 x11 y
    = twice (fun k => res x0 x1 x2 x3 x4 x5 x6 x7 (ix2 (y 0) k)) (fun k => x8 (ix2 0 k)) (fun k => x9 (ix2 0 k)) (fun k => x10 (ix2 0 k)) (fun k => x11 (ix2 0 k)) (y 1) := by
  unfold out0_13
  canon_tiles x h
  rw [ix2_of y (x 0) (x 1) h0 h1, ix2_of x (x 0) (x 1) rfl rfl]
  have h := resid_eq x0 x1 x2 x3 x4 x5 x6 x7 x8 x9 x10 x11
  generalize (k0_pay7 (F := Ideal) x0 x1 x2 x3 x4 x5 x6 x7 x8 x9 x10 x11 : S256x1024.Idx → EReal) = a at h ⊢
  generalize (k0_pay8 (F := Ideal) x0 x1 x2 x3 x4 x5 x6 x7 x8 x9 x10 x11 : S256x1024.Idx → EReal) = b at h ⊢
  generalize (res x0 x1 x2 x3 x4 x5 x6 x7 : S256x1024.Idx → EReal) = r at h ⊢
  pointwise [k0_pay1, k0_pay5, k0_pay6, h, twice, gained, Ln.norm, Ln.cen, Ln.rstd, Ln.var, Ln.mean, Ln.len, Ln.eps]

/-! ## The arrays the call reads -/

variable (m : (ℓ : Loc nD τ sig) → Buf (Elt Ideal) ℓ) (c : Dev nD)

def A0 : S4096x1024.Idx → EReal := m ((c : Thread nD τ).loc main_arg0)
def A1 : S4096x512.Idx → EReal := m ((c : Thread nD τ).loc main_arg1)
def A2 : S4096x512.Idx → EReal := m ((c : Thread nD τ).loc main_arg2)
def A3 : S4096x2048.Idx → EReal := m ((c : Thread nD τ).loc main_arg3)
def A4 : S512x1024.Idx → EReal := m ((c : Thread nD τ).loc main_arg4)
def A5 : S512x1024.Idx → EReal := m ((c : Thread nD τ).loc main_arg5)
def A6 : S1024x1024.Idx → EReal := m ((c : Thread nD τ).loc main_arg6)
def A7 : S1x1024.Idx → EReal := m ((c : Thread nD τ).loc main_arg7)
def A8 : S1x1024.Idx → EReal := m ((c : Thread nD τ).loc main_arg8)
def A9 : S1x1024.Idx → EReal := m ((c : Thread nD τ).loc main_arg9)
def A10 : S1x1024.Idx → EReal := m ((c : Thread nD τ).loc main_arg10)
def A11 : S1x1024.Idx → EReal := m ((c : Thread nD τ).loc main_arg11)

/-- What is staged of each. -/
theorem staged0 : (V m c main_arg0 : S4096x1024.Idx → EReal) = A0 m c := V_main_arg0 m c
theorem staged1 : (V m c main_v0 : S4096x512.Idx → EReal) = A1 m c := by
  unfold V
  simp only [hostOps0]
  after_results_simp <;> rfl
theorem staged2 : (V m c main_v1 : S4096x512.Idx → EReal) = A2 m c := by
  unfold V
  simp only [hostOps0]
  after_results_simp <;> rfl
theorem staged3 : (V m c main_arg3 : S4096x2048.Idx → EReal) = A3 m c := V_main_arg3 m c
theorem staged4 : (V m c main_v2 : S512x1024.Idx → EReal) = A4 m c := by
  unfold V
  simp only [hostOps0]
  after_results_simp <;> rfl
theorem staged5 : (V m c main_v3 : S512x1024.Idx → EReal) = A5 m c := by
  unfold V
  simp only [hostOps0]
  after_results_simp <;> rfl
theorem staged6 : (V m c main_v4 : S1024x1024.Idx → EReal) = A6 m c := by
  unfold V
  simp only [hostOps0]
  after_results_simp <;> rfl
theorem staged7 : (V m c main_arg7 : S1x1024.Idx → EReal) = A7 m c := V_main_arg7 m c
theorem staged8 : (V m c main_arg8 : S1x1024.Idx → EReal) = A8 m c := V_main_arg8 m c
theorem staged9 : (V m c main_arg9 : S1x1024.Idx → EReal) = A9 m c := V_main_arg9 m c
theorem staged10 : (V m c main_arg10 : S1x1024.Idx → EReal) = A10 m c := V_main_arg10 m c
theorem staged11 : (V m c main_arg11 : S1x1024.Idx → EReal) = A11 m c := V_main_arg11 m c

theorem idx_at : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![t.val, 0] ∧ win0_13.index t = ![t.val, 0] :=
  (by decide +kernel : ∀ t : Fin grid0.N, _)

def b0 (t : Fin cfg0.N) : S256x1024.Idx → EReal := iblk m c 0 t
def b1 (t : Fin cfg0.N) : S256x512.Idx → EReal := iblk m c 1 t
def b2 (t : Fin cfg0.N) : S256x512.Idx → EReal := iblk m c 2 t
def b3 (t : Fin cfg0.N) : S256x2048.Idx → EReal := iblk m c 3 t
def b4 (t : Fin cfg0.N) : S512x1024.Idx → EReal := iblk m c 4 t
def b5 (t : Fin cfg0.N) : S512x1024.Idx → EReal := iblk m c 5 t
def b6 (t : Fin cfg0.N) : S1024x1024.Idx → EReal := iblk m c 6 t
def b7 (t : Fin cfg0.N) : S1x1024.Idx → EReal := iblk m c 7 t
def b8 (t : Fin cfg0.N) : S1x1024.Idx → EReal := iblk m c 8 t
def b9 (t : Fin cfg0.N) : S1x1024.Idx → EReal := iblk m c 9 t
def b10 (t : Fin cfg0.N) : S1x1024.Idx → EReal := iblk m c 10 t
def b11 (t : Fin cfg0.N) : S1x1024.Idx → EReal := iblk m c 11 t

theorem b0_at (t : Fin cfg0.N) (p : Fin 256) (k : Fin 1024) (p' : Fin 4096) (hp : p'.val = t.val * 256 + p.val) : b0 m c t (ix2 p k) = A0 m c (ix2 p' k) := by
  rw [← staged0]
  unfold b0
  blk_ext [iblk, idx_at t]

theorem b1_at (t : Fin cfg0.N) (p : Fin 256) (k : Fin 512) (p' : Fin 4096) (hp : p'.val = t.val * 256 + p.val) : b1 m c t (ix2 p k) = A1 m c (ix2 p' k) := by
  rw [← staged1]
  unfold b1
  blk_ext [iblk, idx_at t]

theorem b2_at (t : Fin cfg0.N) (p : Fin 256) (k : Fin 512) (p' : Fin 4096) (hp : p'.val = t.val * 256 + p.val) : b2 m c t (ix2 p k) = A2 m c (ix2 p' k) := by
  rw [← staged2]
  unfold b2
  blk_ext [iblk, idx_at t]

theorem b3_at (t : Fin cfg0.N) (p : Fin 256) (k : Fin 2048) (p' : Fin 4096) (hp : p'.val = t.val * 256 + p.val) : b3 m c t (ix2 p k) = A3 m c (ix2 p' k) := by
  rw [← staged3]
  unfold b3
  blk_ext [iblk, idx_at t]

theorem b4_at (t : Fin cfg0.N) (j : Fin 512) (k : Fin 1024) : b4 m c t (ix2 j k) = A4 m c (ix2 j k) := by
  rw [← staged4]
  unfold b4
  blk_ext [iblk, idx_at t]

theorem b5_at (t : Fin cfg0.N) (j : Fin 512) (k : Fin 1024) : b5 m c t (ix2 j k) = A5 m c (ix2 j k) := by
  rw [← staged5]
  unfold b5
  blk_ext [iblk, idx_at t]

theorem b6_at (t : Fin cfg0.N) (j : Fin 1024) (k : Fin 1024) : b6 m c t (ix2 j k) = A6 m c (ix2 j k) := by
  rw [← staged6]
  unfold b6
  blk_ext [iblk, idx_at t]

theorem b7_at (t : Fin cfg0.N) (k : Fin 1024) : b7 m c t (ix2 0 k) = A7 m c (ix2 0 k) := by
  rw [← staged7]
  unfold b7
  blk_ext [iblk, idx_at t]

theorem b8_at (t : Fin cfg0.N) (k : Fin 1024) : b8 m c t (ix2 0 k) = A8 m c (ix2 0 k) := by
  rw [← staged8]
  unfold b8
  blk_ext [iblk, idx_at t]

theorem b9_at (t : Fin cfg0.N) (k : Fin 1024) : b9 m c t (ix2 0 k) = A9 m c (ix2 0 k) := by
  rw [← staged9]
  unfold b9
  blk_ext [iblk, idx_at t]

theorem b10_at (t : Fin cfg0.N) (k : Fin 1024) : b10 m c t (ix2 0 k) = A10 m c (ix2 0 k) := by
  rw [← staged10]
  unfold b10
  blk_ext [iblk, idx_at t]

theorem b11_at (t : Fin cfg0.N) (k : Fin 1024) : b11 m c t (ix2 0 k) = A11 m c (ix2 0 k) := by
  rw [← staged11]
  unfold b11
  blk_ext [iblk, idx_at t]

/-! ## The reference's results at an index -/

/-- The reference's row after the residual is added. -/
def rA : S4096x1024.Idx → EReal := Cert.Reference10Ideal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem rA_at (p : Fin 4096) (k : Fin 1024) : rA m c (ix2 p k) = resid (fun k => A0 m c (ix2 p k)) (fun k => A3 m c (ix2 p k)) (fun k => A1 m c (ix2 p k)) (fun k => A2 m c (ix2 p k)) (fun j k => A4 m c (ix2 j k)) (fun j k => A5 m c (ix2 j k)) (fun j k => A6 m c (ix2 j k)) (fun k => A7 m c (ix2 0 k)) k := by
  unfold rA resid A0 A1 A2 A3 A4 A5 A6 A7
  pointwise [Cert.Reference10Ideal.Read.val_main_v24, Cert.Reference10Ideal.Read.val_main_v23, Cert.Reference10Ideal.Read.val_main_v22, Cert.Reference10Ideal.Read.val_main_v21, Cert.Reference10Ideal.Read.val_main_v20, Cert.Reference10Ideal.Read.val_main_v19, Cert.Reference10Ideal.Read.val_main_v18, Cert.Reference10Ideal.Read.val_main_v17, Cert.Reference10Ideal.Read.val_main_v16, Cert.Reference10Ideal.Read.val_main_v15, Cert.Reference10Ideal.Read.val_main_v14, Cert.Reference10Ideal.Read.val_main_v13, Cert.Reference10Ideal.Read.val_main_v12, Cert.Reference10Ideal.Read.val_main_v11, Cert.Reference10Ideal.Read.val_main_v10, Cert.Reference10Ideal.Read.val_main_v9, Cert.Reference10Ideal.Read.val_main_v8, Cert.Reference10Ideal.Read.val_main_v7, Cert.Reference10Ideal.Read.val_main_v6, Cert.Reference10Ideal.Read.val_main_v5, Cert.Reference10Ideal.Read.val_main_v4, Cert.Reference10Ideal.Read.val_main_v3, Cert.Reference10Ideal.Read.val_main_v2, Cert.Reference10Ideal.Read.val_main_v1, Cert.Reference10Ideal.Read.val_main_v0, Cert.Reference10Ideal.Read.val_main_cst, Cert.Reference10Ideal.Read.val_main_cst_0, Cert.Reference10Ideal.Read.val_main_cst_1, Cert.Reference10Ideal.Read.val_main_cst_2, Cert.Reference10Ideal.Read.val_main_cst_3, mixed, sg]

theorem ref_norm (p : Fin 4096) (k : Fin 1024) : Cert.Reference10Ideal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 p k) = twice (fun k => rA m c (ix2 p k)) (fun k => A8 m c (ix2 0 k)) (fun k => A9 m c (ix2 0 k)) (fun k => A10 m c (ix2 0 k)) (fun k => A11 m c (ix2 0 k)) k := by
  unfold rA A8 A9 A10 A11
  simp only [Cert.Reference10Ideal.Read.val_main_v71, Cert.Reference10Ideal.Read.val_main_v70, Cert.Reference10Ideal.Read.val_main_v69, Cert.Reference10Ideal.Read.val_main_v68, Cert.Reference10Ideal.Read.val_main_v67, Cert.Reference10Ideal.Read.val_main_v66, Cert.Reference10Ideal.Read.val_main_v65, Cert.Reference10Ideal.Read.val_main_v64, Cert.Reference10Ideal.Read.val_main_v63, Cert.Reference10Ideal.Read.val_main_v62, Cert.Reference10Ideal.Read.val_main_v61, Cert.Reference10Ideal.Read.val_main_v60, Cert.Reference10Ideal.Read.val_main_v59, Cert.Reference10Ideal.Read.val_main_v58, Cert.Reference10Ideal.Read.val_main_v57, Cert.Reference10Ideal.Read.val_main_v56, Cert.Reference10Ideal.Read.val_main_v55, Cert.Reference10Ideal.Read.val_main_v54, Cert.Reference10Ideal.Read.val_main_v53, Cert.Reference10Ideal.Read.val_main_v52, Cert.Reference10Ideal.Read.val_main_v51, Cert.Reference10Ideal.Read.val_main_v50, Cert.Reference10Ideal.Read.val_main_v49, Cert.Reference10Ideal.Read.val_main_v48, Cert.Reference10Ideal.Read.val_main_v47, Cert.Reference10Ideal.Read.val_main_v46, Cert.Reference10Ideal.Read.val_main_v45, Cert.Reference10Ideal.Read.val_main_v44, Cert.Reference10Ideal.Read.val_main_v43, Cert.Reference10Ideal.Read.val_main_v42, Cert.Reference10Ideal.Read.val_main_v41, Cert.Reference10Ideal.Read.val_main_v40, Cert.Reference10Ideal.Read.val_main_v39, Cert.Reference10Ideal.Read.val_main_v38, Cert.Reference10Ideal.Read.val_main_v37, Cert.Reference10Ideal.Read.val_main_v36, Cert.Reference10Ideal.Read.val_main_v35, Cert.Reference10Ideal.Read.val_main_v34, Cert.Reference10Ideal.Read.val_main_v33, Cert.Reference10Ideal.Read.val_main_v32, Cert.Reference10Ideal.Read.val_main_v31, Cert.Reference10Ideal.Read.val_main_v30, Cert.Reference10Ideal.Read.val_main_v29, Cert.Reference10Ideal.Read.val_main_v28, Cert.Reference10Ideal.Read.val_main_v27, Cert.Reference10Ideal.Read.val_main_v26, Cert.Reference10Ideal.Read.val_main_v25]
  generalize (Cert.Reference10Ideal.Read.val_main_v24 (F := Ideal) _ _ _ _ _ _ _ _ : S4096x1024.Idx → EReal) = a
  pointwise [Cert.Reference10Ideal.Read.val_main_cst_4, Cert.Reference10Ideal.Read.val_main_cst_5, Cert.Reference10Ideal.Read.val_main_cst_6, Cert.Reference10Ideal.Read.val_main_cst_7, Cert.Reference10Ideal.Read.val_main_cst_8, Cert.Reference10Ideal.Read.val_main_cst_9, Cert.Reference10Ideal.Read.val_main_cst_10, Cert.Reference10Ideal.Read.val_main_cst_11, Cert.Reference10Ideal.Read.val_main_cst_12, Cert.Reference10Ideal.Read.val_main_cst_13, Cert.Reference10Ideal.Read.val_main_cst_14, twice, gained, Ln.norm, Ln.cen, Ln.rstd, Ln.var, Ln.mean, Ln.len, Ln.eps]

/-! ## The two results -/

theorem row_at (t : Fin cfg0.N) (p : Fin 256) (k : Fin 1024) (p' : Fin 4096) (hp : p'.val = t.val * 256 + p.val) :
    res (b0 m c t) (b1 m c t) (b2 m c t) (b3 m c t) (b4 m c t) (b5 m c t) (b6 m c t) (b7 m c t) (ix2 p k) = rA m c (ix2 p' k) := by
  rw [rA_at]
  show resid (fun k => b0 m c t (ix2 p k)) (fun k => b3 m c t (ix2 p k)) (fun k => b1 m c t (ix2 p k)) (fun k => b2 m c t (ix2 p k)) (fun j k => b4 m c t (ix2 j k)) (fun j k => b5 m c t (ix2 j k)) (fun j k => b6 m c t (ix2 j k)) (fun k => b7 m c t (ix2 0 k)) k = _
  simp only [fun k => b0_at m c t p k p' hp, fun k => b1_at m c t p k p' hp, fun k => b2_at m c t p k p' hp, fun k => b3_at m c t p k p' hp, b4_at, b5_at, b6_at, b7_at]

theorem result_resid_at (t : Fin cfg0.N) (y : S256x1024.Idx) (i : S4096x1024.Idx) (h0 : (i 0).val = t.val * 256 + (y 0).val) (h1 : (i 1).val = (y 1).val) :
    out0_12 (F := Ideal) (b0 m c t) (b1 m c t) (b2 m c t) (b3 m c t) (b4 m c t) (b5 m c t) (b6 m c t) (b7 m c t) (b8 m c t) (b9 m c t) (b10 m c t) (b11 m c t) y = Cert.Reference10Ideal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i := by
  have hi : i = ix2 (i 0) (y 1) := ix2_of i (i 0) (y 1) rfl h1
  have hy : y = ix2 (y 0) (y 1) := ix2_of y (y 0) (y 1) rfl rfl
  refine (out_resid _ _ _ _ _ _ _ _ _ _ _ _ y).trans ?_
  exact (congrArg _ hy).trans ((row_at m c t (y 0) (y 1) (i 0) h0).trans (congrArg (rA m c) hi.symm))

/-- The first result is the reference's. -/
theorem result_resid : (dats m 0 c).arrAt 12 cfg0.N = Cert.Reference10Ideal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t hf y => ?_
  blk_simp
  rw [after0_12]
  refine result_resid_at m c t y _ ?_ ?_ <;> blk_simp [idx_at t]

theorem result_norm_at (t : Fin cfg0.N) (y : S256x1024.Idx) (i : S4096x1024.Idx) (h0 : (i 0).val = t.val * 256 + (y 0).val) (h1 : (i 1).val = (y 1).val) :
    out0_13 (F := Ideal) (b0 m c t) (b1 m c t) (b2 m c t) (b3 m c t) (b4 m c t) (b5 m c t) (b6 m c t) (b7 m c t) (b8 m c t) (b9 m c t) (b10 m c t) (b11 m c t) y = Cert.Reference10Ideal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) i := by
  have hi : i = ix2 (i 0) (y 1) := ix2_of i (i 0) (y 1) rfl h1
  have hy : y = ix2 (y 0) (y 1) := ix2_of y (y 0) (y 1) rfl rfl
  refine (out_norm _ _ _ _ _ _ _ _ _ _ _ _ y).trans ?_
  refine Eq.trans ?_ (congrArg _ hi.symm)
  refine Eq.trans ?_ (ref_norm m c (i 0) (y 1)).symm
  simp only [fun k => row_at m c t (y 0) k (i 0) h0, b8_at, b9_at, b10_at, b11_at]

/-- The second result is the reference's. -/
theorem result_norm : (dats m 0 c).arrAt 13 cfg0.N = Cert.Reference10Ideal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 13 _ (by decide +kernel) fun t hf y => ?_
  blk_simp
  rw [after0_13]
  refine result_norm_at m c t y _ ?_ ?_ <;> blk_simp [idx_at t]

end Cert.Kernel10Ideal.Gen
-- ==== Proof.InBwdA.lean ====
module

public import proofs.«01_k».proof.Proof.Gen.Kernel11Ideal.Value
public import proofs.«01_k».proof.Proof.Gen.Reference11Ideal.Read
public import proofs.«01_k».proof.Proof.Norm
public import proofs.«01_k».proof.Proof.Halves
public import Idealize.ShloMosaic.Lib.Pipeline.ValueKit
public import Idealize.ShloMosaic.Lib.WritesUnit

/- The backward call of the input projection, a block at a time: the gradient of the normalised input as a sum over the
pieces of the columns, the row that is stored, the sums that are kept over the points, and the arrays the call reads. -/

@[expose] public section

set_option maxRecDepth 16384

noncomputable section

namespace Cert.Kernel11Ideal.Gen

open Cert.Kernel11Ideal Idealize.ShloMosaic Idealize.ShloMosaic.TcCoe Idealize.SL.Sem Idealize.ShloMosaic.StableHlo
theorem ix2_of {n0 n1 : ℕ} (y : (⟨2, ![n0, n1]⟩ : Shape).Idx) (p : Fin n0) (q : Fin n1) (h0 : (y 0).val = p.val) (h1 : (y 1).val = q.val) : y = ix2 p q :=
  funext fun a => by match a with | ⟨0, _⟩ => exact Fin.ext h0 | ⟨1, _⟩ => exact Fin.ext h1

/-- A sum cut in two. -/
theorem sum_cut (n l N : ℕ) (h : n + l = N) (f : Fin N → EReal) :
    ∑ k : Fin N, f k = ∑ k : Fin n, f ⟨k.val, by omega⟩ + ∑ k : Fin l, f ⟨n + k.val, by omega⟩ := by
  subst h
  exact Fin.sum_univ_add f

/-- A sum over the columns of the projections, by their eight pieces. -/
theorem sum_pieces (f : Fin 5128 → EReal) : ∑ k : Fin 5128, f k
    = (∑ k : Fin 512, f ⟨k.val, by omega⟩) + (∑ k : Fin 512, f ⟨512 + k.val, by omega⟩) + (∑ k : Fin 512, f ⟨1024 + k.val, by omega⟩)
      + (∑ k : Fin 512, f ⟨1536 + k.val, by omega⟩) + (∑ k : Fin 512, f ⟨2048 + k.val, by omega⟩) + (∑ k : Fin 512, f ⟨2560 + k.val, by omega⟩)
      + (∑ k : Fin 8, f ⟨3072 + k.val, by omega⟩) + (∑ k : Fin 2048, f ⟨3080 + k.val, by omega⟩) := by
  rw [sum_cut 3080 2048 5128 rfl f, sum_cut 3072 8 3080 rfl, sum_cut 2560 512 3072 rfl, sum_cut 2048 512 2560 rfl, sum_cut 1536 512 2048 rfl,
    sum_cut 1024 512 1536 rfl, sum_cut 512 512 1024 rfl]

/-- A sum whose terms past the eighth are zero. -/
theorem sum_padded (f : Fin 128 → EReal) (h : ∀ k : Fin 128, 8 ≤ k.val → f k = 0) : ∑ k : Fin 128, f k = ∑ k : Fin 8, f ⟨k.val, by omega⟩ := by
  have e : ∑ k : Fin 120, f ⟨8 + k.val, by omega⟩ = 0 := Finset.sum_eq_zero fun k _ => h ⟨8 + k.val, by omega⟩ (Nat.le_add_right 8 _)
  rw [sum_cut 8 120 128 rfl f, e, add_zero]

section Rows

variable (x0 x1 x2 x3 x4 x5 : S256x512.Idx → EReal) (x6 : S256x128.Idx → EReal) (x7 : S256x2048.Idx → EReal) (w : S5248x1024.Idx → EReal)

/-- The gradient of the normalised input, as the call adds it up. -/
def dn (x0 x1 x2 x3 x4 x5 : Vec Ideal S256x512 .bf16) (x6 : Vec Ideal S256x128 .bf16) (x7 : Vec Ideal S256x2048 .bf16) (w : Vec Ideal S5248x1024 .bf16) : S256x1024.Idx → EReal :=
  k0_pay4 (F := Ideal)
    (k0_pay2 x0 (View.ld w (Rect.unit ![0, 0] ![512, 1024] inb_S5248x1024_S512x1024_0_0))
      x1 (View.ld w (Rect.unit ![512, 0] ![512, 1024] inb_S5248x1024_S512x1024_512_0))
      x2 (View.ld w (Rect.unit ![1024, 0] ![512, 1024] inb_S5248x1024_S512x1024_1024_0))
      x3 (View.ld w (Rect.unit ![1536, 0] ![512, 1024] inb_S5248x1024_S512x1024_1536_0)))
    (k0_pay3 x4)
    (View.ld w (Rect.unit ![2048, 0] ![512, 1024] inb_S5248x1024_S512x1024_2048_0)) x5
    (View.ld w (Rect.unit ![2560, 0] ![512, 1024] inb_S5248x1024_S512x1024_2560_0)) x6
    (View.ld w (Rect.unit ![3072, 0] ![128, 1024] inb_S5248x1024_S128x1024_3072_0)) x7
    (View.ld w (Rect.unit ![3200, 0] ![2048, 1024] inb_S5248x1024_S2048x1024_3200_0))

theorem dn_at (p : Fin 256) (k : Fin 1024) : dn x0 x1 x2 x3 x4 x5 x6 x7 w (ix2 p k)
    = (∑ q : Fin 512, x0 (ix2 p q) * w (ix2 ⟨q.val, by omega⟩ k)) + (∑ q : Fin 512, x1 (ix2 p q) * w (ix2 ⟨512 + q.val, by omega⟩ k))
      + (∑ q : Fin 512, x2 (ix2 p q) * w (ix2 ⟨1024 + q.val, by omega⟩ k)) + (∑ q : Fin 512, x3 (ix2 p q) * w (ix2 ⟨1536 + q.val, by omega⟩ k))
      + (∑ q : Fin 512, x4 (ix2 p q) * w (ix2 ⟨2048 + q.val, by omega⟩ k)) + (∑ q : Fin 512, x5 (ix2 p q) * w (ix2 ⟨2560 + q.val, by omega⟩ k))
      + (∑ q : Fin 128, x6 (ix2 p q) * w (ix2 ⟨3072 + q.val, by omega⟩ k)) + (∑ q : Fin 2048, x7 (ix2 p q) * w (ix2 ⟨3200 + q.val, by omega⟩ k)) := by
  unfold dn
  pointwise [k0_pay4, k0_pay2, k0_pay3]

variable (D x dxa : S256x1024.Idx → EReal) (s : S1x1024.Idx → EReal)

/-- The stored row: the gradient through the modulation and the normalisation, added to the gradient given. -/
theorem stored_row (p : Fin 256) (k : Fin 1024) : k0_pay9 (F := Ideal) D (k0_pay5 x) (k0_pay6 x) (k0_pay7 x) dxa s (ix2 p k)
    = dxa (ix2 p k) + Ln.back Ln.len Ln.eps (fun k => x (ix2 p k)) (fun k => D (ix2 p k) * (1 + s (ix2 0 k))) k := by
  pointwise [k0_pay9, k0_pay8, k0_pay7, k0_pay6, k0_pay5, Ln.back, Ln.norm, Ln.cen, Ln.rstd, Ln.var, Ln.mean, Ln.len, Ln.eps]

/-- What a point adds to a row of the sums. -/
def add8 (r : Fin 8) (k : Fin 1024) : EReal :=
  if r.val = 0 then ∑ p : Fin 256, D (ix2 p k) else if r.val = 1 then ∑ p : Fin 256, D (ix2 p k) * Ln.norm Ln.len Ln.eps (fun k => x (ix2 p k)) k else 0

theorem row0 (a : S1x1024.Idx → EReal) (k : Fin 1024) : k0_pay10 (F := Ideal) D a (ix2 0 k) = a (ix2 0 k) + ∑ p : Fin 256, D (ix2 p k) := by
  pointwise [k0_pay10]
theorem row1 (a : S1x1024.Idx → EReal) (k : Fin 1024) : k0_pay11 (F := Ideal) D (k0_pay5 x) (k0_pay7 x) a (ix2 0 k)
    = a (ix2 0 k) + ∑ p : Fin 256, D (ix2 p k) * Ln.norm Ln.len Ln.eps (fun k => x (ix2 p k)) k := by
  pointwise [k0_pay11, k0_pay8, k0_pay7, k0_pay6, k0_pay5, Ln.norm, Ln.cen, Ln.rstd, Ln.var, Ln.mean, Ln.len, Ln.eps]

abbrev R0 : Rect S8x1024 := Rect.unit ![0, 0] ![1, 1024] inb_S8x1024_S1x1024_0_0
abbrev R1 : Rect S8x1024 := Rect.unit ![1, 0] ![1, 1024] inb_S8x1024_S1x1024_1_0
abbrev RW : Rect S8x1024 := Rect.unit ![0, 0] ![8, 1024] inb_S8x1024_S8x1024_0_0
abbrev P8 := View.Piece (Elt Ideal) S8x1024 .f32

/-- The pieces a first point stores: zeros everywhere, and over them the two rows. -/
def L0 : List P8 := [⟨RW, k0_pay1 (F := Ideal)⟩]
def L1 : List P8 := ⟨R0, k0_pay10 (F := Ideal) D (fun j => View.canon L0 (R0.toLoadRect.idx j))⟩ :: L0
def L2 : List P8 := ⟨R1, k0_pay11 (F := Ideal) D (k0_pay5 x) (k0_pay7 x) (fun j => View.canon (L1 D) (R1.toLoadRect.idx j))⟩ :: L1 D

theorem canon_L0 (i : S8x1024.Idx) : (View.canon L0 i : EReal) = 0 := by
  unfold L0
  rw [View.canon_cons_unit_lit' _ _ _ (fun a => by fin_cases a <;> rfl)]
  pointwise [k0_pay1]

theorem off0 (r : Fin 8) (h : r.val ≠ 0) (k : Fin 1024) : (ix2 r k : S8x1024.Idx) ∉ R0.set := by
  rw [Rect.mem_set_unit]
  intro hh
  have := (hh 0).2
  exact absurd this (by show ¬ r.val < 0 + 1; omega)
theorem off1 (r : Fin 8) (h : r.val ≠ 1) (k : Fin 1024) : (ix2 r k : S8x1024.Idx) ∉ R1.set := by
  rw [Rect.mem_set_unit]
  intro hh
  have h1 : 1 ≤ r.val := (hh 0).1
  have h2 : r.val < 1 + 1 := (hh 0).2
  omega
theorem emb0 (k : Fin 1024) : R0.emb (ix2 0 k) = (ix2 0 k : S8x1024.Idx) := ix2_of _ _ _ rfl (by show 0 + 1 * k.val = k.val; omega)
theorem emb1 (k : Fin 1024) : R1.emb (ix2 0 k) = (ix2 1 k : S8x1024.Idx) := ix2_of _ _ _ rfl (by show 0 + 1 * k.val = k.val; omega)

theorem idx1 (k : Fin 1024) : R1.toLoadRect.idx (ix2 0 k) = (ix2 1 k : S8x1024.Idx) := emb1 k

theorem canon_L1 (r : Fin 8) (k : Fin 1024) : (View.canon (L1 D) (ix2 r k) : EReal) = 0 + if r.val = 0 then ∑ p : Fin 256, D (ix2 p k) else 0 := by
  unfold L1
  by_cases h : r.val = 0
  · obtain rfl : r = 0 := Fin.ext h
    rw [if_pos h, ← emb0, View.canon_cons_emb]
    refine (row0 D _ k).trans ?_
    rw [canon_L0]
  · rw [if_neg h, View.canon_cons_of_not_mem _ _ (off0 r h k), canon_L0, add_zero]

theorem acc_first (r : Fin 8) (k : Fin 1024) : (View.canon (L2 D x) (ix2 r k) : EReal) = 0 + add8 D x r k := by
  unfold L2 add8
  by_cases h : r.val = 1
  · obtain rfl : r = 1 := Fin.ext h
    rw [if_neg (by decide), if_pos h, ← emb1, View.canon_cons_emb]
    refine (row1 D x _ k).trans ?_
    rw [idx1, canon_L1, if_neg (show ¬ ((1 : Fin 8).val = 0) by decide), add_zero]
  · refine (View.canon_cons_of_not_mem (⟨R1, _⟩ : P8) _ (off1 r h k)).trans ?_
    rw [canon_L1, if_neg h]

/-- What a later point leaves, over what the point before it left. -/
theorem acc_next {κ : Kind} {sp : Space} (v : View sig κ sp S8x1024 .f32) (f : v.ty.Contents (Elt Ideal)) (prev : S8x1024.Idx → EReal) (hf : v.read (Elt Ideal) f = prev)
    (a0 a1 : S1x1024.Idx → EReal) (h0 : ∀ k, a0 (ix2 0 k) = prev (ix2 0 k)) (h1 : ∀ k, a1 (ix2 0 k) = prev (ix2 1 k)) (r : Fin 8) (k : Fin 1024) :
    (v.read (Elt Ideal) (v.writes (Elt Ideal) f [⟨R1, k0_pay11 (F := Ideal) D (k0_pay5 x) (k0_pay7 x) a1⟩, ⟨R0, k0_pay10 (F := Ideal) D a0⟩]) (ix2 r k) : EReal)
      = prev (ix2 r k) + add8 D x r k := by
  unfold add8
  by_cases h : r.val = 1
  · obtain rfl : r = 1 := Fin.ext h
    rw [if_neg (by decide), if_pos h, ← emb1, View.read_writes_cons_emb]
    refine (row1 D x _ k).trans ?_
    rw [h1, emb1]
  · rw [View.read_writes_cons_unit_of_not_mem v f _ _ _ (ix2 r k) rfl 0 (by show r.val < 1 ∨ 1 + 1 ≤ r.val; omega), if_neg h]
    by_cases g : r.val = 0
    · obtain rfl : r = 0 := Fin.ext g
      rw [if_pos g, ← emb0, View.read_writes_cons_emb]
      refine (row0 D _ k).trans ?_
      rw [h0, emb0]
    · rw [View.read_writes_cons_unit_of_not_mem v f _ _ _ (ix2 r k) rfl 0 (by show r.val < 0 ∨ 0 + 1 ≤ r.val; omega), if_neg g, add_zero]
      exact congrFun hf _

end Rows

/-! ## The arrays the call reads -/

variable (m : (ℓ : Loc nD τ sig) → Buf (Elt Ideal) ℓ) (c : Dev nD)

/-- The five arguments. -/
def xA : S4096x1024.Idx → EReal := m ((c : Thread nD τ).loc main_arg0)
def ctA : S4096x1024.Idx → EReal := m ((c : Thread nD τ).loc main_arg1)
def scA : S1x1024.Idx → EReal := m ((c : Thread nD τ).loc main_arg2)
def wA : S1024x5128.Idx → EReal := m ((c : Thread nD τ).loc main_arg3)
def dpA : S4096x5128.Idx → EReal := m ((c : Thread nD τ).loc main_arg4)

/-- What is staged of them. -/
theorem staged_x : (V m c main_arg0 : S4096x1024.Idx → EReal) = xA m c := V_main_arg0 m c
theorem staged_ct : (V m c main_arg1 : S4096x1024.Idx → EReal) = ctA m c := V_main_arg1 m c
theorem staged_scale : (V m c main_arg2 : S1x1024.Idx → EReal) = scA m c := V_main_arg2 m c
theorem staged0 (p : Fin 4096) (q : Fin 512) : (V m c main_v3 : S4096x512.Idx → EReal) (ix2 p q) = dpA m c (ix2 p ⟨q.val, by omega⟩) := by
  unfold V
  simp only [List.flatten_cons, List.flatten_nil, List.append_nil, hostOps0, hostOps0_1, hostOps0_2, List.cons_append, List.nil_append]
  after_results_simp
  pointwise [dpA]
theorem staged1 (p : Fin 4096) (q : Fin 512) : (V m c main_v4 : S4096x512.Idx → EReal) (ix2 p q) = dpA m c (ix2 p ⟨512 + q.val, by omega⟩) := by
  unfold V
  simp only [List.flatten_cons, List.flatten_nil, List.append_nil, hostOps0, hostOps0_1, hostOps0_2, List.cons_append, List.nil_append]
  after_results_simp
  pointwise [dpA]
theorem staged2 (p : Fin 4096) (q : Fin 512) : (V m c main_v5 : S4096x512.Idx → EReal) (ix2 p q) = dpA m c (ix2 p ⟨1024 + q.val, by omega⟩) := by
  unfold V
  simp only [List.flatten_cons, List.flatten_nil, List.append_nil, hostOps0, hostOps0_1, hostOps0_2, List.cons_append, List.nil_append]
  after_results_simp
  pointwise [dpA]
theorem staged3 (p : Fin 4096) (q : Fin 512) : (V m c main_v6 : S4096x512.Idx → EReal) (ix2 p q) = dpA m c (ix2 p ⟨1536 + q.val, by omega⟩) := by
  unfold V
  simp only [List.flatten_cons, List.flatten_nil, List.append_nil, hostOps0, hostOps0_1, hostOps0_2, List.cons_append, List.nil_append]
  after_results_simp
  pointwise [dpA]
theorem staged4 (p : Fin 4096) (q : Fin 512) : (V m c main_v7 : S4096x512.Idx → EReal) (ix2 p q) = dpA m c (ix2 p ⟨2048 + q.val, by omega⟩) := by
  unfold V
  simp only [List.flatten_cons, List.flatten_nil, List.append_nil, hostOps0, hostOps0_1, hostOps0_2, List.cons_append, List.nil_append]
  after_results_simp
  pointwise [dpA]
theorem staged5 (p : Fin 4096) (q : Fin 512) : (V m c main_v8 : S4096x512.Idx → EReal) (ix2 p q) = dpA m c (ix2 p ⟨2560 + q.val, by omega⟩) := by
  unfold V
  simp only [List.flatten_cons, List.flatten_nil, List.append_nil, hostOps0, hostOps0_1, hostOps0_2, List.cons_append, List.nil_append]
  after_results_simp
  pointwise [dpA]
theorem staged7 (p : Fin 4096) (q : Fin 2048) : (V m c main_v9 : S4096x2048.Idx → EReal) (ix2 p q) = dpA m c (ix2 p ⟨3080 + q.val, by omega⟩) := by
  unfold V
  simp only [List.flatten_cons, List.flatten_nil, List.append_nil, hostOps0, hostOps0_1, hostOps0_2, List.cons_append, List.nil_append]
  after_results_simp
  pointwise [dpA]
theorem staged6 (p : Fin 4096) (q : Fin 128) : (V m c main_v2 : S4096x128.Idx → EReal) (ix2 p q) = if h : q.val < 8 then dpA m c (ix2 p ⟨3072 + q.val, by omega⟩) else 0 := by
  unfold V
  simp only [List.flatten_cons, List.flatten_nil, List.append_nil, hostOps0, hostOps0_1, hostOps0_2, List.cons_append, List.nil_append]
  after_results_simp
  refine Eq.trans (b := pad S4096x128 ![0, 0] ![0, 120] ![0, 0] (extractStridedSlice (s := S4096x5128) S4096x8 ![0, 3072] (truncf (F := Ideal) FTy.bf16 (dpA m c : FVec Ideal S4096x5128 .f32) bitsLt_bf16_f32) slices_S4096x5128_S4096x8_0_3072)
    (sitofp FTy.bf16 (constantI S_ 32 0#32)) pads_S4096x8_S4096x128_000_01200 h_S_ (ix2 p q)) rfl ?_
  pointwise [dpA]
  rw [show (FloatOps.sitofp (F := Ideal) FTy.bf16 0#32 : EReal) = 0 from by show ((((0#32 : BitVec 32).toInt : ℤ) : ℝ) : EReal) = 0; simp]

/-- The stored weights: the columns of the argument as rows, with 120 rows of zeros between the forget gates' rows and the output gates'. -/
theorem stored_all (r : Fin 5248) (k : Fin 1024) : (V m c main_v15 : S5248x1024.Idx → EReal) (ix2 r k)
    = if h : r.val < 3080 then wA m c (ix2 k ⟨r.val, by omega⟩) else if h' : r.val < 3200 then 0 else wA m c (ix2 k ⟨r.val - 120, by omega⟩) := by
  unfold V
  simp only [List.flatten_cons, List.flatten_nil, List.append_nil, hostOps0, hostOps0_1, hostOps0_2, List.cons_append, List.nil_append]
  after_results_simp
  pointwise []
  after_results_simp
  pointwise [wA]
  by_cases a : r.val < 3080
  · rw [dif_pos a, dif_pos a]
  · rw [dif_neg a, dif_neg a]
    by_cases b : r.val < 3200
    · rw [dif_pos (show r.val - 3080 < 120 by omega), dif_pos b]
    · rw [dif_neg (show ¬ r.val - 3080 < 120 by omega)]
      refine Eq.trans ?_ (dif_neg b).symm
      have e : 3080 + (r.val - 3080 - 120) = r.val - 120 := by omega
      simp only [e]

theorem idx_at : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![0, 0] ∧ win0_11.index t = ![0, 0] ∧ win0_12.index t = ![t.val, 0] ∧ win0_13.index t = ![0, 0] :=
  (by decide +kernel : ∀ t : Fin grid0.N, _)

def b0 (t : Fin cfg0.N) : S256x512.Idx → EReal := iblk m c 0 t
def b1 (t : Fin cfg0.N) : S256x512.Idx → EReal := iblk m c 1 t
def b2 (t : Fin cfg0.N) : S256x512.Idx → EReal := iblk m c 2 t
def b3 (t : Fin cfg0.N) : S256x512.Idx → EReal := iblk m c 3 t
def b4 (t : Fin cfg0.N) : S256x512.Idx → EReal := iblk m c 4 t
def b5 (t : Fin cfg0.N) : S256x512.Idx → EReal := iblk m c 5 t
def b6 (t : Fin cfg0.N) : S256x128.Idx → EReal := iblk m c 6 t
def b7 (t : Fin cfg0.N) : S256x2048.Idx → EReal := iblk m c 7 t
def b8 (t : Fin cfg0.N) : S256x1024.Idx → EReal := iblk m c 8 t
def b9 (t : Fin cfg0.N) : S256x1024.Idx → EReal := iblk m c 9 t
def b10 (t : Fin cfg0.N) : S5248x1024.Idx → EReal := iblk m c 10 t
def b11 (t : Fin cfg0.N) : S1x1024.Idx → EReal := iblk m c 11 t

theorem b0_at (t : Fin cfg0.N) (p : Fin 256) (k : Fin 512) (p' : Fin 4096) (hp : p'.val = t.val * 256 + p.val) : b0 m c t (ix2 p k) = (V m c main_v3 : S4096x512.Idx → EReal) (ix2 p' k) := by
  unfold b0
  blk_ext [iblk, idx_at t]

theorem b1_at (t : Fin cfg0.N) (p : Fin 256) (k : Fin 512) (p' : Fin 4096) (hp : p'.val = t.val * 256 + p.val) : b1 m c t (ix2 p k) = (V m c main_v4 : S4096x512.Idx → EReal) (ix2 p' k) := by
  unfold b1
  blk_ext [iblk, idx_at t]

theorem b2_at (t : Fin cfg0.N) (p : Fin 256) (k : Fin 512) (p' : Fin 4096) (hp : p'.val = t.val * 256 + p.val) : b2 m c t (ix2 p k) = (V m c main_v5 : S4096x512.Idx → EReal) (ix2 p' k) := by
  unfold b2
  blk_ext [iblk, idx_at t]

theorem b3_at (t : Fin cfg0.N) (p : Fin 256) (k : Fin 512) (p' : Fin 4096) (hp : p'.val = t.val * 256 + p.val) : b3 m c t (ix2 p k) = (V m c main_v6 : S4096x512.Idx → EReal) (ix2 p' k) := by
  unfold b3
  blk_ext [iblk, idx_at t]

theorem b4_at (t : Fin cfg0.N) (p : Fin 256) (k : Fin 512) (p' : Fin 4096) (hp : p'.val = t.val * 256 + p.val) : b4 m c t (ix2 p k) = (V m c main_v7 : S4096x512.Idx → EReal) (ix2 p' k) := by
  unfold b4
  blk_ext [iblk, idx_at t]

theorem b5_at (t : Fin cfg0.N) (p : Fin 256) (k : Fin 512) (p' : Fin 4096) (hp : p'.val = t.val * 256 + p.val) : b5 m c t (ix2 p k) = (V m c main_v8 : S4096x512.Idx → EReal) (ix2 p' k) := by
  unfold b5
  blk_ext [iblk, idx_at t]

theorem b6_at (t : Fin cfg0.N) (p : Fin 256) (k : Fin 128) (p' : Fin 4096) (hp : p'.val = t.val * 256 + p.val) : b6 m c t (ix2 p k) = (V m c main_v2 : S4096x128.Idx → EReal) (ix2 p' k) := by
  unfold b6
  blk_ext [iblk, idx_at t]

theorem b7_at (t : Fin cfg0.N) (p : Fin 256) (k : Fin 2048) (p' : Fin 4096) (hp : p'.val = t.val * 256 + p.val) : b7 m c t (ix2 p k) = (V m c main_v9 : S4096x2048.Idx → EReal) (ix2 p' k) := by
  unfold b7
  blk_ext [iblk, idx_at t]

theorem b8_at (t : Fin cfg0.N) (p : Fin 256) (k : Fin 1024) (p' : Fin 4096) (hp : p'.val = t.val * 256 + p.val) : b8 m c t (ix2 p k) = xA m c (ix2 p' k) := by
  rw [← staged_x]
  unfold b8
  blk_ext [iblk, idx_at t]

theorem b9_at (t : Fin cfg0.N) (p : Fin 256) (k : Fin 1024) (p' : Fin 4096) (hp : p'.val = t.val * 256 + p.val) : b9 m c t (ix2 p k) = ctA m c (ix2 p' k) := by
  rw [← staged_ct]
  unfold b9
  blk_ext [iblk, idx_at t]

theorem b10_at (t : Fin cfg0.N) (r : Fin 5248) (k : Fin 1024) : b10 m c t (ix2 r k) = (V m c main_v15 : S5248x1024.Idx → EReal) (ix2 r k) := by
  unfold b10
  blk_ext [iblk, idx_at t]

theorem b11_at (t : Fin cfg0.N) (k : Fin 1024) : b11 m c t (ix2 0 k) = scA m c (ix2 0 k) := by
  rw [← staged_scale]
  unfold b11
  blk_ext [iblk, idx_at t]

end Cert.Kernel11Ideal.Gen
-- ==== Proof.InBwd.lean ====
module

public import proofs.«01_k».proof.Proof.InBwdA

/- The backward call of the input projection: the blocks a point works on, the reference's rows, and the two results. -/

@[expose] public section

set_option maxRecDepth 16384

noncomputable section

namespace Cert.Kernel11Ideal.Gen

open Cert.Kernel11Ideal Idealize.ShloMosaic Idealize.ShloMosaic.TcCoe Idealize.SL.Sem Idealize.ShloMosaic.StableHlo

variable (m : (ℓ : Loc nD τ sig) → Buf (Elt Ideal) ℓ) (c : Dev nD)

/-- The gradient of the normalised input. -/
def dA (p : Fin 4096) (k : Fin 1024) : EReal := ∑ q : Fin 5128, dpA m c (ix2 p q) * wA m c (ix2 k q)

/-- The same over a point's blocks. -/
def db (t : Fin cfg0.N) : S256x1024.Idx → EReal := dn (b0 m c t) (b1 m c t) (b2 m c t) (b3 m c t) (b4 m c t) (b5 m c t) (b6 m c t) (b7 m c t) (b10 m c t)

theorem w_low (t : Fin cfg0.N) (r : Fin 5248) (k : Fin 1024) (q : Fin 5128) (hq : q.val = r.val) (h : r.val < 3080) : b10 m c t (ix2 r k) = wA m c (ix2 k q) := by
  rw [b10_at, stored_all, dif_pos h]
  exact congrArg (fun q => wA m c (ix2 k q)) (Fin.ext hq.symm)

theorem w_high (t : Fin cfg0.N) (r : Fin 5248) (k : Fin 1024) (q : Fin 5128) (hq : r.val = q.val + 120) (h : 3200 ≤ r.val) : b10 m c t (ix2 r k) = wA m c (ix2 k q) := by
  rw [b10_at, stored_all, dif_neg (by omega), dif_neg (by omega)]
  exact congrArg (fun q => wA m c (ix2 k q)) (Fin.ext (by show r.val - 120 = q.val; omega))

theorem db_at (t : Fin cfg0.N) (p : Fin 256) (k : Fin 1024) (p' : Fin 4096) (hp : p'.val = t.val * 256 + p.val) : db m c t (ix2 p k) = dA m c p' k := by
  unfold db dA
  rw [dn_at, sum_pieces, sum_padded _ (fun q hq => by rw [b6_at m c t p q p' hp, staged6, dif_neg (by omega), zero_mul])]
  refine congrArg₂ (· + ·) (congrArg₂ (· + ·) (congrArg₂ (· + ·) (congrArg₂ (· + ·) (congrArg₂ (· + ·) (congrArg₂ (· + ·) (congrArg₂ (· + ·)
    ?_ ?_) ?_) ?_) ?_) ?_) ?_) ?_ <;> refine Finset.sum_congr rfl fun q _ => congrArg₂ (· * ·) ?_ ?_
  · rw [b0_at m c t p q p' hp, staged0]
  · exact w_low m c t _ k _ rfl (by dsimp only; omega)
  · rw [b1_at m c t p q p' hp, staged1]
  · exact w_low m c t _ k _ rfl (by dsimp only; omega)
  · rw [b2_at m c t p q p' hp, staged2]
  · exact w_low m c t _ k _ rfl (by dsimp only; omega)
  · rw [b3_at m c t p q p' hp, staged3]
  · exact w_low m c t _ k _ rfl (by dsimp only; omega)
  · rw [b4_at m c t p q p' hp, staged4]
  · exact w_low m c t _ k _ rfl (by dsimp only; omega)
  · rw [b5_at m c t p q p' hp, staged5]
  · exact w_low m c t _ k _ rfl (by dsimp only; omega)
  · rw [b6_at m c t p _ p' hp, staged6, dif_pos q.isLt]
  · exact w_low m c t _ k _ rfl (by dsimp only; omega)
  · rw [b7_at m c t p q p' hp, staged7]
  · exact w_high m c t _ k _ (by dsimp only; omega) (by dsimp only; omega)

/-! ## The reference's results at an index -/

def refD : S4096x1024.Idx → EReal := Cert.Reference11Ideal.Read.val_main_v31 (F := Ideal) (m ((c : Thread nD τ).loc main_arg3)) (m ((c : Thread nD τ).loc main_arg4))

theorem refD_at (p : Fin 4096) (k : Fin 1024) : refD m c (ix2 p k) = dA m c p k := by
  unfold refD dA dpA wA
  pointwise [Cert.Reference11Ideal.Read.val_main_v31]

theorem ref_x (p : Fin 4096) (k : Fin 1024) : Cert.Reference11Ideal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 p k)
    = ctA m c (ix2 p k) + Ln.terms Ln.len Ln.eps (fun k => xA m c (ix2 p k)) (fun k => refD m c (ix2 p k) * (1 + scA m c (ix2 0 k))) Ln.minusHalf Ln.two k := by
  unfold refD xA ctA scA
  simp only [Cert.Reference11Ideal.Read.val_main_v63, Cert.Reference11Ideal.Read.val_main_v62, Cert.Reference11Ideal.Read.val_main_v61, Cert.Reference11Ideal.Read.val_main_v60, Cert.Reference11Ideal.Read.val_main_v59, Cert.Reference11Ideal.Read.val_main_v58, Cert.Reference11Ideal.Read.val_main_v57, Cert.Reference11Ideal.Read.val_main_v55, Cert.Reference11Ideal.Read.val_main_v54, Cert.Reference11Ideal.Read.val_main_v53, Cert.Reference11Ideal.Read.val_main_v52, Cert.Reference11Ideal.Read.val_main_v9, Cert.Reference11Ideal.Read.val_main_v6, Cert.Reference11Ideal.Read.val_main_v5, Cert.Reference11Ideal.Read.val_main_v4, Cert.Reference11Ideal.Read.val_main_v3, Cert.Reference11Ideal.Read.val_main_v2, Cert.Reference11Ideal.Read.val_main_v1, Cert.Reference11Ideal.Read.val_main_v8, Cert.Reference11Ideal.Read.val_main_v51, Cert.Reference11Ideal.Read.val_main_v50, Cert.Reference11Ideal.Read.val_main_v49, Cert.Reference11Ideal.Read.val_main_v48, Cert.Reference11Ideal.Read.val_main_v44, Cert.Reference11Ideal.Read.val_main_v21, Cert.Reference11Ideal.Read.val_main_v19, Cert.Reference11Ideal.Read.val_main_v17, Cert.Reference11Ideal.Read.val_main_v16, Cert.Reference11Ideal.Read.val_main_v13, Cert.Reference11Ideal.Read.val_main_v12, Cert.Reference11Ideal.Read.val_main_v11, Cert.Reference11Ideal.Read.val_main_v10, Cert.Reference11Ideal.Read.val_main_v7, Cert.Reference11Ideal.Read.val_main_v18, Cert.Reference11Ideal.Read.val_main_v20, Cert.Reference11Ideal.Read.val_main_v41, Cert.Reference11Ideal.Read.val_main_v40, Cert.Reference11Ideal.Read.val_main_v39, Cert.Reference11Ideal.Read.val_main_v38, Cert.Reference11Ideal.Read.val_main_v37, Cert.Reference11Ideal.Read.val_main_v25, Cert.Reference11Ideal.Read.val_main_v24, Cert.Reference11Ideal.Read.val_main_v15, Cert.Reference11Ideal.Read.val_main_v14, Cert.Reference11Ideal.Read.val_main_v47, Cert.Reference11Ideal.Read.val_main_v46, Cert.Reference11Ideal.Read.val_main_v45, Cert.Reference11Ideal.Read.val_main_v43, Cert.Reference11Ideal.Read.val_main_v42, Cert.Reference11Ideal.Read.val_main_v56]
  generalize (Cert.Reference11Ideal.Read.val_main_v31 (F := Ideal) _ _ : S4096x1024.Idx → EReal) = a
  pointwise [Cert.Reference11Ideal.Read.val_main_cst_16, Cert.Reference11Ideal.Read.val_main_cst_15, Cert.Reference11Ideal.Read.val_main_cst_14, Cert.Reference11Ideal.Read.val_main_cst_1, Cert.Reference11Ideal.Read.val_main_cst_0, Cert.Reference11Ideal.Read.val_main_cst_2, Cert.Reference11Ideal.Read.val_main_cst_13, Cert.Reference11Ideal.Read.val_main_cst_12, Cert.Reference11Ideal.Read.val_main_cst_5, Cert.Reference11Ideal.Read.val_main_cst_4, Cert.Reference11Ideal.Read.val_main_cst_3, Cert.Reference11Ideal.Read.val_main_cst_6, Cert.Reference11Ideal.Read.val_main_cst_10, Cert.Reference11Ideal.Read.val_main_cst_7, Cert.Reference11Ideal.Read.val_main_cst_11, Ln.terms, Ln.slope, Ln.norm, Ln.cen, Ln.rstd, Ln.var, Ln.mean, Ln.len, Ln.eps, Ln.minusHalf, Ln.two]
  simp only [Fin.sum_univ_one]

theorem ref_row_sum (u : Fin 1) (k : Fin 1024) : (Cert.Reference11Ideal.Read.val_main_v33 (F := Ideal) (m ((c : Thread nD τ).loc main_arg3)) (m ((c : Thread nD τ).loc main_arg4)) : Cert.Reference11Ideal.S1x1024.Idx → EReal) (ix2 u k) = ∑ p : Fin 4096, refD m c (ix2 p k) := by
  obtain rfl : u = 0 := Subsingleton.elim _ _
  unfold refD
  simp only [Cert.Reference11Ideal.Read.val_main_v33, Cert.Reference11Ideal.Read.val_main_v32]
  generalize (Cert.Reference11Ideal.Read.val_main_v31 (F := Ideal) _ _ : S4096x1024.Idx → EReal) = a
  pointwise [Cert.Reference11Ideal.Read.val_main_cst_8]

theorem ref_row_dot (u : Fin 1) (k : Fin 1024) : (Cert.Reference11Ideal.Read.val_main_v36 (F := Ideal) (m ((c : Thread nD τ).loc main_arg0)) (m ((c : Thread nD τ).loc main_arg3)) (m ((c : Thread nD τ).loc main_arg4)) : Cert.Reference11Ideal.S1x1024.Idx → EReal) (ix2 u k) = ∑ p : Fin 4096, Ln.norm Ln.len Ln.eps (fun k => xA m c (ix2 p k)) k * refD m c (ix2 p k) := by
  obtain rfl : u = 0 := Subsingleton.elim _ _
  unfold refD xA
  simp only [Cert.Reference11Ideal.Read.val_main_v36, Cert.Reference11Ideal.Read.val_main_v35, Cert.Reference11Ideal.Read.val_main_v34, Cert.Reference11Ideal.Read.val_main_v23, Cert.Reference11Ideal.Read.val_main_v22, Cert.Reference11Ideal.Read.val_main_v18, Cert.Reference11Ideal.Read.val_main_v17, Cert.Reference11Ideal.Read.val_main_v16, Cert.Reference11Ideal.Read.val_main_v13, Cert.Reference11Ideal.Read.val_main_v12, Cert.Reference11Ideal.Read.val_main_v11, Cert.Reference11Ideal.Read.val_main_v10, Cert.Reference11Ideal.Read.val_main_v7, Cert.Reference11Ideal.Read.val_main_v6, Cert.Reference11Ideal.Read.val_main_v5, Cert.Reference11Ideal.Read.val_main_v4, Cert.Reference11Ideal.Read.val_main_v3, Cert.Reference11Ideal.Read.val_main_v2, Cert.Reference11Ideal.Read.val_main_v1, Cert.Reference11Ideal.Read.val_main_v15, Cert.Reference11Ideal.Read.val_main_v14]
  generalize (Cert.Reference11Ideal.Read.val_main_v31 (F := Ideal) _ _ : S4096x1024.Idx → EReal) = a
  pointwise [Cert.Reference11Ideal.Read.val_main_cst_9, Cert.Reference11Ideal.Read.val_main_cst_5, Cert.Reference11Ideal.Read.val_main_cst_4, Cert.Reference11Ideal.Read.val_main_cst_3, Cert.Reference11Ideal.Read.val_main_cst_1, Cert.Reference11Ideal.Read.val_main_cst_0, Ln.norm, Ln.cen, Ln.rstd, Ln.var, Ln.mean, Ln.len, Ln.eps]

theorem ref_acc (r : Fin 8) (k : Fin 1024) : Cert.Reference11Ideal.Read.val_main_v65 (F := Ideal) (m ((c : Thread nD τ).loc main_arg0)) (m ((c : Thread nD τ).loc main_arg3)) (m ((c : Thread nD τ).loc main_arg4)) (ix2 r k)
    = if r.val = 0 then ∑ p : Fin 4096, refD m c (ix2 p k) else if r.val = 1 then ∑ p : Fin 4096, Ln.norm Ln.len Ln.eps (fun k => xA m c (ix2 p k)) k * refD m c (ix2 p k) else 0 := by
  rw [← ref_row_sum m c 0 k, ← ref_row_dot m c 0 k]
  unfold Cert.Reference11Ideal.Read.val_main_v65
  generalize (Cert.Reference11Ideal.Read.val_main_v33 (F := Ideal) _ _ : Cert.Reference11Ideal.S1x1024.Idx → EReal) = a
  generalize (Cert.Reference11Ideal.Read.val_main_v36 (F := Ideal) _ _ _ : Cert.Reference11Ideal.S1x1024.Idx → EReal) = b
  pointwise [Cert.Reference11Ideal.Read.val_main_v64, Cert.Reference11Ideal.Read.val_main_cst_17]
  by_cases h : r.val = 0
  · rw [dif_pos (show r.val < 1 by omega), if_pos h]
    exact congrArg (fun u => a (ix2 u k)) (Subsingleton.elim _ _)
  · rw [dif_neg (show ¬ r.val < 1 by omega), if_neg h]
    by_cases g : r.val = 1
    · rw [dif_pos (show r.val - 1 < 1 by omega), if_pos g]
      exact congrArg (fun u => b (ix2 u k)) (Subsingleton.elim _ _)
    · rw [dif_neg (show ¬ r.val - 1 < 1 by omega), if_neg g]

/-! ## The results -/

theorem out_x (t : Fin cfg0.N) (p : Fin 256) (k : Fin 1024) : (outsAt0 m c t.val t.isLt).1 (ix2 p k)
    = b9 m c t (ix2 p k) + Ln.back Ln.len Ln.eps (fun k => b8 m c t (ix2 p k)) (fun k => db m c t (ix2 p k) * (1 + b11 m c t (ix2 0 k))) k := by
  rw [← stored_row]
  by_cases h : t.val % 16 = 0
  · rw [outsAt0_A m c t h]
    dsimp only
    frame_out
    rfl
  · rw [outsAt0_B m c t h]
    dsimp only
    frame_out
    rfl

theorem acc_zero (t : Fin cfg0.N) (h : t.val % 16 = 0) (y : S8x1024.Idx) :
    (outsAt0 m c t.val t.isLt).2 y = 0 + add8 (db m c t) (b8 m c t) (y 0) (y 1) := by
  rw [outsAt0_A m c t h]
  dsimp only
  frame_out
  simp only [View.readCov_eq_canon']
  refine Eq.trans ?_ (acc_first (db m c t) (b8 m c t) (y 0) (y 1))
  exact congrArg _ (ix2_of y (y 0) (y 1) rfl rfl)

theorem acc_step (t : Fin cfg0.N) (h : ¬ t.val % 16 = 0) (y : S8x1024.Idx) :
    (outsAt0 m c t.val t.isLt).2 y = (outsAt0 m c (t.val - 1) (Nat.lt_of_le_of_lt (Nat.sub_le _ _) t.isLt)).2 y + add8 (db m c t) (b8 m c t) (y 0) (y 1) := by
  rw [outsAt0_B m c t h]
  dsimp only
  frame_out
  rw [ix2_of y (y 0) (y 1) rfl rfl]
  refine acc_next (db m c t) (b8 m c t) _ _ (outsAt0 m c (t.val - 1) (Nat.lt_of_le_of_lt (Nat.sub_le _ _) t.isLt)).2 ?_ _ _ ?_ ?_ (y 0) (y 1)
  · exact Memref.IsWhole.read_unread _ _
  · intro k; exact congrArg _ (emb0 k)
  · intro k; exact congrArg _ (emb1 k)

/-- The arguments the gradient's rows are formed from are real. -/
def Reals : Prop := (∀ i, ∃ r : ℝ, xA m c i = (r : EReal)) ∧ (∀ i, ∃ r : ℝ, scA m c i = (r : EReal)) ∧ (∀ i, ∃ r : ℝ, wA m c i = (r : EReal)) ∧ ∀ i, ∃ r : ℝ, dpA m c i = (r : EReal)

theorem real_mul {a b : EReal} (ha : ∃ r : ℝ, a = (r : EReal)) (hb : ∃ r : ℝ, b = (r : EReal)) : ∃ r : ℝ, a * b = (r : EReal) := by
  obtain ⟨r, rfl⟩ := ha
  obtain ⟨s, rfl⟩ := hb
  exact ⟨r * s, (EReal.coe_mul r s).symm⟩
theorem real_add {a b : EReal} (ha : ∃ r : ℝ, a = (r : EReal)) (hb : ∃ r : ℝ, b = (r : EReal)) : ∃ r : ℝ, a + b = (r : EReal) := by
  obtain ⟨r, rfl⟩ := ha
  obtain ⟨s, rfl⟩ := hb
  exact ⟨r + s, (EReal.coe_add r s).symm⟩

theorem real_dA (hD : Reals m c) (p : Fin 4096) (k : Fin 1024) : ∃ r : ℝ, dA m c p k = (r : EReal) :=
  Finset.sum_induction _ (fun a => ∃ r : ℝ, a = (r : EReal)) (fun _ _ => real_add) ⟨0, rfl⟩ fun q _ => real_mul (hD.2.2.2 _) (hD.2.2.1 _)

theorem row_eq (hD : Reals m c) (t : Fin cfg0.N) (p : Fin 256) (k : Fin 1024) (p' : Fin 4096) (hp : p'.val = t.val * 256 + p.val) :
    b9 m c t (ix2 p k) + Ln.back Ln.len Ln.eps (fun k => b8 m c t (ix2 p k)) (fun k => db m c t (ix2 p k) * (1 + b11 m c t (ix2 0 k))) k
      = ctA m c (ix2 p' k) + Ln.terms Ln.len Ln.eps (fun k => xA m c (ix2 p' k)) (fun k => refD m c (ix2 p' k) * (1 + scA m c (ix2 0 k))) Ln.minusHalf Ln.two k := by
  simp only [fun k => db_at m c t p k p' hp, fun k => b8_at m c t p k p' hp, fun k => b9_at m c t p k p' hp, b11_at, refD_at]
  exact congrArg (_ + ·) (Ln.back_row _ _ (fun k => hD.1 _) (fun k => real_mul (real_dA m c hD _ _) (real_add ⟨1, rfl⟩ (hD.2.1 _))) k)

theorem result_x_at (hD : Reals m c) (t : Fin cfg0.N) (y : S256x1024.Idx) (i : S4096x1024.Idx) (h0 : (i 0).val = t.val * 256 + (y 0).val) (h1 : (i 1).val = (y 1).val) :
    (outsAt0 m c t.val t.isLt).1 y = Cert.Reference11Ideal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  have hi : i = ix2 (i 0) (y 1) := ix2_of i (i 0) (y 1) rfl h1
  have hy : y = ix2 (y 0) (y 1) := ix2_of y (y 0) (y 1) rfl rfl
  refine (congrArg _ hy).trans ((out_x m c t (y 0) (y 1)).trans ?_)
  refine Eq.trans ?_ (congrArg _ hi.symm)
  refine Eq.trans ?_ (ref_x m c (i 0) (y 1)).symm
  exact row_eq m c hD t (y 0) (y 1) (i 0) h0

/-- The first result is the reference's. -/
theorem result_x (hD : Reals m c) : (dats m 0 c).arrAt 12 cfg0.N = Cert.Reference11Ideal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 12 _ (by decide +kernel) fun t hf y => ?_
  blk_simp
  rw [after0_12]
  refine result_x_at m c hD t y _ ?_ ?_ <;> blk_simp [idx_at t]

/-- The sums over all the rows, by the points' blocks. -/
theorem sum_blocks (f : Fin 4096 → EReal) (g : Fin cfg0.N → Fin 256 → EReal) (h : ∀ (t : Fin cfg0.N) (p : Fin 256) (p' : Fin 4096), p'.val = t.val * 256 + p.val → g t p = f p') :
    ∑ t : Fin cfg0.N, ∑ p : Fin 256, g t p = ∑ p : Fin 4096, f p := by
  rw [← Fin.sum_mul_add_fin 16 256 f]
  exact Finset.sum_congr rfl fun t _ => Finset.sum_congr rfl fun p _ => h t p _ rfl

theorem acc_all (t : Fin cfg0.N) (ht : t.val + 1 = cfg0.N) (r : Fin 8) (k : Fin 1024) :
    (outsAt0 m c t.val t.isLt).2 (ix2 r k) = Cert.Reference11Ideal.Read.val_main_v65 (F := Ideal) (m ((c : Thread nD τ).loc main_arg0)) (m ((c : Thread nD τ).loc main_arg3)) (m ((c : Thread nD τ).loc main_arg4)) (ix2 r k) := by
  refine (Pipeline.eq_sum_fin_of_reset_step_apply_last (fun n hn => (outsAt0 m c n hn).2) 16 (fun _ => (0 : EReal)) (fun t y => add8 (db m c t) (b8 m c t) (y 0) (y 1))
    (fun t h y => acc_zero m c t h y) (fun t h y => acc_step m c t h y) (le_of_eq N_0) t ht (ix2 r k)).trans ?_
  refine Eq.trans ?_ (ref_acc m c r k).symm
  rw [zero_add]
  show ∑ t : Fin cfg0.N, add8 (db m c t) (b8 m c t) r k = _
  unfold add8
  by_cases h : r.val = 0
  · simp only [if_pos h]
    exact sum_blocks (fun p => refD m c (ix2 p k)) _ fun t p p' hp => (db_at m c t p k p' hp).trans (refD_at m c p' k).symm
  · simp only [if_neg h]
    by_cases g : r.val = 1
    · simp only [if_pos g]
      refine sum_blocks (fun p => Ln.norm Ln.len Ln.eps (fun k => xA m c (ix2 p k)) k * refD m c (ix2 p k)) _ fun t p p' hp => ?_
      rw [db_at m c t p k p' hp, refD_at, mul_comm]
      simp only [fun k => b8_at m c t p k p' hp]
    · simp only [if_neg g]
      exact Finset.sum_const_zero

theorem result_acc_at (t : Fin cfg0.N) (ht : t.val % 16 = 15) (y i : S8x1024.Idx) (h0 : (i 0).val = (y 0).val) (h1 : (i 1).val = (y 1).val) :
    (outsAt0 m c t.val t.isLt).2 y = Cert.Reference11Ideal.Read.val_main_v65 (F := Ideal) (m ((c : Thread nD τ).loc main_arg0)) (m ((c : Thread nD τ).loc main_arg3)) (m ((c : Thread nD τ).loc main_arg4)) i := by
  have hi : i = ix2 (y 0) (y 1) := ix2_of i (y 0) (y 1) h0 h1
  have hy : y = ix2 (y 0) (y 1) := ix2_of y (y 0) (y 1) rfl rfl
  have hN : t.val < 16 := lt_of_lt_of_eq t.isLt N_0
  refine (congrArg _ hy).trans ((acc_all m c t ((by omega : t.val + 1 = 16).trans N_0.symm) (y 0) (y 1)).trans ?_)
  exact congrArg _ hi.symm

/-- The second result is the reference's. -/
theorem result_acc : (dats m 0 c).arrAt 13 cfg0.N = Cert.Reference11Ideal.Read.val_main_v65 (F := Ideal) (m ((c : Thread nD τ).loc main_arg0)) (m ((c : Thread nD τ).loc main_arg3)) (m ((c : Thread nD τ).loc main_arg4)) := by
  refine (dats m 0 c).arrAt_eq_of_covers 13 _ (by decide +kernel) fun t hf y => ?_
  have ht : t.val % 16 = 15 := (flush0_13 t).mp hf
  blk_simp
  rw [after0_13]
  refine result_acc_at m c t ht y _ ?_ ?_ <;> blk_simp [idx_at t]

end Cert.Kernel11Ideal.Gen
-- ==== Proof.lean ====
/- The assembly of the certificate: the generated frames, the named constant's statement, and the agreement of the kernel's
results with the reference's over extended reals. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Finite
public import proofs.«01_k».proof.Proof.Results
public import proofs.«01_k».proof.Proof.FfnBwd
public import proofs.«01_k».proof.Proof.DwGate
public import proofs.«01_k».proof.Proof.DwUp
public import proofs.«01_k».proof.Proof.DwDown
public import Idealize.ShloMosaic.Adequacy
public import Idealize.ShloMosaic.Init
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.InProj
public import proofs.«01_k».proof.Proof.DwIn512
public import proofs.«01_k».proof.Proof.DwIn128
public import proofs.«01_k».proof.Proof.DwIn2048
public import proofs.«01_k».proof.Proof.MixFwd
public import proofs.«01_k».proof.Proof.InBwd

@[expose] public section

set_option maxRecDepth 16384

noncomputable section

namespace Cert.Proof

open Idealize.ShloMosaic Idealize.SL.Sem Fox

/-- The shape relations of the precondition. -/
theorem pre_facts : Cert.Pre_finite.Facts where
  bcast_S_S4096x3072 := by decide
  bcast_S_S4096x128 := by decide
  bcast_S_S4096x512 := by decide

/-- The reference runs on the host alone and declares no semaphore. -/
theorem frame_r (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

/-- With finite arguments the kernel's five results are the reference's. -/
theorem algebraic : @Cert.algebraic_KernelIdeal_ReferenceIdeal_pre_finite Cert.KernelIdeal.Gen.facts Cert.ReferenceIdeal.Gen.facts pre_facts := by
  intro m ρ m' ρ' hpre hargs
  refine ⟨fun c => Cert.KernelIdeal.Value.G8 m c, fun c => Cert.KernelIdeal.Value.G9 m c, fun c => Cert.KernelIdeal.Value.G10 m c,
    fun c => Cert.KernelIdeal.Value.G11 m c, fun c => Cert.KernelIdeal.Value.G12 m c, Cert.KernelIdeal.Value.run m ρ, ?_⟩
  refine (θ_run Cert.ReferenceIdeal.defs _ _).mono (fun r h c => ?_) (Cert.ReferenceIdeal.Value.run (F := Ideal) m' ρ')
  obtain ⟨h0, h1, h2, h3, h4, ha⟩ := h c
  obtain ⟨p0, p1, p2⟩ := hpre c
  obtain ⟨a0, a1, a2⟩ := hargs c
  have hx := reals_of (Cert.KernelIdeal.Gen.hX m c) _ p0
  have hf := reals_of (Cert.KernelIdeal.Gen.hF m c) _ p1
  have hg := reals_of (Cert.KernelIdeal.Gen.hC m c) _ p2
  have b0 := a0.trans hx
  have b1 := a1.trans hf
  have b2 := a2.trans hg
  refine ⟨h0.trans ?_, h1.trans ?_, h2.trans ?_, h3.trans ?_, h4.trans ?_, ha⟩
  · rw [Cert.ReferenceIdeal.Read.val_main_v99_eq, b0, b1, b2]
    exact (Cert.KernelIdeal.Gen.G8_eq _ _ _ m c hx hf hg).symm
  · rw [Cert.ReferenceIdeal.Read.val_main_v100_eq, b0, b1, b2]
    exact (Cert.KernelIdeal.Gen.G9_eq _ _ _ m c hx hf hg).symm
  · rw [Cert.ReferenceIdeal.Read.val_main_v101_eq, b0, b1, b2]
    exact (Cert.KernelIdeal.Gen.G10_eq _ _ _ m c hx hf hg).symm
  · rw [Cert.ReferenceIdeal.Read.val_main_v103_eq, b0, b1, b2]
    exact (Cert.KernelIdeal.Gen.G11_eq _ _ _ m c hx hf hg).symm
  · rw [Cert.ReferenceIdeal.Read.val_main_v107_eq, b0, b1, b2]
    exact (Cert.KernelIdeal.Gen.G12_eq _ _ _ m c hx hf hg).symm

/-- The shape relations of the second precondition. -/
theorem pre_facts2 : Cert.Pre_finite2.Facts where
  bcast_S_S4096x1024 := by decide
  bcast_S_S1024x2816 := by decide
  bcast_S_S2816x1024 := by decide

/-- Arrays read from their finiteness: the gradient of the hidden layer times the other factor is real. -/
theorem real_pre (m : (ℓ : Loc Cert.Kernel2Ideal.nD Cert.Kernel2Ideal.τ Cert.Kernel2Ideal.sig) → Buf (Elt Ideal) ℓ)
    (hpre : @Cert.Pre_Kernel2Ideal_finite2 pre_facts2 m) (c : Dev Cert.Kernel2Ideal.nD) :
    ∀ i, Cert.Kernel2Ideal.Gen.IsReal (Cert.Kernel2Ideal.Gen.daA m c i * Cert.Kernel2Ideal.Gen.huA m c i) := by
  obtain ⟨p0, p2, p3, p4⟩ := hpre c
  exact Cert.Kernel2Ideal.Gen.real_da m c (fun i => ⟨_, congrFun (reals_of (Cert.Kernel2Ideal.Gen.uA m c) _ p0) i⟩)
    (fun i => ⟨_, congrFun (reals_of (Cert.Kernel2Ideal.Gen.pA m c) _ p2) i⟩)
    (fun i => ⟨_, congrFun (reals_of (Cert.Kernel2Ideal.Gen.wA m c) _ p3) i⟩)
    (fun i => ⟨_, congrFun (reals_of (Cert.Kernel2Ideal.Gen.ctA m c) _ p4) i⟩)

/-- The reference of program 2 runs on the host alone and keeps its arguments. -/
theorem frame_r2 : Cert.quiescent_Reference2Ideal (hReference2Ideal := Cert.Reference2Ideal.Gen.facts) := fun m ρ _ =>
  (θ_run Cert.Reference2Ideal.defs _ _).mono
    (fun r h => ⟨fun c => (h c).2.2.2.2, Idealize.ShloMosaic.sem_eq_zero_of_no_sems (by decide) r.2⟩)
    (Cert.Reference2Ideal.Value.run (F := Ideal) m ρ)

/-- The reference of program 3 runs on the host alone and keeps its arguments. -/
theorem frame_r3 : Cert.quiescent_Reference3Ideal (hReference3Ideal := Cert.Reference3Ideal.Gen.facts) := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

/-- The reference of program 4 runs on the host alone and keeps its arguments. -/
theorem frame_r4 : Cert.quiescent_Reference4Ideal (hReference4Ideal := Cert.Reference4Ideal.Gen.facts) := fun m ρ _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m ρ)

/-- The reference of program 5 runs on the host alone and keeps its arguments. -/
theorem frame_r5 : Cert.quiescent_Reference5Ideal (hReference5Ideal := Cert.Reference5Ideal.Gen.facts) := fun m ρ _ =>
  (θ_run Cert.Reference5Ideal.defs _ _).mono
    (fun r h => ⟨fun c => (h c).2.2, Idealize.ShloMosaic.sem_eq_zero_of_no_sems (by decide) r.2⟩)
    (Cert.Reference5Ideal.Value.run (F := Ideal) m ρ)

/-- With finite arguments the feed-forward layer's backward call gives the reference's hidden layer, gradients of both pre-activations and gradient of the input. -/
theorem algebraic2 : @Cert.algebraic_Kernel2Ideal_Reference2Ideal_pre_finite2 Cert.Kernel2Ideal.Gen.facts Cert.Reference2Ideal.Gen.facts pre_facts2 := by
  intro m ρ m' ρ' hpre hargs
  refine ⟨fun c => Cert.Reference2Ideal.Read.val_main_v25 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    fun c => Cert.Reference2Ideal.Read.val_main_v26 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    fun c => Cert.Reference2Ideal.Read.val_main_v27 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    fun c => Cert.Reference2Ideal.Read.val_main_v22 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), ?_, ?_⟩
  · refine (θ_run Cert.Kernel2Ideal.defs _ _).mono (fun r h c => ?_) (Cert.Kernel2Ideal.Value.run_blocks (F := Ideal) m ρ)
    obtain ⟨h0, h1, h2, h3, ha⟩ := h c
    have hD := real_pre m hpre c
    exact ⟨h0.trans (Cert.Kernel2Ideal.Gen.act m c), h1.trans (Cert.Kernel2Ideal.Gen.dhg m c hD), h2.trans (Cert.Kernel2Ideal.Gen.dhu m c), h3.trans (Cert.Kernel2Ideal.Gen.du2 m c hD), ha⟩
  · refine (θ_run Cert.Reference2Ideal.defs _ _).mono (fun r h c => ?_) (Cert.Reference2Ideal.Value.run (F := Ideal) m' ρ')
    obtain ⟨h0, h1, h2, h3, ha⟩ := h c
    obtain ⟨a0, a1, a2, a3, a4⟩ := hargs c
    refine ⟨h0.trans ?_, h1.trans ?_, h2.trans ?_, h3.trans ?_, ha⟩
    · rw [Cert.Reference2Ideal.Read.val_main_v25_eq, a0, a1, a2]
    · rw [Cert.Reference2Ideal.Read.val_main_v26_eq, a0, a1, a2, a3, a4]
    · rw [Cert.Reference2Ideal.Read.val_main_v27_eq, a0, a1, a3, a4]
    · rw [Cert.Reference2Ideal.Read.val_main_v22_eq, a0, a1, a2, a3, a4]

/-- The gradient of the gate's weight, wide and narrow, is the reference's. -/
theorem algebraic3 : @Cert.algebraic_Kernel3Ideal_Reference3Ideal Cert.Kernel3Ideal.Gen.facts Cert.Reference3Ideal.Gen.facts := by
  intro m ρ m' ρ' _ hargs
  refine ⟨fun c => Cert.Reference3Ideal.Read.val_main_v10 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)),
    fun c => Cert.Reference3Ideal.Read.val_main_v11 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)), ?_, ?_⟩
  · refine (θ_run Cert.Kernel3Ideal.defs _ _).mono (fun r h c => ?_) (Cert.Kernel3Ideal.Value.run_blocks (F := Ideal) m ρ)
    obtain ⟨h0, h1, ha⟩ := h c
    exact ⟨h0.trans (Cert.Kernel3Ideal.Gen.wide m c), h1.trans (Cert.Kernel3Ideal.Gen.narrow m c), ha⟩
  · refine (θ_run Cert.Reference3Ideal.defs _ _).mono (fun r h c => ?_) (Cert.Reference3Ideal.Value.run (F := Ideal) m' ρ')
    obtain ⟨h0, h1, ha⟩ := h c
    obtain ⟨a0, a1, a2, a3, a4⟩ := hargs c
    refine ⟨h0.trans ?_, h1.trans ?_, ha⟩
    · rw [Cert.Reference3Ideal.Read.val_main_v10_eq, a0, a1, a2, a3, a4]
    · rw [Cert.Reference3Ideal.Read.val_main_v11_eq, a0, a1, a2, a3, a4]

/-- The gradient of the second input weight, wide and narrow, is the reference's. -/
theorem algebraic4 : @Cert.algebraic_Kernel4Ideal_Reference4Ideal Cert.Kernel4Ideal.Gen.facts Cert.Reference4Ideal.Gen.facts := by
  intro m ρ m' ρ' _ hargs
  refine ⟨fun c => Cert.Reference4Ideal.Read.val_main_v9 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)),
    fun c => Cert.Reference4Ideal.Read.val_main_v10 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)), ?_, ?_⟩
  · refine (θ_run Cert.Kernel4Ideal.defs _ _).mono (fun r h c => ?_) (Cert.Kernel4Ideal.Value.run_blocks (F := Ideal) m ρ)
    obtain ⟨h0, h1, ha⟩ := h c
    exact ⟨h0.trans (Cert.Kernel4Ideal.Gen.wide m c), h1.trans (Cert.Kernel4Ideal.Gen.narrow m c), ha⟩
  · refine (θ_run Cert.Reference4Ideal.defs _ _).mono (fun r h c => ?_) (Cert.Reference4Ideal.Value.run (F := Ideal) m' ρ')
    obtain ⟨h0, h1, ha⟩ := h c
    obtain ⟨a0, a1, a2, a3, a4⟩ := hargs c
    refine ⟨h0.trans ?_, h1.trans ?_, ha⟩
    · rw [Cert.Reference4Ideal.Read.val_main_v9_eq, a0, a1, a3, a4]
    · rw [Cert.Reference4Ideal.Read.val_main_v10_eq, a0, a1, a3, a4]

/-- The gradient of the output weight, wide and narrow, is the reference's. -/
theorem algebraic5 : @Cert.algebraic_Kernel5Ideal_Reference5Ideal Cert.Kernel5Ideal.Gen.facts Cert.Reference5Ideal.Gen.facts := by
  intro m ρ m' ρ' _ hargs
  refine ⟨fun c => Cert.Reference5Ideal.Read.val_main_v7 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)),
    fun c => Cert.Reference5Ideal.Read.val_main_v8 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)), ?_, ?_⟩
  · refine (θ_run Cert.Kernel5Ideal.defs _ _).mono (fun r h c => ?_) (Cert.Kernel5Ideal.Value.run_blocks (F := Ideal) m ρ)
    obtain ⟨h0, h1, ha⟩ := h c
    exact ⟨h0.trans (Cert.Kernel5Ideal.Gen.wide m c), h1.trans (Cert.Kernel5Ideal.Gen.narrow m c), ha⟩
  · refine (θ_run Cert.Reference5Ideal.defs _ _).mono (fun r h c => ?_) (Cert.Reference5Ideal.Value.run (F := Ideal) m' ρ')
    obtain ⟨h0, h1, ha⟩ := h c
    obtain ⟨a0, a1, a2, a3⟩ := hargs c
    refine ⟨h0.trans ?_, h1.trans ?_, ha⟩
    · rw [Cert.Reference5Ideal.Read.val_main_v7_eq, a0, a1, a2, a3]
    · rw [Cert.Reference5Ideal.Read.val_main_v8_eq, a0, a1, a2, a3]

/-- The reference of program 6 runs on the host alone and keeps its arguments. -/
theorem frame_r6 : Cert.quiescent_Reference6Ideal (hReference6Ideal := Cert.Reference6Ideal.Gen.facts) := fun m ρ _ =>
  (θ_run Cert.Reference6Ideal.defs _ _).mono
    (fun r h => ⟨fun c => (h c).2.2.2.2, Idealize.ShloMosaic.sem_eq_zero_of_no_sems (by decide) r.2⟩)
    (Cert.Reference6Ideal.Value.run (F := Ideal) m ρ)

/-- The reference of program 7 runs on the host alone and keeps its arguments. -/
theorem frame_r7 : Cert.quiescent_Reference7Ideal (hReference7Ideal := Cert.Reference7Ideal.Gen.facts) := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The reference of program 8 runs on the host alone and keeps its arguments. -/
theorem frame_r8 : Cert.quiescent_Reference8Ideal (hReference8Ideal := Cert.Reference8Ideal.Gen.facts) := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- The reference of program 9 runs on the host alone and keeps its arguments. -/
theorem frame_r9 : Cert.quiescent_Reference9Ideal (hReference9Ideal := Cert.Reference9Ideal.Gen.facts) := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- The reference of program 10 runs on the host alone and keeps its arguments. -/
theorem frame_r10 : Cert.quiescent_Reference10Ideal (hReference10Ideal := Cert.Reference10Ideal.Gen.facts) := fun m ρ _ =>
  (θ_run Cert.Reference10Ideal.defs _ _).mono
    (fun r h => ⟨fun c => (h c).2.2, Idealize.ShloMosaic.sem_eq_zero_of_no_sems (by decide) r.2⟩)
    (Cert.Reference10Ideal.Value.run (F := Ideal) m ρ)

theorem pre_facts11 : Cert.Pre_finite11.Facts where
  bcast_S_S4096x1024 := by decide
  bcast_S_S1x1024 := by decide
  bcast_S_S1024x5128 := by decide
  bcast_S_S4096x5128 := by decide

/-- Arrays read from their finiteness: the input, the scale, the weights and the gradient of the projections. -/
theorem real_pre11 (m : (ℓ : Loc Cert.Kernel11Ideal.nD Cert.Kernel11Ideal.τ Cert.Kernel11Ideal.sig) → Buf (Elt Ideal) ℓ)
    (hpre : @Cert.Pre_Kernel11Ideal_finite11 pre_facts11 m) (c : Dev Cert.Kernel11Ideal.nD) : Cert.Kernel11Ideal.Gen.Reals m c := by
  obtain ⟨p0, p2, p3, p4⟩ := hpre c
  exact ⟨fun i => ⟨_, congrFun (reals_of (Cert.Kernel11Ideal.Gen.xA m c) _ p0) i⟩, fun i => ⟨_, congrFun (reals_of (Cert.Kernel11Ideal.Gen.scA m c) _ p2) i⟩,
    fun i => ⟨_, congrFun (reals_of (Cert.Kernel11Ideal.Gen.wA m c) _ p3) i⟩, fun i => ⟨_, congrFun (reals_of (Cert.Kernel11Ideal.Gen.dpA m c) _ p4) i⟩⟩

/-- The reference of program 11 runs on the host alone and keeps its arguments. -/
theorem frame_r11 : Cert.quiescent_Reference11Ideal (hReference11Ideal := Cert.Reference11Ideal.Gen.facts) := fun m ρ _ =>
  (θ_run Cert.Reference11Ideal.defs _ _).mono
    (fun r h => ⟨fun c => (h c).2.2, Idealize.ShloMosaic.sem_eq_zero_of_no_sems (by decide) r.2⟩)
    (Cert.Reference11Ideal.Value.run (F := Ideal) m ρ)

/-- The projections call gives the reference's input, first projections, forget gates and output gates. -/
theorem algebraic6 : @Cert.algebraic_Kernel6Ideal_Reference6Ideal Cert.Kernel6Ideal.Gen.facts Cert.Reference6Ideal.Gen.facts := by
  intro m ρ m' ρ' _ hargs
  refine ⟨fun c => Cert.Reference6Ideal.Read.val_main_v38 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)),
    fun c => Cert.Reference6Ideal.Read.val_main_v39 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)),
    fun c => Cert.Reference6Ideal.Read.val_main_v37 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)),
    fun c => Cert.Reference6Ideal.Read.val_main_v42 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)), ?_, ?_⟩
  · refine (θ_run Cert.Kernel6Ideal.defs _ _).mono (fun r h c => ?_) (Cert.Kernel6Ideal.Value.run_blocks (F := Ideal) m ρ)
    obtain ⟨h0, h1, h2, h3, ha⟩ := h c
    exact ⟨h0.trans (Cert.Kernel6Ideal.Gen.result_u m c), h1.trans (Cert.Kernel6Ideal.Gen.result_qkv m c), h2.trans (Cert.Kernel6Ideal.Gen.result_forget m c), h3.trans (Cert.Kernel6Ideal.Gen.result_gate m c), ha⟩
  · refine (θ_run Cert.Reference6Ideal.defs _ _).mono (fun r h c => ?_) (Cert.Reference6Ideal.Value.run (F := Ideal) m' ρ')
    obtain ⟨h0, h1, h2, h3, ha⟩ := h c
    obtain ⟨a0, a1, a2, a3, a4⟩ := hargs c
    refine ⟨h0.trans ?_, h1.trans ?_, h2.trans ?_, h3.trans ?_, ha⟩
    · rw [Cert.Reference6Ideal.Read.val_main_v38_eq, a0, a1, a2]
    · rw [Cert.Reference6Ideal.Read.val_main_v39_eq, a0, a1, a2, a3]
    · rw [Cert.Reference6Ideal.Read.val_main_v37_eq, a0, a1, a2, a3]
    · rw [Cert.Reference6Ideal.Read.val_main_v42_eq, a0, a1, a2, a3, a4]

/-- The input projection's weight gradient, for a piece of 512 columns, is the reference's. -/
theorem algebraic7 : @Cert.algebraic_Kernel7Ideal_Reference7Ideal Cert.Kernel7Ideal.Gen.facts Cert.Reference7Ideal.Gen.facts := by
  intro m ρ m' ρ' _ hargs
  refine ⟨fun c => Cert.Reference7Ideal.Read.val_main_v4 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), ?_, ?_⟩
  · refine (θ_run Cert.Kernel7Ideal.defs _ _).mono (fun r h c => ?_) (Cert.Kernel7Ideal.Value.run_blocks (F := Ideal) m ρ)
    obtain ⟨h0, ha⟩ := h c
    exact ⟨h0.trans (Cert.Kernel7Ideal.Gen.result m c), ha⟩
  · refine (θ_run Cert.Reference7Ideal.defs _ _).mono (fun r h c => ?_) (Cert.Reference7Ideal.Value.run (F := Ideal) m' ρ')
    obtain ⟨h0, ha⟩ := h c
    obtain ⟨a0, a1⟩ := hargs c
    refine ⟨h0.trans ?_, ha⟩
    · rw [Cert.Reference7Ideal.Read.val_main_v4_eq, a0, a1]

/-- The input projection's weight gradient, for a piece of 128 columns, is the reference's. -/
theorem algebraic8 : @Cert.algebraic_Kernel8Ideal_Reference8Ideal Cert.Kernel8Ideal.Gen.facts Cert.Reference8Ideal.Gen.facts := by
  intro m ρ m' ρ' _ hargs
  refine ⟨fun c => Cert.Reference8Ideal.Read.val_main_v4 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), ?_, ?_⟩
  · refine (θ_run Cert.Kernel8Ideal.defs _ _).mono (fun r h c => ?_) (Cert.Kernel8Ideal.Value.run_blocks (F := Ideal) m ρ)
    obtain ⟨h0, ha⟩ := h c
    exact ⟨h0.trans (Cert.Kernel8Ideal.Gen.result m c), ha⟩
  · refine (θ_run Cert.Reference8Ideal.defs _ _).mono (fun r h c => ?_) (Cert.Reference8Ideal.Value.run (F := Ideal) m' ρ')
    obtain ⟨h0, ha⟩ := h c
    obtain ⟨a0, a1⟩ := hargs c
    refine ⟨h0.trans ?_, ha⟩
    · rw [Cert.Reference8Ideal.Read.val_main_v4_eq, a0, a1]

/-- The input projection's weight gradient, for a piece of 2048 columns, is the reference's. -/
theorem algebraic9 : @Cert.algebraic_Kernel9Ideal_Reference9Ideal Cert.Kernel9Ideal.Gen.facts Cert.Reference9Ideal.Gen.facts := by
  intro m ρ m' ρ' _ hargs
  refine ⟨fun c => Cert.Reference9Ideal.Read.val_main_v4 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), ?_, ?_⟩
  · refine (θ_run Cert.Kernel9Ideal.defs _ _).mono (fun r h c => ?_) (Cert.Kernel9Ideal.Value.run_blocks (F := Ideal) m ρ)
    obtain ⟨h0, ha⟩ := h c
    exact ⟨h0.trans (Cert.Kernel9Ideal.Gen.result m c), ha⟩
  · refine (θ_run Cert.Reference9Ideal.defs _ _).mono (fun r h c => ?_) (Cert.Reference9Ideal.Value.run (F := Ideal) m' ρ')
    obtain ⟨h0, ha⟩ := h c
    obtain ⟨a0, a1⟩ := hargs c
    refine ⟨h0.trans ?_, ha⟩
    · rw [Cert.Reference9Ideal.Read.val_main_v4_eq, a0, a1]

/-- The mixing call gives the reference's residual row and its normalised and modulated row. -/
theorem algebraic10 : @Cert.algebraic_Kernel10Ideal_Reference10Ideal Cert.Kernel10Ideal.Gen.facts Cert.Reference10Ideal.Gen.facts := by
  intro m ρ m' ρ' _ hargs
  refine ⟨fun c => Cert.Reference10Ideal.Read.val_main_v24 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)),
    fun c => Cert.Reference10Ideal.Read.val_main_v71 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)), ?_, ?_⟩
  · refine (θ_run Cert.Kernel10Ideal.defs _ _).mono (fun r h c => ?_) (Cert.Kernel10Ideal.Value.run_blocks (F := Ideal) m ρ)
    obtain ⟨h0, h1, ha⟩ := h c
    exact ⟨h0.trans (Cert.Kernel10Ideal.Gen.result_resid m c), h1.trans (Cert.Kernel10Ideal.Gen.result_norm m c), ha⟩
  · refine (θ_run Cert.Reference10Ideal.defs _ _).mono (fun r h c => ?_) (Cert.Reference10Ideal.Value.run (F := Ideal) m' ρ')
    obtain ⟨h0, h1, ha⟩ := h c
    obtain ⟨a0, a1, a2, a3, a4, a5, a6, a7, a8, a9, a10, a11⟩ := hargs c
    refine ⟨h0.trans ?_, h1.trans ?_, ha⟩
    · rw [Cert.Reference10Ideal.Read.val_main_v24_eq, a0, a1, a2, a3, a4, a5, a6, a7]
    · rw [Cert.Reference10Ideal.Read.val_main_v71_eq, a0, a1, a2, a3, a4, a5, a6, a7, a8, a9, a10, a11]

/-- With finite arguments the input projection's backward call gives the reference's gradient of the input and its rows of sums. -/
theorem algebraic11 : @Cert.algebraic_Kernel11Ideal_Reference11Ideal_pre_finite11 Cert.Kernel11Ideal.Gen.facts Cert.Reference11Ideal.Gen.facts pre_facts11 := by
  intro m ρ m' ρ' hpre hargs
  refine ⟨fun c => Cert.Reference11Ideal.Read.val_main_v63 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)),
    fun c => Cert.Reference11Ideal.Read.val_main_v65 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)), ?_, ?_⟩
  · refine (θ_run Cert.Kernel11Ideal.defs _ _).mono (fun r h c => ?_) (Cert.Kernel11Ideal.Value.run_blocks (F := Ideal) m ρ)
    obtain ⟨h0, h1, ha⟩ := h c
    have hD := real_pre11 m hpre c
    exact ⟨h0.trans (Cert.Kernel11Ideal.Gen.result_x m c hD), h1.trans (Cert.Kernel11Ideal.Gen.result_acc m c), ha⟩
  · refine (θ_run Cert.Reference11Ideal.defs _ _).mono (fun r h c => ?_) (Cert.Reference11Ideal.Value.run (F := Ideal) m' ρ')
    obtain ⟨h0, h1, ha⟩ := h c
    obtain ⟨a0, a1, a2, a3, a4⟩ := hargs c
    refine ⟨h0.trans ?_, h1.trans ?_, ha⟩
    · rw [Cert.Reference11Ideal.Read.val_main_v63_eq, a0, a1, a2, a3, a4]
    · rw [Cert.Reference11Ideal.Read.val_main_v65_eq, a0, a3, a4]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts,
  pre_facts, pre_facts2, pre_facts11,
  fun m ρ _ => Cert.Kernel.Gen.frame m ρ, fun m ρ _ => Cert.KernelIdeal.Gen.frame m ρ, fun m ρ _ => Cert.KernelIdeal.Gen.frame m ρ,
  fun m ρ _ => frame_r m ρ, fun m ρ _ => frame_r m ρ,
  fun m ρ _ => Cert.Kernel2.Gen.frame m ρ, fun m ρ _ => Cert.Kernel2Ideal.Gen.frame m ρ, fun m ρ _ => Cert.Kernel2Ideal.Gen.frame m ρ,
  frame_r2, fun m ρ _ => frame_r2 m ρ True.intro,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  fun m ρ _ => Cert.Kernel5.Gen.frame m ρ, fun m ρ _ => Cert.Kernel5Ideal.Gen.frame m ρ, frame_r5,
  fun m ρ _ => Cert.Kernel6.Gen.frame m ρ, fun m ρ _ => Cert.Kernel6Ideal.Gen.frame m ρ, frame_r6,
  fun m ρ _ => Cert.Kernel7.Gen.frame m ρ, fun m ρ _ => Cert.Kernel7Ideal.Gen.frame m ρ, frame_r7,
  fun m ρ _ => Cert.Kernel8.Gen.frame m ρ, fun m ρ _ => Cert.Kernel8Ideal.Gen.frame m ρ, frame_r8,
  fun m ρ _ => Cert.Kernel9.Gen.frame m ρ, fun m ρ _ => Cert.Kernel9Ideal.Gen.frame m ρ, frame_r9,
  fun m ρ _ => Cert.Kernel10.Gen.frame m ρ, fun m ρ _ => Cert.Kernel10Ideal.Gen.frame m ρ, frame_r10,
  fun m ρ _ => Cert.Kernel11.Gen.frame m ρ, fun m ρ _ => Cert.Kernel11Ideal.Gen.frame m ρ, fun m ρ _ => Cert.Kernel11Ideal.Gen.frame m ρ,
  frame_r11, fun m ρ _ => frame_r11 m ρ True.intro,
  IdealRules.named_const.statement Cert.KernelIdeal.κ "mask" .f32 0xF149F2CA#32 ⊥ rfl, algebraic,
  trivial, algebraic2, trivial, algebraic3, trivial, algebraic4, trivial, algebraic5, trivial, algebraic6, trivial, algebraic7, trivial, algebraic8, trivial, algebraic9, trivial, algebraic10, trivial, algebraic11⟩

end Cert.Proof

end
